-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_qk [hPre_finite_qk : Cert.Pre_finite_qk.Facts] (m : (ℓ : Loc Cert.GqaIdeal.nD Cert.GqaIdeal.τ Cert.GqaIdeal.sig) → Buf (Elt Ideal) ℓ) : Prop :=
  ∀ c : Dev Cert.GqaIdeal.nD,
    (Cert.Pre_finite_qk.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_qk [hPre_finite_qk : Cert.Pre_finite_qk.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_qk.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))) = (fun _ => 1#1)

def Pre_Up [hPre_tables_in_range : Cert.Pre_tables_in_range.Facts] (m : (ℓ : Loc Cert.Up.nD Cert.Up.τ Cert.Up.sig) → Buf (Elt Bits) ℓ) : Prop :=
  ∀ c : Dev Cert.Up.nD,
    (Cert.Pre_tables_in_range.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))) = (fun _ => 1#1)

def Pre_UpIdeal [hPre_tables_in_range : Cert.Pre_tables_in_range.Facts] (m : (ℓ : Loc Cert.UpIdeal.nD Cert.UpIdeal.τ Cert.UpIdeal.sig) → Buf (Elt Ideal) ℓ) : Prop :=
  ∀ c : Dev Cert.UpIdeal.nD,
    (Cert.Pre_tables_in_range.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_tables_in_range [hPre_tables_in_range : Cert.Pre_tables_in_range.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_tables_in_range.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))) = (fun _ => 1#1)

def Pre_Down [hPre_down_tables_in_range : Cert.Pre_down_tables_in_range.Facts] (m : (ℓ : Loc Cert.Down.nD Cert.Down.τ Cert.Down.sig) → Buf (Elt Bits) ℓ) : Prop :=
  ∀ c : Dev Cert.Down.nD,
    (Cert.Pre_down_tables_in_range.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))) = (fun _ => 1#1)

def Pre_DownIdeal [hPre_down_tables_in_range : Cert.Pre_down_tables_in_range.Facts] (m : (ℓ : Loc Cert.DownIdeal.nD Cert.DownIdeal.τ Cert.DownIdeal.sig) → Buf (Elt Ideal) ℓ) : Prop :=
  ∀ c : Dev Cert.DownIdeal.nD,
    (Cert.Pre_down_tables_in_range.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_down_tables_in_range [hPre_down_tables_in_range : Cert.Pre_down_tables_in_range.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_tables_in_range.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_DenseDown (m : (ℓ : Loc Cert.DenseDown.nD Cert.DenseDown.τ Cert.DenseDown.sig) → Buf (Elt Bits) ℓ) : Prop :=
  True

def Pre_DenseDownIdeal (m : (ℓ : Loc Cert.DenseDownIdeal.nD Cert.DenseDownIdeal.τ Cert.DenseDownIdeal.sig) → Buf (Elt Ideal) ℓ) : Prop :=
  True

def Pre_DenseDownRefIdeal (m : (ℓ : Loc Cert.DenseDownRefIdeal.nD Cert.DenseDownRefIdeal.τ Cert.DenseDownRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla_qk [hPre_finite_mla_qk : Cert.Pre_finite_mla_qk.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla_qk.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_mla_qk [hPre_finite_mla_qk : Cert.Pre_finite_mla_qk.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_mla_qk.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_diff_qk [hPre_finite_diff_qk : Cert.Pre_finite_diff_qk.Facts] (m : (ℓ : Loc Cert.DiffIdeal.nD Cert.DiffIdeal.τ Cert.DiffIdeal.sig) → Buf (Elt Ideal) ℓ) : Prop :=
  ∀ c : Dev Cert.DiffIdeal.nD,
    (Cert.Pre_finite_diff_qk.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite_diff_qk [hPre_finite_diff_qk : Cert.Pre_finite_diff_qk.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite_diff_qk.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))) = (fun _ => 1#1)

def Pre_DiffLast (m : (ℓ : Loc Cert.DiffLast.nD Cert.DiffLast.τ Cert.DiffLast.sig) → Buf (Elt Bits) ℓ) : Prop :=
  True

def Pre_DiffLastIdeal (m : (ℓ : Loc Cert.DiffLastIdeal.nD Cert.DiffLastIdeal.τ Cert.DiffLastIdeal.sig) → Buf (Elt Ideal) ℓ) : Prop :=
  True

def Pre_DiffLastIdeal_finite_diff_qk [hPre_finite_diff_qk : Cert.Pre_finite_diff_qk.Facts] (m : (ℓ : Loc Cert.DiffLastIdeal.nD Cert.DiffLastIdeal.τ Cert.DiffLastIdeal.sig) → Buf (Elt Ideal) ℓ) : Prop :=
  ∀ c : Dev Cert.DiffLastIdeal.nD,
    (Cert.Pre_finite_diff_qk.fn (F := Ideal) (m ((c.tc : Thread Cert.DiffLastIdeal.nD Cert.DiffLastIdeal.τ).loc Cert.DiffLastIdeal.main_arg0)) (m ((c.tc : Thread Cert.DiffLastIdeal.nD Cert.DiffLastIdeal.τ).loc Cert.DiffLastIdeal.main_arg1)) (m ((c.tc : Thread Cert.DiffLastIdeal.nD Cert.DiffLastIdeal.τ).loc Cert.DiffLastIdeal.main_arg2)) (m ((c.tc : Thread Cert.DiffLastIdeal.nD Cert.DiffLastIdeal.τ).loc Cert.DiffLastIdeal.main_arg3)) (m ((c.tc : Thread Cert.DiffLastIdeal.nD Cert.DiffLastIdeal.τ).loc Cert.DiffLastIdeal.main_arg4))) = (fun _ => 1#1)

def Pre_DiffLastRefIdeal (m : (ℓ : Loc Cert.DiffLastRefIdeal.nD Cert.DiffLastRefIdeal.τ Cert.DiffLastRefIdeal.sig) → Buf (Elt Ideal) ℓ) : Prop :=
  True

def Pre_DiffLastRefIdeal_finite_diff_qk [hPre_finite_diff_qk : Cert.Pre_finite_diff_qk.Facts] (m : (ℓ : Loc Cert.DiffLastRefIdeal.nD Cert.DiffLastRefIdeal.τ Cert.DiffLastRefIdeal.sig) → Buf (Elt Ideal) ℓ) : Prop :=
  ∀ c : Dev Cert.DiffLastRefIdeal.nD,
    (Cert.Pre_finite_diff_qk.fn (F := Ideal) (m ((c.tc : Thread Cert.DiffLastRefIdeal.nD Cert.DiffLastRefIdeal.τ).loc Cert.DiffLastRefIdeal.main_arg0)) (m ((c.tc : Thread Cert.DiffLastRefIdeal.nD Cert.DiffLastRefIdeal.τ).loc Cert.DiffLastRefIdeal.main_arg1)) (m ((c.tc : Thread Cert.DiffLastRefIdeal.nD Cert.DiffLastRefIdeal.τ).loc Cert.DiffLastRefIdeal.main_arg2)) (m ((c.tc : Thread Cert.DiffLastRefIdeal.nD Cert.DiffLastRefIdeal.τ).loc Cert.DiffLastRefIdeal.main_arg3)) (m ((c.tc : Thread Cert.DiffLastRefIdeal.nD Cert.DiffLastRefIdeal.τ).loc Cert.DiffLastRefIdeal.main_arg4))) = (fun _ => 1#1)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_finite_qk [hGqaIdeal : Cert.GqaIdeal.Facts] [hPre_finite_qk : Cert.Pre_finite_qk.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_qk m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_finite_qk [hGqaRefIdeal : Cert.GqaRefIdeal.Facts] [hPre_finite_qk : Cert.Pre_finite_qk.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_qk m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_Up [hUp : Cert.Up.Facts] [hPre_tables_in_range : Cert.Pre_tables_in_range.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] [hPre_tables_in_range : Cert.Pre_tables_in_range.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_UpRefIdeal_pre_tables_in_range [hUpRefIdeal : Cert.UpRefIdeal.Facts] [hPre_tables_in_range : Cert.Pre_tables_in_range.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_tables_in_range m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Down [hDown : Cert.Down.Facts] [hPre_down_tables_in_range : Cert.Pre_down_tables_in_range.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_down_tables_in_range : Cert.Pre_down_tables_in_range.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_down_tables_in_range [hDownRefIdeal : Cert.DownRefIdeal.Facts] [hPre_down_tables_in_range : Cert.Pre_down_tables_in_range.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_down_tables_in_range m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4))
      ∧ r.2.sem = fun _ => 0)

def quiescent_DenseDown [hDenseDown : Cert.DenseDown.Facts] : Prop :=
  ∀ (m : (ℓ : Loc Cert.DenseDown.nD Cert.DenseDown.τ Cert.DenseDown.sig) → Buf (Elt Bits) ℓ) (g : Dev Cert.DenseDown.nD → PrngReg), Pre_DenseDown m →
    θ_run (Cert.DenseDown.defs (F := Bits)) (onTc (τ := Cert.DenseDown.τ) (Cert.DenseDown.main (F := Bits))) ⟨m, fun _ => 0, g⟩ (fun r => (∀ c : Dev Cert.DenseDown.nD,
      r.2.mem ((c.tc : Thread Cert.DenseDown.nD Cert.DenseDown.τ).loc Cert.DenseDown.main_arg0) = m ((c.tc : Thread Cert.DenseDown.nD Cert.DenseDown.τ).loc Cert.DenseDown.main_arg0)
      ∧ r.2.mem ((c.tc : Thread Cert.DenseDown.nD Cert.DenseDown.τ).loc Cert.DenseDown.main_arg1) = m ((c.tc : Thread Cert.DenseDown.nD Cert.DenseDown.τ).loc Cert.DenseDown.main_arg1)
      ∧ r.2.mem ((c.tc : Thread Cert.DenseDown.nD Cert.DenseDown.τ).loc Cert.DenseDown.main_arg2) = m ((c.tc : Thread Cert.DenseDown.nD Cert.DenseDown.τ).loc Cert.DenseDown.main_arg2)
      ∧ r.2.mem ((c.tc : Thread Cert.DenseDown.nD Cert.DenseDown.τ).loc Cert.DenseDown.main_arg3) = m ((c.tc : Thread Cert.DenseDown.nD Cert.DenseDown.τ).loc Cert.DenseDown.main_arg3))
      ∧ r.2.sem = fun _ => 0)

def quiescent_DenseDownIdeal [hDenseDownIdeal : Cert.DenseDownIdeal.Facts] : Prop :=
  ∀ (m : (ℓ : Loc Cert.DenseDownIdeal.nD Cert.DenseDownIdeal.τ Cert.DenseDownIdeal.sig) → Buf (Elt Ideal) ℓ) (g : Dev Cert.DenseDownIdeal.nD → PrngReg), Pre_DenseDownIdeal m →
    θ_run (Cert.DenseDownIdeal.defs (F := Ideal)) (onTc (τ := Cert.DenseDownIdeal.τ) (Cert.DenseDownIdeal.main (F := Ideal))) ⟨m, fun _ => 0, g⟩ (fun r => (∀ c : Dev Cert.DenseDownIdeal.nD,
      r.2.mem ((c.tc : Thread Cert.DenseDownIdeal.nD Cert.DenseDownIdeal.τ).loc Cert.DenseDownIdeal.main_arg0) = m ((c.tc : Thread Cert.DenseDownIdeal.nD Cert.DenseDownIdeal.τ).loc Cert.DenseDownIdeal.main_arg0)
      ∧ r.2.mem ((c.tc : Thread Cert.DenseDownIdeal.nD Cert.DenseDownIdeal.τ).loc Cert.DenseDownIdeal.main_arg1) = m ((c.tc : Thread Cert.DenseDownIdeal.nD Cert.DenseDownIdeal.τ).loc Cert.DenseDownIdeal.main_arg1)
      ∧ r.2.mem ((c.tc : Thread Cert.DenseDownIdeal.nD Cert.DenseDownIdeal.τ).loc Cert.DenseDownIdeal.main_arg2) = m ((c.tc : Thread Cert.DenseDownIdeal.nD Cert.DenseDownIdeal.τ).loc Cert.DenseDownIdeal.main_arg2)
      ∧ r.2.mem ((c.tc : Thread Cert.DenseDownIdeal.nD Cert.DenseDownIdeal.τ).loc Cert.DenseDownIdeal.main_arg3) = m ((c.tc : Thread Cert.DenseDownIdeal.nD Cert.DenseDownIdeal.τ).loc Cert.DenseDownIdeal.main_arg3))
      ∧ r.2.sem = fun _ => 0)

def quiescent_DenseDownRefIdeal [hDenseDownRefIdeal : Cert.DenseDownRefIdeal.Facts] : Prop :=
  ∀ (m : (ℓ : Loc Cert.DenseDownRefIdeal.nD Cert.DenseDownRefIdeal.τ Cert.DenseDownRefIdeal.sig) → Buf (Elt Ideal) ℓ) (g : Dev Cert.DenseDownRefIdeal.nD → PrngReg), Pre_DenseDownRefIdeal m →
    θ_run (Cert.DenseDownRefIdeal.defs (F := Ideal)) (onTc (τ := Cert.DenseDownRefIdeal.τ) (Cert.DenseDownRefIdeal.main (F := Ideal))) ⟨m, fun _ => 0, g⟩ (fun r => (∀ c : Dev Cert.DenseDownRefIdeal.nD,
      r.2.mem ((c.tc : Thread Cert.DenseDownRefIdeal.nD Cert.DenseDownRefIdeal.τ).loc Cert.DenseDownRefIdeal.main_arg0) = m ((c.tc : Thread Cert.DenseDownRefIdeal.nD Cert.DenseDownRefIdeal.τ).loc Cert.DenseDownRefIdeal.main_arg0)
      ∧ r.2.mem ((c.tc : Thread Cert.DenseDownRefIdeal.nD Cert.DenseDownRefIdeal.τ).loc Cert.DenseDownRefIdeal.main_arg1) = m ((c.tc : Thread Cert.DenseDownRefIdeal.nD Cert.DenseDownRefIdeal.τ).loc Cert.DenseDownRefIdeal.main_arg1)
      ∧ r.2.mem ((c.tc : Thread Cert.DenseDownRefIdeal.nD Cert.DenseDownRefIdeal.τ).loc Cert.DenseDownRefIdeal.main_arg2) = m ((c.tc : Thread Cert.DenseDownRefIdeal.nD Cert.DenseDownRefIdeal.τ).loc Cert.DenseDownRefIdeal.main_arg2)
      ∧ r.2.mem ((c.tc : Thread Cert.DenseDownRefIdeal.nD Cert.DenseDownRefIdeal.τ).loc Cert.DenseDownRefIdeal.main_arg3) = m ((c.tc : Thread Cert.DenseDownRefIdeal.nD Cert.DenseDownRefIdeal.τ).loc Cert.DenseDownRefIdeal.main_arg3))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite_mla_qk [hMlaIdeal : Cert.MlaIdeal.Facts] [hPre_finite_mla_qk : Cert.Pre_finite_mla_qk.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla_qk m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_finite_mla_qk [hMlaRefIdeal : Cert.MlaRefIdeal.Facts] [hPre_finite_mla_qk : Cert.Pre_finite_mla_qk.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_mla_qk m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffIdeal_pre_finite_diff_qk [hDiffIdeal : Cert.DiffIdeal.Facts] [hPre_finite_diff_qk : Cert.Pre_finite_diff_qk.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_diff_qk m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_DiffRefIdeal_pre_finite_diff_qk [hDiffRefIdeal : Cert.DiffRefIdeal.Facts] [hPre_finite_diff_qk : Cert.Pre_finite_diff_qk.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite_diff_qk m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_DiffLast [hDiffLast : Cert.DiffLast.Facts] : Prop :=
  ∀ (m : (ℓ : Loc Cert.DiffLast.nD Cert.DiffLast.τ Cert.DiffLast.sig) → Buf (Elt Bits) ℓ) (g : Dev Cert.DiffLast.nD → PrngReg), Pre_DiffLast m →
    θ_run (Cert.DiffLast.defs (F := Bits)) (onTc (τ := Cert.DiffLast.τ) (Cert.DiffLast.main (F := Bits))) ⟨m, fun _ => 0, g⟩ (fun r => (∀ c : Dev Cert.DiffLast.nD,
      r.2.mem ((c.tc : Thread Cert.DiffLast.nD Cert.DiffLast.τ).loc Cert.DiffLast.main_arg0) = m ((c.tc : Thread Cert.DiffLast.nD Cert.DiffLast.τ).loc Cert.DiffLast.main_arg0)
      ∧ r.2.mem ((c.tc : Thread Cert.DiffLast.nD Cert.DiffLast.τ).loc Cert.DiffLast.main_arg1) = m ((c.tc : Thread Cert.DiffLast.nD Cert.DiffLast.τ).loc Cert.DiffLast.main_arg1)
      ∧ r.2.mem ((c.tc : Thread Cert.DiffLast.nD Cert.DiffLast.τ).loc Cert.DiffLast.main_arg2) = m ((c.tc : Thread Cert.DiffLast.nD Cert.DiffLast.τ).loc Cert.DiffLast.main_arg2)
      ∧ r.2.mem ((c.tc : Thread Cert.DiffLast.nD Cert.DiffLast.τ).loc Cert.DiffLast.main_arg3) = m ((c.tc : Thread Cert.DiffLast.nD Cert.DiffLast.τ).loc Cert.DiffLast.main_arg3)
      ∧ r.2.mem ((c.tc : Thread Cert.DiffLast.nD Cert.DiffLast.τ).loc Cert.DiffLast.main_arg4) = m ((c.tc : Thread Cert.DiffLast.nD Cert.DiffLast.τ).loc Cert.DiffLast.main_arg4))
      ∧ r.2.sem = fun _ => 0)

def quiescent_DiffLastIdeal [hDiffLastIdeal : Cert.DiffLastIdeal.Facts] : Prop :=
  ∀ (m : (ℓ : Loc Cert.DiffLastIdeal.nD Cert.DiffLastIdeal.τ Cert.DiffLastIdeal.sig) → Buf (Elt Ideal) ℓ) (g : Dev Cert.DiffLastIdeal.nD → PrngReg), Pre_DiffLastIdeal m →
    θ_run (Cert.DiffLastIdeal.defs (F := Ideal)) (onTc (τ := Cert.DiffLastIdeal.τ) (Cert.DiffLastIdeal.main (F := Ideal))) ⟨m, fun _ => 0, g⟩ (fun r => (∀ c : Dev Cert.DiffLastIdeal.nD,
      r.2.mem ((c.tc : Thread Cert.DiffLastIdeal.nD Cert.DiffLastIdeal.τ).loc Cert.DiffLastIdeal.main_arg0) = m ((c.tc : Thread Cert.DiffLastIdeal.nD Cert.DiffLastIdeal.τ).loc Cert.DiffLastIdeal.main_arg0)
      ∧ r.2.mem ((c.tc : Thread Cert.DiffLastIdeal.nD Cert.DiffLastIdeal.τ).loc Cert.DiffLastIdeal.main_arg1) = m ((c.tc : Thread Cert.DiffLastIdeal.nD Cert.DiffLastIdeal.τ).loc Cert.DiffLastIdeal.main_arg1)
      ∧ r.2.mem ((c.tc : Thread Cert.DiffLastIdeal.nD Cert.DiffLastIdeal.τ).loc Cert.DiffLastIdeal.main_arg2) = m ((c.tc : Thread Cert.DiffLastIdeal.nD Cert.DiffLastIdeal.τ).loc Cert.DiffLastIdeal.main_arg2)
      ∧ r.2.mem ((c.tc : Thread Cert.DiffLastIdeal.nD Cert.DiffLastIdeal.τ).loc Cert.DiffLastIdeal.main_arg3) = m ((c.tc : Thread Cert.DiffLastIdeal.nD Cert.DiffLastIdeal.τ).loc Cert.DiffLastIdeal.main_arg3)
      ∧ r.2.mem ((c.tc : Thread Cert.DiffLastIdeal.nD Cert.DiffLastIdeal.τ).loc Cert.DiffLastIdeal.main_arg4) = m ((c.tc : Thread Cert.DiffLastIdeal.nD Cert.DiffLastIdeal.τ).loc Cert.DiffLastIdeal.main_arg4))
      ∧ r.2.sem = fun _ => 0)

def quiescent_DiffLastIdeal_pre_finite_diff_qk [hDiffLastIdeal : Cert.DiffLastIdeal.Facts] [hPre_finite_diff_qk : Cert.Pre_finite_diff_qk.Facts] : Prop :=
  ∀ (m : (ℓ : Loc Cert.DiffLastIdeal.nD Cert.DiffLastIdeal.τ Cert.DiffLastIdeal.sig) → Buf (Elt Ideal) ℓ) (g : Dev Cert.DiffLastIdeal.nD → PrngReg), Pre_DiffLastIdeal_finite_diff_qk m →
    θ_run (Cert.DiffLastIdeal.defs (F := Ideal)) (onTc (τ := Cert.DiffLastIdeal.τ) (Cert.DiffLastIdeal.main (F := Ideal))) ⟨m, fun _ => 0, g⟩ (fun r => (∀ c : Dev Cert.DiffLastIdeal.nD,
      r.2.mem ((c.tc : Thread Cert.DiffLastIdeal.nD Cert.DiffLastIdeal.τ).loc Cert.DiffLastIdeal.main_arg0) = m ((c.tc : Thread Cert.DiffLastIdeal.nD Cert.DiffLastIdeal.τ).loc Cert.DiffLastIdeal.main_arg0)
      ∧ r.2.mem ((c.tc : Thread Cert.DiffLastIdeal.nD Cert.DiffLastIdeal.τ).loc Cert.DiffLastIdeal.main_arg1) = m ((c.tc : Thread Cert.DiffLastIdeal.nD Cert.DiffLastIdeal.τ).loc Cert.DiffLastIdeal.main_arg1)
      ∧ r.2.mem ((c.tc : Thread Cert.DiffLastIdeal.nD Cert.DiffLastIdeal.τ).loc Cert.DiffLastIdeal.main_arg2) = m ((c.tc : Thread Cert.DiffLastIdeal.nD Cert.DiffLastIdeal.τ).loc Cert.DiffLastIdeal.main_arg2)
      ∧ r.2.mem ((c.tc : Thread Cert.DiffLastIdeal.nD Cert.DiffLastIdeal.τ).loc Cert.DiffLastIdeal.main_arg3) = m ((c.tc : Thread Cert.DiffLastIdeal.nD Cert.DiffLastIdeal.τ).loc Cert.DiffLastIdeal.main_arg3)
      ∧ r.2.mem ((c.tc : Thread Cert.DiffLastIdeal.nD Cert.DiffLastIdeal.τ).loc Cert.DiffLastIdeal.main_arg4) = m ((c.tc : Thread Cert.DiffLastIdeal.nD Cert.DiffLastIdeal.τ).loc Cert.DiffLastIdeal.main_arg4))
      ∧ r.2.sem = fun _ => 0)

def quiescent_DiffLastRefIdeal [hDiffLastRefIdeal : Cert.DiffLastRefIdeal.Facts] : Prop :=
  ∀ (m : (ℓ : Loc Cert.DiffLastRefIdeal.nD Cert.DiffLastRefIdeal.τ Cert.DiffLastRefIdeal.sig) → Buf (Elt Ideal) ℓ) (g : Dev Cert.DiffLastRefIdeal.nD → PrngReg), Pre_DiffLastRefIdeal m →
    θ_run (Cert.DiffLastRefIdeal.defs (F := Ideal)) (onTc (τ := Cert.DiffLastRefIdeal.τ) (Cert.DiffLastRefIdeal.main (F := Ideal))) ⟨m, fun _ => 0, g⟩ (fun r => (∀ c : Dev Cert.DiffLastRefIdeal.nD,
      r.2.mem ((c.tc : Thread Cert.DiffLastRefIdeal.nD Cert.DiffLastRefIdeal.τ).loc Cert.DiffLastRefIdeal.main_arg0) = m ((c.tc : Thread Cert.DiffLastRefIdeal.nD Cert.DiffLastRefIdeal.τ).loc Cert.DiffLastRefIdeal.main_arg0)
      ∧ r.2.mem ((c.tc : Thread Cert.DiffLastRefIdeal.nD Cert.DiffLastRefIdeal.τ).loc Cert.DiffLastRefIdeal.main_arg1) = m ((c.tc : Thread Cert.DiffLastRefIdeal.nD Cert.DiffLastRefIdeal.τ).loc Cert.DiffLastRefIdeal.main_arg1)
      ∧ r.2.mem ((c.tc : Thread Cert.DiffLastRefIdeal.nD Cert.DiffLastRefIdeal.τ).loc Cert.DiffLastRefIdeal.main_arg2) = m ((c.tc : Thread Cert.DiffLastRefIdeal.nD Cert.DiffLastRefIdeal.τ).loc Cert.DiffLastRefIdeal.main_arg2)
      ∧ r.2.mem ((c.tc : Thread Cert.DiffLastRefIdeal.nD Cert.DiffLastRefIdeal.τ).loc Cert.DiffLastRefIdeal.main_arg3) = m ((c.tc : Thread Cert.DiffLastRefIdeal.nD Cert.DiffLastRefIdeal.τ).loc Cert.DiffLastRefIdeal.main_arg3)
      ∧ r.2.mem ((c.tc : Thread Cert.DiffLastRefIdeal.nD Cert.DiffLastRefIdeal.τ).loc Cert.DiffLastRefIdeal.main_arg4) = m ((c.tc : Thread Cert.DiffLastRefIdeal.nD Cert.DiffLastRefIdeal.τ).loc Cert.DiffLastRefIdeal.main_arg4))
      ∧ r.2.sem = fun _ => 0)

def quiescent_DiffLastRefIdeal_pre_finite_diff_qk [hDiffLastRefIdeal : Cert.DiffLastRefIdeal.Facts] [hPre_finite_diff_qk : Cert.Pre_finite_diff_qk.Facts] : Prop :=
  ∀ (m : (ℓ : Loc Cert.DiffLastRefIdeal.nD Cert.DiffLastRefIdeal.τ Cert.DiffLastRefIdeal.sig) → Buf (Elt Ideal) ℓ) (g : Dev Cert.DiffLastRefIdeal.nD → PrngReg), Pre_DiffLastRefIdeal_finite_diff_qk m →
    θ_run (Cert.DiffLastRefIdeal.defs (F := Ideal)) (onTc (τ := Cert.DiffLastRefIdeal.τ) (Cert.DiffLastRefIdeal.main (F := Ideal))) ⟨m, fun _ => 0, g⟩ (fun r => (∀ c : Dev Cert.DiffLastRefIdeal.nD,
      r.2.mem ((c.tc : Thread Cert.DiffLastRefIdeal.nD Cert.DiffLastRefIdeal.τ).loc Cert.DiffLastRefIdeal.main_arg0) = m ((c.tc : Thread Cert.DiffLastRefIdeal.nD Cert.DiffLastRefIdeal.τ).loc Cert.DiffLastRefIdeal.main_arg0)
      ∧ r.2.mem ((c.tc : Thread Cert.DiffLastRefIdeal.nD Cert.DiffLastRefIdeal.τ).loc Cert.DiffLastRefIdeal.main_arg1) = m ((c.tc : Thread Cert.DiffLastRefIdeal.nD Cert.DiffLastRefIdeal.τ).loc Cert.DiffLastRefIdeal.main_arg1)
      ∧ r.2.mem ((c.tc : Thread Cert.DiffLastRefIdeal.nD Cert.DiffLastRefIdeal.τ).loc Cert.DiffLastRefIdeal.main_arg2) = m ((c.tc : Thread Cert.DiffLastRefIdeal.nD Cert.DiffLastRefIdeal.τ).loc Cert.DiffLastRefIdeal.main_arg2)
      ∧ r.2.mem ((c.tc : Thread Cert.DiffLastRefIdeal.nD Cert.DiffLastRefIdeal.τ).loc Cert.DiffLastRefIdeal.main_arg3) = m ((c.tc : Thread Cert.DiffLastRefIdeal.nD Cert.DiffLastRefIdeal.τ).loc Cert.DiffLastRefIdeal.main_arg3)
      ∧ r.2.mem ((c.tc : Thread Cert.DiffLastRefIdeal.nD Cert.DiffLastRefIdeal.τ).loc Cert.DiffLastRefIdeal.main_arg4) = m ((c.tc : Thread Cert.DiffLastRefIdeal.nD Cert.DiffLastRefIdeal.τ).loc Cert.DiffLastRefIdeal.main_arg4))
      ∧ r.2.sem = fun _ => 0)

def preserves_Gqa_GqaIdeal : Prop :=
  IdealRules.named_const.Statement Cert.GqaIdeal.κ "scale_log2e" .f32 0x3E38AA3B#32 (((1 / 8) * (Real.log 2)⁻¹ : ℝ) : EReal)

def algebraic_GqaIdeal_GqaRefIdeal_pre_finite_qk [hGqaIdeal : Cert.GqaIdeal.Facts] [hGqaRefIdeal : Cert.GqaRefIdeal.Facts] [hPre_finite_qk : Cert.Pre_finite_qk.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_qk m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v8)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v8) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v22) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_Up_UpIdeal : Prop :=
  True

def algebraic_UpIdeal_UpRefIdeal [hUpIdeal : Cert.UpIdeal.Facts] [hUpRefIdeal : Cert.UpRefIdeal.Facts] [hPre_tables_in_range : Cert.Pre_tables_in_range.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v108) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Down_DownIdeal : Prop :=
  True

def algebraic_DownIdeal_DownRefIdeal [hDownIdeal : Cert.DownIdeal.Facts] [hDownRefIdeal : Cert.DownRefIdeal.Facts] [hPre_down_tables_in_range : Cert.Pre_down_tables_in_range.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v68) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)) →
    ∃ (v0 : (c : Dev Cert.MidIdeal.nD) → Buf (Elt Ideal) ((c.tc : Thread Cert.MidIdeal.nD Cert.MidIdeal.τ).loc Cert.MidIdeal.main_v1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v1) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v39) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4))

def preserves_DenseDown_DenseDownIdeal : Prop :=
  True

def algebraic_DenseDownIdeal_DenseDownRefIdeal [hDenseDownIdeal : Cert.DenseDownIdeal.Facts] [hDenseDownRefIdeal : Cert.DenseDownRefIdeal.Facts] : Prop :=
  ∀ (m : (ℓ : Loc Cert.DenseDownIdeal.nD Cert.DenseDownIdeal.τ Cert.DenseDownIdeal.sig) → Buf (Elt Ideal) ℓ) (g : Dev Cert.DenseDownIdeal.nD → PrngReg)
    (m' : (ℓ : Loc Cert.DenseDownRefIdeal.nD Cert.DenseDownRefIdeal.τ Cert.DenseDownRefIdeal.sig) → Buf (Elt Ideal) ℓ) (g' : Dev Cert.DenseDownRefIdeal.nD → PrngReg), Pre_DenseDownIdeal m →
    (∀ c : Dev Cert.DenseDownIdeal.nD,
      m' ((c.tc : Thread Cert.DenseDownRefIdeal.nD Cert.DenseDownRefIdeal.τ).loc Cert.DenseDownRefIdeal.main_arg0) = m ((c.tc : Thread Cert.DenseDownIdeal.nD Cert.DenseDownIdeal.τ).loc Cert.DenseDownIdeal.main_arg0)
      ∧ m' ((c.tc : Thread Cert.DenseDownRefIdeal.nD Cert.DenseDownRefIdeal.τ).loc Cert.DenseDownRefIdeal.main_arg1) = m ((c.tc : Thread Cert.DenseDownIdeal.nD Cert.DenseDownIdeal.τ).loc Cert.DenseDownIdeal.main_arg1)
      ∧ m' ((c.tc : Thread Cert.DenseDownRefIdeal.nD Cert.DenseDownRefIdeal.τ).loc Cert.DenseDownRefIdeal.main_arg2) = m ((c.tc : Thread Cert.DenseDownIdeal.nD Cert.DenseDownIdeal.τ).loc Cert.DenseDownIdeal.main_arg2)
      ∧ m' ((c.tc : Thread Cert.DenseDownRefIdeal.nD Cert.DenseDownRefIdeal.τ).loc Cert.DenseDownRefIdeal.main_arg3) = m ((c.tc : Thread Cert.DenseDownIdeal.nD Cert.DenseDownIdeal.τ).loc Cert.DenseDownIdeal.main_arg3)) →
    ∃ (v0 : (c : Dev Cert.DenseDownIdeal.nD) → Buf (Elt Ideal) ((c.tc : Thread Cert.DenseDownIdeal.nD Cert.DenseDownIdeal.τ).loc Cert.DenseDownIdeal.main_v3)),
      θ_run (Cert.DenseDownIdeal.defs (F := Ideal)) (onTc (τ := Cert.DenseDownIdeal.τ) (Cert.DenseDownIdeal.main (F := Ideal))) ⟨m, fun _ => 0, g⟩ (fun r => ∀ c : Dev Cert.DenseDownIdeal.nD,
          r.2.mem ((c.tc : Thread Cert.DenseDownIdeal.nD Cert.DenseDownIdeal.τ).loc Cert.DenseDownIdeal.main_v3) = v0 c
          ∧ r.2.mem ((c.tc : Thread Cert.DenseDownIdeal.nD Cert.DenseDownIdeal.τ).loc Cert.DenseDownIdeal.main_arg0) = m ((c.tc : Thread Cert.DenseDownIdeal.nD Cert.DenseDownIdeal.τ).loc Cert.DenseDownIdeal.main_arg0)
          ∧ r.2.mem ((c.tc : Thread Cert.DenseDownIdeal.nD Cert.DenseDownIdeal.τ).loc Cert.DenseDownIdeal.main_arg1) = m ((c.tc : Thread Cert.DenseDownIdeal.nD Cert.DenseDownIdeal.τ).loc Cert.DenseDownIdeal.main_arg1)
          ∧ r.2.mem ((c.tc : Thread Cert.DenseDownIdeal.nD Cert.DenseDownIdeal.τ).loc Cert.DenseDownIdeal.main_arg2) = m ((c.tc : Thread Cert.DenseDownIdeal.nD Cert.DenseDownIdeal.τ).loc Cert.DenseDownIdeal.main_arg2)
          ∧ r.2.mem ((c.tc : Thread Cert.DenseDownIdeal.nD Cert.DenseDownIdeal.τ).loc Cert.DenseDownIdeal.main_arg3) = m ((c.tc : Thread Cert.DenseDownIdeal.nD Cert.DenseDownIdeal.τ).loc Cert.DenseDownIdeal.main_arg3))
      ∧ θ_run (Cert.DenseDownRefIdeal.defs (F := Ideal)) (onTc (τ := Cert.DenseDownRefIdeal.τ) (Cert.DenseDownRefIdeal.main (F := Ideal))) ⟨m', fun _ => 0, g'⟩ (fun r => ∀ c : Dev Cert.DenseDownRefIdeal.nD,
          r.2.mem ((c.tc : Thread Cert.DenseDownRefIdeal.nD Cert.DenseDownRefIdeal.τ).loc Cert.DenseDownRefIdeal.main_v12) = v0 c
          ∧ r.2.mem ((c.tc : Thread Cert.DenseDownRefIdeal.nD Cert.DenseDownRefIdeal.τ).loc Cert.DenseDownRefIdeal.main_arg0) = m' ((c.tc : Thread Cert.DenseDownRefIdeal.nD Cert.DenseDownRefIdeal.τ).loc Cert.DenseDownRefIdeal.main_arg0)
          ∧ r.2.mem ((c.tc : Thread Cert.DenseDownRefIdeal.nD Cert.DenseDownRefIdeal.τ).loc Cert.DenseDownRefIdeal.main_arg1) = m' ((c.tc : Thread Cert.DenseDownRefIdeal.nD Cert.DenseDownRefIdeal.τ).loc Cert.DenseDownRefIdeal.main_arg1)
          ∧ r.2.mem ((c.tc : Thread Cert.DenseDownRefIdeal.nD Cert.DenseDownRefIdeal.τ).loc Cert.DenseDownRefIdeal.main_arg2) = m' ((c.tc : Thread Cert.DenseDownRefIdeal.nD Cert.DenseDownRefIdeal.τ).loc Cert.DenseDownRefIdeal.main_arg2)
          ∧ r.2.mem ((c.tc : Thread Cert.DenseDownRefIdeal.nD Cert.DenseDownRefIdeal.τ).loc Cert.DenseDownRefIdeal.main_arg3) = m' ((c.tc : Thread Cert.DenseDownRefIdeal.nD Cert.DenseDownRefIdeal.τ).loc Cert.DenseDownRefIdeal.main_arg3))

def preserves_Mla_MlaIdeal : Prop :=
  IdealRules.named_const.Statement Cert.MlaIdeal.κ "mla_scale_log2e" .f32 0x3E16C740#32 (((3424635 / 33554432) * (Real.log 2)⁻¹ : ℝ) : EReal)

def algebraic_MlaIdeal_MlaRefIdeal_pre_finite_mla_qk [hMlaIdeal : Cert.MlaIdeal.Facts] [hMlaRefIdeal : Cert.MlaRefIdeal.Facts] [hPre_finite_mla_qk : Cert.Pre_finite_mla_qk.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_mla_qk m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v11)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v11) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v21) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Diff_DiffIdeal : Prop :=
  IdealRules.named_const.Statement Cert.DiffIdeal.κ "diff_scale_log2e" .f32 0x3E38AA3B#32 (((1 / 8) * (Real.log 2)⁻¹ : ℝ) : EReal)

def algebraic_DiffIdeal_DiffRefIdeal_pre_finite_diff_qk [hDiffIdeal : Cert.DiffIdeal.Facts] [hDiffRefIdeal : Cert.DiffRefIdeal.Facts] [hPre_finite_diff_qk : Cert.Pre_finite_diff_qk.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite_diff_qk m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)) →
    ∃ (v0 : (c : Dev Cert.DiffIdeal.nD) → Buf (Elt Ideal) ((c.tc : Thread Cert.DiffIdeal.nD Cert.DiffIdeal.τ).loc Cert.DiffIdeal.main_v3)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v3) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v60) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4))

def preserves_DiffLast_DiffLastIdeal : Prop :=
  IdealRules.named_const.Statement Cert.DiffLastIdeal.κ "diff_scale_log2e" .f32 0x3E38AA3B#32 (((1 / 8) * (Real.log 2)⁻¹ : ℝ) : EReal)

def algebraic_DiffLastIdeal_DiffLastRefIdeal_pre_finite_diff_qk [hDiffLastIdeal : Cert.DiffLastIdeal.Facts] [hDiffLastRefIdeal : Cert.DiffLastRefIdeal.Facts] [hPre_finite_diff_qk : Cert.Pre_finite_diff_qk.Facts] : Prop :=
  ∀ (m : (ℓ : Loc Cert.DiffLastIdeal.nD Cert.DiffLastIdeal.τ Cert.DiffLastIdeal.sig) → Buf (Elt Ideal) ℓ) (g : Dev Cert.DiffLastIdeal.nD → PrngReg)
    (m' : (ℓ : Loc Cert.DiffLastRefIdeal.nD Cert.DiffLastRefIdeal.τ Cert.DiffLastRefIdeal.sig) → Buf (Elt Ideal) ℓ) (g' : Dev Cert.DiffLastRefIdeal.nD → PrngReg), Pre_DiffLastIdeal_finite_diff_qk m →
    (∀ c : Dev Cert.DiffLastIdeal.nD,
      m' ((c.tc : Thread Cert.DiffLastRefIdeal.nD Cert.DiffLastRefIdeal.τ).loc Cert.DiffLastRefIdeal.main_arg0) = m ((c.tc : Thread Cert.DiffLastIdeal.nD Cert.DiffLastIdeal.τ).loc Cert.DiffLastIdeal.main_arg0)
      ∧ m' ((c.tc : Thread Cert.DiffLastRefIdeal.nD Cert.DiffLastRefIdeal.τ).loc Cert.DiffLastRefIdeal.main_arg1) = m ((c.tc : Thread Cert.DiffLastIdeal.nD Cert.DiffLastIdeal.τ).loc Cert.DiffLastIdeal.main_arg1)
      ∧ m' ((c.tc : Thread Cert.DiffLastRefIdeal.nD Cert.DiffLastRefIdeal.τ).loc Cert.DiffLastRefIdeal.main_arg2) = m ((c.tc : Thread Cert.DiffLastIdeal.nD Cert.DiffLastIdeal.τ).loc Cert.DiffLastIdeal.main_arg2)
      ∧ m' ((c.tc : Thread Cert.DiffLastRefIdeal.nD Cert.DiffLastRefIdeal.τ).loc Cert.DiffLastRefIdeal.main_arg3) = m ((c.tc : Thread Cert.DiffLastIdeal.nD Cert.DiffLastIdeal.τ).loc Cert.DiffLastIdeal.main_arg3)
      ∧ m' ((c.tc : Thread Cert.DiffLastRefIdeal.nD Cert.DiffLastRefIdeal.τ).loc Cert.DiffLastRefIdeal.main_arg4) = m ((c.tc : Thread Cert.DiffLastIdeal.nD Cert.DiffLastIdeal.τ).loc Cert.DiffLastIdeal.main_arg4)) →
    ∃ (v0 : (c : Dev Cert.DiffLastIdeal.nD) → Buf (Elt Ideal) ((c.tc : Thread Cert.DiffLastIdeal.nD Cert.DiffLastIdeal.τ).loc Cert.DiffLastIdeal.main_v3)),
      θ_run (Cert.DiffLastIdeal.defs (F := Ideal)) (onTc (τ := Cert.DiffLastIdeal.τ) (Cert.DiffLastIdeal.main (F := Ideal))) ⟨m, fun _ => 0, g⟩ (fun r => ∀ c : Dev Cert.DiffLastIdeal.nD,
          r.2.mem ((c.tc : Thread Cert.DiffLastIdeal.nD Cert.DiffLastIdeal.τ).loc Cert.DiffLastIdeal.main_v3) = v0 c
          ∧ r.2.mem ((c.tc : Thread Cert.DiffLastIdeal.nD Cert.DiffLastIdeal.τ).loc Cert.DiffLastIdeal.main_arg0) = m ((c.tc : Thread Cert.DiffLastIdeal.nD Cert.DiffLastIdeal.τ).loc Cert.DiffLastIdeal.main_arg0)
          ∧ r.2.mem ((c.tc : Thread Cert.DiffLastIdeal.nD Cert.DiffLastIdeal.τ).loc Cert.DiffLastIdeal.main_arg1) = m ((c.tc : Thread Cert.DiffLastIdeal.nD Cert.DiffLastIdeal.τ).loc Cert.DiffLastIdeal.main_arg1)
          ∧ r.2.mem ((c.tc : Thread Cert.DiffLastIdeal.nD Cert.DiffLastIdeal.τ).loc Cert.DiffLastIdeal.main_arg2) = m ((c.tc : Thread Cert.DiffLastIdeal.nD Cert.DiffLastIdeal.τ).loc Cert.DiffLastIdeal.main_arg2)
          ∧ r.2.mem ((c.tc : Thread Cert.DiffLastIdeal.nD Cert.DiffLastIdeal.τ).loc Cert.DiffLastIdeal.main_arg3) = m ((c.tc : Thread Cert.DiffLastIdeal.nD Cert.DiffLastIdeal.τ).loc Cert.DiffLastIdeal.main_arg3)
          ∧ r.2.mem ((c.tc : Thread Cert.DiffLastIdeal.nD Cert.DiffLastIdeal.τ).loc Cert.DiffLastIdeal.main_arg4) = m ((c.tc : Thread Cert.DiffLastIdeal.nD Cert.DiffLastIdeal.τ).loc Cert.DiffLastIdeal.main_arg4))
      ∧ θ_run (Cert.DiffLastRefIdeal.defs (F := Ideal)) (onTc (τ := Cert.DiffLastRefIdeal.τ) (Cert.DiffLastRefIdeal.main (F := Ideal))) ⟨m', fun _ => 0, g'⟩ (fun r => ∀ c : Dev Cert.DiffLastRefIdeal.nD,
          r.2.mem ((c.tc : Thread Cert.DiffLastRefIdeal.nD Cert.DiffLastRefIdeal.τ).loc Cert.DiffLastRefIdeal.main_v60) = v0 c
          ∧ r.2.mem ((c.tc : Thread Cert.DiffLastRefIdeal.nD Cert.DiffLastRefIdeal.τ).loc Cert.DiffLastRefIdeal.main_arg0) = m' ((c.tc : Thread Cert.DiffLastRefIdeal.nD Cert.DiffLastRefIdeal.τ).loc Cert.DiffLastRefIdeal.main_arg0)
          ∧ r.2.mem ((c.tc : Thread Cert.DiffLastRefIdeal.nD Cert.DiffLastRefIdeal.τ).loc Cert.DiffLastRefIdeal.main_arg1) = m' ((c.tc : Thread Cert.DiffLastRefIdeal.nD Cert.DiffLastRefIdeal.τ).loc Cert.DiffLastRefIdeal.main_arg1)
          ∧ r.2.mem ((c.tc : Thread Cert.DiffLastRefIdeal.nD Cert.DiffLastRefIdeal.τ).loc Cert.DiffLastRefIdeal.main_arg2) = m' ((c.tc : Thread Cert.DiffLastRefIdeal.nD Cert.DiffLastRefIdeal.τ).loc Cert.DiffLastRefIdeal.main_arg2)
          ∧ r.2.mem ((c.tc : Thread Cert.DiffLastRefIdeal.nD Cert.DiffLastRefIdeal.τ).loc Cert.DiffLastRefIdeal.main_arg3) = m' ((c.tc : Thread Cert.DiffLastRefIdeal.nD Cert.DiffLastRefIdeal.τ).loc Cert.DiffLastRefIdeal.main_arg3)
          ∧ r.2.mem ((c.tc : Thread Cert.DiffLastRefIdeal.nD Cert.DiffLastRefIdeal.τ).loc Cert.DiffLastRefIdeal.main_arg4) = m' ((c.tc : Thread Cert.DiffLastRefIdeal.nD Cert.DiffLastRefIdeal.τ).loc Cert.DiffLastRefIdeal.main_arg4))

def Claim : Prop :=
  ∃ (hGqa : Cert.Gqa.Facts) (hGqaIdeal : Cert.GqaIdeal.Facts) (hGqaRefIdeal : Cert.GqaRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hMid : Cert.Mid.Facts) (hMidIdeal : Cert.MidIdeal.Facts) (hMidRefIdeal : Cert.MidRefIdeal.Facts) (hDenseDown : Cert.DenseDown.Facts) (hDenseDownIdeal : Cert.DenseDownIdeal.Facts) (hDenseDownRefIdeal : Cert.DenseDownRefIdeal.Facts) (hMla : Cert.Mla.Facts) (hMlaIdeal : Cert.MlaIdeal.Facts) (hMlaRefIdeal : Cert.MlaRefIdeal.Facts) (hDiff : Cert.Diff.Facts) (hDiffIdeal : Cert.DiffIdeal.Facts) (hDiffRefIdeal : Cert.DiffRefIdeal.Facts) (hDiffLast : Cert.DiffLast.Facts) (hDiffLastIdeal : Cert.DiffLastIdeal.Facts) (hDiffLastRefIdeal : Cert.DiffLastRefIdeal.Facts) (hPre_finite_qk : Cert.Pre_finite_qk.Facts) (hPre_tables_in_range : Cert.Pre_tables_in_range.Facts) (hPre_down_tables_in_range : Cert.Pre_down_tables_in_range.Facts) (hPre_finite_mla_qk : Cert.Pre_finite_mla_qk.Facts) (hPre_finite_diff_qk : Cert.Pre_finite_diff_qk.Facts),
    quiescent_Gqa (hGqa := hGqa)
    ∧ quiescent_GqaIdeal (hGqaIdeal := hGqaIdeal)
    ∧ quiescent_GqaIdeal_pre_finite_qk (hGqaIdeal := hGqaIdeal) (hPre_finite_qk := hPre_finite_qk)
    ∧ quiescent_GqaRefIdeal (hGqaRefIdeal := hGqaRefIdeal)
    ∧ quiescent_GqaRefIdeal_pre_finite_qk (hGqaRefIdeal := hGqaRefIdeal) (hPre_finite_qk := hPre_finite_qk)
    ∧ quiescent_Up (hUp := hUp) (hPre_tables_in_range := hPre_tables_in_range)
    ∧ quiescent_UpIdeal (hUpIdeal := hUpIdeal) (hPre_tables_in_range := hPre_tables_in_range)
    ∧ quiescent_UpRefIdeal (hUpRefIdeal := hUpRefIdeal)
    ∧ quiescent_UpRefIdeal_pre_tables_in_range (hUpRefIdeal := hUpRefIdeal) (hPre_tables_in_range := hPre_tables_in_range)
    ∧ quiescent_Down (hDown := hDown) (hPre_down_tables_in_range := hPre_down_tables_in_range)
    ∧ quiescent_DownIdeal (hDownIdeal := hDownIdeal) (hPre_down_tables_in_range := hPre_down_tables_in_range)
    ∧ quiescent_DownRefIdeal (hDownRefIdeal := hDownRefIdeal)
    ∧ quiescent_DownRefIdeal_pre_down_tables_in_range (hDownRefIdeal := hDownRefIdeal) (hPre_down_tables_in_range := hPre_down_tables_in_range)
    ∧ quiescent_Mid (hMid := hMid)
    ∧ quiescent_MidIdeal (hMidIdeal := hMidIdeal)
    ∧ quiescent_MidRefIdeal (hMidRefIdeal := hMidRefIdeal)
    ∧ quiescent_DenseDown (hDenseDown := hDenseDown)
    ∧ quiescent_DenseDownIdeal (hDenseDownIdeal := hDenseDownIdeal)
    ∧ quiescent_DenseDownRefIdeal (hDenseDownRefIdeal := hDenseDownRefIdeal)
    ∧ quiescent_Mla (hMla := hMla)
    ∧ quiescent_MlaIdeal (hMlaIdeal := hMlaIdeal)
    ∧ quiescent_MlaIdeal_pre_finite_mla_qk (hMlaIdeal := hMlaIdeal) (hPre_finite_mla_qk := hPre_finite_mla_qk)
    ∧ quiescent_MlaRefIdeal (hMlaRefIdeal := hMlaRefIdeal)
    ∧ quiescent_MlaRefIdeal_pre_finite_mla_qk (hMlaRefIdeal := hMlaRefIdeal) (hPre_finite_mla_qk := hPre_finite_mla_qk)
    ∧ quiescent_Diff (hDiff := hDiff)
    ∧ quiescent_DiffIdeal (hDiffIdeal := hDiffIdeal)
    ∧ quiescent_DiffIdeal_pre_finite_diff_qk (hDiffIdeal := hDiffIdeal) (hPre_finite_diff_qk := hPre_finite_diff_qk)
    ∧ quiescent_DiffRefIdeal (hDiffRefIdeal := hDiffRefIdeal)
    ∧ quiescent_DiffRefIdeal_pre_finite_diff_qk (hDiffRefIdeal := hDiffRefIdeal) (hPre_finite_diff_qk := hPre_finite_diff_qk)
    ∧ quiescent_DiffLast (hDiffLast := hDiffLast)
    ∧ quiescent_DiffLastIdeal (hDiffLastIdeal := hDiffLastIdeal)
    ∧ quiescent_DiffLastIdeal_pre_finite_diff_qk (hDiffLastIdeal := hDiffLastIdeal) (hPre_finite_diff_qk := hPre_finite_diff_qk)
    ∧ quiescent_DiffLastRefIdeal (hDiffLastRefIdeal := hDiffLastRefIdeal)
    ∧ quiescent_DiffLastRefIdeal_pre_finite_diff_qk (hDiffLastRefIdeal := hDiffLastRefIdeal) (hPre_finite_diff_qk := hPre_finite_diff_qk)
    ∧ preserves_Gqa_GqaIdeal
    ∧ algebraic_GqaIdeal_GqaRefIdeal_pre_finite_qk (hGqaIdeal := hGqaIdeal) (hGqaRefIdeal := hGqaRefIdeal) (hPre_finite_qk := hPre_finite_qk)
    ∧ preserves_Up_UpIdeal
    ∧ algebraic_UpIdeal_UpRefIdeal (hUpIdeal := hUpIdeal) (hUpRefIdeal := hUpRefIdeal) (hPre_tables_in_range := hPre_tables_in_range)
    ∧ preserves_Down_DownIdeal
    ∧ algebraic_DownIdeal_DownRefIdeal (hDownIdeal := hDownIdeal) (hDownRefIdeal := hDownRefIdeal) (hPre_down_tables_in_range := hPre_down_tables_in_range)
    ∧ preserves_Mid_MidIdeal
    ∧ algebraic_MidIdeal_MidRefIdeal (hMidIdeal := hMidIdeal) (hMidRefIdeal := hMidRefIdeal)
    ∧ preserves_DenseDown_DenseDownIdeal
    ∧ algebraic_DenseDownIdeal_DenseDownRefIdeal (hDenseDownIdeal := hDenseDownIdeal) (hDenseDownRefIdeal := hDenseDownRefIdeal)
    ∧ preserves_Mla_MlaIdeal
    ∧ algebraic_MlaIdeal_MlaRefIdeal_pre_finite_mla_qk (hMlaIdeal := hMlaIdeal) (hMlaRefIdeal := hMlaRefIdeal) (hPre_finite_mla_qk := hPre_finite_mla_qk)
    ∧ preserves_Diff_DiffIdeal
    ∧ algebraic_DiffIdeal_DiffRefIdeal_pre_finite_diff_qk (hDiffIdeal := hDiffIdeal) (hDiffRefIdeal := hDiffRefIdeal) (hPre_finite_diff_qk := hPre_finite_diff_qk)
    ∧ preserves_DiffLast_DiffLastIdeal
    ∧ algebraic_DiffLastIdeal_DiffLastRefIdeal_pre_finite_diff_qk (hDiffLastIdeal := hDiffLastIdeal) (hDiffLastRefIdeal := hDiffLastRefIdeal) (hPre_finite_diff_qk := hPre_finite_diff_qk)
-- ==== Pre_down_tables_in_range.lean ====
abbrev S36864x5632 : Shape := ⟨2, ![36864, 5632]⟩
abbrev S72 : Shape := ⟨1, ![72]⟩
abbrev S1 : Shape := ⟨1, ![1]⟩
abbrev S8x5632x2048 : Shape := ⟨3, ![8, 5632, 2048]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S36864x5632 .bf16) (main_arg1 : IVec S72 32) (main_arg2 : IVec S1 32) (main_arg3 : FVec F S8x5632x2048 .f32) : IVec S_ 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 1 := constantI S_ 1 1#1
  let main_v2 : IVec S_ 1 := (fun x v => Host.reduce IntOp.andi x v reducesTo_S72_S_d0 h_S_) main_v1 main_c_0
  let main_c_1 : IVec S_ 32 := constantI S_ 32 8#32
  let main_v3 : IVec S72 32 := broadcastInDim S72 ![] bcast_S_S72 main_c_1
  let main_v4 : IVec S72 1 := cmpi .slt main_arg1 main_v3
  let main_c_2 : IVec S_ 1 := constantI S_ 1 1#1
  let main_v5 : IVec S_ 1 := (fun x v => Host.reduce IntOp.andi x v reducesTo_S72_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg2 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Pre_finite_diff_qk.lean ====
abbrev S4x64 : Shape := ⟨2, ![4, 64]⟩
abbrev S1x128 : Shape := ⟨2, ![1, 128]⟩
abbrev S17408x512 : Shape := ⟨2, ![17408, 512]⟩
abbrev S4x4352x512 : Shape := ⟨3, ![4, 4352, 512]⟩
abbrev S16384x512 : Shape := ⟨2, ![16384, 512]⟩
abbrev S_ : Shape := ⟨0, ![]⟩

class Facts : Prop where
  slices_S17408x512_S16384x512_0_0 : S17408x512.Slices ![0, 0] S16384x512
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4x4352x512 : S_.BroadcastsInDim S4x4352x512 (![] : Fin 0 → Fin S4x4352x512.rank)
  reducesTo_S4x4352x512_S_d0_1_2 : S4x4352x512.ReducesTo [0, 1, 2] S_

variable [Facts]

def fn {F : FTy → Type} [FloatOps F] (main_arg0 : FVec F S4x64 .f32) (main_arg1 : FVec F S1x128 .f32) (main_arg2 : FVec F S17408x512 .f32) (main_arg3 : FVec F S4x4352x512 .f32) (main_arg4 : FVec F S4x4352x512 .f32) : IVec S_ 1 :=
  let main_v0 : FVec F S16384x512 .f32 := (extractStridedSlice S16384x512 ![0, 0] · slices_S17408x512_S16384x512_0_0) main_arg2
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S4x4352x512 .f32 := Host.absf main_arg3
  let main_cst_0 : FVec F S_ .f32 := constant S_ .f32 0x7F800000#32
  let main_v6 : FVec F S4x4352x512 .f32 := broadcastInDim S4x4352x512 ![] bcast_S_S4x4352x512 main_cst_0
  let main_v7 : IVec S4x4352x512 1 := cmpf .olt main_v5 main_v6
  let main_c_1 : IVec S_ 1 := constantI S_ 1 1#1
  let main_v8 : IVec S_ 1 := (fun x v => Host.reduce IntOp.andi x v reducesTo_S4x4352x512_S_d0_1_2 h_S_) main_v7 main_c_1
  let main_v9 : IVec S_ 1 := andi main_v4 main_v8
  main_v9
-- ==== Pre_finite_mla_qk.lean ====
abbrev S17408x768 : Shape := ⟨2, ![17408, 768]⟩
abbrev S4x4352x768 : Shape := ⟨3, ![4, 4352, 768]⟩
abbrev S4x4352x512 : Shape := ⟨3, ![4, 4352, 512]⟩
abbrev S16384x768 : Shape := ⟨2, ![16384, 768]⟩
abbrev S_ : Shape := ⟨0, ![]⟩

class Facts : Prop where
  slices_S17408x768_S16384x768_0_0 : S17408x768.Slices ![0, 0] S16384x768
  bcast_S_S16384x768 : S_.BroadcastsInDim S16384x768 (![] : Fin 0 → Fin S16384x768.rank)
  reducesTo_S16384x768_S_d0_1 : S16384x768.ReducesTo [0, 1] S_
  h_S_ : 0 < S_.numel
  bcast_S_S4x4352x768 : S_.BroadcastsInDim S4x4352x768 (![] : Fin 0 → Fin S4x4352x768.rank)
  reducesTo_S4x4352x768_S_d0_1_2 : S4x4352x768.ReducesTo [0, 1, 2] S_

variable [Facts]

def fn {F : FTy → Type} [FloatOps F] (main_arg0 : FVec F S17408x768 .f32) (main_arg1 : FVec F S4x4352x768 .f32) (main_arg2 : FVec F S4x4352x512 .f32) : IVec S_ 1 :=
  let main_v0 : FVec F S16384x768 .f32 := (extractStridedSlice S16384x768 ![0, 0] · slices_S17408x768_S16384x768_0_0) main_arg0
  let main_v1 : FVec F S16384x768 .f32 := Host.absf main_v0
  let main_cst : FVec F S_ .f32 := constant S_ .f32 0x7F800000#32
  let main_v2 : FVec F S16384x768 .f32 := broadcastInDim S16384x768 ![] bcast_S_S16384x768 main_cst
  let main_v3 : IVec S16384x768 1 := cmpf .olt main_v1 main_v2
  let main_c : IVec S_ 1 := constantI S_ 1 1#1
  let main_v4 : IVec S_ 1 := (fun x v => Host.reduce IntOp.andi x v reducesTo_S16384x768_S_d0_1 h_S_) main_v3 main_c
  let main_v5 : FVec F S4x4352x768 .f32 := Host.absf main_arg1
  let main_cst_0 : FVec F S_ .f32 := constant S_ .f32 0x7F800000#32
  let main_v6 : FVec F S4x4352x768 .f32 := broadcastInDim S4x4352x768 ![] bcast_S_S4x4352x768 main_cst_0
  let main_v7 : IVec S4x4352x768 1 := cmpf .olt main_v5 main_v6
  let main_c_1 : IVec S_ 1 := constantI S_ 1 1#1
  let main_v8 : IVec S_ 1 := (fun x v => Host.reduce IntOp.andi x v reducesTo_S4x4352x768_S_d0_1_2 h_S_) main_v7 main_c_1
  let main_v9 : IVec S_ 1 := andi main_v4 main_v8
  main_v9
-- ==== Pre_finite_qk.lean ====
abbrev S17408x512 : Shape := ⟨2, ![17408, 512]⟩
abbrev S4x4352x128 : Shape := ⟨3, ![4, 4352, 128]⟩
abbrev S16384x512 : Shape := ⟨2, ![16384, 512]⟩
abbrev S_ : Shape := ⟨0, ![]⟩

class Facts : Prop where
  slices_S17408x512_S16384x512_0_0 : S17408x512.Slices ![0, 0] S16384x512
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4x4352x128 : S_.BroadcastsInDim S4x4352x128 (![] : Fin 0 → Fin S4x4352x128.rank)
  reducesTo_S4x4352x128_S_d0_1_2 : S4x4352x128.ReducesTo [0, 1, 2] S_

variable [Facts]

def fn {F : FTy → Type} [FloatOps F] (main_arg0 : FVec F S17408x512 .f32) (main_arg1 : FVec F S4x4352x128 .f32) (main_arg2 : FVec F S4x4352x128 .f32) : IVec S_ 1 :=
  let main_v0 : FVec F S16384x512 .f32 := (extractStridedSlice S16384x512 ![0, 0] · slices_S17408x512_S16384x512_0_0) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S4x4352x128 .f32 := Host.absf main_arg1
  let main_cst_0 : FVec F S_ .f32 := constant S_ .f32 0x7F800000#32
  let main_v6 : FVec F S4x4352x128 .f32 := broadcastInDim S4x4352x128 ![] bcast_S_S4x4352x128 main_cst_0
  let main_v7 : IVec S4x4352x128 1 := cmpf .olt main_v5 main_v6
  let main_c_1 : IVec S_ 1 := constantI S_ 1 1#1
  let main_v8 : IVec S_ 1 := (fun x v => Host.reduce IntOp.andi x v reducesTo_S4x4352x128_S_d0_1_2 h_S_) main_v7 main_c_1
  let main_v9 : IVec S_ 1 := andi main_v4 main_v8
  main_v9
-- ==== Pre_tables_in_range.lean ====
abbrev S36864x2048 : Shape := ⟨2, ![36864, 2048]⟩
abbrev S72 : Shape := ⟨1, ![72]⟩
abbrev S1 : Shape := ⟨1, ![1]⟩
abbrev S8x2048x5632 : Shape := ⟨3, ![8, 2048, 5632]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S36864x2048 .bf16) (main_arg1 : IVec S72 32) (main_arg2 : IVec S1 32) (main_arg3 : FVec F S8x2048x5632 .f32) (main_arg4 : FVec F S8x2048x5632 .f32) : IVec S_ 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 1 := constantI S_ 1 1#1
  let main_v2 : IVec S_ 1 := (fun x v => Host.reduce IntOp.andi x v reducesTo_S72_S_d0 h_S_) main_v1 main_c_0
  let main_c_1 : IVec S_ 32 := constantI S_ 32 8#32
  let main_v3 : IVec S72 32 := broadcastInDim S72 ![] bcast_S_S72 main_c_1
  let main_v4 : IVec S72 1 := cmpi .slt main_arg1 main_v3
  let main_c_2 : IVec S_ 1 := constantI S_ 1 1#1
  let main_v5 : IVec S_ 1 := (fun x v => Host.reduce IntOp.andi x v reducesTo_S72_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg2 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Gqa.lean ====
abbrev S17408x512 : Shape := ⟨2, ![17408, 512]⟩
abbrev S4x4352x128 : Shape := ⟨3, ![4, 4352, 128]⟩
abbrev S4x4352x64 : Shape := ⟨3, ![4, 4352, 64]⟩
abbrev S4x4352x256 : Shape := ⟨3, ![4, 4352, 256]⟩
abbrev S4x128x4352 : Shape := ⟨3, ![4, 128, 4352]⟩
abbrev S16384x512 : Shape := ⟨2, ![16384, 512]⟩
abbrev S512x512 : Shape := ⟨2, ![512, 512]⟩
abbrev S1x4352x256 : Shape := ⟨3, ![1, 4352, 256]⟩
abbrev S1x128x4352 : Shape := ⟨3, ![1, 128, 4352]⟩
abbrev S512x128 : Shape := ⟨2, ![512, 128]⟩
abbrev S1x4352x128 : Shape := ⟨3, ![1, 4352, 128]⟩
abbrev S4352x128 : Shape := ⟨2, ![4352, 128]⟩
abbrev S4352x512 : Shape := ⟨2, ![4352, 512]⟩
abbrev S1x64x4352 : Shape := ⟨3, ![1, 64, 4352]⟩
abbrev S64x4352 : Shape := ⟨2, ![64, 4352]⟩
abbrev S512 : Shape := ⟨1, ![512]⟩
abbrev S1x512 : Shape := ⟨2, ![1, 512]⟩
abbrev S16x4352 : Shape := ⟨2, ![16, 4352]⟩
abbrev S80x4352 : Shape := ⟨2, ![80, 4352]⟩
abbrev S80x512 : Shape := ⟨2, ![80, 512]⟩
abbrev S64x512 : Shape := ⟨2, ![64, 512]⟩
abbrev S128x512 : Shape := ⟨2, ![128, 512]⟩

abbrev nBuf : Space → Nat
  | .hbm => 12
  | .vmem => 8
  | .smem => 0
  | _ => 0

abbrev bufTy : (tb : Table) → Fin (tcTables nBuf tb) → BufTy
  | .hbm, ⟨0, _⟩ => ⟨S17408x512, .f32⟩
  | .hbm, ⟨1, _⟩ => ⟨S4x4352x128, .f32⟩
  | .hbm, ⟨2, _⟩ => ⟨S4x4352x128, .f32⟩
  | .hbm, ⟨3, _⟩ => ⟨S4x4352x64, .f32⟩
  | .hbm, ⟨4, _⟩ => ⟨S4x4352x64, .f32⟩
  | .hbm, ⟨5, _⟩ => ⟨S4x4352x64, .f32⟩
  | .hbm, ⟨6, _⟩ => ⟨S4x4352x64, .f32⟩
  | .hbm, ⟨7, _⟩ => ⟨S4x4352x256, .f32⟩
  | .hbm, ⟨8, _⟩ => ⟨S4x4352x256, .bf16⟩
  | .hbm, ⟨9, _⟩ => ⟨S4x128x4352, .f32⟩
  | .hbm, ⟨10, _⟩ => ⟨S4x128x4352, .bf16⟩
  | .hbm, ⟨11, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S1x4352x256, .bf16⟩
  | .local _ .vmem, ⟨3, _⟩ => ⟨S1x4352x256, .bf16⟩
  | .local _ .vmem, ⟨4, _⟩ => ⟨S1x128x4352, .bf16⟩
  | .local _ .vmem, ⟨5, _⟩ => ⟨S1x128x4352, .bf16⟩
  | .local _ .vmem, ⟨6, _⟩ => ⟨S512x512, .bf16⟩
  | .local _ .vmem, ⟨7, _⟩ => ⟨S512x512, .bf16⟩
  | _, _ => ⟨S17408x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GqaIdeal.lean ====
variable {F : FTy → Type} [FloatOps F] [Named F]
def κ : String → Option EReal := fun
  | "scale_log2e" => some (((1 / 8) * (Real.log 2)⁻¹ : ℝ) : EReal)
  | _ => none
-- ==== GqaRefIdeal.lean ====
abbrev S17408x512 : Shape := ⟨2, ![17408, 512]⟩
abbrev S4x4352x128 : Shape := ⟨3, ![4, 4352, 128]⟩
abbrev S16384x512 : Shape := ⟨2, ![16384, 512]⟩
abbrev S4x4096x2x4x64 : Shape := ⟨5, ![4, 4096, 2, 4, 64]⟩
abbrev S4x4352x2x64 : Shape := ⟨4, ![4, 4352, 2, 64]⟩
abbrev S4x2x4352x4096x4 : Shape := ⟨5, ![4, 2, 4352, 4096, 4]⟩
abbrev S4x2x4x4096x4352 : Shape := ⟨5, ![4, 2, 4, 4096, 4352]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x64x4x4096 : Shape := ⟨5, ![4, 2, 64, 4, 4096]⟩

abbrev nBuf : Space → Nat
  | .hbm => 30
  | .vmem => 0
  | .smem => 0
  | _ => 0

abbrev bufTy : (tb : Table) → Fin (tcTables nBuf tb) → BufTy
  | .hbm, ⟨0, _⟩ => ⟨S17408x512, .f32⟩
  | .hbm, ⟨1, _⟩ => ⟨S4x4352x128, .f32⟩
  | .hbm, ⟨2, _⟩ => ⟨S4x4352x128, .f32⟩
  | .hbm, ⟨3, _⟩ => ⟨S16384x512, .f32⟩
  | .hbm, ⟨4, _⟩ => ⟨S4x4096x2x4x64, .f32⟩
  | .hbm, ⟨5, _⟩ => ⟨S4x4352x2x64, .f32⟩
  | .hbm, ⟨6, _⟩ => ⟨S4x4352x2x64, .f32⟩
  | .hbm, ⟨7, _⟩ => ⟨S4x2x4352x4096x4, .f32⟩
  | .hbm, ⟨8, _⟩ => ⟨S4x2x4x4096x4352, .f32⟩
  | .hbm, ⟨9, _⟩ => ⟨S_, .f32⟩
  | .hbm, ⟨10, _⟩ => ⟨S4x2x4x4096x4352, .f32⟩
  | .hbm, ⟨11, _⟩ => ⟨S4x2x4x4096x4352, .f32⟩
  | .hbm, ⟨12, _⟩ => ⟨S_, .f32⟩
  | .hbm, ⟨13, _⟩ => ⟨S4x2x4x4096, .f32⟩
  | .hbm, ⟨14, _⟩ => ⟨S_, .f32⟩
  | .hbm, ⟨15, _⟩ => ⟨S4x2x4x4096, .f32⟩
  | .hbm, ⟨16, _⟩ => ⟨S4x2x4x4096, .f32⟩
  | .hbm, ⟨17, _⟩ => ⟨S4x2x4x4096x1, .f32⟩
  | .hbm, ⟨18, _⟩ => ⟨S4x2x4x4096x4352, .f32⟩
  | .hbm, ⟨19, _⟩ => ⟨S4x2x4x4096x4352, .f32⟩
  | .hbm, ⟨20, _⟩ => ⟨S4x2x4x4096x4352, .f32⟩
  | .hbm, ⟨21, _⟩ => ⟨S_, .f32⟩
  | .hbm, ⟨22, _⟩ => ⟨S4x2x4x4096, .f32⟩
  | .hbm, ⟨23, _⟩ => ⟨S4x2x4x4096x1, .f32⟩
  | .hbm, ⟨24, _⟩ => ⟨S4x2x4x4096x4352, .f32⟩
  | .hbm, ⟨25, _⟩ => ⟨S4x2x4x4096x4352, .f32⟩
  | .hbm, ⟨26, _⟩ => ⟨S4x2x64x4x4096, .f32⟩
  | .hbm, ⟨27, _⟩ => ⟨S4x4096x2x4x64, .f32⟩
  | .hbm, ⟨28, _⟩ => ⟨S16384x512, .f32⟩
  | .hbm, ⟨29, _⟩ => ⟨S16384x512, .bf16⟩
  | _, _ => ⟨S17408x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Up.lean ====
abbrev S36864x2048 : Shape := ⟨2, ![36864, 2048]⟩
abbrev S72 : Shape := ⟨1, ![72]⟩
abbrev S1 : Shape := ⟨1, ![1]⟩
abbrev S8x2048x5632 : Shape := ⟨3, ![8, 2048, 5632]⟩
abbrev S36864x5632 : Shape := ⟨2, ![36864, 5632]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 4
  | .vmem => 10
  | .smem => 2
  | _ => 0

abbrev bufTy : (tb : Table) → Fin (tcTables nBuf tb) → BufTy
  | .hbm, ⟨0, _⟩ => ⟨S36864x2048, .bf16⟩
  | .hbm, ⟨1, _⟩ => ⟨S8x2048x5632, .f32⟩
  | .hbm, ⟨2, _⟩ => ⟨S8x2048x5632, .f32⟩
  | .hbm, ⟨3, _⟩ => ⟨S36864x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S512x512, .bf16⟩
  | .local _ .vmem, ⟨7, _⟩ => ⟨S512x512, .bf16⟩
  | .local _ .vmem, ⟨8, _⟩ => ⟨S2048x512, .bf16⟩
  | .local _ .vmem, ⟨9, _⟩ => ⟨S2048x512, .bf16⟩
  | .local _ .smem, ⟨0, _⟩ => ⟨S72, .i32⟩
  | .local _ .smem, ⟨1, _⟩ => ⟨S1, .i32⟩
  | _, _ => ⟨S36864x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 72], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S36864x2048 : Shape := ⟨2, ![36864, 2048]⟩
abbrev S72 : Shape := ⟨1, ![72]⟩
abbrev S1 : Shape := ⟨1, ![1]⟩
abbrev S8x2048x5632 : Shape := ⟨3, ![8, 2048, 5632]⟩
abbrev S72x512 : Shape := ⟨2, ![72, 512]⟩
abbrev S36864 : Shape := ⟨1, ![36864]⟩
abbrev S_ : Shape := ⟨0, ![]⟩
abbrev S36864x5632 : Shape := ⟨2, ![36864, 5632]⟩
abbrev S1x2048x5632 : Shape := ⟨3, ![1, 2048, 5632]⟩
abbrev S2048x5632 : Shape := ⟨2, ![2048, 5632]⟩
abbrev S36864x1 : Shape := ⟨2, ![36864, 1]⟩

abbrev nBuf : Space → Nat
  | .hbm => 199
  | .vmem => 0
  | .smem => 0
  | _ => 0

abbrev hbmTy0_0 (i : Nat) : BufTy := match i % 128 with
  | 0 => ⟨S36864x2048, .bf16⟩
  | 1 => ⟨S72, .i32⟩
  | 2 => ⟨S1, .i32⟩
  | 3 => ⟨S8x2048x5632, .f32⟩
  | 4 => ⟨S8x2048x5632, .f32⟩
  | 5 => ⟨S72x512, .i32⟩
  | 6 => ⟨S36864, .i32⟩
  | 7 => ⟨S72, .i32⟩
  | 8 => ⟨S_, .i32⟩
  | 9 => ⟨S72, .i32⟩
  | 10 => ⟨S72, .i1⟩
  | 11 => ⟨S72x512, .i1⟩
  | 12 => ⟨S36864, .i1⟩
  | 13 => ⟨S36864x2048, .f32⟩
  | 14 => ⟨S_, .f32⟩
  | 15 => ⟨S36864x5632, .f32⟩
  | 16 => ⟨S1x2048x5632, .f32⟩
  | 17 => ⟨S2048x5632, .f32⟩
  | 18 => ⟨S36864x5632, .f32⟩
  | 19 => ⟨S36864x5632, .f32⟩
  | 20 => ⟨S36864x5632, .f32⟩
  | 21 => ⟨S_, .f32⟩
  | 22 => ⟨S36864x5632, .f32⟩
  | 23 => ⟨S36864x5632, .f32⟩
  | 24 => ⟨S_, .f32⟩
  | 25 => ⟨S36864x5632, .f32⟩
  | 26 => ⟨S36864x5632, .f32⟩
  | 27 => ⟨S36864x5632, .f32⟩
  | 28 => ⟨S1x2048x5632, .f32⟩
  | 29 => ⟨S2048x5632, .f32⟩
  | 30 => ⟨S36864x5632, .f32⟩
  | 31 => ⟨S36864x5632, .f32⟩
  | 32 => ⟨S_, .i32⟩
  | 33 => ⟨S36864, .i32⟩
  | 34 => ⟨S36864, .i1⟩
  | 35 => ⟨S36864x1, .i1⟩
  | 36 => ⟨S36864x5632, .i1⟩
  | 37 => ⟨S36864x5632, .f32⟩
  | 38 => ⟨S1x2048x5632, .f32⟩
  | 39 => ⟨S2048x5632, .f32⟩
  | 40 => ⟨S36864x5632, .f32⟩
  | 41 => ⟨S36864x5632, .f32⟩
  | 42 => ⟨S36864x5632, .f32⟩
  | 43 => ⟨S_, .f32⟩
  | 44 => ⟨S36864x5632, .f32⟩
  | 45 => ⟨S36864x5632, .f32⟩
  | 46 => ⟨S_, .f32⟩
  | 47 => ⟨S36864x5632, .f32⟩
  | 48 => ⟨S36864x5632, .f32⟩
  | 49 => ⟨S36864x5632, .f32⟩
  | 50 => ⟨S1x2048x5632, .f32⟩
  | 51 => ⟨S2048x5632, .f32⟩
  | 52 => ⟨S36864x5632, .f32⟩
  | 53 => ⟨S36864x5632, .f32⟩
  | 54 => ⟨S_, .i32⟩
  | 55 => ⟨S36864, .i32⟩
  | 56 => ⟨S36864, .i1⟩
  | 57 => ⟨S36864x1, .i1⟩
  | 58 => ⟨S36864x5632, .i1⟩
  | 59 => ⟨S36864x5632, .f32⟩
  | 60 => ⟨S1x2048x5632, .f32⟩
  | 61 => ⟨S2048x5632, .f32⟩
  | 62 => ⟨S36864x5632, .f32⟩
  | 63 => ⟨S36864x5632, .f32⟩
  | 64 => ⟨S36864x5632, .f32⟩
  | 65 => ⟨S_, .f32⟩
  | 66 => ⟨S36864x5632, .f32⟩
  | 67 => ⟨S36864x5632, .f32⟩
  | 68 => ⟨S_, .f32⟩
  | 69 => ⟨S36864x5632, .f32⟩
  | 70 => ⟨S36864x5632, .f32⟩
  | 71 => ⟨S36864x5632, .f32⟩
  | 72 => ⟨S1x2048x5632, .f32⟩
  | 73 => ⟨S2048x5632, .f32⟩
  | 74 => ⟨S36864x5632, .f32⟩
  | 75 => ⟨S36864x5632, .f32⟩
  | 76 => ⟨S_, .i32⟩
  | 77 => ⟨S36864, .i32⟩
  | 78 => ⟨S36864, .i1⟩
  | 79 => ⟨S36864x1, .i1⟩
  | 80 => ⟨S36864x5632, .i1⟩
  | 81 => ⟨S36864x5632, .f32⟩
  | 82 => ⟨S1x2048x5632, .f32⟩
  | 83 => ⟨S2048x5632, .f32⟩
  | 84 => ⟨S36864x5632, .f32⟩
  | 85 => ⟨S36864x5632, .f32⟩
  | 86 => ⟨S36864x5632, .f32⟩
  | 87 => ⟨S_, .f32⟩
  | 88 => ⟨S36864x5632, .f32⟩
  | 89 => ⟨S36864x5632, .f32⟩
  | 90 => ⟨S_, .f32⟩
  | 91 => ⟨S36864x5632, .f32⟩
  | 92 => ⟨S36864x5632, .f32⟩
  | 93 => ⟨S36864x5632, .f32⟩
  | 94 => ⟨S1x2048x5632, .f32⟩
  | 95 => ⟨S2048x5632, .f32⟩
  | 96 => ⟨S36864x5632, .f32⟩
  | 97 => ⟨S36864x5632, .f32⟩
  | 98 => ⟨S_, .i32⟩
  | 99 => ⟨S36864, .i32⟩
  | 100 => ⟨S36864, .i1⟩
  | 101 => ⟨S36864x1, .i1⟩
  | 102 => ⟨S36864x5632, .i1⟩
  | 103 => ⟨S36864x5632, .f32⟩
  | 104 => ⟨S1x2048x5632, .f32⟩
  | 105 => ⟨S2048x5632, .f32⟩
  | 106 => ⟨S36864x5632, .f32⟩
  | 107 => ⟨S36864x5632, .f32⟩
  | 108 => ⟨S36864x5632, .f32⟩
  | 109 => ⟨S_, .f32⟩
  | 110 => ⟨S36864x5632, .f32⟩
  | 111 => ⟨S36864x5632, .f32⟩
  | 112 => ⟨S_, .f32⟩
  | 113 => ⟨S36864x5632, .f32⟩
  | 114 => ⟨S36864x5632, .f32⟩
  | 115 => ⟨S36864x5632, .f32⟩
  | 116 => ⟨S1x2048x5632, .f32⟩
  | 117 => ⟨S2048x5632, .f32⟩
  | 118 => ⟨S36864x5632, .f32⟩
  | 119 => ⟨S36864x5632, .f32⟩
  | 120 => ⟨S_, .i32⟩
  | 121 => ⟨S36864, .i32⟩
  | 122 => ⟨S36864, .i1⟩
  | 123 => ⟨S36864x1, .i1⟩
  | 124 => ⟨S36864x5632, .i1⟩
  | 125 => ⟨S36864x5632, .f32⟩
  | 126 => ⟨S1x2048x5632, .f32⟩
  | 127 => ⟨S2048x5632, .f32⟩
  | _ => ⟨S36864x2048, .bf16⟩

abbrev hbmTy0_1 (i : Nat) : BufTy := match i % 128 with
  | 0 => ⟨S36864x5632, .f32⟩
  | 1 => ⟨S36864x5632, .f32⟩
  | 2 => ⟨S36864x5632, .f32⟩
  | 3 => ⟨S_, .f32⟩
  | 4 => ⟨S36864x5632, .f32⟩
  | 5 => ⟨S36864x5632, .f32⟩
  | 6 => ⟨S_, .f32⟩
  | 7 => ⟨S36864x5632, .f32⟩
  | 8 => ⟨S36864x5632, .f32⟩
  | 9 => ⟨S36864x5632, .f32⟩
  | 10 => ⟨S1x2048x5632, .f32⟩
  | 11 => ⟨S2048x5632, .f32⟩
  | 12 => ⟨S36864x5632, .f32⟩
  | 13 => ⟨S36864x5632, .f32⟩
  | 14 => ⟨S_, .i32⟩
  | 15 => ⟨S36864, .i32⟩
  | 16 => ⟨S36864, .i1⟩
  | 17 => ⟨S36864x1, .i1⟩
  | 18 => ⟨S36864x5632, .i1⟩
  | 19 => ⟨S36864x5632, .f32⟩
  | 20 => ⟨S1x2048x5632, .f32⟩
  | 21 => ⟨S2048x5632, .f32⟩
  | 22 => ⟨S36864x5632, .f32⟩
  | 23 => ⟨S36864x5632, .f32⟩
  | 24 => ⟨S36864x5632, .f32⟩
  | 25 => ⟨S_, .f32⟩
  | 26 => ⟨S36864x5632, .f32⟩
  | 27 => ⟨S36864x5632, .f32⟩
  | 28 => ⟨S_, .f32⟩
  | 29 => ⟨S36864x5632, .f32⟩
  | 30 => ⟨S36864x5632, .f32⟩
  | 31 => ⟨S36864x5632, .f32⟩
  | 32 => ⟨S1x2048x5632, .f32⟩
  | 33 => ⟨S2048x5632, .f32⟩
  | 34 => ⟨S36864x5632, .f32⟩
  | 35 => ⟨S36864x5632, .f32⟩
  | 36 => ⟨S_, .i32⟩
  | 37 => ⟨S36864, .i32⟩
  | 38 => ⟨S36864, .i1⟩
  | 39 => ⟨S36864x1, .i1⟩
  | 40 => ⟨S36864x5632, .i1⟩
  | 41 => ⟨S36864x5632, .f32⟩
  | 42 => ⟨S1x2048x5632, .f32⟩
  | 43 => ⟨S2048x5632, .f32⟩
  | 44 => ⟨S36864x5632, .f32⟩
  | 45 => ⟨S36864x5632, .f32⟩
  | 46 => ⟨S36864x5632, .f32⟩
  | 47 => ⟨S_, .f32⟩
  | 48 => ⟨S36864x5632, .f32⟩
  | 49 => ⟨S36864x5632, .f32⟩
  | 50 => ⟨S_, .f32⟩
  | 51 => ⟨S36864x5632, .f32⟩
  | 52 => ⟨S36864x5632, .f32⟩
  | 53 => ⟨S36864x5632, .f32⟩
  | 54 => ⟨S1x2048x5632, .f32⟩
  | 55 => ⟨S2048x5632, .f32⟩
  | 56 => ⟨S36864x5632, .f32⟩
  | 57 => ⟨S36864x5632, .f32⟩
  | 58 => ⟨S_, .i32⟩
  | 59 => ⟨S36864, .i32⟩
  | 60 => ⟨S36864, .i1⟩
  | 61 => ⟨S36864x1, .i1⟩
  | 62 => ⟨S36864x5632, .i1⟩
  | 63 => ⟨S36864x5632, .f32⟩
  | 64 => ⟨S36864x1, .i1⟩
  | 65 => ⟨S_, .f32⟩
  | 66 => ⟨S_, .f32⟩
  | 67 => ⟨S36864x5632, .i1⟩
  | 68 => ⟨S36864x5632, .f32⟩
  | 69 => ⟨S36864x5632, .f32⟩
  | 70 => ⟨S36864x5632, .bf16⟩
  | _ => ⟨S36864x2048, .bf16⟩

abbrev hbmTy (i : Nat) : BufTy := match i / 128 with
  | 0 => hbmTy0_0 i
  | 1 => hbmTy0_1 i
  | _ => ⟨S36864x2048, .bf16⟩

abbrev bufTy : (tb : Table) → Fin (tcTables nBuf tb) → BufTy
  | .hbm, ⟨i, _⟩ => hbmTy i
  | _, _ => ⟨S36864x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call3_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call4_v0 : Ref sig .tc := ⟨.hbm, 63, rfl⟩
abbrev main_call4_v1 : Ref sig .tc := ⟨.hbm, 64, rfl⟩
abbrev main_call4_cst : Ref sig .tc := ⟨.hbm, 65, rfl⟩
abbrev main_call4_v2 : Ref sig .tc := ⟨.hbm, 66, rfl⟩
abbrev main_call4_v3 : Ref sig .tc := ⟨.hbm, 67, rfl⟩
abbrev main_call4_cst_0 : Ref sig .tc := ⟨.hbm, 68, rfl⟩
abbrev main_call4_v4 : Ref sig .tc := ⟨.hbm, 69, rfl⟩
abbrev main_call4_v5 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_c_1 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_call5_v0 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_call6_v0 : Ref sig .tc := ⟨.hbm, 85, rfl⟩
abbrev main_call6_v1 : Ref sig .tc := ⟨.hbm, 86, rfl⟩
abbrev main_call6_cst : Ref sig .tc := ⟨.hbm, 87, rfl⟩
abbrev main_call6_v2 : Ref sig .tc := ⟨.hbm, 88, rfl⟩
abbrev main_call6_v3 : Ref sig .tc := ⟨.hbm, 89, rfl⟩
abbrev main_call6_cst_0 : Ref sig .tc := ⟨.hbm, 90, rfl⟩
abbrev main_call6_v4 : Ref sig .tc := ⟨.hbm, 91, rfl⟩
abbrev main_call6_v5 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_c_2 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_call7_v0 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_call8_v0 : Ref sig .tc := ⟨.hbm, 107, rfl⟩
abbrev main_call8_v1 : Ref sig .tc := ⟨.hbm, 108, rfl⟩
abbrev main_call8_cst : Ref sig .tc := ⟨.hbm, 109, rfl⟩
abbrev main_call8_v2 : Ref sig .tc := ⟨.hbm, 110, rfl⟩
abbrev main_call8_v3 : Ref sig .tc := ⟨.hbm, 111, rfl⟩
abbrev main_call8_cst_0 : Ref sig .tc := ⟨.hbm, 112, rfl⟩
abbrev main_call8_v4 : Ref sig .tc := ⟨.hbm, 113, rfl⟩
abbrev main_call8_v5 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_c_3 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_call9_v0 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_call10_v0 : Ref sig .tc := ⟨.hbm, 129, rfl⟩
abbrev main_call10_v1 : Ref sig .tc := ⟨.hbm, 130, rfl⟩
abbrev main_call10_cst : Ref sig .tc := ⟨.hbm, 131, rfl⟩
abbrev main_call10_v2 : Ref sig .tc := ⟨.hbm, 132, rfl⟩
abbrev main_call10_v3 : Ref sig .tc := ⟨.hbm, 133, rfl⟩
abbrev main_call10_cst_0 : Ref sig .tc := ⟨.hbm, 134, rfl⟩
abbrev main_call10_v4 : Ref sig .tc := ⟨.hbm, 135, rfl⟩
abbrev main_call10_v5 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_c_4 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_call11_v0 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_call12_v0 : Ref sig .tc := ⟨.hbm, 151, rfl⟩
abbrev main_call12_v1 : Ref sig .tc := ⟨.hbm, 152, rfl⟩
abbrev main_call12_cst : Ref sig .tc := ⟨.hbm, 153, rfl⟩
abbrev main_call12_v2 : Ref sig .tc := ⟨.hbm, 154, rfl⟩
abbrev main_call12_v3 : Ref sig .tc := ⟨.hbm, 155, rfl⟩
abbrev main_call12_cst_0 : Ref sig .tc := ⟨.hbm, 156, rfl⟩
abbrev main_call12_v4 : Ref sig .tc := ⟨.hbm, 157, rfl⟩
abbrev main_call12_v5 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_c_5 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_call13_v0 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_call14_v0 : Ref sig .tc := ⟨.hbm, 173, rfl⟩
abbrev main_call14_v1 : Ref sig .tc := ⟨.hbm, 174, rfl⟩
abbrev main_call14_cst : Ref sig .tc := ⟨.hbm, 175, rfl⟩
abbrev main_call14_v2 : Ref sig .tc := ⟨.hbm, 176, rfl⟩
abbrev main_call14_v3 : Ref sig .tc := ⟨.hbm, 177, rfl⟩
abbrev main_call14_cst_0 : Ref sig .tc := ⟨.hbm, 178, rfl⟩
abbrev main_call14_v4 : Ref sig .tc := ⟨.hbm, 179, rfl⟩
abbrev main_call14_v5 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_c_6 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_call15_v0 : Ref sig .tc := ⟨.hbm, 190, rfl⟩
abbrev main_v105 : Ref sig .tc := ⟨.hbm, 191, rfl⟩
abbrev main_v106 : Ref sig .tc := ⟨.hbm, 192, rfl⟩
abbrev main_cst_7 : Ref sig .tc := ⟨.hbm, 193, rfl⟩
abbrev main_call16_v0 : Ref sig .tc := ⟨.hbm, 194, rfl⟩
abbrev main_call16_v1 : Ref sig .tc := ⟨.hbm, 195, rfl⟩
abbrev main_call16_v2 : Ref sig .tc := ⟨.hbm, 196, rfl⟩
abbrev main_v107 : Ref sig .tc := ⟨.hbm, 197, rfl⟩
abbrev main_v108 : Ref sig .tc := ⟨.hbm, 198, rfl⟩

abbrev nD : Nat := 1
abbrev τ : Topo := Topo.v7x

variable {F : FTy → Type} [FloatOps F]
-- ==== Down.lean ====
abbrev S36864x5632 : Shape := ⟨2, ![36864, 5632]⟩
abbrev S72 : Shape := ⟨1, ![72]⟩
abbrev S1 : Shape := ⟨1, ![1]⟩
abbrev S8x5632x2048 : Shape := ⟨3, ![8, 5632, 2048]⟩
abbrev S36864x2048 : Shape := ⟨2, ![36864, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 3
  | .vmem => 7
  | .smem => 2
  | _ => 0

abbrev bufTy : (tb : Table) → Fin (tcTables nBuf tb) → BufTy
  | .hbm, ⟨0, _⟩ => ⟨S36864x5632, .bf16⟩
  | .hbm, ⟨1, _⟩ => ⟨S8x5632x2048, .f32⟩
  | .hbm, ⟨2, _⟩ => ⟨S36864x2048, .bf16⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .bf16⟩
  | .local _ .vmem, ⟨5, _⟩ => ⟨S512x512, .bf16⟩
  | .local _ .vmem, ⟨6, _⟩ => ⟨S5632x512, .bf16⟩
  | .local _ .smem, ⟨0, _⟩ => ⟨S72, .i32⟩
  | .local _ .smem, ⟨1, _⟩ => ⟨S1, .i32⟩
  | _, _ => ⟨S36864x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_v0 : Ref sig .tc := ⟨.hbm, 2, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 72], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S36864x5632 : Shape := ⟨2, ![36864, 5632]⟩
abbrev S72 : Shape := ⟨1, ![72]⟩
abbrev S1 : Shape := ⟨1, ![1]⟩
abbrev S8x5632x2048 : Shape := ⟨3, ![8, 5632, 2048]⟩
abbrev S72x512 : Shape := ⟨2, ![72, 512]⟩
abbrev S36864 : Shape := ⟨1, ![36864]⟩
abbrev S_ : Shape := ⟨0, ![]⟩
abbrev S36864x2048 : Shape := ⟨2, ![36864, 2048]⟩
abbrev S36864x1 : Shape := ⟨2, ![36864, 1]⟩
abbrev S1x5632x2048 : Shape := ⟨3, ![1, 5632, 2048]⟩
abbrev S5632x2048 : Shape := ⟨2, ![5632, 2048]⟩

abbrev nBuf : Space → Nat
  | .hbm => 94
  | .vmem => 0
  | .smem => 0
  | _ => 0

abbrev bufTy : (tb : Table) → Fin (tcTables nBuf tb) → BufTy
  | .hbm, ⟨0, _⟩ => ⟨S36864x5632, .bf16⟩
  | .hbm, ⟨1, _⟩ => ⟨S72, .i32⟩
  | .hbm, ⟨2, _⟩ => ⟨S1, .i32⟩
  | .hbm, ⟨3, _⟩ => ⟨S8x5632x2048, .f32⟩
  | .hbm, ⟨4, _⟩ => ⟨S72x512, .i32⟩
  | .hbm, ⟨5, _⟩ => ⟨S36864, .i32⟩
  | .hbm, ⟨6, _⟩ => ⟨S72, .i32⟩
  | .hbm, ⟨7, _⟩ => ⟨S_, .i32⟩
  | .hbm, ⟨8, _⟩ => ⟨S72, .i32⟩
  | .hbm, ⟨9, _⟩ => ⟨S72, .i1⟩
  | .hbm, ⟨10, _⟩ => ⟨S72x512, .i1⟩
  | .hbm, ⟨11, _⟩ => ⟨S36864, .i1⟩
  | .hbm, ⟨12, _⟩ => ⟨S36864x5632, .f32⟩
  | .hbm, ⟨13, _⟩ => ⟨S_, .f32⟩
  | .hbm, ⟨14, _⟩ => ⟨S36864x2048, .f32⟩
  | .hbm, ⟨15, _⟩ => ⟨S_, .i32⟩
  | .hbm, ⟨16, _⟩ => ⟨S36864, .i32⟩
  | .hbm, ⟨17, _⟩ => ⟨S36864, .i1⟩
  | .hbm, ⟨18, _⟩ => ⟨S36864x1, .i1⟩
  | .hbm, ⟨19, _⟩ => ⟨S1x5632x2048, .f32⟩
  | .hbm, ⟨20, _⟩ => ⟨S5632x2048, .f32⟩
  | .hbm, ⟨21, _⟩ => ⟨S36864x2048, .f32⟩
  | .hbm, ⟨22, _⟩ => ⟨S36864x2048, .i1⟩
  | .hbm, ⟨23, _⟩ => ⟨S36864x2048, .f32⟩
  | .hbm, ⟨24, _⟩ => ⟨S_, .i32⟩
  | .hbm, ⟨25, _⟩ => ⟨S36864, .i32⟩
  | .hbm, ⟨26, _⟩ => ⟨S36864, .i1⟩
  | .hbm, ⟨27, _⟩ => ⟨S36864x1, .i1⟩
  | .hbm, ⟨28, _⟩ => ⟨S1x5632x2048, .f32⟩
  | .hbm, ⟨29, _⟩ => ⟨S5632x2048, .f32⟩
  | .hbm, ⟨30, _⟩ => ⟨S36864x2048, .f32⟩
  | .hbm, ⟨31, _⟩ => ⟨S36864x2048, .i1⟩
  | .hbm, ⟨32, _⟩ => ⟨S36864x2048, .f32⟩
  | .hbm, ⟨33, _⟩ => ⟨S_, .i32⟩
  | .hbm, ⟨34, _⟩ => ⟨S36864, .i32⟩
  | .hbm, ⟨35, _⟩ => ⟨S36864, .i1⟩
  | .hbm, ⟨36, _⟩ => ⟨S36864x1, .i1⟩
  | .hbm, ⟨37, _⟩ => ⟨S1x5632x2048, .f32⟩
  | .hbm, ⟨38, _⟩ => ⟨S5632x2048, .f32⟩
  | .hbm, ⟨39, _⟩ => ⟨S36864x2048, .f32⟩
  | .hbm, ⟨40, _⟩ => ⟨S36864x2048, .i1⟩
  | .hbm, ⟨41, _⟩ => ⟨S36864x2048, .f32⟩
  | .hbm, ⟨42, _⟩ => ⟨S_, .i32⟩
  | .hbm, ⟨43, _⟩ => ⟨S36864, .i32⟩
  | .hbm, ⟨44, _⟩ => ⟨S36864, .i1⟩
  | .hbm, ⟨45, _⟩ => ⟨S36864x1, .i1⟩
  | .hbm, ⟨46, _⟩ => ⟨S1x5632x2048, .f32⟩
  | .hbm, ⟨47, _⟩ => ⟨S5632x2048, .f32⟩
  | .hbm, ⟨48, _⟩ => ⟨S36864x2048, .f32⟩
  | .hbm, ⟨49, _⟩ => ⟨S36864x2048, .i1⟩
  | .hbm, ⟨50, _⟩ => ⟨S36864x2048, .f32⟩
  | .hbm, ⟨51, _⟩ => ⟨S_, .i32⟩
  | .hbm, ⟨52, _⟩ => ⟨S36864, .i32⟩
  | .hbm, ⟨53, _⟩ => ⟨S36864, .i1⟩
  | .hbm, ⟨54, _⟩ => ⟨S36864x1, .i1⟩
  | .hbm, ⟨55, _⟩ => ⟨S1x5632x2048, .f32⟩
  | .hbm, ⟨56, _⟩ => ⟨S5632x2048, .f32⟩
  | .hbm, ⟨57, _⟩ => ⟨S36864x2048, .f32⟩
  | .hbm, ⟨58, _⟩ => ⟨S36864x2048, .i1⟩
  | .hbm, ⟨59, _⟩ => ⟨S36864x2048, .f32⟩
  | .hbm, ⟨60, _⟩ => ⟨S_, .i32⟩
  | .hbm, ⟨61, _⟩ => ⟨S36864, .i32⟩
  | .hbm, ⟨62, _⟩ => ⟨S36864, .i1⟩
  | .hbm, ⟨63, _⟩ => ⟨S36864x1, .i1⟩
  | .hbm, ⟨64, _⟩ => ⟨S1x5632x2048, .f32⟩
  | .hbm, ⟨65, _⟩ => ⟨S5632x2048, .f32⟩
  | .hbm, ⟨66, _⟩ => ⟨S36864x2048, .f32⟩
  | .hbm, ⟨67, _⟩ => ⟨S36864x2048, .i1⟩
  | .hbm, ⟨68, _⟩ => ⟨S36864x2048, .f32⟩
  | .hbm, ⟨69, _⟩ => ⟨S_, .i32⟩
  | .hbm, ⟨70, _⟩ => ⟨S36864, .i32⟩
  | .hbm, ⟨71, _⟩ => ⟨S36864, .i1⟩
  | .hbm, ⟨72, _⟩ => ⟨S36864x1, .i1⟩
  | .hbm, ⟨73, _⟩ => ⟨S1x5632x2048, .f32⟩
  | .hbm, ⟨74, _⟩ => ⟨S5632x2048, .f32⟩
  | .hbm, ⟨75, _⟩ => ⟨S36864x2048, .f32⟩
  | .hbm, ⟨76, _⟩ => ⟨S36864x2048, .i1⟩
  | .hbm, ⟨77, _⟩ => ⟨S36864x2048, .f32⟩
  | .hbm, ⟨78, _⟩ => ⟨S_, .i32⟩
  | .hbm, ⟨79, _⟩ => ⟨S36864, .i32⟩
  | .hbm, ⟨80, _⟩ => ⟨S36864, .i1⟩
  | .hbm, ⟨81, _⟩ => ⟨S36864x1, .i1⟩
  | .hbm, ⟨82, _⟩ => ⟨S1x5632x2048, .f32⟩
  | .hbm, ⟨83, _⟩ => ⟨S5632x2048, .f32⟩
  | .hbm, ⟨84, _⟩ => ⟨S36864x2048, .f32⟩
  | .hbm, ⟨85, _⟩ => ⟨S36864x2048, .i1⟩
  | .hbm, ⟨86, _⟩ => ⟨S36864x2048, .f32⟩
  | .hbm, ⟨87, _⟩ => ⟨S36864x1, .i1⟩
  | .hbm, ⟨88, _⟩ => ⟨S_, .f32⟩
  | .hbm, ⟨89, _⟩ => ⟨S_, .f32⟩
  | .hbm, ⟨90, _⟩ => ⟨S36864x2048, .i1⟩
  | .hbm, ⟨91, _⟩ => ⟨S36864x2048, .f32⟩
  | .hbm, ⟨92, _⟩ => ⟨S36864x2048, .f32⟩
  | .hbm, ⟨93, _⟩ => ⟨S36864x2048, .bf16⟩
  | _, _ => ⟨S36864x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call1_v0 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call2_v0 : Ref sig .tc := ⟨.hbm, 40, rfl⟩
abbrev main_v30 : Ref sig .tc := ⟨.hbm, 41, rfl⟩
abbrev main_c_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call3_v0 : Ref sig .tc := ⟨.hbm, 49, rfl⟩
abbrev main_v37 : Ref sig .tc := ⟨.hbm, 50, rfl⟩
abbrev main_c_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call4_v0 : Ref sig .tc := ⟨.hbm, 58, rfl⟩
abbrev main_v44 : Ref sig .tc := ⟨.hbm, 59, rfl⟩
abbrev main_c_4 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call5_v0 : Ref sig .tc := ⟨.hbm, 67, rfl⟩
abbrev main_v51 : Ref sig .tc := ⟨.hbm, 68, rfl⟩
abbrev main_c_5 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_call6_v0 : Ref sig .tc := ⟨.hbm, 76, rfl⟩
abbrev main_v58 : Ref sig .tc := ⟨.hbm, 77, rfl⟩
abbrev main_c_6 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_call7_v0 : Ref sig .tc := ⟨.hbm, 85, rfl⟩
abbrev main_v65 : Ref sig .tc := ⟨.hbm, 86, rfl⟩
abbrev main_v66 : Ref sig .tc := ⟨.hbm, 87, rfl⟩
abbrev main_cst_7 : Ref sig .tc := ⟨.hbm, 88, rfl⟩
abbrev main_call8_v0 : Ref sig .tc := ⟨.hbm, 89, rfl⟩
abbrev main_call8_v1 : Ref sig .tc := ⟨.hbm, 90, rfl⟩
abbrev main_call8_v2 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Mid.lean ====
abbrev S17408x2048 : Shape := ⟨2, ![17408, 2048]⟩
abbrev S2048 : Shape := ⟨1, ![2048]⟩
abbrev S8x1x12288 : Shape := ⟨3, ![8, 1, 12288]⟩
abbrev S2048x5632 : Shape := ⟨2, ![2048, 5632]⟩
abbrev S1x2048 : Shape := ⟨2, ![1, 2048]⟩
abbrev S17408x5632 : Shape := ⟨2, ![17408, 5632]⟩
abbrev S1024x2048 : Shape := ⟨2, ![1024, 2048]⟩
abbrev S1x1x2048 : Shape := ⟨3, ![1, 1, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 14
  | .smem => 0
  | _ => 0

abbrev bufTy : (tb : Table) → Fin (tcTables nBuf tb) → BufTy
  | .hbm, ⟨0, _⟩ => ⟨S17408x2048, .f32⟩
  | .hbm, ⟨1, _⟩ => ⟨S2048, .f32⟩
  | .hbm, ⟨2, _⟩ => ⟨S8x1x12288, .f32⟩
  | .hbm, ⟨3, _⟩ => ⟨S2048x5632, .f32⟩
  | .hbm, ⟨4, _⟩ => ⟨S2048x5632, .f32⟩
  | .hbm, ⟨5, _⟩ => ⟨S1x2048, .f32⟩
  | .hbm, ⟨6, _⟩ => ⟨S17408x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S1024x512, .bf16⟩
  | .local _ .vmem, ⟨12, _⟩ => ⟨S1024x512, .bf16⟩
  | .local _ .vmem, ⟨13, _⟩ => ⟨S1024x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![17, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c16384_i32 : BitVec 32 := 16384#32
  let v1 : BitVec 1 := Scalar.cmpi .slt v0 c16384_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 v18 c4_i32
  let c0_i32_4 : BitVec 32 := 0#32
  let c3_i32 : BitVec 32 := 3#32
  let c0_i32_5 : BitVec 32 := 0#32
  ![v19.toNat, c0_i32_4.toNat, c3_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c16384_i32 : BitVec 32 := 16384#32
  let v1 : BitVec 1 := Scalar.cmpi .slt v0 c16384_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 v18 c4_i32
  let c0_i32_4 : BitVec 32 := 0#32
  let c4_i32_5 : BitVec 32 := 4#32
  let c0_i32_6 : BitVec 32 := 0#32
  ![v19.toNat, c0_i32_4.toNat, c4_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MidRefIdeal.lean ====
abbrev S17408x2048 : Shape := ⟨2, ![17408, 2048]⟩
abbrev S2048 : Shape := ⟨1, ![2048]⟩
abbrev S8x1x12288 : Shape := ⟨3, ![8, 1, 12288]⟩
abbrev S2048x5632 : Shape := ⟨2, ![2048, 5632]⟩
abbrev S_ : Shape := ⟨0, ![]⟩
abbrev S17408 : Shape := ⟨1, ![17408]⟩
abbrev S17408x1 : Shape := ⟨2, ![17408, 1]⟩
abbrev S1x2048 : Shape := ⟨2, ![1, 2048]⟩
abbrev S8x1x2048 : Shape := ⟨3, ![8, 1, 2048]⟩
abbrev S8x2048 : Shape := ⟨2, ![8, 2048]⟩
abbrev S4x2048 : Shape := ⟨2, ![4, 2048]⟩
abbrev S4x4096x2048 : Shape := ⟨3, ![4, 4096, 2048]⟩
abbrev S16384x2048 : Shape := ⟨2, ![16384, 2048]⟩
abbrev S1024x2048 : Shape := ⟨2, ![1024, 2048]⟩
abbrev S17408x5632 : Shape := ⟨2, ![17408, 5632]⟩

abbrev nBuf : Space → Nat
  | .hbm => 57
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S2048, .f32⟩
  | .hbm, ⟨2, _⟩ => ⟨S8x1x12288, .f32⟩
  | .hbm, ⟨3, _⟩ => ⟨S2048x5632, .f32⟩
  | .hbm, ⟨4, _⟩ => ⟨S2048x5632, .f32⟩
  | .hbm, ⟨5, _⟩ => ⟨S17408x2048, .f32⟩
  | .hbm, ⟨6, _⟩ => ⟨S_, .f32⟩
  | .hbm, ⟨7, _⟩ => ⟨S17408, .f32⟩
  | .hbm, ⟨8, _⟩ => ⟨S17408x1, .f32⟩
  | .hbm, ⟨9, _⟩ => ⟨S_, .f32⟩
  | .hbm, ⟨10, _⟩ => ⟨S17408x1, .f32⟩
  | .hbm, ⟨11, _⟩ => ⟨S17408x1, .f32⟩
  | .hbm, ⟨12, _⟩ => ⟨S_, .f32⟩
  | .hbm, ⟨13, _⟩ => ⟨S17408x1, .f32⟩
  | .hbm, ⟨14, _⟩ => ⟨S17408x1, .f32⟩
  | .hbm, ⟨15, _⟩ => ⟨S17408x1, .f32⟩
  | .hbm, ⟨16, _⟩ => ⟨S17408x2048, .f32⟩
  | .hbm, ⟨17, _⟩ => ⟨S17408x2048, .f32⟩
  | .hbm, ⟨18, _⟩ => ⟨S1x2048, .f32⟩
  | .hbm, ⟨19, _⟩ => ⟨S17408x2048, .f32⟩
  | .hbm, ⟨20, _⟩ => ⟨S17408x2048, .f32⟩
  | .hbm, ⟨21, _⟩ => ⟨S8x1x2048, .f32⟩
  | .hbm, ⟨22, _⟩ => ⟨S8x2048, .f32⟩
  | .hbm, ⟨23, _⟩ => ⟨S4x2048, .f32⟩
  | .hbm, ⟨24, _⟩ => ⟨S4x4096x2048, .f32⟩
  | .hbm, ⟨25, _⟩ => ⟨S16384x2048, .f32⟩
  | .hbm, ⟨26, _⟩ => ⟨S1x2048, .f32⟩
  | .hbm, ⟨27, _⟩ => ⟨S2048, .f32⟩
  | .hbm, ⟨28, _⟩ => ⟨S1024x2048, .f32⟩
  | .hbm, ⟨29, _⟩ => ⟨S17408x2048, .f32⟩
  | .hbm, ⟨30, _⟩ => ⟨S_, .f32⟩
  | .hbm, ⟨31, _⟩ => ⟨S17408x2048, .f32⟩
  | .hbm, ⟨32, _⟩ => ⟨S17408x2048, .f32⟩
  | .hbm, ⟨33, _⟩ => ⟨S17408x2048, .f32⟩
  | .hbm, ⟨34, _⟩ => ⟨S8x1x2048, .f32⟩
  | .hbm, ⟨35, _⟩ => ⟨S8x2048, .f32⟩
  | .hbm, ⟨36, _⟩ => ⟨S4x2048, .f32⟩
  | .hbm, ⟨37, _⟩ => ⟨S4x4096x2048, .f32⟩
  | .hbm, ⟨38, _⟩ => ⟨S16384x2048, .f32⟩
  | .hbm, ⟨39, _⟩ => ⟨S1x2048, .f32⟩
  | .hbm, ⟨40, _⟩ => ⟨S2048, .f32⟩
  | .hbm, ⟨41, _⟩ => ⟨S1024x2048, .f32⟩
  | .hbm, ⟨42, _⟩ => ⟨S17408x2048, .f32⟩
  | .hbm, ⟨43, _⟩ => ⟨S17408x2048, .f32⟩
  | .hbm, ⟨44, _⟩ => ⟨S17408x5632, .f32⟩
  | .hbm, ⟨45, _⟩ => ⟨S17408x5632, .f32⟩
  | .hbm, ⟨46, _⟩ => ⟨S17408x5632, .f32⟩
  | .hbm, ⟨47, _⟩ => ⟨S_, .f32⟩
  | .hbm, ⟨48, _⟩ => ⟨S17408x5632, .f32⟩
  | .hbm, ⟨49, _⟩ => ⟨S17408x5632, .f32⟩
  | .hbm, ⟨50, _⟩ => ⟨S_, .f32⟩
  | .hbm, ⟨51, _⟩ => ⟨S17408x5632, .f32⟩
  | .hbm, ⟨52, _⟩ => ⟨S17408x5632, .f32⟩
  | .hbm, ⟨53, _⟩ => ⟨S17408x5632, .f32⟩
  | .hbm, ⟨54, _⟩ => ⟨S17408x5632, .f32⟩
  | .hbm, ⟨55, _⟩ => ⟨S17408x5632, .f32⟩
  | .hbm, ⟨56, _⟩ => ⟨S17408x5632, .bf16⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== DenseDown.lean ====
abbrev S17408x5632 : Shape := ⟨2, ![17408, 5632]⟩
abbrev S17408x2048 : Shape := ⟨2, ![17408, 2048]⟩
abbrev S8x1x12288 : Shape := ⟨3, ![8, 1, 12288]⟩
abbrev S5632x2048 : Shape := ⟨2, ![5632, 2048]⟩
abbrev S1x5632x2048 : Shape := ⟨3, ![1, 5632, 2048]⟩
abbrev S_ : Shape := ⟨0, ![]⟩
abbrev S34 : Shape := ⟨1, ![34]⟩
abbrev S1 : Shape := ⟨1, ![1]⟩
abbrev S512x5632 : Shape := ⟨2, ![512, 5632]⟩
abbrev S1x5632x512 : Shape := ⟨3, ![1, 5632, 512]⟩
abbrev S512x512 : Shape := ⟨2, ![512, 512]⟩
abbrev S1x1x512 : Shape := ⟨3, ![1, 1, 512]⟩
abbrev S5632x512 : Shape := ⟨2, ![5632, 512]⟩
abbrev S1x512 : Shape := ⟨2, ![1, 512]⟩

abbrev nBuf : Space → Nat
  | .hbm => 8
  | .vmem => 11
  | .smem => 2
  | _ => 0

abbrev bufTy : (tb : Table) → Fin (tcTables nBuf tb) → BufTy
  | .hbm, ⟨0, _⟩ => ⟨S17408x5632, .bf16⟩
  | .hbm, ⟨1, _⟩ => ⟨S17408x2048, .f32⟩
  | .hbm, ⟨2, _⟩ => ⟨S8x1x12288, .f32⟩
  | .hbm, ⟨3, _⟩ => ⟨S5632x2048, .f32⟩
  | .hbm, ⟨4, _⟩ => ⟨S1x5632x2048, .f32⟩
  | .hbm, ⟨5, _⟩ => ⟨S_, .i32⟩
  | .hbm, ⟨6, _⟩ => ⟨S_, .i32⟩
  | .hbm, ⟨7, _⟩ => ⟨S17408x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | .local _ .vmem, ⟨10, _⟩ => ⟨S5632x512, .bf16⟩
  | .local _ .smem, ⟨0, _⟩ => ⟨S34, .i32⟩
  | .local _ .smem, ⟨1, _⟩ => ⟨S1, .i32⟩
  | _, _ => ⟨S17408x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_v3 : Ref sig .tc := ⟨.hbm, 7, rfl⟩
abbrev main_v1 : Ref sig .tc := ⟨.smem, 0, rfl⟩
abbrev main_v2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 34], ![false, false]⟩

abbrev pre0 : Pipeline.Prefetch sig := ⟨2, ![main_v1.idx, main_v2.idx], fun | 0 => main_v1.names | 1 => main_v2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S34.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S34) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c16384_i32 : BitVec 32 := 16384#32
  let v1 : BitVec 1 := Scalar.cmpi .slt v0 c16384_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 v18 c4_i32
  let c20_i32 : BitVec 32 := 20#32
  let v20 : BitVec 32 := Scalar.addi c20_i32 arg0
  let c0_i32_4 : BitVec 32 := 0#32
  let c0_i32_5 : BitVec 32 := 0#32
  ![v19.toNat, c0_i32_4.toNat, v20.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DenseDownRefIdeal.lean ====
abbrev S17408x5632 : Shape := ⟨2, ![17408, 5632]⟩
abbrev S17408x2048 : Shape := ⟨2, ![17408, 2048]⟩
abbrev S8x1x12288 : Shape := ⟨3, ![8, 1, 12288]⟩
abbrev S5632x2048 : Shape := ⟨2, ![5632, 2048]⟩
abbrev S8x1x2048 : Shape := ⟨3, ![8, 1, 2048]⟩
abbrev S8x2048 : Shape := ⟨2, ![8, 2048]⟩
abbrev S4x2048 : Shape := ⟨2, ![4, 2048]⟩
abbrev S4x4096x2048 : Shape := ⟨3, ![4, 4096, 2048]⟩
abbrev S16384x2048 : Shape := ⟨2, ![16384, 2048]⟩
abbrev S1x2048 : Shape := ⟨2, ![1, 2048]⟩
abbrev S2048 : Shape := ⟨1, ![2048]⟩
abbrev S1024x2048 : Shape := ⟨2, ![1024, 2048]⟩

abbrev nBuf : Space → Nat
  | .hbm => 17
  | .vmem => 0
  | .smem => 0
  | _ => 0

abbrev bufTy : (tb : Table) → Fin (tcTables nBuf tb) → BufTy
  | .hbm, ⟨0, _⟩ => ⟨S17408x5632, .bf16⟩
  | .hbm, ⟨1, _⟩ => ⟨S17408x2048, .f32⟩
  | .hbm, ⟨2, _⟩ => ⟨S8x1x12288, .f32⟩
  | .hbm, ⟨3, _⟩ => ⟨S5632x2048, .f32⟩
  | .hbm, ⟨4, _⟩ => ⟨S8x1x2048, .f32⟩
  | .hbm, ⟨5, _⟩ => ⟨S8x2048, .f32⟩
  | .hbm, ⟨6, _⟩ => ⟨S4x2048, .f32⟩
  | .hbm, ⟨7, _⟩ => ⟨S4x4096x2048, .f32⟩
  | .hbm, ⟨8, _⟩ => ⟨S16384x2048, .f32⟩
  | .hbm, ⟨9, _⟩ => ⟨S1x2048, .f32⟩
  | .hbm, ⟨10, _⟩ => ⟨S2048, .f32⟩
  | .hbm, ⟨11, _⟩ => ⟨S1024x2048, .f32⟩
  | .hbm, ⟨12, _⟩ => ⟨S17408x2048, .f32⟩
  | .hbm, ⟨13, _⟩ => ⟨S17408x5632, .f32⟩
  | .hbm, ⟨14, _⟩ => ⟨S17408x2048, .f32⟩
  | .hbm, ⟨15, _⟩ => ⟨S17408x2048, .f32⟩
  | .hbm, ⟨16, _⟩ => ⟨S17408x2048, .f32⟩
  | _, _ => ⟨S17408x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Mla.lean ====
abbrev S17408x768 : Shape := ⟨2, ![17408, 768]⟩
abbrev S4x4352x768 : Shape := ⟨3, ![4, 4352, 768]⟩
abbrev S4x4352x512 : Shape := ⟨3, ![4, 4352, 512]⟩
abbrev S17408x8x96 : Shape := ⟨3, ![17408, 8, 96]⟩
abbrev S_ : Shape := ⟨0, ![]⟩
abbrev S17408x8x32 : Shape := ⟨3, ![17408, 8, 32]⟩
abbrev S17408x8x128 : Shape := ⟨3, ![17408, 8, 128]⟩
abbrev S4x4352x8x96 : Shape := ⟨4, ![4, 4352, 8, 96]⟩
abbrev S4x4352x8x32 : Shape := ⟨4, ![4, 4352, 8, 32]⟩
abbrev S4x4352x8x128 : Shape := ⟨4, ![4, 4352, 8, 128]⟩
abbrev S4x512x4352 : Shape := ⟨3, ![4, 512, 4352]⟩
abbrev S17408x1024 : Shape := ⟨2, ![17408, 1024]⟩
abbrev S4x4352x1024 : Shape := ⟨3, ![4, 4352, 1024]⟩
abbrev S16384x512 : Shape := ⟨2, ![16384, 512]⟩
abbrev S512x1024 : Shape := ⟨2, ![512, 1024]⟩
abbrev S1x4352x1024 : Shape := ⟨3, ![1, 4352, 1024]⟩
abbrev S1x512x4352 : Shape := ⟨3, ![1, 512, 4352]⟩
abbrev S512x512 : Shape := ⟨2, ![512, 512]⟩
abbrev S512x128 : Shape := ⟨2, ![512, 128]⟩
abbrev S1x4352x128 : Shape := ⟨3, ![1, 4352, 128]⟩
abbrev S4352x128 : Shape := ⟨2, ![4352, 128]⟩
abbrev S4352x512 : Shape := ⟨2, ![4352, 512]⟩
abbrev S1x64x4352 : Shape := ⟨3, ![1, 64, 4352]⟩
abbrev S64x4352 : Shape := ⟨2, ![64, 4352]⟩
abbrev S512 : Shape := ⟨1, ![512]⟩
abbrev S1x512 : Shape := ⟨2, ![1, 512]⟩
abbrev S16x4352 : Shape := ⟨2, ![16, 4352]⟩
abbrev S80x4352 : Shape := ⟨2, ![80, 4352]⟩
abbrev S80x512 : Shape := ⟨2, ![80, 512]⟩
abbrev S64x512 : Shape := ⟨2, ![64, 512]⟩
abbrev S128x512 : Shape := ⟨2, ![128, 512]⟩

abbrev nBuf : Space → Nat
  | .hbm => 17
  | .vmem => 8
  | .smem => 0
  | _ => 0

abbrev bufTy : (tb : Table) → Fin (tcTables nBuf tb) → BufTy
  | .hbm, ⟨0, _⟩ => ⟨S17408x768, .f32⟩
  | .hbm, ⟨1, _⟩ => ⟨S4x4352x768, .f32⟩
  | .hbm, ⟨2, _⟩ => ⟨S4x4352x512, .f32⟩
  | .hbm, ⟨3, _⟩ => ⟨S17408x8x96, .f32⟩
  | .hbm, ⟨4, _⟩ => ⟨S_, .f32⟩
  | .hbm, ⟨5, _⟩ => ⟨S17408x8x32, .f32⟩
  | .hbm, ⟨6, _⟩ => ⟨S17408x8x128, .f32⟩
  | .hbm, ⟨7, _⟩ => ⟨S4x4352x8x96, .f32⟩
  | .hbm, ⟨8, _⟩ => ⟨S_, .f32⟩
  | .hbm, ⟨9, _⟩ => ⟨S4x4352x8x32, .f32⟩
  | .hbm, ⟨10, _⟩ => ⟨S4x4352x8x128, .f32⟩
  | .hbm, ⟨11, _⟩ => ⟨S4x512x4352, .f32⟩
  | .hbm, ⟨12, _⟩ => ⟨S4x512x4352, .bf16⟩
  | .hbm, ⟨13, _⟩ => ⟨S17408x1024, .f32⟩
  | .hbm, ⟨14, _⟩ => ⟨S4x4352x1024, .f32⟩
  | .hbm, ⟨15, _⟩ => ⟨S4x4352x1024, .bf16⟩
  | .hbm, ⟨16, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x4352x1024, .bf16⟩
  | .local _ .vmem, ⟨3, _⟩ => ⟨S1x4352x1024, .bf16⟩
  | .local _ .vmem, ⟨4, _⟩ => ⟨S1x512x4352, .bf16⟩
  | .local _ .vmem, ⟨5, _⟩ => ⟨S1x512x4352, .bf16⟩
  | .local _ .vmem, ⟨6, _⟩ => ⟨S512x512, .bf16⟩
  | .local _ .vmem, ⟨7, _⟩ => ⟨S512x512, .bf16⟩
  | _, _ => ⟨S17408x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlaIdeal.lean ====
variable {F : FTy → Type} [FloatOps F] [Named F]
def κ : String → Option EReal := fun
  | "mla_scale_log2e" => some (((3424635 / 33554432) * (Real.log 2)⁻¹ : ℝ) : EReal)
  | _ => none
-- ==== MlaRefIdeal.lean ====
abbrev S17408x768 : Shape := ⟨2, ![17408, 768]⟩
abbrev S4x4352x768 : Shape := ⟨3, ![4, 4352, 768]⟩
abbrev S4x4352x512 : Shape := ⟨3, ![4, 4352, 512]⟩
abbrev S16384x768 : Shape := ⟨2, ![16384, 768]⟩
abbrev S4x4096x8x96 : Shape := ⟨4, ![4, 4096, 8, 96]⟩
abbrev S4x4352x8x96 : Shape := ⟨4, ![4, 4352, 8, 96]⟩
abbrev S4x4352x8x64 : Shape := ⟨4, ![4, 4352, 8, 64]⟩
abbrev S4x8x4096x4352 : Shape := ⟨4, ![4, 8, 4096, 4352]⟩
abbrev S_ : Shape := ⟨0, ![]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩
abbrev S4x4096x8x64 : Shape := ⟨4, ![4, 4096, 8, 64]⟩
abbrev S16384x512 : Shape := ⟨2, ![16384, 512]⟩

abbrev nBuf : Space → Nat
  | .hbm => 29
  | .vmem => 0
  | .smem => 0
  | _ => 0

abbrev bufTy : (tb : Table) → Fin (tcTables nBuf tb) → BufTy
  | .hbm, ⟨0, _⟩ => ⟨S17408x768, .f32⟩
  | .hbm, ⟨1, _⟩ => ⟨S4x4352x768, .f32⟩
  | .hbm, ⟨2, _⟩ => ⟨S4x4352x512, .f32⟩
  | .hbm, ⟨3, _⟩ => ⟨S16384x768, .f32⟩
  | .hbm, ⟨4, _⟩ => ⟨S4x4096x8x96, .f32⟩
  | .hbm, ⟨5, _⟩ => ⟨S4x4352x8x96, .f32⟩
  | .hbm, ⟨6, _⟩ => ⟨S4x4352x8x64, .f32⟩
  | .hbm, ⟨7, _⟩ => ⟨S4x8x4096x4352, .f32⟩
  | .hbm, ⟨8, _⟩ => ⟨S_, .f32⟩
  | .hbm, ⟨9, _⟩ => ⟨S4x8x4096x4352, .f32⟩
  | .hbm, ⟨10, _⟩ => ⟨S4x8x4096x4352, .f32⟩
  | .hbm, ⟨11, _⟩ => ⟨S_, .f32⟩
  | .hbm, ⟨12, _⟩ => ⟨S4x8x4096, .f32⟩
  | .hbm, ⟨13, _⟩ => ⟨S_, .f32⟩
  | .hbm, ⟨14, _⟩ => ⟨S4x8x4096, .f32⟩
  | .hbm, ⟨15, _⟩ => ⟨S4x8x4096, .f32⟩
  | .hbm, ⟨16, _⟩ => ⟨S4x8x4096x1, .f32⟩
  | .hbm, ⟨17, _⟩ => ⟨S4x8x4096x4352, .f32⟩
  | .hbm, ⟨18, _⟩ => ⟨S4x8x4096x4352, .f32⟩
  | .hbm, ⟨19, _⟩ => ⟨S4x8x4096x4352, .f32⟩
  | .hbm, ⟨20, _⟩ => ⟨S_, .f32⟩
  | .hbm, ⟨21, _⟩ => ⟨S4x8x4096, .f32⟩
  | .hbm, ⟨22, _⟩ => ⟨S4x8x4096x1, .f32⟩
  | .hbm, ⟨23, _⟩ => ⟨S4x8x4096x4352, .f32⟩
  | .hbm, ⟨24, _⟩ => ⟨S4x8x4096x4352, .f32⟩
  | .hbm, ⟨25, _⟩ => ⟨S4x8x64x4096, .f32⟩
  | .hbm, ⟨26, _⟩ => ⟨S4x4096x8x64, .f32⟩
  | .hbm, ⟨27, _⟩ => ⟨S16384x512, .f32⟩
  | .hbm, ⟨28, _⟩ => ⟨S16384x512, .bf16⟩
  | _, _ => ⟨S17408x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Diff.lean ====
abbrev S4x64 : Shape := ⟨2, ![4, 64]⟩
abbrev S1x128 : Shape := ⟨2, ![1, 128]⟩
abbrev S17408x512 : Shape := ⟨2, ![17408, 512]⟩
abbrev S4x4352x512 : Shape := ⟨3, ![4, 4352, 512]⟩
abbrev S4x512x4352 : Shape := ⟨3, ![4, 512, 4352]⟩
abbrev S16384x512 : Shape := ⟨2, ![16384, 512]⟩
abbrev S512x256 : Shape := ⟨2, ![512, 256]⟩
abbrev S1x4352x256 : Shape := ⟨3, ![1, 4352, 256]⟩
abbrev S1x512x4352 : Shape := ⟨3, ![1, 512, 4352]⟩
abbrev S512x512 : Shape := ⟨2, ![512, 512]⟩
abbrev S1x64 : Shape := ⟨2, ![1, 64]⟩
abbrev S1 : Shape := ⟨1, ![1]⟩
abbrev S1x1 : Shape := ⟨2, ![1, 1]⟩
abbrev S512x128 : Shape := ⟨2, ![512, 128]⟩
abbrev S1x4352x128 : Shape := ⟨3, ![1, 4352, 128]⟩
abbrev S4352x128 : Shape := ⟨2, ![4352, 128]⟩
abbrev S4352x512 : Shape := ⟨2, ![4352, 512]⟩
abbrev S1x128x4352 : Shape := ⟨3, ![1, 128, 4352]⟩
abbrev S128x4352 : Shape := ⟨2, ![128, 4352]⟩
abbrev S512 : Shape := ⟨1, ![512]⟩
abbrev S1x512 : Shape := ⟨2, ![1, 512]⟩
abbrev S16x4352 : Shape := ⟨2, ![16, 4352]⟩
abbrev S144x4352 : Shape := ⟨2, ![144, 4352]⟩
abbrev S144x512 : Shape := ⟨2, ![144, 512]⟩
abbrev S128x512 : Shape := ⟨2, ![128, 512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S4x64, .f32⟩
  | .hbm, ⟨1, _⟩ => ⟨S1x128, .f32⟩
  | .hbm, ⟨2, _⟩ => ⟨S17408x512, .f32⟩
  | .hbm, ⟨3, _⟩ => ⟨S4x4352x512, .f32⟩
  | .hbm, ⟨4, _⟩ => ⟨S4x4352x512, .f32⟩
  | .hbm, ⟨5, _⟩ => ⟨S4x4352x512, .bf16⟩
  | .hbm, ⟨6, _⟩ => ⟨S4x512x4352, .f32⟩
  | .hbm, ⟨7, _⟩ => ⟨S4x512x4352, .bf16⟩
  | .hbm, ⟨8, _⟩ => ⟨S16384x512, .bf16⟩
  | .local _ .vmem, ⟨0, _⟩ => ⟨S4x64, .f32⟩
  | .local _ .vmem, ⟨1, _⟩ => ⟨S1x128, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x4352x256, .bf16⟩
  | .local _ .vmem, ⟨7, _⟩ => ⟨S1x4352x256, .bf16⟩
  | .local _ .vmem, ⟨8, _⟩ => ⟨S1x4352x256, .bf16⟩
  | .local _ .vmem, ⟨9, _⟩ => ⟨S1x4352x256, .bf16⟩
  | .local _ .vmem, ⟨10, _⟩ => ⟨S1x512x4352, .bf16⟩
  | .local _ .vmem, ⟨11, _⟩ => ⟨S1x512x4352, .bf16⟩
  | .local _ .vmem, ⟨12, _⟩ => ⟨S512x512, .bf16⟩
  | .local _ .vmem, ⟨13, _⟩ => ⟨S512x512, .bf16⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4352x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4352x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x4352 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DiffIdeal.lean ====
variable {F : FTy → Type} [FloatOps F] [Named F]
def κ : String → Option EReal := fun
  | "diff_scale_log2e" => some (((1 / 8) * (Real.log 2)⁻¹ : ℝ) : EReal)
  | _ => none
-- ==== DiffRefIdeal.lean ====
abbrev S4x64 : Shape := ⟨2, ![4, 64]⟩
abbrev S1x128 : Shape := ⟨2, ![1, 128]⟩
abbrev S17408x512 : Shape := ⟨2, ![17408, 512]⟩
abbrev S4x4352x512 : Shape := ⟨3, ![4, 4352, 512]⟩
abbrev S16384x512 : Shape := ⟨2, ![16384, 512]⟩
abbrev S4x4096x8x64 : Shape := ⟨4, ![4, 4096, 8, 64]⟩
abbrev S4x4352x8x64 : Shape := ⟨4, ![4, 4352, 8, 64]⟩
abbrev S4x4352x4x128 : Shape := ⟨4, ![4, 4352, 4, 128]⟩
abbrev S1x64 : Shape := ⟨2, ![1, 64]⟩
abbrev S64 : Shape := ⟨1, ![64]⟩
abbrev S_ : Shape := ⟨0, ![]⟩
abbrev S4x8x4096x4352 : Shape := ⟨4, ![4, 8, 4096, 4352]⟩
abbrev S4x8x4096 : Shape := ⟨3, ![4, 8, 4096]⟩
abbrev S4x8x4096x1 : Shape := ⟨4, ![4, 8, 4096, 1]⟩
abbrev S4x4x4096x4352 : Shape := ⟨4, ![4, 4, 4096, 4352]⟩
abbrev S4x4x128x4096 : Shape := ⟨4, ![4, 4, 128, 4096]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S128 : Shape := ⟨1, ![128]⟩
abbrev S1x1x1x128 : Shape := ⟨4, ![1, 1, 1, 128]⟩

abbrev nBuf : Space → Nat
  | .hbm => 77
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S1x128, .f32⟩
  | .hbm, ⟨2, _⟩ => ⟨S17408x512, .f32⟩
  | .hbm, ⟨3, _⟩ => ⟨S4x4352x512, .f32⟩
  | .hbm, ⟨4, _⟩ => ⟨S4x4352x512, .f32⟩
  | .hbm, ⟨5, _⟩ => ⟨S16384x512, .f32⟩
  | .hbm, ⟨6, _⟩ => ⟨S4x4096x8x64, .f32⟩
  | .hbm, ⟨7, _⟩ => ⟨S4x4352x8x64, .f32⟩
  | .hbm, ⟨8, _⟩ => ⟨S4x4352x4x128, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x8x4096x4352, .f32⟩
  | .hbm, ⟨29, _⟩ => ⟨S_, .f32⟩
  | .hbm, ⟨30, _⟩ => ⟨S4x8x4096x4352, .f32⟩
  | .hbm, ⟨31, _⟩ => ⟨S4x8x4096x4352, .f32⟩
  | .hbm, ⟨32, _⟩ => ⟨S_, .f32⟩
  | .hbm, ⟨33, _⟩ => ⟨S4x8x4096, .f32⟩
  | .hbm, ⟨34, _⟩ => ⟨S_, .f32⟩
  | .hbm, ⟨35, _⟩ => ⟨S4x8x4096, .f32⟩
  | .hbm, ⟨36, _⟩ => ⟨S4x8x4096, .f32⟩
  | .hbm, ⟨37, _⟩ => ⟨S4x8x4096x1, .f32⟩
  | .hbm, ⟨38, _⟩ => ⟨S4x8x4096x4352, .f32⟩
  | .hbm, ⟨39, _⟩ => ⟨S4x8x4096x4352, .f32⟩
  | .hbm, ⟨40, _⟩ => ⟨S4x8x4096x4352, .f32⟩
  | .hbm, ⟨41, _⟩ => ⟨S_, .f32⟩
  | .hbm, ⟨42, _⟩ => ⟨S4x8x4096, .f32⟩
  | .hbm, ⟨43, _⟩ => ⟨S4x8x4096x1, .f32⟩
  | .hbm, ⟨44, _⟩ => ⟨S4x8x4096x4352, .f32⟩
  | .hbm, ⟨45, _⟩ => ⟨S4x8x4096x4352, .f32⟩
  | .hbm, ⟨46, _⟩ => ⟨S4x4x4096x4352, .f32⟩
  | .hbm, ⟨47, _⟩ => ⟨S4x4x128x4096, .f32⟩
  | .hbm, ⟨48, _⟩ => ⟨S4x4096x4x128, .f32⟩
  | .hbm, ⟨49, _⟩ => ⟨S4x4x4096x4352, .f32⟩
  | .hbm, ⟨50, _⟩ => ⟨S4x4x128x4096, .f32⟩
  | .hbm, ⟨51, _⟩ => ⟨S4x4096x4x128, .f32⟩
  | .hbm, ⟨52, _⟩ => ⟨S4x4096x4x128, .f32⟩
  | .hbm, ⟨53, _⟩ => ⟨S4x4096x4x128, .f32⟩
  | .hbm, ⟨54, _⟩ => ⟨S4x4096x4x128, .f32⟩
  | .hbm, ⟨55, _⟩ => ⟨S4x4096x4x128, .f32⟩
  | .hbm, ⟨56, _⟩ => ⟨S_, .f32⟩
  | .hbm, ⟨57, _⟩ => ⟨S4x4096x4, .f32⟩
  | .hbm, ⟨58, _⟩ => ⟨S4x4096x4x1, .f32⟩
  | .hbm, ⟨59, _⟩ => ⟨S_, .f32⟩
  | .hbm, ⟨60, _⟩ => ⟨S4x4096x4x1, .f32⟩
  | .hbm, ⟨61, _⟩ => ⟨S4x4096x4x1, .f32⟩
  | .hbm, ⟨62, _⟩ => ⟨S_, .f32⟩
  | .hbm, ⟨63, _⟩ => ⟨S4x4096x4x1, .f32⟩
  | .hbm, ⟨64, _⟩ => ⟨S4x4096x4x1, .f32⟩
  | .hbm, ⟨65, _⟩ => ⟨S4x4096x4x1, .f32⟩
  | .hbm, ⟨66, _⟩ => ⟨S4x4096x4x128, .f32⟩
  | .hbm, ⟨67, _⟩ => ⟨S4x4096x4x128, .f32⟩
  | .hbm, ⟨68, _⟩ => ⟨S128, .f32⟩
  | .hbm, ⟨69, _⟩ => ⟨S1x1x1x128, .f32⟩
  | .hbm, ⟨70, _⟩ => ⟨S4x4096x4x128, .f32⟩
  | .hbm, ⟨71, _⟩ => ⟨S4x4096x4x128, .f32⟩
  | .hbm, ⟨72, _⟩ => ⟨S_, .f32⟩
  | .hbm, ⟨73, _⟩ => ⟨S4x4096x4x128, .f32⟩
  | .hbm, ⟨74, _⟩ => ⟨S4x4096x4x128, .f32⟩
  | .hbm, ⟨75, _⟩ => ⟨S16384x512, .f32⟩
  | .hbm, ⟨76, _⟩ => ⟨S16384x512, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_9 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== DiffLast.lean ====
abbrev S4x64 : Shape := ⟨2, ![4, 64]⟩
abbrev S1x128 : Shape := ⟨2, ![1, 128]⟩
abbrev S17408x512 : Shape := ⟨2, ![17408, 512]⟩
abbrev S4x4352x512 : Shape := ⟨3, ![4, 4352, 512]⟩
abbrev S4x512x4352 : Shape := ⟨3, ![4, 512, 4352]⟩
abbrev S16384x512 : Shape := ⟨2, ![16384, 512]⟩
abbrev S512x256 : Shape := ⟨2, ![512, 256]⟩
abbrev S1x4352x256 : Shape := ⟨3, ![1, 4352, 256]⟩
abbrev S1x512x4352 : Shape := ⟨3, ![1, 512, 4352]⟩
abbrev S512x512 : Shape := ⟨2, ![512, 512]⟩
abbrev S1x64 : Shape := ⟨2, ![1, 64]⟩
abbrev S1 : Shape := ⟨1, ![1]⟩
abbrev S1x1 : Shape := ⟨2, ![1, 1]⟩
abbrev S512x128 : Shape := ⟨2, ![512, 128]⟩
abbrev S1x4352x128 : Shape := ⟨3, ![1, 4352, 128]⟩
abbrev S4352x128 : Shape := ⟨2, ![4352, 128]⟩
abbrev S4352x512 : Shape := ⟨2, ![4352, 512]⟩
abbrev S1x128x4352 : Shape := ⟨3, ![1, 128, 4352]⟩
abbrev S128x4352 : Shape := ⟨2, ![128, 4352]⟩
abbrev S512 : Shape := ⟨1, ![512]⟩
abbrev S1x512 : Shape := ⟨2, ![1, 512]⟩
abbrev S16x4352 : Shape := ⟨2, ![16, 4352]⟩
abbrev S144x4352 : Shape := ⟨2, ![144, 4352]⟩
abbrev S144x512 : Shape := ⟨2, ![144, 512]⟩
abbrev S128x512 : Shape := ⟨2, ![128, 512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S4x64, .f32⟩
  | .hbm, ⟨1, _⟩ => ⟨S1x128, .f32⟩
  | .hbm, ⟨2, _⟩ => ⟨S17408x512, .f32⟩
  | .hbm, ⟨3, _⟩ => ⟨S4x4352x512, .f32⟩
  | .hbm, ⟨4, _⟩ => ⟨S4x4352x512, .f32⟩
  | .hbm, ⟨5, _⟩ => ⟨S4x4352x512, .bf16⟩
  | .hbm, ⟨6, _⟩ => ⟨S4x512x4352, .f32⟩
  | .hbm, ⟨7, _⟩ => ⟨S4x512x4352, .bf16⟩
  | .hbm, ⟨8, _⟩ => ⟨S16384x512, .bf16⟩
  | .local _ .vmem, ⟨0, _⟩ => ⟨S4x64, .f32⟩
  | .local _ .vmem, ⟨1, _⟩ => ⟨S1x128, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x4352x256, .bf16⟩
  | .local _ .vmem, ⟨7, _⟩ => ⟨S1x4352x256, .bf16⟩
  | .local _ .vmem, ⟨8, _⟩ => ⟨S1x4352x256, .bf16⟩
  | .local _ .vmem, ⟨9, _⟩ => ⟨S1x4352x256, .bf16⟩
  | .local _ .vmem, ⟨10, _⟩ => ⟨S1x512x4352, .bf16⟩
  | .local _ .vmem, ⟨11, _⟩ => ⟨S1x512x4352, .bf16⟩
  | .local _ .vmem, ⟨12, _⟩ => ⟨S512x512, .bf16⟩
  | .local _ .vmem, ⟨13, _⟩ => ⟨S512x512, .bf16⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4352x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4352x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x4352 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DiffLastIdeal.lean ====
variable {F : FTy → Type} [FloatOps F] [Named F]
def κ : String → Option EReal := fun
  | "diff_scale_log2e" => some (((1 / 8) * (Real.log 2)⁻¹ : ℝ) : EReal)
  | _ => none
-- ==== DiffLastRefIdeal.lean ====
abbrev S4x64 : Shape := ⟨2, ![4, 64]⟩
abbrev S1x128 : Shape := ⟨2, ![1, 128]⟩
abbrev S17408x512 : Shape := ⟨2, ![17408, 512]⟩
abbrev S4x4352x512 : Shape := ⟨3, ![4, 4352, 512]⟩
abbrev S16384x512 : Shape := ⟨2, ![16384, 512]⟩
abbrev S4x4096x8x64 : Shape := ⟨4, ![4, 4096, 8, 64]⟩
abbrev S4x4352x8x64 : Shape := ⟨4, ![4, 4352, 8, 64]⟩
abbrev S4x4352x4x128 : Shape := ⟨4, ![4, 4352, 4, 128]⟩
abbrev S1x64 : Shape := ⟨2, ![1, 64]⟩
abbrev S64 : Shape := ⟨1, ![64]⟩
abbrev S_ : Shape := ⟨0, ![]⟩
abbrev S4x8x4096x4352 : Shape := ⟨4, ![4, 8, 4096, 4352]⟩
abbrev S4x8x4096 : Shape := ⟨3, ![4, 8, 4096]⟩
abbrev S4x8x4096x1 : Shape := ⟨4, ![4, 8, 4096, 1]⟩
abbrev S4x4x4096x4352 : Shape := ⟨4, ![4, 4, 4096, 4352]⟩
abbrev S4x4x128x4096 : Shape := ⟨4, ![4, 4, 128, 4096]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S128 : Shape := ⟨1, ![128]⟩
abbrev S1x1x1x128 : Shape := ⟨4, ![1, 1, 1, 128]⟩

abbrev nBuf : Space → Nat
  | .hbm => 77
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S1x128, .f32⟩
  | .hbm, ⟨2, _⟩ => ⟨S17408x512, .f32⟩
  | .hbm, ⟨3, _⟩ => ⟨S4x4352x512, .f32⟩
  | .hbm, ⟨4, _⟩ => ⟨S4x4352x512, .f32⟩
  | .hbm, ⟨5, _⟩ => ⟨S16384x512, .f32⟩
  | .hbm, ⟨6, _⟩ => ⟨S4x4096x8x64, .f32⟩
  | .hbm, ⟨7, _⟩ => ⟨S4x4352x8x64, .f32⟩
  | .hbm, ⟨8, _⟩ => ⟨S4x4352x4x128, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x8x4096x4352, .f32⟩
  | .hbm, ⟨29, _⟩ => ⟨S_, .f32⟩
  | .hbm, ⟨30, _⟩ => ⟨S4x8x4096x4352, .f32⟩
  | .hbm, ⟨31, _⟩ => ⟨S4x8x4096x4352, .f32⟩
  | .hbm, ⟨32, _⟩ => ⟨S_, .f32⟩
  | .hbm, ⟨33, _⟩ => ⟨S4x8x4096, .f32⟩
  | .hbm, ⟨34, _⟩ => ⟨S_, .f32⟩
  | .hbm, ⟨35, _⟩ => ⟨S4x8x4096, .f32⟩
  | .hbm, ⟨36, _⟩ => ⟨S4x8x4096, .f32⟩
  | .hbm, ⟨37, _⟩ => ⟨S4x8x4096x1, .f32⟩
  | .hbm, ⟨38, _⟩ => ⟨S4x8x4096x4352, .f32⟩
  | .hbm, ⟨39, _⟩ => ⟨S4x8x4096x4352, .f32⟩
  | .hbm, ⟨40, _⟩ => ⟨S4x8x4096x4352, .f32⟩
  | .hbm, ⟨41, _⟩ => ⟨S_, .f32⟩
  | .hbm, ⟨42, _⟩ => ⟨S4x8x4096, .f32⟩
  | .hbm, ⟨43, _⟩ => ⟨S4x8x4096x1, .f32⟩
  | .hbm, ⟨44, _⟩ => ⟨S4x8x4096x4352, .f32⟩
  | .hbm, ⟨45, _⟩ => ⟨S4x8x4096x4352, .f32⟩
  | .hbm, ⟨46, _⟩ => ⟨S4x4x4096x4352, .f32⟩
  | .hbm, ⟨47, _⟩ => ⟨S4x4x128x4096, .f32⟩
  | .hbm, ⟨48, _⟩ => ⟨S4x4096x4x128, .f32⟩
  | .hbm, ⟨49, _⟩ => ⟨S4x4x4096x4352, .f32⟩
  | .hbm, ⟨50, _⟩ => ⟨S4x4x128x4096, .f32⟩
  | .hbm, ⟨51, _⟩ => ⟨S4x4096x4x128, .f32⟩
  | .hbm, ⟨52, _⟩ => ⟨S4x4096x4x128, .f32⟩
  | .hbm, ⟨53, _⟩ => ⟨S4x4096x4x128, .f32⟩
  | .hbm, ⟨54, _⟩ => ⟨S4x4096x4x128, .f32⟩
  | .hbm, ⟨55, _⟩ => ⟨S4x4096x4x128, .f32⟩
  | .hbm, ⟨56, _⟩ => ⟨S_, .f32⟩
  | .hbm, ⟨57, _⟩ => ⟨S4x4096x4, .f32⟩
  | .hbm, ⟨58, _⟩ => ⟨S4x4096x4x1, .f32⟩
  | .hbm, ⟨59, _⟩ => ⟨S_, .f32⟩
  | .hbm, ⟨60, _⟩ => ⟨S4x4096x4x1, .f32⟩
  | .hbm, ⟨61, _⟩ => ⟨S4x4096x4x1, .f32⟩
  | .hbm, ⟨62, _⟩ => ⟨S_, .f32⟩
  | .hbm, ⟨63, _⟩ => ⟨S4x4096x4x1, .f32⟩
  | .hbm, ⟨64, _⟩ => ⟨S4x4096x4x1, .f32⟩
  | .hbm, ⟨65, _⟩ => ⟨S4x4096x4x1, .f32⟩
  | .hbm, ⟨66, _⟩ => ⟨S4x4096x4x128, .f32⟩
  | .hbm, ⟨67, _⟩ => ⟨S4x4096x4x128, .f32⟩
  | .hbm, ⟨68, _⟩ => ⟨S128, .f32⟩
  | .hbm, ⟨69, _⟩ => ⟨S1x1x1x128, .f32⟩
  | .hbm, ⟨70, _⟩ => ⟨S4x4096x4x128, .f32⟩
  | .hbm, ⟨71, _⟩ => ⟨S4x4096x4x128, .f32⟩
  | .hbm, ⟨72, _⟩ => ⟨S_, .f32⟩
  | .hbm, ⟨73, _⟩ => ⟨S4x4096x4x128, .f32⟩
  | .hbm, ⟨74, _⟩ => ⟨S4x4096x4x128, .f32⟩
  | .hbm, ⟨75, _⟩ => ⟨S16384x512, .f32⟩
  | .hbm, ⟨76, _⟩ => ⟨S16384x512, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_9 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Proof.Softmax.lean ====
/- One row of softmax attention over the extended reals: the weights of real scores, and the two ways a program
   computes the weighted sum of the values with them. -/
module

public import Idealize.ShloMosaic.PureOps.Ideal.Laws
public import Idealize.ShloMosaic.Lib.ValueIdx
public import Mathlib.Analysis.SpecialFunctions.Pow.Real

@[expose] public section

noncomputable section

namespace Cert.Attn

open Idealize.ShloMosaic
open scoped BigOperators

variable {n : ℕ}

/-- The softmax weight of key `k` among the real scores `s`. -/
def wt (s : Fin n → ℝ) (k : Fin n) : ℝ := Real.exp (s k) / ∑ j, Real.exp (s j)

/-- One entry of an attention row: the values `v` weighted by the softmax of the scores `s`. -/
def attn (s : Fin n → ℝ) (v : Fin n → EReal) : EReal := ∑ k, v k * ((wt s k : ℝ) : EReal)

/-- A finite sum of reals, taken in the extended reals, is the real sum. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A nonnegative real factor goes into a sum of extended reals, infinite terms included. -/
theorem sum_mul_coe {ι : Type*} (t : Finset ι) (f : ι → EReal) {r : ℝ} (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha,
      EReal.right_distrib_of_nonneg_of_ne_top (EReal.coe_nonneg.2 hr) (EReal.coe_ne_top r), ih]

/-- The greatest of finitely many reals, at least one, is a real. -/
theorem fold_max_real (hn : 0 < n) (f : Fin n → EReal) (s : Fin n → ℝ) (hf : ∀ k, f k = (s k : EReal)) :
    ∃ M : ℝ, (Finset.univ : Finset (Fin n)).fold max ⊥ f = (M : EReal) := by
  haveI : Nonempty (Fin n) := ⟨⟨0, hn⟩⟩
  obtain ⟨k, -, hk⟩ := Finset.exists_mem_eq_sup (Finset.univ : Finset (Fin n)) Finset.univ_nonempty f
  exact ⟨s k, (show (Finset.univ : Finset (Fin n)).sup f = _ from hk).trans (hf k)⟩

/-- The bit pattern of minus infinity stands for the least extended real. -/
theorem ofBits_neg_inf : Ideal.ofBits .f32 0xFF800000#32 = ⊥ := by simp [Ideal.ofBits, Ideal.ieee]

/-- The bit pattern of plus infinity stands for the greatest extended real. -/
theorem ofBits_inf : Ideal.ofBits .f32 0x7F800000#32 = ⊤ := by simp [Ideal.ofBits, Ideal.ieee]

/-- The short format's pattern of one stands for one. -/
theorem ofBits_one_bf16 : Ideal.ofBits .bf16 0x3F80#16 = 1 := by
  simp [Ideal.ofBits, Ideal.ieee, -EReal.coe_mul]; norm_num

/-- The short format's zero pattern stands for zero. -/
theorem ofBits_zero_bf16 : Ideal.ofBits .bf16 0x0000#16 = 0 := by simp [Ideal.ofBits, Ideal.ieee]

/-- The pattern of one eighth stands for one eighth. -/
theorem ofBits_eighth : Ideal.ofBits .f32 0x3E000000#32 = ((1 / 8 : ℝ) : EReal) := by
  simp [Ideal.ofBits, Ideal.ieee, -EReal.coe_mul]; norm_num

/-- A power of two at a score divided by the logarithm of two, below a bound `M`, as an exponential. -/
theorem exp2_scaled (x M : ℝ) :
    Ideal.exp2 (((x * (Real.log 2)⁻¹ : ℝ) : EReal) - (M : EReal)) = ((Real.exp (x - M * Real.log 2) : ℝ) : EReal) := by
  rw [← EReal.coe_sub, Ideal.exp2_coe]
  congr 1
  have h2 : Real.log 2 ≠ 0 := (Real.log_pos one_lt_two).ne'
  show (2 : ℝ) ^ (x * (Real.log 2)⁻¹ - M) = _
  rw [Real.rpow_def_of_pos two_pos]
  congr 1
  field_simp

/-- Exponentials shifted by any real have the same ratios, so they give the same weights. -/
theorem wt_shift (s : Fin n → ℝ) (M : ℝ) (k : Fin n) :
    Real.exp (s k - M) * (1 / ∑ j, Real.exp (s j - M)) = wt s k := by
  unfold wt
  have h : ∀ j, Real.exp (s j - M) = Real.exp (s j) * Real.exp (-M) := fun j => by rw [← Real.exp_add]; rfl
  simp only [h]
  rw [← Finset.sum_mul]
  have := (Real.exp_pos (-M)).ne'
  by_cases hs : (∑ j, Real.exp (s j)) = 0
  · rw [hs]; simp
  · field_simp

/-- A sum of exponentials over at least one key is positive. -/
theorem sum_exp_pos (hn : 0 < n) (s : Fin n → ℝ) : 0 < ∑ j, Real.exp (s j) := by
  haveI : Nonempty (Fin n) := ⟨⟨0, hn⟩⟩
  exact Finset.sum_pos (fun j _ => Real.exp_pos _) Finset.univ_nonempty

/-- Weighting first and dividing by the total weight at the end, with powers of two of the scaled scores, gives the
    attention row. -/
theorem row_pow2 (hn : 0 < n) (s : Fin n → ℝ) (v : Fin n → EReal) (M : ℝ) (e : Fin n → EReal)
    (he : ∀ k, e k = Ideal.exp2 (((s k * (Real.log 2)⁻¹ : ℝ) : EReal) - (M : EReal))) :
    Ideal.div (∑ k, v k * e k) (∑ k, e k) = attn s v := by
  simp only [he, exp2_scaled]
  rw [← coe_sum, Ideal.div_coe (sum_exp_pos hn _).ne', sum_mul_coe _ _ (by
    have := sum_exp_pos hn fun j => s j - M * Real.log 2
    positivity)]
  refine Finset.sum_congr rfl fun k _ => ?_
  rw [mul_assoc, ← EReal.coe_mul, wt_shift]

/-- Dividing each exponential by the total first and weighting then gives the attention row. -/
theorem row_exp (hn : 0 < n) (s : Fin n → ℝ) (v : Fin n → EReal) (M : ℝ) (e : Fin n → EReal)
    (he : ∀ k, e k = Ideal.exp ((s k : EReal) - (M : EReal))) :
    ∑ k, v k * Ideal.div (e k) (∑ j, e j) = attn s v := by
  have h : ∀ k, e k = ((Real.exp (s k - M) : ℝ) : EReal) := fun k => by rw [he, ← EReal.coe_sub, Ideal.exp_coe]
  simp only [h]
  refine Finset.sum_congr rfl fun k _ => ?_
  rw [← coe_sum, Ideal.div_coe (sum_exp_pos hn _).ne', ← EReal.coe_mul, wt_shift]

/-- A sum of products of reals, taken in the extended reals, is a real. -/
theorem sum_coe_mul {ι : Type*} [Fintype ι] (a b : ι → EReal) (x y : ι → ℝ) (ha : ∀ i, a i = (x i : EReal)) (hb : ∀ i, b i = (y i : EReal)) :
    ∑ i, a i * b i = ((∑ i, x i * y i : ℝ) : EReal) := by
  rw [coe_sum]
  exact Finset.sum_congr rfl fun i _ => by rw [ha, hb, EReal.coe_mul]

end Cert.Attn

end
-- ==== Proof.SoftmaxBlock.lean ====
/- The softmax-times-values step of the attention kernels, read at an index: scores with the keys down the rows and the
   queries along the lanes, a column maximum, powers of two, and one product with the values under sixteen rows of ones,
   whose first such row is the total weight. Stated for any extents. -/
module

public import proofs.«01_k».proof.Proof.Softmax
public import Idealize.ShloMosaic.Lib.MatmulPlain
public import Idealize.ShloMosaic.Lib.Pipeline.Value

@[expose] public section

noncomputable section

namespace Cert.Attn

open Idealize.ShloMosaic Idealize.ShloMosaic.ValueIdx
open scoped BigOperators

/-- A matrix of `n` rows and `t` columns. -/
abbrev Mat (n t : ℕ) : Shape := ⟨2, ![n, t]⟩

/-- The column maximum of a matrix of reals is a real: the shift the exponentials are taken at. -/
theorem colmax_real {n t : ℕ} (hn : 0 < n) (S : FVec Ideal (Mat n t) .f32) (hr : (Mat n t).Reduces [0] ⟨1, ![t]⟩)
    (hφ : FKind.Formats .f32) (hacc : (0xFF800000#32 : BitVec 32) = FKind.maximumf.neutral .f32 hφ)
    (r : Fin t) (s : Fin n → ℝ) (hS : ∀ k, S (ix2 k r) = (s k : EReal)) :
    ∃ M : ℝ, multiReduction .maximumf [0] ⟨1, ![t]⟩ S 0xFF800000#32 hr hφ hacc (ix1 r) = (M : EReal) := by
  rw [Ideal.multiReduction_maximumf_single]
  show ∃ M : ℝ, (Finset.univ : Finset (Fin n)).fold max (Ideal.ofBits .f32 0xFF800000#32) (S ∘ hr.lift (ix1 r)) = _
  rw [ofBits_neg_inf]
  refine fold_max_real hn _ s fun k => ?_
  rw [← hS k]
  refine congrArg S (funext fun a => Fin.ext ?_)
  match a with
  | ⟨0, _⟩ => rfl
  | ⟨1, _⟩ => rfl

variable {n t d e : ℕ}

/-- The exponentials of one block of scores: each column shifted by its maximum, then two to that power. -/
def expT (S : FVec Ideal (Mat n t) .f32) (hr : (Mat n t).Reduces [0] ⟨1, ![t]⟩)
    (hφ : FKind.Formats .f32) (hacc : (0xFF800000#32 : BitVec 32) = FKind.maximumf.neutral .f32 hφ)
    (hsc : (⟨1, ![t]⟩ : Shape).ShapeCasts (Mat 1 t)) (hb : (Mat 1 t).Broadcasts (Mat n t)) (htr : FTy.bits .bf16 < FTy.bits .f32) :
    FVec Ideal (Mat n t) .bf16 :=
  truncf .bf16 (exp2 (subf S (broadcastTo (Mat n t) (shapeCast (Mat 1 t)
    (multiReduction .maximumf [0] ⟨1, ![t]⟩ S 0xFF800000#32 hr hφ hacc) hsc) hb))) htr

/-- The values under sixteen rows of ones, times the exponentials: weighted sums above, total weights below. -/
def sumsT (E : FVec Ideal (Mat n t) .bf16) (V : FVec Ideal (Mat d n) .bf16)
    (hc : Shape.Concatenates [Mat d n, Mat 16 n] (Mat e n) 0) : FVec Ideal (Mat e t) .f32 :=
  matmul (DotDims.plain e n t) none (concatenate (Mat e n) 0 [⟨Mat d n, V⟩,
    ⟨Mat 16 n, broadcast (Mat 16 n) (Scalar.ofBits .bf16 0x3F80#16 : Ideal .bf16)⟩] hc) E (constant (Mat e t) .f32 0x00000000#32)

/-- The rows of weighted sums, each over the row of total weights. -/
def divT (O : FVec Ideal (Mat e t) .f32) (hs1 : (Mat e t).Slices ![0, 0] (Mat d t)) (hs2 : (Mat e t).Slices ![d, 0] (Mat 1 t))
    (hb : (Mat 1 t).Broadcasts (Mat d t)) : FVec Ideal (Mat d t) .f32 :=
  divf (extractStridedSlice (Mat d t) ![0, 0] O hs1) (broadcastTo (Mat d t) (extractStridedSlice (Mat 1 t) ![d, 0] O hs2) hb)

/-- The exponentials at a key and a query: two to the score less one real shift for the whole column. -/
theorem expT_apply (hn : 0 < n) (ht : 1 < t) (S : FVec Ideal (Mat n t) .f32) (hr : (Mat n t).Reduces [0] ⟨1, ![t]⟩)
    (hφ : FKind.Formats .f32) (hacc : (0xFF800000#32 : BitVec 32) = FKind.maximumf.neutral .f32 hφ)
    (hsc : (⟨1, ![t]⟩ : Shape).ShapeCasts (Mat 1 t)) (hb : (Mat 1 t).Broadcasts (Mat n t)) (htr : FTy.bits .bf16 < FTy.bits .f32)
    (r : Fin t) (s : Fin n → ℝ) (hS : ∀ k, S (ix2 k r) = (s k : EReal)) :
    ∃ M : ℝ, ∀ k, expT S hr hφ hacc hsc hb htr (ix2 k r) = Ideal.exp2 ((s k : EReal) - (M : EReal)) := by
  obtain ⟨M, hM⟩ := colmax_real hn S hr hφ hacc r s hS
  refine ⟨M, fun k => ?_⟩
  show Ideal.exp2 (S (ix2 k r) - broadcastTo (Mat n t) (shapeCast (Mat 1 t)
    (multiReduction .maximumf [0] ⟨1, ![t]⟩ S 0xFF800000#32 hr hφ hacc) hsc) hb (ix2 k r)) = _
  rw [hS k, broadcastTo_apply _ hb (ix2 k r) (ix2 ⟨0, Nat.one_pos⟩ r) (fun a => match a with
      | ⟨0, _⟩ => by show 0 = if (1 : ℕ) = 1 then 0 else _; rfl
      | ⟨1, _⟩ => by show r.val = if t = 1 then 0 else r.val; rw [if_neg (by omega)]),
    shapeCast_apply _ hsc (ix2 ⟨0, Nat.one_pos⟩ r) (ix1 r) (by
      rw [Shape.rowMajor_val_one, Shape.rowMajor_val_two]; show r.val = 0 * t + r.val; omega), hM]

/-- **One block's rows of attention.** Where a column of scores is the reals `s` over the logarithm of two, the quotient at a
    value dimension and that column's query is the attention row of `s` over that dimension of the values. -/
theorem block_apply (hn : 0 < n) (ht : 1 < t) (hd : d < e) (S : FVec Ideal (Mat n t) .f32) (V : FVec Ideal (Mat d n) .bf16)
    (hr : (Mat n t).Reduces [0] ⟨1, ![t]⟩)
    (hφ : FKind.Formats .f32) (hacc : (0xFF800000#32 : BitVec 32) = FKind.maximumf.neutral .f32 hφ)
    (hsc : (⟨1, ![t]⟩ : Shape).ShapeCasts (Mat 1 t)) (hb : (Mat 1 t).Broadcasts (Mat n t)) (htr : FTy.bits .bf16 < FTy.bits .f32)
    (hc : Shape.Concatenates [Mat d n, Mat 16 n] (Mat e n) 0)
    (hs1 : (Mat e t).Slices ![0, 0] (Mat d t)) (hs2 : (Mat e t).Slices ![d, 0] (Mat 1 t)) (hb2 : (Mat 1 t).Broadcasts (Mat d t))
    (r : Fin t) (x : Fin d) (s : Fin n → ℝ) (hS : ∀ k, S (ix2 k r) = ((s k * (Real.log 2)⁻¹ : ℝ) : EReal)) :
    divT (sumsT (expT S hr hφ hacc hsc hb htr) V hc) hs1 hs2 hb2 (ix2 x r) = attn s fun k => V (ix2 x k) := by
  obtain ⟨M, hM⟩ := expT_apply hn ht S hr hφ hacc hsc hb htr r _ hS
  generalize hE : expT S hr hφ hacc hsc hb htr = E at hM
  -- the product at a row and this column
  have hO : ∀ y : Fin e, sumsT E V hc (ix2 y r) = ∑ k : Fin n, (concatenate (Mat e n) 0 [⟨Mat d n, V⟩,
      ⟨Mat 16 n, broadcast (Mat 16 n) (Scalar.ofBits .bf16 0x3F80#16 : Ideal .bf16)⟩] hc) (ix2 y k) * E (ix2 k r) := fun y => by
    refine (Ideal.matmul_plain_apply none _ E _ y r).trans ?_
    show Ideal.ofBits .f32 0x00000000#32 + _ = _
    rw [Ideal.ofBits_zero_f32, zero_add]
  have h1 : extractStridedSlice (Mat d t) ![0, 0] (sumsT E V hc) hs1 (ix2 x r) = ∑ k : Fin n, V (ix2 x k) * E (ix2 k r) := by
    rw [extractStridedSlice_apply ![0, 0] _ hs1 (ix2 x r) (ix2 ⟨x.val, x.isLt.trans hd⟩ r) (fun a => match a with
      | ⟨0, _⟩ => by show x.val = 0 + x.val; omega
      | ⟨1, _⟩ => by show r.val = 0 + r.val; omega), hO]
    refine Finset.sum_congr rfl fun k _ => ?_
    rw [concatenate_pair_apply_left (t := Mat e n) 0 V _ hc (ix2 ⟨x.val, x.isLt.trans hd⟩ k) rfl (ix2 x k) (fun b => match b with
      | ⟨0, _⟩ => rfl
      | ⟨1, _⟩ => rfl)]
  have h2 : extractStridedSlice (Mat 1 t) ![d, 0] (sumsT E V hc) hs2 (ix2 ⟨0, Nat.one_pos⟩ r) = ∑ k : Fin n, E (ix2 k r) := by
    rw [extractStridedSlice_apply ![d, 0] _ hs2 (ix2 ⟨0, Nat.one_pos⟩ r) (ix2 ⟨d, hd⟩ r) (fun a => match a with
      | ⟨0, _⟩ => by show d = d + 0; omega
      | ⟨1, _⟩ => by show r.val = 0 + r.val; omega), hO]
    refine Finset.sum_congr rfl fun k _ => ?_
    rw [concatenate_pair_apply_right (t := Mat e n) 0 V _ hc (ix2 ⟨d, hd⟩ k) rfl rfl (ix2 ⟨0, by omega⟩ k) (fun b hb => match b with
      | ⟨0, _⟩ => absurd rfl hb
      | ⟨1, _⟩ => rfl) (by show 0 + d = d; omega)]
    show Ideal.ofBits .bf16 0x3F80#16 * _ = _
    rw [ofBits_one_bf16, one_mul]
  show Ideal.div (extractStridedSlice (Mat d t) ![0, 0] (sumsT E V hc) hs1 (ix2 x r))
    (broadcastTo (Mat d t) (extractStridedSlice (Mat 1 t) ![d, 0] (sumsT E V hc) hs2) hb2 (ix2 x r)) = _
  rw [broadcastTo_apply _ hb2 (ix2 x r) (ix2 ⟨0, Nat.one_pos⟩ r) (fun a => match a with
      | ⟨0, _⟩ => by show 0 = if (1 : ℕ) = 1 then 0 else _; rfl
      | ⟨1, _⟩ => by show r.val = if t = 1 then 0 else r.val; rw [if_neg (by omega)]), h1, h2]
  exact row_pow2 hn s _ M _ hM

/-- Reading a contiguous rectangle at an index: the source at the index that many places past its corner. -/
theorem ld_unit_at {F : FTy → Type} [FloatOps F] {s : Shape} {e : EltTy} (x : Vec F s e) (off size : Fin s.rank → ℕ)
    (h : ∀ a, off a + size a ≤ s.size a) (j : (Rect.unit (s := s) off size h).shape.Idx) (k : s.Idx)
    (hk : ∀ a, (k a).val = off a + (j a).val) : View.ld x (Rect.unit (s := s) off size h) j = x k :=
  congrArg x (funext fun a => Fin.ext (by
    show off a + 1 * (j a).val = (k a).val
    rw [hk a, one_mul]))

/-- A sum over 128 lanes whose terms outside one half vanish is the sum over that half's 64 lanes. -/
theorem sum_half (z : ℕ) (hz : z < 2) (f : Fin 128 → ℝ) :
    ∑ l : Fin 128, (if l.val / 64 = z then f l else 0) = ∑ e : Fin 64, f ⟨z * 64 + e.val, by omega⟩ := by
  rw [show (∑ l : Fin 128, (if l.val / 64 = z then f l else 0)) = ∑ l : Fin (64 + 64), (if l.val / 64 = z then f l else 0) from rfl,
    Fin.sum_univ_add]
  have h0 : ∀ e : Fin 64, (Fin.castAdd 64 e).val / 64 = 0 := fun e => by have := e.isLt; simp only [Fin.val_castAdd]; omega
  have h1 : ∀ e : Fin 64, (Fin.natAdd 64 e).val / 64 = 1 := fun e => by have := e.isLt; simp only [Fin.val_natAdd]; omega
  simp only [h0, h1]
  interval_cases z
  · simp only [if_true, if_neg (show ¬ (1 = 0) by decide), Finset.sum_const_zero, add_zero]
    exact Finset.sum_congr rfl fun e _ => congrArg f (Fin.ext (by show e.val = 0 * 64 + e.val; omega))
  · simp only [if_true, if_neg (show ¬ (0 = 1) by decide), Finset.sum_const_zero, zero_add]
    exact Finset.sum_congr rfl fun e _ => congrArg f (Fin.ext (by show 64 + e.val = 1 * 64 + e.val; omega))

/-- A selected lane comparison: the signed test of a lane number against 64 holds on the lower half. -/
theorem lane_lt (l : Fin 128) : IntOp.cmpi .slt (BitVec.ofNat 32 l.val) 64#32 = if l.val / 64 = 0 then 1#1 else 0#1 := by
  revert l; decide

/-- Its complement holds on the upper half. -/
theorem lane_ge (l : Fin 128) :
    IntOp.xori (IntOp.cmpi .slt (BitVec.ofNat 32 l.val) 64#32) 1#1 = if l.val / 64 = 1 then 1#1 else 0#1 := by
  revert l; decide

end Cert.Attn

end
-- ==== Proof.GqaBlock.lean ====
/- One grid point of the grouped-query attention kernel: each of its eight heads' columns is the attention of that head's
   queries over the block's keys and values. -/
module

public import proofs.«01_k».proof.Proof.SoftmaxBlock
public import proofs.«01_k».proof.Proof.Gen.GqaIdeal.Value

@[expose] public section

noncomputable section

namespace Cert.GqaVal

open Cert.GqaIdeal Cert.GqaIdeal.Gen Cert.Attn Idealize.ShloMosaic Idealize.ShloMosaic.ValueIdx
open scoped BigOperators

/-- The kernel's scale is one eighth over the logarithm of two. -/
theorem scale_named : Named.named (F := Ideal) GqaIdeal.κ "scale_log2e" (φ := .f32) 0x3E38AA3B#32 = ((1 / 8 * (Real.log 2)⁻¹ : ℝ) : EReal) :=
  IdealRules.named_const.ideal_named_scalar _ _ _ _ rfl

/-- A pair's scores for the lanes `mask` keeps: the keys against the scaled queries, the other lanes zeroed. -/
def scores (mask : IVec S512x128 1) (q : FVec Ideal S512x128 .f32) (k : Vec Ideal S1x4352x128 .bf16) : FVec Ideal S4352x512 .f32 :=
  matmul (DotDims.transposedRhs 4352 128 512) none (shapeCast S4352x128 k shapeCasts_S1x4352x128_S4352x128 : FVec Ideal S4352x128 .bf16)
    (select mask (truncf .bf16 (mulf q (broadcast S512x128 (Named.named κ "scale_log2e" 0x3E38AA3B#32 : Ideal .f32))) bitsLt_bf16_f32)
      (broadcast S512x128 (Scalar.ofBits .bf16 0x0000#16 : Ideal .bf16)) : FVec Ideal S512x128 .bf16)
    (constant S4352x512 .f32 0x00000000#32)

/-- One head's output, value dimensions down the rows. -/
def half (mask : IVec S512x128 1) (q : FVec Ideal S512x128 .f32) (k : Vec Ideal S1x4352x128 .bf16) (v : Vec Ideal S1x64x4352 .bf16) :
    FVec Ideal S64x512 .f32 :=
  divT (sumsT (expT (scores mask q k) reduces_S4352x512_S512 (.inl rfl) rfl shapeCasts_S512_S1x512 broadcasts_S1x512_S4352x512 bitsLt_bf16_f32)
      (shapeCast S64x4352 v shapeCasts_S1x64x4352_S64x4352) concatenates_S64x4352_S16x4352_S80x4352_d0)
    slices_S80x512_o0_0_S64x512 slices_S80x512_o64_0_S1x512 broadcasts_S1x512_S64x512

/-- A pair of heads' output columns: the lower-lane head's, then the upper-lane head's. -/
def pair (q : FVec Ideal S512x128 .f32) (k : Vec Ideal S1x4352x128 .bf16) (v : Vec Ideal S1x64x4352 .bf16) : FVec Ideal S512x128 .bf16 :=
  truncf .bf16 (transpose S512x128 [1, 0] (concatenate S128x512 0 [⟨S64x512, half k0_pay2 q k v⟩, ⟨S64x512, half k0_pay3 q k v⟩]
    concatenates_S64x512_S64x512_S128x512_d0) transposes_S128x512_p1_0_S512x128) bitsLt_bf16_f32

/-- What a grid point leaves in its output block: the four pairs' columns, the first two pairs over the first group of keys
    and values and the last two over the second. -/
theorem out_eq (x0 : Vec Ideal S512x512 .f32) (x1 : Vec Ideal S1x4352x256 .bf16) (x2 : Vec Ideal S1x128x4352 .bf16) :
    out0_3 x0 x1 x2 = View.canon [⟨r0_3, pair (View.ld x0 r0_3) (View.ld x1 r0_6) (View.ld x2 r0_7)⟩,
      ⟨r0_2, pair (View.ld x0 r0_2) (View.ld x1 r0_6) (View.ld x2 r0_7)⟩,
      ⟨r0_1, pair (View.ld x0 r0_1) (View.ld x1 r0_4) (View.ld x2 r0_5)⟩,
      ⟨r0_0, pair (View.ld x0 r0_0) (View.ld x1 r0_4) (View.ld x2 r0_5)⟩] := rfl

/-- A mask that keeps exactly the lanes of half `z`. -/
def Keeps (mask : IVec S512x128 1) (z : ℕ) : Prop := ∀ (r : Fin 512) (l : Fin 128), mask (ix2 r l) = if l.val / 64 = z then 1#1 else 0#1

/-- The first mask keeps the lower half. -/
theorem keeps_lo : Keeps k0_pay2 0 := fun r l => by
  refine Eq.trans ?_ (lane_lt l)
  show IntOp.cmpi .slt (iota .tc S512x128 32 [1] iota_S512x128_d1_w32 (ix2 r l)) 64#32 = _
  rw [iota_single_apply]

/-- The second mask keeps the upper half. -/
theorem keeps_hi : Keeps k0_pay3 1 := fun r l => by
  refine Eq.trans ?_ (lane_ge l)
  show IntOp.xori (IntOp.cmpi .slt (iota .tc S512x128 32 [1] iota_S512x128_d1_w32 (ix2 r l)) 64#32) 1#1 = _
  rw [iota_single_apply]

/-- The real score of a key against a query: their dot product over 64 lanes from `z * 64`, over eight. -/
def score (z : ℕ) (hz : z < 2) (kr : Fin 4352 → Fin 128 → ℝ) (qr : Fin 128 → ℝ) (key : Fin 4352) : ℝ :=
  (∑ e : Fin 64, kr key ⟨z * 64 + e.val, by omega⟩ * qr ⟨z * 64 + e.val, by omega⟩) * (1 / 8)

/-- The score depends on its half only. -/
theorem score_congr {z z' : ℕ} (h : z = z') (hz : z < 2) (hz' : z' < 2) (kr : Fin 4352 → Fin 128 → ℝ) (qr : Fin 128 → ℝ) :
    score z hz kr qr = score z' hz' kr qr := by
  subst h; rfl

/-- The masked scores at finite queries and keys: the real score over the logarithm of two. -/
theorem scores_apply {mask : IVec S512x128 1} {z : ℕ} (hz : z < 2) (hm : Keeps mask z) (q : FVec Ideal S512x128 .f32)
    (k : Vec Ideal S1x4352x128 .bf16) (r : Fin 512) (kr : Fin 4352 → Fin 128 → ℝ) (qr : Fin 128 → ℝ)
    (hq : ∀ l, q (ix2 r l) = (qr l : EReal)) (hk : ∀ key l, k (ix3 ⟨0, Nat.one_pos⟩ key l) = (kr key l : EReal)) (key : Fin 4352) :
    scores mask q k (ix2 key r) = ((score z hz kr qr key * (Real.log 2)⁻¹ : ℝ) : EReal) := by
  refine (Ideal.matmul_transposedRhs_apply none _ _ _ key r).trans ?_
  show Ideal.ofBits .f32 0x00000000#32 + _ = _
  rw [Ideal.ofBits_zero_f32, zero_add, sum_coe_mul _ _ (kr key) (fun l => if l.val / 64 = z then qr l * (1 / 8 * (Real.log 2)⁻¹) else 0)
    (fun l => ?_) fun l => ?_]
  · congr 1
    simp only [mul_ite, mul_zero]
    rw [sum_half z hz fun l => kr key l * (qr l * (1 / 8 * (Real.log 2)⁻¹)), score, Finset.sum_mul, Finset.sum_mul]
    exact Finset.sum_congr rfl fun e _ => by ring
  · rw [← hk]
    refine (shapeCast_dropUnit_apply ![4352, 128] k shapeCasts_S1x4352x128_S4352x128 (ix2 key l)).trans (congrArg k ?_)
    funext a
    match a with
    | ⟨0, _⟩ => rfl
    | ⟨1, _⟩ => rfl
    | ⟨2, _⟩ => rfl
  · show Scalar.select (mask (ix2 r l)) (q (ix2 r l) * Named.named (F := Ideal) κ "scale_log2e" (φ := .f32) 0x3E38AA3B#32) (Ideal.ofBits .bf16 0x0000#16) = _
    rw [hm r l, hq, scale_named, ofBits_zero_bf16]
    split
    · exact (EReal.coe_mul _ _).symm
    · rfl

/-- One head's output at a value dimension and a query is the attention of the real scores over that dimension. -/
theorem half_apply {mask : IVec S512x128 1} {z : ℕ} (hz : z < 2) (hm : Keeps mask z) (q : FVec Ideal S512x128 .f32)
    (k : Vec Ideal S1x4352x128 .bf16) (v : Vec Ideal S1x64x4352 .bf16) (r : Fin 512) (kr : Fin 4352 → Fin 128 → ℝ) (qr : Fin 128 → ℝ)
    (hq : ∀ l, q (ix2 r l) = (qr l : EReal)) (hk : ∀ key l, k (ix3 ⟨0, Nat.one_pos⟩ key l) = (kr key l : EReal)) (x : Fin 64) :
    half mask q k v (ix2 x r) = attn (score z hz kr qr) fun key => v (ix3 ⟨0, Nat.one_pos⟩ x key) := by
  refine (block_apply (n := 4352) (t := 512) (d := 64) (e := 80) (by decide) (by decide) (by decide) (scores mask q k) _
    reduces_S4352x512_S512 (.inl rfl) rfl shapeCasts_S512_S1x512 broadcasts_S1x512_S4352x512 bitsLt_bf16_f32
    concatenates_S64x4352_S16x4352_S80x4352_d0 slices_S80x512_o0_0_S64x512 slices_S80x512_o64_0_S1x512 broadcasts_S1x512_S64x512
    r x (score z hz kr qr) fun key => scores_apply hz hm q k r kr qr hq hk key).trans ?_
  congr 1
  funext key
  refine (shapeCast_dropUnit_apply ![64, 4352] v shapeCasts_S1x64x4352_S64x4352 (ix2 x key)).trans (congrArg v ?_)
  funext a
  match a with
  | ⟨0, _⟩ => rfl
  | ⟨1, _⟩ => rfl
  | ⟨2, _⟩ => rfl

/-- A pair's column `l` at a query: the head of that column's half, at its value dimension. -/
theorem pair_apply (q : FVec Ideal S512x128 .f32) (k : Vec Ideal S1x4352x128 .bf16) (v : Vec Ideal S1x64x4352 .bf16) (r : Fin 512)
    (kr : Fin 4352 → Fin 128 → ℝ) (qr : Fin 128 → ℝ) (hq : ∀ l, q (ix2 r l) = (qr l : EReal))
    (hk : ∀ key l, k (ix3 ⟨0, Nat.one_pos⟩ key l) = (kr key l : EReal)) (l : Fin 128) :
    pair q k v (ix2 r l) = attn (score (l.val / 64) (by omega) kr qr) fun key => v (ix3 ⟨0, Nat.one_pos⟩ ⟨l.val % 64, by omega⟩ key) := by
  unfold pair
  rw [ValueIdx.truncf_apply]
  refine (transpose_apply [1, 0] _ transposes_S128x512_p1_0_S512x128 (ix2 r l) (ix2 l r) (fun b => match b with
    | ⟨0, _⟩ => rfl
    | ⟨1, _⟩ => rfl)).trans ?_
  by_cases hl : l.val < 64
  · rw [concatenate_pair_apply_left (t := S128x512) 0 (half k0_pay2 q k v) _ concatenates_S64x512_S64x512_S128x512_d0 (ix2 l r) rfl
      (ix2 ⟨l.val, hl⟩ r) (fun b => match b with
      | ⟨0, _⟩ => rfl
      | ⟨1, _⟩ => rfl), half_apply (by decide) keeps_lo q k v r kr qr hq hk]
    have e0 : l.val / 64 = 0 := by omega
    have e1 : (⟨l.val % 64, by omega⟩ : Fin 64) = ⟨l.val, hl⟩ := Fin.ext (by show l.val % 64 = l.val; omega)
    rw [e1, score_congr e0 _ (by decide)]
  · rw [concatenate_pair_apply_right (t := S128x512) 0 (half k0_pay2 q k v) _ concatenates_S64x512_S64x512_S128x512_d0 (ix2 l r) rfl rfl
      (ix2 ⟨l.val - 64, by omega⟩ r) (fun b hb => match b with
      | ⟨0, _⟩ => absurd rfl hb
      | ⟨1, _⟩ => rfl) (by show l.val - 64 + 64 = l.val; omega), half_apply (by decide) keeps_hi q k v r kr qr hq hk]
    have e0 : l.val / 64 = 1 := by omega
    have e1 : (⟨l.val % 64, by omega⟩ : Fin 64) = ⟨l.val - 64, by omega⟩ := Fin.ext (by show l.val % 64 = l.val - 64; omega)
    rw [e1, score_congr e0 _ (by decide)]

/-- The block's output at a query and a column, of finite queries and keys: the attention of the column's head. The head's
    queries are the 64 columns of its number; its keys are the 64 lanes of its half of its group's doubled keys. -/
def blockVal (qr : Fin 512 → ℝ) (kr : Fin 4352 → Fin 256 → ℝ) (v : Vec Ideal S1x128x4352 .bf16) (c : Fin 512) : EReal :=
  attn (fun key => (∑ e : Fin 64, kr key ⟨c.val / 256 * 128 + c.val / 64 % 2 * 64 + e.val, by omega⟩ * qr ⟨c.val / 64 * 64 + e.val, by omega⟩) * (1 / 8))
    fun key => v (ix3 ⟨0, Nat.one_pos⟩ ⟨c.val / 256 * 64 + c.val % 64, by omega⟩ key)

/-- One pair's payload is the block's value under its rectangle. -/
theorem piece_apply (x0 : Vec Ideal S512x512 .f32) (x1 : Vec Ideal S1x4352x256 .bf16) (x2 : Vec Ideal S1x128x4352 .bf16)
    (qr : Fin 512 → Fin 512 → ℝ) (kr : Fin 4352 → Fin 256 → ℝ) (hq : ∀ r c, x0 (ix2 r c) = (qr r c : EReal))
    (hk : ∀ key l, x1 (ix3 ⟨0, Nat.one_pos⟩ key l) = (kr key l : EReal)) (j : ℕ) (hj : j < 4)
    (i0 : ∀ a, (![0, j * 128] : Fin 2 → ℕ) a + S512x128.size a ≤ S512x512.size a)
    (i1 : ∀ a, (![0, 0, j / 2 * 128] : Fin 3 → ℕ) a + S1x4352x128.size a ≤ S1x4352x256.size a)
    (i2 : ∀ a, (![0, j / 2 * 64, 0] : Fin 3 → ℕ) a + S1x64x4352.size a ≤ S1x128x4352.size a)
    (r : Fin 512) (l : Fin 128) :
    pair (View.ld x0 (Rect.unit (s := S512x512) ![0, j * 128] S512x128.size i0))
        (View.ld x1 (Rect.unit (s := S1x4352x256) ![0, 0, j / 2 * 128] S1x4352x128.size i1))
        (View.ld x2 (Rect.unit (s := S1x128x4352) ![0, j / 2 * 64, 0] S1x64x4352.size i2)) (ix2 r l)
      = blockVal (qr r) kr x2 ⟨j * 128 + l.val, by omega⟩ := by
  rw [pair_apply _ _ _ r (fun key l => kr key ⟨j / 2 * 128 + l.val, by omega⟩) (fun l => qr r ⟨j * 128 + l.val, by omega⟩)
    (fun l => ?_) (fun key l => ?_)]
  · unfold blockVal score
    congr 1
    · funext key
      congr 1
      refine Finset.sum_congr rfl fun e _ => ?_
      refine congrArg₂ (· * ·) (congrArg (kr key) (Fin.ext ?_)) (congrArg (qr r) (Fin.ext ?_))
      · show j / 2 * 128 + (l.val / 64 * 64 + e.val) = (j * 128 + l.val) / 256 * 128 + (j * 128 + l.val) / 64 % 2 * 64 + e.val
        omega
      · show j * 128 + (l.val / 64 * 64 + e.val) = (j * 128 + l.val) / 64 * 64 + e.val
        omega
    · funext key
      exact ld_unit_at x2 _ _ i2 _ (ix3 ⟨0, Nat.one_pos⟩ ⟨(j * 128 + l.val) / 256 * 64 + (j * 128 + l.val) % 64, by omega⟩ key)
        (fun a => match a with
        | ⟨0, _⟩ => rfl
        | ⟨1, _⟩ => by show (j * 128 + l.val) / 256 * 64 + (j * 128 + l.val) % 64 = j / 2 * 64 + l.val % 64; omega
        | ⟨2, _⟩ => by show key.val = 0 + key.val; omega)
  · exact (ld_unit_at x0 _ _ i0 _ (ix2 r ⟨j * 128 + l.val, by omega⟩) (fun a => match a with
        | ⟨0, _⟩ => by show r.val = 0 + r.val; omega
        | ⟨1, _⟩ => rfl)).trans (hq _ _)
  · exact (ld_unit_at x1 _ _ i1 _ (ix3 ⟨0, Nat.one_pos⟩ key ⟨j / 2 * 128 + l.val, by omega⟩) (fun a => match a with
        | ⟨0, _⟩ => rfl
        | ⟨1, _⟩ => by show key.val = 0 + key.val; omega
        | ⟨2, _⟩ => rfl)).trans (hk _ _)

/-- **A grid point's output**: at every query and column of the block, the attention of the column's head. -/
theorem out_apply (x0 : Vec Ideal S512x512 .f32) (x1 : Vec Ideal S1x4352x256 .bf16) (x2 : Vec Ideal S1x128x4352 .bf16)
    (qr : Fin 512 → Fin 512 → ℝ) (kr : Fin 4352 → Fin 256 → ℝ) (hq : ∀ r c, x0 (ix2 r c) = (qr r c : EReal))
    (hk : ∀ key l, x1 (ix3 ⟨0, Nat.one_pos⟩ key l) = (kr key l : EReal)) (y : S512x512.Idx) :
    out0_3 x0 x1 x2 y = blockVal (qr (y 0)) kr x2 (y 1) := by
  rw [out_eq]
  refine View.canon_apply_of_pieces (Val := Elt Ideal) (S := S512x512) (e := .bf16) (fun y => blockVal (qr (y 0)) kr x2 (y 1)) _ ?_ y (cover0_3 _ _ _ _ y)
  intro p hp
  simp only [List.mem_cons, List.not_mem_nil, or_false] at hp
  have hx : ∀ x : S512x128.Idx, x = ix2 (x 0) (x 1) := fun x => eq_ix2 x
  have emb0 : ∀ (r : Fin 512), (⟨0 + 1 * r.val, by omega⟩ : Fin 512) = r := fun r => Fin.ext (by show 0 + 1 * r.val = r.val; omega)
  have emb1 : ∀ (j : ℕ) (l : Fin 128) (h : j * 128 + 1 * l.val < 512) (h' : j * 128 + l.val < 512), (⟨j * 128 + 1 * l.val, h⟩ : Fin 512) = ⟨j * 128 + l.val, h'⟩ :=
    fun j l h h' => Fin.ext (by show j * 128 + 1 * l.val = j * 128 + l.val; omega)
  rcases hp with rfl | rfl | rfl | rfl <;> intro x
  · refine ((congrArg _ (hx x)).trans (piece_apply x0 x1 x2 qr kr hq hk 3 (by decide) inb_S512x512_S512x128_0_384
      inb_S1x4352x256_S1x4352x128_0_0_128 inb_S1x128x4352_S1x64x4352_0_64_0 (x 0) (x 1))).trans ?_
    exact congrArg₂ (fun a b => blockVal (qr a) kr x2 b) (emb0 (x 0)).symm (emb1 3 (x 1) _ _).symm
  · refine ((congrArg _ (hx x)).trans (piece_apply x0 x1 x2 qr kr hq hk 2 (by decide) inb_S512x512_S512x128_0_256
      inb_S1x4352x256_S1x4352x128_0_0_128 inb_S1x128x4352_S1x64x4352_0_64_0 (x 0) (x 1))).trans ?_
    exact congrArg₂ (fun a b => blockVal (qr a) kr x2 b) (emb0 (x 0)).symm (emb1 2 (x 1) _ _).symm
  · refine ((congrArg _ (hx x)).trans (piece_apply x0 x1 x2 qr kr hq hk 1 (by decide) inb_S512x512_S512x128_0_128
      inb_S1x4352x256_S1x4352x128_0_0_0 inb_S1x128x4352_S1x64x4352_0_0_0 (x 0) (x 1))).trans ?_
    exact congrArg₂ (fun a b => blockVal (qr a) kr x2 b) (emb0 (x 0)).symm (emb1 1 (x 1) _ _).symm
  · refine ((congrArg _ (hx x)).trans (piece_apply x0 x1 x2 qr kr hq hk 0 (by decide) inb_S512x512_S512x128_0_0
      inb_S1x4352x256_S1x4352x128_0_0_0 inb_S1x128x4352_S1x64x4352_0_0_0 (x 0) (x 1))).trans ?_
    exact congrArg₂ (fun a b => blockVal (qr a) kr x2 b) (emb0 (x 0)).symm (emb1 0 (x 1) _ _).symm

end Cert.GqaVal

end
-- ==== Proof.GqaSpec.lean ====
/- What grouped-query attention computes at finite queries and keys, index by index, and the finiteness the precondition
   states. -/
module

public import proofs.«01_k».proof.Proof.Softmax
public import Idealize.ShloMosaic.Lib.ValueIdx
public import Idealize.ShloMosaic.Lib.Pipeline.Value

@[expose] public section

noncomputable section

namespace Cert.Attn

open Idealize.ShloMosaic Idealize.ShloMosaic.ValueIdx
open scoped BigOperators

/-- Every entry of an array is a real number. -/
def Reals {s : Shape} (x : s.Idx → EReal) : Prop := ∀ i, x i = ((x i).toReal : EReal)

/-- Grouped-query attention: row `i 0` is a query of batch `i 0 / 4096`, column `i 1` a value dimension of head `i 1 / 64`,
    whose keys and values are those of group `i 1 / 256`. -/
def gqa (q : (⟨2, ![16384, 512]⟩ : Shape).Idx → EReal) (k v : (⟨3, ![4, 4352, 128]⟩ : Shape).Idx → EReal)
    (r : Fin 16384) (c : Fin 512) : EReal :=
  attn (fun key : Fin 4352 => (∑ e : Fin 64,
      (k (ix3 (⟨r.val / 4096, by omega⟩ : Fin 4) key (⟨c.val / 256 * 64 + e.val, by omega⟩ : Fin 128))).toReal
        * (q (ix2 r (⟨c.val / 64 * 64 + e.val, by omega⟩ : Fin 512))).toReal) * (1 / 8))
    fun key => v (ix3 (⟨r.val / 4096, by omega⟩ : Fin 4) key (⟨c.val / 256 * 64 + c.val % 64, by omega⟩ : Fin 128))

/-- The rows of the latent queries, the first 16384 of the stacked rows. -/
def lowRows {w : ℕ} (x : (⟨2, ![17408, w]⟩ : Shape).Idx → EReal) : (⟨2, ![16384, w]⟩ : Shape).Idx → EReal :=
  fun i => x (ix2 (⟨(i 0).val, (i 0).isLt.trans (by decide : (16384 : ℕ) < 17408)⟩ : Fin 17408) (i 1 : Fin w))

/-- Those rows are a slice. -/
theorem slice_rows {w : ℕ} (x : (⟨2, ![17408, w]⟩ : Shape).Idx → EReal) (h : (⟨2, ![17408, w]⟩ : Shape).Slices ![0, 0] ⟨2, ![16384, w]⟩) :
    extractStridedSlice ⟨2, ![16384, w]⟩ ![0, 0] x h = lowRows x :=
  funext fun i => extractStridedSlice_apply ![0, 0] x h i _ fun a => match a with
    | ⟨0, _⟩ => by show (i 0).val = 0 + (i 0).val; omega
    | ⟨1, _⟩ => by show (i 1).val = 0 + (i 1).val; omega

end Cert.Attn

end
-- ==== Proof.GqaArray.lean ====
/- The grouped-query attention kernel's result array: every grid point's block is its block of `Attn.gqa` of the three
   arguments, and the blocks tile the array. -/
module

public import proofs.«01_k».proof.Proof.GqaBlock
public import proofs.«01_k».proof.Proof.GqaSpec

@[expose] public section

noncomputable section

namespace Cert.GqaVal

open Cert.GqaIdeal Cert.GqaIdeal.Gen Cert.Attn Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The doubled keys as the kernel finds them: each group's 64 lanes twice, side by side. -/
theorem V_keys (c : Dev nD) : V m c main_v5 = truncf (F := Ideal) .bf16 (concatenate S4x4352x256 2
    [⟨S4x4352x64, extractStridedSlice S4x4352x64 ![0, 0, 0] (m ((c : Thread nD τ).loc main_arg1)) slices_S4x4352x128_S4x4352x64_0_0_0⟩,
     ⟨S4x4352x64, extractStridedSlice S4x4352x64 ![0, 0, 0] (m ((c : Thread nD τ).loc main_arg1)) slices_S4x4352x128_S4x4352x64_0_0_0⟩,
     ⟨S4x4352x64, extractStridedSlice S4x4352x64 ![0, 0, 64] (m ((c : Thread nD τ).loc main_arg1)) slices_S4x4352x128_S4x4352x64_0_0_64⟩,
     ⟨S4x4352x64, extractStridedSlice S4x4352x64 ![0, 0, 64] (m ((c : Thread nD τ).loc main_arg1)) slices_S4x4352x128_S4x4352x64_0_0_64⟩]
    concatenates_S4x4352x64_S4x4352x64_S4x4352x64_S4x4352x64_S4x4352x256_d2) bitsLt_bf16_f32 := by
  unfold V
  after_results
  rfl

/-- The values as the kernel finds them: transposed. -/
theorem V_values (c : Dev nD) : V m c main_v7 = truncf (F := Ideal) .bf16
    (transpose S4x128x4352 [0, 2, 1] (m ((c : Thread nD τ).loc main_arg2)) transposes_S4x4352x128_S4x128x4352_0_2_1) bitsLt_bf16_f32 := by
  unfold V
  after_results

/-- Four pieces of 64 lanes read at a lane: piece `l / 64` at lane `l % 64`. -/
theorem concat4_apply (x y : S4x4352x64.Idx → EReal) (b : Fin 4) (key : Fin 4352) (l : Fin 256) :
    concatenate S4x4352x256 2 [⟨S4x4352x64, x⟩, ⟨S4x4352x64, x⟩, ⟨S4x4352x64, y⟩, ⟨S4x4352x64, y⟩]
        concatenates_S4x4352x64_S4x4352x64_S4x4352x64_S4x4352x64_S4x4352x256_d2 (ix3 b key l)
      = (if l.val < 128 then x else y) (ix3 b key ⟨l.val % 64, by omega⟩) := by
  have hi : ∀ a : Fin S4x4352x64.rank, a.cast (rfl : S4x4352x64.rank = S4x4352x256.rank) ≠ 2 →
      ((ix3 b key (⟨l.val % 64, by omega⟩ : Fin 64) : S4x4352x64.Idx) a).val = ((ix3 b key l : S4x4352x256.Idx) (a.cast rfl)).val := fun a ha => match a with
    | ⟨0, _⟩ => rfl
    | ⟨1, _⟩ => rfl
    | ⟨2, _⟩ => absurd rfl ha
  have hl : l.val / 64 = 0 ∨ l.val / 64 = 1 ∨ l.val / 64 = 2 ∨ l.val / 64 = 3 := by omega
  rcases hl with h | h | h | h
  · rw [if_pos (by omega)]
    exact concatenate_apply_piece (t := S4x4352x256) 2 _ _ _ 0 (by simp) S4x4352x64 x rfl rfl 0 rfl _ hi (by show 0 + l.val % 64 = l.val; omega)
  · rw [if_pos (by omega)]
    exact concatenate_apply_piece (t := S4x4352x256) 2 _ _ _ 1 (by simp) S4x4352x64 x rfl rfl 64 rfl _ hi (by show 64 + l.val % 64 = l.val; omega)
  · rw [if_neg (by omega)]
    exact concatenate_apply_piece (t := S4x4352x256) 2 _ _ _ 2 (by simp) S4x4352x64 y rfl rfl 128 rfl _ hi (by show 128 + l.val % 64 = l.val; omega)
  · rw [if_neg (by omega)]
    exact concatenate_apply_piece (t := S4x4352x256) 2 _ _ _ 3 (by simp) S4x4352x64 y rfl rfl 192 rfl _ hi (by show 192 + l.val % 64 = l.val; omega)

/-- The doubled keys at an index. -/
theorem V_keys_apply (c : Dev nD) (b : Fin 4) (key : Fin 4352) (l : Fin 256) :
    V m c main_v5 (ix3 b key l) = m ((c : Thread nD τ).loc main_arg1) (ix3 b key (⟨l.val / 128 * 64 + l.val % 64, by omega⟩ : Fin 128)) := by
  rw [V_keys]
  refine (concat4_apply _ _ b key l).trans ?_
  split
  · refine extractStridedSlice_apply _ _ _ _ _ fun a => match a with
      | ⟨0, _⟩ => by show b.val = 0 + b.val; omega
      | ⟨1, _⟩ => by show key.val = 0 + key.val; omega
      | ⟨2, _⟩ => by show l.val / 128 * 64 + l.val % 64 = 0 + l.val % 64; omega
  · refine extractStridedSlice_apply _ _ _ _ _ fun a => match a with
      | ⟨0, _⟩ => by show b.val = 0 + b.val; omega
      | ⟨1, _⟩ => by show key.val = 0 + key.val; omega
      | ⟨2, _⟩ => by show l.val / 128 * 64 + l.val % 64 = 64 + l.val % 64; omega

/-- The transposed values at an index. -/
theorem V_values_apply (c : Dev nD) (b : Fin 4) (d : Fin 128) (key : Fin 4352) :
    V m c main_v7 (ix3 b d key) = m ((c : Thread nD τ).loc main_arg2) (ix3 b key d) := by
  rw [V_values]
  exact transpose_apply [0, 2, 1] _ transposes_S4x4352x128_S4x128x4352_0_2_1 (ix3 b d key) (ix3 b key d) fun a => match a with
    | ⟨0, _⟩ => rfl
    | ⟨1, _⟩ => rfl
    | ⟨2, _⟩ => rfl

/-- Where the four windows' blocks sit at a grid point: the queries' and the result's at row block `t`, the keys' and values'
    at batch `t / 8`. -/
theorem index_facts : ∀ t : Fin cfg0.N, win0_0.index t 0 = t.val ∧ win0_0.index t 1 = 0
    ∧ win0_1.index t 0 = t.val / 8 ∧ win0_1.index t 1 = 0 ∧ win0_1.index t 2 = 0
    ∧ win0_2.index t 0 = t.val / 8 ∧ win0_2.index t 1 = 0 ∧ win0_2.index t 2 = 0
    ∧ win0_3.index t 0 = t.val ∧ win0_3.index t 1 = 0 :=
  (by decide +kernel : ∀ t : Fin grid0.N, win0_0.index t 0 = t.val ∧ win0_0.index t 1 = 0
    ∧ win0_1.index t 0 = t.val / 8 ∧ win0_1.index t 1 = 0 ∧ win0_1.index t 2 = 0
    ∧ win0_2.index t 0 = t.val / 8 ∧ win0_2.index t 1 = 0 ∧ win0_2.index t 2 = 0
    ∧ win0_3.index t 0 = t.val ∧ win0_3.index t 1 = 0)

/-- The number of grid points. -/
theorem point_lt (t : Fin cfg0.N) : t.val < 32 := lt_of_lt_of_eq t.isLt N_0

/-- Where an element of the result's block sits in the array. -/
theorem emb_out (t : Fin cfg0.N) (r : Fin 512) (l : Fin 512) :
    ((cfg0.win 3).blk t).view.emb (ix2 r l) = (ix2 (⟨t.val * 512 + r.val, by have := point_lt t; omega⟩ : Fin 16384) l : S16384x512.Idx) := by
  obtain ⟨_, _, _, _, _, _, _, _, e0, e1⟩ := index_facts t
  funext a; apply Fin.ext
  match a with
  | ⟨0, _⟩ => show win0_3.index t (0 : Fin 2) * 512 + 1 * r.val = t.val * 512 + r.val; omega
  | ⟨1, _⟩ => show win0_3.index t (1 : Fin 2) * 512 + 1 * l.val = l.val; omega

/-- The queries' block at an index. -/
theorem blk_q (c : Dev nD) (t : Fin cfg0.N) (r : Fin 512) (l : Fin 512) :
    iblk m c 0 t (ix2 r l) = lowRows (w := 512) (m ((c : Thread nD τ).loc main_arg0)) (ix2 (⟨t.val * 512 + r.val, by have := point_lt t; omega⟩ : Fin 16384) l) := by
  obtain ⟨e0, e1, _⟩ := index_facts t
  rw [← V_main_arg0 m c]
  show V m c main_arg0 (((cfg0.win 0).blk t).view.emb (ix2 r l)) = V m c main_arg0
    (ix2 (⟨t.val * 512 + r.val, by have := point_lt t; omega⟩ : Fin 17408) l)
  congr 1
  funext a; apply Fin.ext
  match a with
  | ⟨0, _⟩ => show win0_0.index t (0 : Fin 2) * 512 + 1 * r.val = t.val * 512 + r.val; omega
  | ⟨1, _⟩ => show win0_0.index t (1 : Fin 2) * 512 + 1 * l.val = l.val; omega

/-- The keys' block at an index. -/
theorem blk_k (c : Dev nD) (t : Fin cfg0.N) (key : Fin 4352) (l : Fin 256) :
    iblk m c 1 t (ix3 ⟨0, Nat.one_pos⟩ key l) = m ((c : Thread nD τ).loc main_arg1)
      (ix3 (⟨t.val / 8, by have := point_lt t; omega⟩ : Fin 4) key (⟨l.val / 128 * 64 + l.val % 64, by omega⟩ : Fin 128)) := by
  obtain ⟨_, _, e0, e1, e2, _⟩ := index_facts t
  rw [← V_keys_apply m c]
  show V m c main_v5 (((cfg0.win 1).blk t).view.emb (ix3 ⟨0, Nat.one_pos⟩ key l)) = _
  congr 1
  funext a; apply Fin.ext
  match a with
  | ⟨0, _⟩ => show win0_1.index t (0 : Fin 3) * 1 + 1 * 0 = t.val / 8; omega
  | ⟨1, _⟩ => show win0_1.index t (1 : Fin 3) * 4352 + 1 * key.val = key.val; omega
  | ⟨2, _⟩ => show win0_1.index t (2 : Fin 3) * 256 + 1 * l.val = l.val; omega

/-- The values' block at an index. -/
theorem blk_v (c : Dev nD) (t : Fin cfg0.N) (d : Fin 128) (key : Fin 4352) :
    iblk m c 2 t (ix3 ⟨0, Nat.one_pos⟩ d key) = m ((c : Thread nD τ).loc main_arg2)
      (ix3 (⟨t.val / 8, by have := point_lt t; omega⟩ : Fin 4) key d) := by
  obtain ⟨_, _, _, _, _, e0, e1, e2, _⟩ := index_facts t
  rw [← V_values_apply m c]
  show V m c main_v7 (((cfg0.win 2).blk t).view.emb (ix3 ⟨0, Nat.one_pos⟩ d key)) = _
  congr 1
  funext a; apply Fin.ext
  match a with
  | ⟨0, _⟩ => show win0_2.index t (0 : Fin 3) * 1 + 1 * 0 = t.val / 8; omega
  | ⟨1, _⟩ => show win0_2.index t (1 : Fin 3) * 128 + 1 * d.val = d.val; omega
  | ⟨2, _⟩ => show win0_2.index t (2 : Fin 3) * 4352 + 1 * key.val = key.val; omega

/-- The whole result: grouped-query attention of the three arguments. -/
abbrev result (c : Dev nD) : S16384x512.Idx → EReal := fun i =>
  gqa (lowRows (w := 512) (m ((c : Thread nD τ).loc main_arg0))) (m ((c : Thread nD τ).loc main_arg1)) (m ((c : Thread nD τ).loc main_arg2)) (i 0) (i 1)

/-- What a grid point writes back is its block of the whole result, at finite queries and keys. -/
theorem flushed_eq (c : Dev nD) (hq : Reals (s := S16384x512) (lowRows (w := 512) (m ((c : Thread nD τ).loc main_arg0))))
    (hk : Reals (s := S4x4352x128) (m ((c : Thread nD τ).loc main_arg1))) (t : Fin cfg0.N) :
    (dats m 0 c).flushed 3 t = ((cfg0.win 3).blk t).view.read (Elt Ideal) (result m c) := by
  have ht := point_lt t
  rw [Value.flushed3]
  funext y
  show out0_3 (iblk m c 0 t) (iblk m c 1 t) (iblk m c 2 t) y = result m c (((cfg0.win 3).blk t).view.emb y)
  rw [out_apply (iblk m c 0 t) (iblk m c 1 t) (iblk m c 2 t)
    (fun r l => (lowRows (w := 512) (m ((c : Thread nD τ).loc main_arg0)) (ix2 (⟨t.val * 512 + r.val, by omega⟩ : Fin 16384) l) : EReal).toReal)
    (fun key l => (m ((c : Thread nD τ).loc main_arg1)
      (ix3 (⟨t.val / 8, by omega⟩ : Fin 4) key (⟨l.val / 128 * 64 + l.val % 64, by omega⟩ : Fin 128)) : EReal).toReal)
    (fun r l => (blk_q m c t r l).trans (hq _)) (fun key l => (blk_k m c t key l).trans (hk _)) y]
  obtain ⟨r, l, rfl⟩ : ∃ r l, y = ix2 r l := ⟨y 0, y 1, eq_ix2 y⟩
  rw [emb_out]
  show blockVal _ _ (iblk m c 2 t) l = gqa _ _ _ _ l
  unfold blockVal gqa
  have eb : (⟨t.val / 8, by omega⟩ : Fin 4) = ⟨(t.val * 512 + r.val) / 4096, by omega⟩ := Fin.ext (by show t.val / 8 = (t.val * 512 + r.val) / 4096; omega)
  congr 1
  · funext key
    congr 1
    refine Finset.sum_congr rfl fun e _ => congrArg₂ (· * ·) (congrArg (fun i => EReal.toReal (m ((c : Thread nD τ).loc main_arg1) i)) ?_) rfl
    exact congrArg₂ (fun b j => (ix3 b key j : S4x4352x128.Idx)) eb (Fin.ext (by
      show (l.val / 256 * 128 + l.val / 64 % 2 * 64 + e.val) / 128 * 64 + (l.val / 256 * 128 + l.val / 64 % 2 * 64 + e.val) % 64 = l.val / 256 * 64 + e.val
      omega))
  · funext key
    rw [blk_v]
    exact congrArg (fun b => m ((c : Thread nD τ).loc main_arg2) (ix3 b key _)) eb

/-- Every index of the result is in some grid point's block. -/
theorem cover (i : S16384x512.Idx) : ∃ t : Fin cfg0.N, (cfg0.win 3).flush t = true ∧ i ∈ ((cfg0.win 3).blk t).view.set := by
  have h0 : (i 0).val < 16384 := (i 0).isLt
  have hN : cfg0.N = 32 := N_0
  refine ⟨⟨(i 0).val / 512, by omega⟩, flush0_3 _, ?_⟩
  have h := ((cfg0.win 3).blk (⟨(i 0).val / 512, by omega⟩ : Fin cfg0.N)).view.emb_mem_set (ix2 (⟨(i 0).val % 512, by omega⟩ : Fin 512) (i 1 : Fin 512))
  refine (congrArg (· ∈ _) (Eq.trans ?_ (emb_out (⟨(i 0).val / 512, by omega⟩ : Fin cfg0.N) (⟨(i 0).val % 512, by omega⟩ : Fin 512) (i 1)).symm)).mpr h
  refine (eq_ix2 i).trans (congrArg (fun a => (ix2 a (i 1) : S16384x512.Idx)) (Fin.ext ?_))
  show (i 0).val = (i 0).val / 512 * 512 + (i 0).val % 512
  omega

/-- **The result array** after the run, at finite queries and keys: grouped-query attention of the arguments. -/
theorem final (c : Dev nD) (hq : Reals (s := S16384x512) (lowRows (w := 512) (m ((c : Thread nD τ).loc main_arg0))))
    (hk : Reals (s := S4x4352x128) (m ((c : Thread nD τ).loc main_arg1))) : (dats m 0 c).arrAt 3 cfg0.N = result m c :=
  (dats m 0 c).arrAt_eq_of_cover 3 (result m c) (fun t _ => flushed_eq m c hq hk t) cover

end Cert.GqaVal

end
-- ==== Proof.HostSoftmax.lean ====
/- The row maximum of host scores: a real number when the scores are. -/
module

public import proofs.«01_k».proof.Proof.Softmax
public import Idealize.ShloMosaic.Lib.KernelVsHost
public import Idealize.ShloMosaic.Lib.ReduceAll
public import Idealize.ShloMosaic.Lib.ValueIdx
public import Idealize.ShloMosaic.PureOps.Ideal.Laws

@[expose] public section

noncomputable section

namespace Cert.Attn

open Idealize.ShloMosaic Idealize.ShloMosaic.ValueIdx

/-- A host maximum along one axis, over entries that are reals, is a real. -/
theorem hostMax_real {s t u : Shape} {a : Fin s.rank} (x : FVec Ideal s .f32) (h : s.ReducesTo [a] t) (hu : 0 < u.numel)
    (h' : s.Reduces [a] t) (j : t.Idx) (hn : 0 < s.size a) (f : Fin (s.size a) → ℝ) (hf : ∀ k, x (h'.lift j k) = (f k : EReal)) :
    ∃ M : ℝ, Host.reduce FloatOps.maximumf x (constant u .f32 0xFF800000#32) h hu j = (M : EReal) := by
  rw [hostReduce_maximumf_eq_multiReduction x 0xFF800000#32 h hu h' (.inl rfl) rfl]
  refine (Ideal.multiReduction_maximumf_single x 0xFF800000#32 h' (.inl rfl) rfl j).symm ▸ ?_
  show ∃ M : ℝ, (Finset.univ : Finset (Fin (s.size a))).fold max (Ideal.ofBits .f32 0xFF800000#32) (x ∘ h'.lift j) = _
  rw [ofBits_neg_inf]
  exact fold_max_real hn _ f hf

/-- An extended real whose absolute value is below infinity is a real. -/
theorem real_of_abs_lt (a : EReal) (h : Ideal.cmp .olt (max a (-a)) ⊤ = 1#1) : a = (a.toReal : EReal) := by
  have h' : max a (-a) < ⊤ := by
    by_contra hn
    simp [Ideal.cmp, hn] at h
  refine (EReal.coe_toReal (fun e => ?_) (fun e => ?_)).symm
  · subst e; exact absurd (lt_of_le_of_lt (le_max_left _ _) h') (lt_irrefl _)
  · subst e; exact absurd (lt_of_le_of_lt (le_max_right _ _) h') (by simp)

/-- Where a program's test that every absolute value is below infinity answers yes, every entry is a real. -/
theorem reals_of_all {s t u w : Shape} {axes : List (Fin s.rank)} {d : Fin w.rank → Fin s.rank} [Subsingleton t.Idx] (x : FVec Ideal s .f32)
    (init : u.Idx → BitVec 1) (h : s.ReducesTo axes t) (hu : 0 < u.numel) (hb : w.BroadcastsInDim s d) (j : t.Idx)
    (e : Host.reduce IntOp.andi (cmpf .olt (Host.absf x) (broadcastInDim s d hb (constant w .f32 0x7F800000#32))) init h hu j = 1#1) (i : s.Idx) :
    x i = (EReal.toReal (x i) : EReal) := by
  have hi := Host.reduce_andi_all _ init h hu j e i
  have h1 : Ideal.cmp .olt (max (x i) (-(x i))) (Ideal.ofBits .f32 0x7F800000#32) = 1#1 := hi
  rw [ofBits_inf] at h1
  exact real_of_abs_lt _ h1

end Cert.Attn

end
-- ==== Proof.GqaRefValue.lean ====
/- The grouped-query attention reference, index by index: at finite queries and keys every element is `Attn.gqa` of the
   three arguments. -/
module

public import proofs.«01_k».proof.Proof.GqaSpec
public import proofs.«01_k».proof.Proof.HostSoftmax
public import proofs.«01_k».proof.Proof.Gen.GqaRefIdeal.Read

@[expose] public section

noncomputable section

namespace Cert.GqaRefVal

open Cert.GqaRefIdeal Cert.GqaRefIdeal.Gen Cert.GqaRefIdeal.Read Cert.Attn Idealize.ShloMosaic Idealize.ShloMosaic.ValueIdx
open scoped BigOperators

variable (x : S17408x512.Idx → EReal) (q : S16384x512.Idx → EReal) (k v : S4x4352x128.Idx → EReal)

/-- The real score of a key for one batch, group, head of the group and query. -/
def score (b : Fin 4) (g : Fin 2) (h : Fin 4) (r : Fin 4096) (key : Fin 4352) : ℝ :=
  (∑ e : Fin 64, (k (ix3 b key (⟨g.val * 64 + e.val, by omega⟩ : Fin 128))).toReal
    * (q (ix2 (⟨b.val * 4096 + r.val, by omega⟩ : Fin 16384) (⟨(g.val * 4 + h.val) * 64 + e.val, by omega⟩ : Fin 512))).toReal) * (1 / 8)

/-- The scaled scores are these reals. -/
theorem scores_apply (hq : Reals (lowRows x)) (hk : Reals k) (b : Fin 4) (g : Fin 2) (h : Fin 4) (r : Fin 4096) (key : Fin 4352) :
    val_main_v7 (F := Ideal) x k (ix5 b g h r key) = (score (lowRows x) k b g h r key : EReal) := by
  rw [val_main_v7_apply, val_main_v5_apply, val_main_v6_apply, val_main_cst_apply, val_main_v4_apply]
  show (∑ _, _) * Ideal.ofBits .f32 0x3E000000#32 = _
  rw [ofBits_eighth, sum_coe_mul _ _ (fun e : Fin 64 => (k (ix3 b key (⟨g.val * 64 + e.val, by omega⟩ : Fin 128))).toReal)
    (fun e => (lowRows x (ix2 (⟨b.val * 4096 + r.val, by omega⟩ : Fin 16384) (⟨(g.val * 4 + h.val) * 64 + e.val, by omega⟩ : Fin 512))).toReal)
    (fun e => ?_) (fun e => ?_), score, ← EReal.coe_mul]
  · rw [val_main_v2_apply, ← hk]
    refine congrArg k (funext fun a => Fin.ext ?_)
    match a with
    | ⟨0, _⟩ => show (((b.val * 4352 + key.val) * 2 + g.val) * 64 + e.val) / 557056 = b.val; omega
    | ⟨1, _⟩ => show (((b.val * 4352 + key.val) * 2 + g.val) * 64 + e.val) / 128 % 4352 = key.val; omega
    | ⟨2, _⟩ => show (((b.val * 4352 + key.val) * 2 + g.val) * 64 + e.val) % 128 = g.val * 64 + e.val; omega
  · rw [val_main_v1_apply, val_main_v0_apply, ← hq]
    refine congrArg x (funext fun a => Fin.ext ?_)
    match a with
    | ⟨0, _⟩ => show ((((b.val * 4096 + r.val) * 2 + g.val) * 4 + h.val) * 64 + e.val) / 512 = b.val * 4096 + r.val; omega
    | ⟨1, _⟩ => show ((((b.val * 4096 + r.val) * 2 + g.val) * 4 + h.val) * 64 + e.val) % 512 = (g.val * 4 + h.val) * 64 + e.val; omega

/-- The keys' axis is the one the row maximum and the row sum run over. -/
theorem reduces_keys : S4x2x4x4096x4352.Reduces [4] S4x2x4x4096 := by decide

/-- The scores along a row, as the row maximum reads them. -/
theorem scores_lift (hq : Reals (lowRows x)) (hk : Reals k) (b : Fin 4) (g : Fin 2) (h : Fin 4) (r : Fin 4096) (key : Fin 4352) :
    val_main_v7 (F := Ideal) x k (reduces_keys.lift (ix4 b g h r) key) = (score (lowRows x) k b g h r key : EReal) := by
  rw [← scores_apply x k hq hk]
  refine congrArg (val_main_v7 (F := Ideal) x k) (funext fun a => Fin.ext ?_)
  match a with
  | ⟨0, _⟩ => rfl
  | ⟨1, _⟩ => rfl
  | ⟨2, _⟩ => rfl
  | ⟨3, _⟩ => rfl
  | ⟨4, _⟩ => rfl

/-- The row's maximum is a real number. -/
theorem max_real (hq : Reals (lowRows x)) (hk : Reals k) (b : Fin 4) (g : Fin 2) (h : Fin 4) (r : Fin 4096) :
    ∃ M : ℝ, val_main_v8 (F := Ideal) x k (ix4 b g h r) = (M : EReal) := by
  unfold val_main_v8 val_main_cst_0
  exact hostMax_real (val_main_v7 (F := Ideal) x k) reducesTo_S4x2x4x4096x4352_S4x2x4x4096_d4 h_S_ reduces_keys (ix4 b g h r)
    (Nat.succ_pos 4351) (score (lowRows x) k b g h r) (scores_lift x k hq hk b g h r)

/-- The row's shift is a real number. -/
theorem shift_real (hq : Reals (lowRows x)) (hk : Reals k) (b : Fin 4) (g : Fin 2) (h : Fin 4) (r : Fin 4096) :
    ∃ M : ℝ, ∀ key, val_main_v12 (F := Ideal) x k (ix5 b g h r key) = (M : EReal) := by
  obtain ⟨M, hM⟩ := max_real x k hq hk b g h r
  refine ⟨M, fun key => ?_⟩
  rw [val_main_v12_apply, val_main_v11_apply, val_main_v10_apply, val_main_v9_apply, val_main_cst_1_apply]
  have e : idx_main_v11 (idx_main_v12 (ix5 b g h r key)) = ix4 b g h r := funext fun a => Fin.ext (by
    match a with
    | ⟨0, _⟩ => rfl
    | ⟨1, _⟩ => rfl
    | ⟨2, _⟩ => rfl
    | ⟨3, _⟩ => rfl)
  rw [e, hM]
  show max (Ideal.ofBits .f32 0xFF800000#32) (M : EReal) = _
  rw [ofBits_neg_inf, max_eq_right bot_le]

/-- The exponentials of a row. -/
theorem exps_apply (hq : Reals (lowRows x)) (hk : Reals k) (b : Fin 4) (g : Fin 2) (h : Fin 4) (r : Fin 4096) :
    ∃ M : ℝ, ∀ key, val_main_v14 (F := Ideal) x k (ix5 b g h r key) = Ideal.exp ((score (lowRows x) k b g h r key : EReal) - (M : EReal)) := by
  obtain ⟨M, hM⟩ := shift_real x k hq hk b g h r
  refine ⟨M, fun key => ?_⟩
  rw [val_main_v14_apply, val_main_v13_apply, hM, scores_apply x k hq hk]
  rfl

/-- A row's weighted sum of values is the attention over that row's scores. -/
theorem heads_apply (hq : Reals (lowRows x)) (hk : Reals k) (b : Fin 4) (g : Fin 2) (d : Fin 64) (h : Fin 4) (r : Fin 4096) :
    val_main_v19 (F := Ideal) x k v (ix5 b g d h r) = attn (score (lowRows x) k b g h r) fun key => v (ix3 b key (⟨g.val * 64 + d.val, by omega⟩ : Fin 128)) := by
  obtain ⟨M, hM⟩ := exps_apply x k hq hk b g h r
  rw [val_main_v19_apply, ← row_exp (by decide) (score (lowRows x) k b g h r) _ M (fun key => val_main_v14 (F := Ideal) x k (ix5 b g h r key)) hM]
  refine Finset.sum_congr rfl fun key _ => congrArg₂ (· * ·) ?_ ?_
  · rw [val_main_v3_apply]
    refine congrArg v (funext fun a => Fin.ext ?_)
    match a with
    | ⟨0, _⟩ => show (((b.val * 4352 + key.val) * 2 + g.val) * 64 + d.val) / 557056 = b.val; omega
    | ⟨1, _⟩ => show (((b.val * 4352 + key.val) * 2 + g.val) * 64 + d.val) / 128 % 4352 = key.val; omega
    | ⟨2, _⟩ => show (((b.val * 4352 + key.val) * 2 + g.val) * 64 + d.val) % 128 = g.val * 64 + d.val; omega
  · rw [val_main_v18_apply, val_main_v17_apply, val_main_v16_apply, val_main_v15_apply, val_main_cst_2_apply]
    have hr : ∀ key : Fin 4352, (ridx_main_v19 (ix5 b g d h r) key) = ix5 b g h r key := fun key => funext fun a => Fin.ext (by
      match a with
      | ⟨0, _⟩ => rfl
      | ⟨1, _⟩ => rfl
      | ⟨2, _⟩ => rfl
      | ⟨3, _⟩ => rfl
      | ⟨4, _⟩ => rfl)
    rw [hr]
    show Ideal.div _ (Ideal.ofBits .f32 0x00000000#32 + _) = _
    rw [Ideal.ofBits_zero_f32, zero_add]
    refine congrArg (Ideal.div _) (Finset.sum_congr rfl fun j _ => congrArg (val_main_v14 (F := Ideal) x k) (funext fun a => Fin.ext ?_))
    match a with
    | ⟨0, _⟩ => rfl
    | ⟨1, _⟩ => rfl
    | ⟨2, _⟩ => rfl
    | ⟨3, _⟩ => rfl
    | ⟨4, _⟩ => rfl

/-- **The reference's result** at an index, at finite queries and keys. -/
theorem value (hq : Reals (lowRows x)) (hk : Reals k) (r : Fin 16384) (c : Fin 512) :
    val_main_v22 (F := Ideal) x k v (ix2 r c) = gqa (lowRows x) k v r c := by
  rw [val_main_v22_apply, val_main_v21_apply, val_main_v20_apply]
  have e : idx_main_v20 (idx_main_v21 (ix2 r c)) = ix5 (⟨r.val / 4096, by omega⟩ : Fin 4) (⟨c.val / 256, by omega⟩ : Fin 2) (⟨c.val % 64, by omega⟩ : Fin 64)
      (⟨c.val / 64 % 4, by omega⟩ : Fin 4) (⟨r.val % 4096, by omega⟩ : Fin 4096) := funext fun a => Fin.ext (by
    match a with
    | ⟨0, _⟩ => show (r.val * 512 + c.val) / 2097152 = r.val / 4096; omega
    | ⟨1, _⟩ => show (r.val * 512 + c.val) / 256 % 2 = c.val / 256; omega
    | ⟨2, _⟩ => show (r.val * 512 + c.val) % 64 = c.val % 64; omega
    | ⟨3, _⟩ => show (r.val * 512 + c.val) / 64 % 4 = c.val / 64 % 4; omega
    | ⟨4, _⟩ => show (r.val * 512 + c.val) / 512 % 4096 = r.val % 4096; omega)
  rw [e]
  refine (heads_apply x k v hq hk _ _ _ _ _).trans ?_
  unfold gqa score
  congr 1
  funext key
  congr 1
  refine Finset.sum_congr rfl fun j _ => congrArg₂ (· * ·) rfl (congrArg (fun i => EReal.toReal (lowRows x i)) ?_)
  refine congrArg₂ ix2 (Fin.ext ?_) (Fin.ext ?_)
  · show r.val / 4096 * 4096 + r.val % 4096 = r.val; omega
  · show (c.val / 256 * 4 + c.val / 64 % 4) * 64 + j.val = c.val / 64 * 64 + j.val; omega

end Cert.GqaRefVal

end
-- ==== Proof.GqaPre.lean ====
/- The precondition of the grouped-query attention claim, read back: every query and every key is a real number. -/
module

public import proofs.«01_k».proof.Pre_finite_qk
public import proofs.«01_k».proof.Proof.GqaSpec
public import proofs.«01_k».proof.Proof.HostSoftmax

@[expose] public section

noncomputable section

namespace Cert.GqaPre

open Cert.Pre_finite_qk Cert.Attn Idealize.ShloMosaic Idealize.ShloMosaic.ValueIdx

/-- The side conditions the printed predicate states. -/
instance facts : Cert.Pre_finite_qk.Facts where
  slices_S17408x512_S16384x512_0_0 := by decide
  bcast_S_S16384x512 := by decide
  reducesTo_S16384x512_S_d0_1 := by decide
  h_S_ := by decide
  bcast_S_S4x4352x128 := by decide
  reducesTo_S4x4352x128_S_d0_1_2 := by decide

/-- A scalar has one index. -/
instance one_index : Subsingleton S_.Idx := ⟨fun _ _ => funext fun a => a.elim0⟩

/-- Where the predicate holds, the queries and the keys are reals. -/
theorem reals (q : FVec Ideal S17408x512 .f32) (k v : FVec Ideal S4x4352x128 .f32)
    (h : Cert.Pre_finite_qk.fn (F := Ideal) q k v = fun _ => 1#1) : Reals (lowRows q) ∧ Reals k := by
  have h0 := congrFun h ix0
  obtain ⟨hq, hk⟩ := IntOp.andi_eq_one.mp h0
  have hr : Reals (extractStridedSlice S16384x512 ![0, 0] q facts.slices_S17408x512_S16384x512_0_0) := fun i => reals_of_all _ _ _ _ _ ix0 hq i
  rw [slice_rows] at hr
  exact ⟨hr, fun i => reals_of_all k _ _ _ _ ix0 hk i⟩

end Cert.GqaPre

end
-- ==== Proof.GqaClaim.lean ====
/- The grouped-query attention claim: kernel and reference end at the same array. -/
module

public import proofs.«01_k».proof.Defs
public import proofs.«01_k».proof.Proof.GqaArray
public import proofs.«01_k».proof.Proof.GqaRefValue
public import proofs.«01_k».proof.Proof.GqaPre
public import proofs.«01_k».proof.Proof.Gen.Gqa.Frame
public import Idealize.ShloMosaic.Adequacy
public import Idealize.ShloMosaic.Init

@[expose] public section

noncomputable section

namespace Cert.GqaClaim

open Idealize.ShloMosaic Idealize.SL.Sem Cert.Attn Idealize.ShloMosaic.ValueIdx

/-- The reference's frame: its arguments end unchanged, and it declares no semaphore. -/
theorem frame_ref (m : (ℓ : Loc GqaRefIdeal.nD GqaRefIdeal.τ GqaRefIdeal.sig) → Buf (Elt Ideal) ℓ) (ρ : Dev GqaRefIdeal.nD → PrngReg) :
    θ_run (GqaRefIdeal.defs (F := Ideal)) (onTc (τ := GqaRefIdeal.τ) (GqaRefIdeal.main (F := Ideal))) ⟨m, fun _ => 0, ρ⟩ (fun r =>
      (∀ c : Dev GqaRefIdeal.nD, r.2.mem ((c.tc : Thread GqaRefIdeal.nD GqaRefIdeal.τ).loc GqaRefIdeal.main_arg0) = m ((c.tc : Thread GqaRefIdeal.nD GqaRefIdeal.τ).loc GqaRefIdeal.main_arg0)
        ∧ r.2.mem ((c.tc : Thread GqaRefIdeal.nD GqaRefIdeal.τ).loc GqaRefIdeal.main_arg1) = m ((c.tc : Thread GqaRefIdeal.nD GqaRefIdeal.τ).loc GqaRefIdeal.main_arg1)
        ∧ r.2.mem ((c.tc : Thread GqaRefIdeal.nD GqaRefIdeal.τ).loc GqaRefIdeal.main_arg2) = m ((c.tc : Thread GqaRefIdeal.nD GqaRefIdeal.τ).loc GqaRefIdeal.main_arg2))
      ∧ r.2.sem = fun _ => 0) :=
  (θ_run _ _ _).mono (fun r h => ⟨fun c => (h c).2, sem_eq_zero_of_no_sems (by decide) r.2⟩) (GqaRefIdeal.Value.run m ρ)

/-- At finite queries and keys the kernel's array and the reference's are both `Attn.gqa` of the arguments. -/
theorem algebraic : Cert.algebraic_GqaIdeal_GqaRefIdeal_pre_finite_qk (hGqaIdeal := GqaIdeal.Gen.facts) (hGqaRefIdeal := GqaRefIdeal.Gen.facts)
    (hPre_finite_qk := GqaPre.facts) := by
  intro m g m' g' hpre hargs
  have hfin := fun c => GqaPre.reals _ _ _ (hpre c)
  refine ⟨fun c => GqaVal.result m c, (θ_run _ _ _).mono (fun r h c => ?_) (GqaIdeal.Value.run_blocks m g),
    (θ_run _ _ _).mono (fun r h c => ?_) (GqaRefIdeal.Value.run m' g')⟩
  · obtain ⟨h0, h1⟩ := h c
    exact ⟨h0.trans (GqaVal.final m c (hfin c).1 (hfin c).2), h1⟩
  · obtain ⟨h0, h1⟩ := h c
    obtain ⟨a0, a1, a2⟩ := hargs c
    refine ⟨h0.trans ?_, h1⟩
    rw [a0, a1, a2]
    refine (GqaRefIdeal.Read.val_main_v22_eq (F := Ideal) _ _ _).trans (funext fun i => ?_)
    refine (congrArg _ (eq_ix2 i)).trans ?_
    exact GqaRefVal.value _ _ _ (hfin c).1 (hfin c).2 (i 0) (i 1)

end Cert.GqaClaim

end
-- ==== Proof.UpImports.lean ====
/- The generated readings the matmul call's proof builds on. -/
module

public import proofs.«01_k».proof.Proof.Gen.Up.Skeleton
public import proofs.«01_k».proof.Proof.Gen.Up.Launch
public import proofs.«01_k».proof.Proof.Gen.UpIdeal.Skeleton
public import proofs.«01_k».proof.Proof.Gen.UpIdeal.Launch
public import proofs.«01_k».proof.Proof.Gen.UpRefIdeal.Run
public import proofs.«01_k».proof.Proof.Gen.UpRefIdeal.Read
-- ==== Proof.UpRuns.lean ====
/- The matmul call's body, run along each of its four control paths. -/
module

public import proofs.«01_k».proof.Proof.UpImports
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.UpIdeal.Hand

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two prefetched tables and the two scratch panels the body is handed, whole. -/
abbrev tbE : Memref sig .tc .smem S72 .i32 := Memref.whole main_arg1
abbrev tbU : Memref sig .tc .smem S1 .i32 := Memref.whole main_arg2
abbrev scG : Memref sig .tc .vmem S2048x512 .bf16 := Memref.whole cc0_scratch0
abbrev scU : Memref sig .tc .vmem S2048x512 .bf16 := Memref.whole cc0_scratch1

/-- The expert of the row tile of point `i`, as the body loads it. -/
abbrev wHere (T0 : S72.Idx → Elt F .i32) (i : grid0.Coords) : Elt F .i32 :=
  View.readAt (Elt F) tbE.view (Rect.unit (s := S72) (k0_off1 i) S1.size (k0_off1_inb i)).toLoadRect T0 (Shape.Idx.first (numel1_S1.symm ▸ Nat.one_pos))
/-- The expert of the row tile before, as the body loads it. -/
abbrev wPrev (T0 : S72.Idx → Elt F .i32) (i : grid0.Coords) : Elt F .i32 :=
  View.readAt (Elt F) tbE.view (Rect.unit (s := S72) (k0_off2 i) S1.size (k0_off2_inb i)).toLoadRect T0 (Shape.Idx.first (numel1_S1.symm ▸ Nat.one_pos))
/-- The number of row tiles in use, as the body loads it. -/
abbrev wUsed (T1 : S1.Idx → Elt F .i32) : Elt F .i32 :=
  View.readAt (Elt F) tbU.view (Rect.unit (s := S1) ![0] S1.size inb_S1_S1_0).toLoadRect T1 (Shape.Idx.first (numel1_S1.symm ▸ Nat.one_pos))
/-- The body's decision to cast the weight panel anew: at a column's first row tile, or where the expert changes. -/
abbrev cNew (T0 : S72.Idx → Elt F .i32) (i : grid0.Coords) : BitVec 1 :=
  Scalar.cmpi .ne (Scalar.extui (Scalar.ori (Scalar.cmpi .eq (BitVec.ofNat 32 (i 1).val) 0#32) (Scalar.cmpi .ne (wHere T0 i) (wPrev T0 i))) : BitVec 32) 0#32

/-- What a run of the body from given blocks, tables and panels shows: it ends with the inputs and tables as they were,
    the output's staging buffer written by `o`, and the panels at `p` and `q`. -/
def Runs (c : Dev nD) (i : grid0.Coords) (arg4 : Memref sig .tc .vmem S512x2048 .bf16) (harg4 : arg4.IsWhole) (arg5 : Memref sig .tc .vmem S1x2048x512 .f32) (harg5 : arg5.IsWhole)
    (arg6 : Memref sig .tc .vmem S1x2048x512 .f32) (harg6 : arg6.IsWhole) (arg7 : Memref sig .tc .vmem S512x512 .bf16) (harg7 : arg7.IsWhole)
    (T0 : S72.Idx → Elt F .i32) (T1 : S1.Idx → Elt F .i32) (x0 : S512x2048.Idx → Elt F .bf16) (x1 x2 : S1x2048x512.Idx → Elt F .f32)
    (a : Buf (Elt F) ((c : Thread nD τ).loc cc0_scratch0)) (b : Buf (Elt F) ((c : Thread nD τ).loc cc0_scratch1))
    (o : List (View.Piece (Elt F) S512x512 .bf16)) (p : Buf (Elt F) ((c : Thread nD τ).loc cc0_scratch0)) (q : Buf (Elt F) ((c : Thread nD τ).loc cc0_scratch1)) : Prop :=
  ∀ K : PUnit → sProp 𝕄,
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (tbE.view.loc (c : Thread nD τ) ↦{fullShare.right} T0)
      ∗ (tbU.view.loc (c : Thread nD τ) ↦{fullShare.right} T1)
      ∗ (∃ d, owns (c : Thread nD τ) arg7 fullShare d)
      ∗ (scG.view.loc (c : Thread nD τ) ↦{fullShare} a)
      ∗ (scU.view.loc (c : Thread nD τ) ↦{fullShare} b)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbE.view.loc (c : Thread nD τ) ↦{fullShare.right} T0)
          ∗ (tbU.view.loc (c : Thread nD τ) ↦{fullShare.right} T1)
          ∗ (∃ f, arg7.view.loc (c : Thread nD τ) ↦[arg7.view.set]{fullShare} arg7.view.writes (Elt F) f o)
          ∗ (scG.view.loc (c : Thread nD τ) ↦{fullShare} p)
          ∗ (scU.view.loc (c : Thread nD τ) ↦{fullShare} q)) -∗ K ⟨⟩))
      ⊢ wp frame (wpE (defs₀ (F := F)) Variants.none c none) Set.univ (cc0_matmul_swiglu i tbE (Memref.isWhole_whole _) tbU (Memref.isWhole_whole _) arg4 harg4 arg5 harg5 arg6 harg6 arg7 harg7 scG (Memref.isWhole_whole _) scU (Memref.isWhole_whole _)) K

/-- The run, with what it leaves. -/
abbrev Found (c : Dev nD) (i : grid0.Coords) (arg4 : Memref sig .tc .vmem S512x2048 .bf16) (harg4 : arg4.IsWhole) (arg5 : Memref sig .tc .vmem S1x2048x512 .f32) (harg5 : arg5.IsWhole)
    (arg6 : Memref sig .tc .vmem S1x2048x512 .f32) (harg6 : arg6.IsWhole) (arg7 : Memref sig .tc .vmem S512x512 .bf16) (harg7 : arg7.IsWhole)
    (T0 : S72.Idx → Elt F .i32) (T1 : S1.Idx → Elt F .i32) (x0 : S512x2048.Idx → Elt F .bf16) (x1 x2 : S1x2048x512.Idx → Elt F .f32)
    (a : Buf (Elt F) ((c : Thread nD τ).loc cc0_scratch0)) (b : Buf (Elt F) ((c : Thread nD τ).loc cc0_scratch1)) :=
  Σ' (o : List (View.Piece (Elt F) S512x512 .bf16)) (p : Buf (Elt F) ((c : Thread nD τ).loc cc0_scratch0)),
    { q : Buf (Elt F) ((c : Thread nD τ).loc cc0_scratch1) // Runs c i arg4 harg4 arg5 harg5 arg6 harg6 arg7 harg7 T0 T1 x0 x1 x2 a b o p q }

set_option backward.proofsInPublic true in
set_option maxHeartbeats 8000000 in
/-- A tile in use whose panel is cast anew. -/
noncomputable def runNewUsed (c : Dev nD) (i : grid0.Coords) (arg4 : Memref sig .tc .vmem S512x2048 .bf16) (harg4 : arg4.IsWhole) (arg5 : Memref sig .tc .vmem S1x2048x512 .f32) (harg5 : arg5.IsWhole)
    (arg6 : Memref sig .tc .vmem S1x2048x512 .f32) (harg6 : arg6.IsWhole) (arg7 : Memref sig .tc .vmem S512x512 .bf16) (harg7 : arg7.IsWhole)
    (T0 : S72.Idx → Elt F .i32) (T1 : S1.Idx → Elt F .i32) (x0 : S512x2048.Idx → Elt F .bf16) (x1 x2 : S1x2048x512.Idx → Elt F .f32)
    (a : Buf (Elt F) ((c : Thread nD τ).loc cc0_scratch0)) (b : Buf (Elt F) ((c : Thread nD τ).loc cc0_scratch1))
    (h0 : cNew T0 i = 1#1) (h2 : k0_cond2 i (wUsed T1) = 1#1) (h3 : ¬ k0_cond3 i (wUsed T1) = 1#1) :
    Found c i arg4 harg4 arg5 harg5 arg6 harg6 arg7 harg7 T0 T1 x0 x1 x2 a b :=
  ⟨_, _, _, fun K => by
    unfold owns
    rw [cc0_matmul_swiglu_eq_skeleton]; unfold cc0_matmul_swiglu_skel
    iintro ⟨H0, H1, H2, HT0, HT1, ⟨%d3, %f3, -, HO3⟩, HS0, HS1, Hk⟩
    have hS0 : scG.IsWhole := Memref.isWhole_whole _
    have hS1 : scU.IsWhole := Memref.isWhole_whole _
    have hT0 : tbE.IsWhole := Memref.isWhole_whole _
    have hT1 : tbU.IsWhole := Memref.isWhole_whole _
    sl_exec! (disch := first | exact h0 | exact h2 | exact h3)
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

set_option backward.proofsInPublic true in
set_option maxHeartbeats 8000000 in
/-- A tile not in use whose panel is cast anew. -/
noncomputable def runNewFree (c : Dev nD) (i : grid0.Coords) (arg4 : Memref sig .tc .vmem S512x2048 .bf16) (harg4 : arg4.IsWhole) (arg5 : Memref sig .tc .vmem S1x2048x512 .f32) (harg5 : arg5.IsWhole)
    (arg6 : Memref sig .tc .vmem S1x2048x512 .f32) (harg6 : arg6.IsWhole) (arg7 : Memref sig .tc .vmem S512x512 .bf16) (harg7 : arg7.IsWhole)
    (T0 : S72.Idx → Elt F .i32) (T1 : S1.Idx → Elt F .i32) (x0 : S512x2048.Idx → Elt F .bf16) (x1 x2 : S1x2048x512.Idx → Elt F .f32)
    (a : Buf (Elt F) ((c : Thread nD τ).loc cc0_scratch0)) (b : Buf (Elt F) ((c : Thread nD τ).loc cc0_scratch1))
    (h0 : cNew T0 i = 1#1) (h2 : ¬ k0_cond2 i (wUsed T1) = 1#1) (h3 : k0_cond3 i (wUsed T1) = 1#1) :
    Found c i arg4 harg4 arg5 harg5 arg6 harg6 arg7 harg7 T0 T1 x0 x1 x2 a b :=
  ⟨_, _, _, fun K => by
    unfold owns
    rw [cc0_matmul_swiglu_eq_skeleton]; unfold cc0_matmul_swiglu_skel
    iintro ⟨H0, H1, H2, HT0, HT1, ⟨%d3, %f3, -, HO3⟩, HS0, HS1, Hk⟩
    have hS0 : scG.IsWhole := Memref.isWhole_whole _
    have hS1 : scU.IsWhole := Memref.isWhole_whole _
    have hT0 : tbE.IsWhole := Memref.isWhole_whole _
    have hT1 : tbU.IsWhole := Memref.isWhole_whole _
    sl_exec! (disch := first | exact h0 | exact h2 | exact h3)
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

set_option backward.proofsInPublic true in
set_option maxHeartbeats 8000000 in
/-- A tile in use with the panel of the point before. -/
noncomputable def runOldUsed (c : Dev nD) (i : grid0.Coords) (arg4 : Memref sig .tc .vmem S512x2048 .bf16) (harg4 : arg4.IsWhole) (arg5 : Memref sig .tc .vmem S1x2048x512 .f32) (harg5 : arg5.IsWhole)
    (arg6 : Memref sig .tc .vmem S1x2048x512 .f32) (harg6 : arg6.IsWhole) (arg7 : Memref sig .tc .vmem S512x512 .bf16) (harg7 : arg7.IsWhole)
    (T0 : S72.Idx → Elt F .i32) (T1 : S1.Idx → Elt F .i32) (x0 : S512x2048.Idx → Elt F .bf16) (x1 x2 : S1x2048x512.Idx → Elt F .f32)
    (a : Buf (Elt F) ((c : Thread nD τ).loc cc0_scratch0)) (b : Buf (Elt F) ((c : Thread nD τ).loc cc0_scratch1))
    (h0 : ¬ cNew T0 i = 1#1) (h2 : k0_cond2 i (wUsed T1) = 1#1) (h3 : ¬ k0_cond3 i (wUsed T1) = 1#1) :
    Found c i arg4 harg4 arg5 harg5 arg6 harg6 arg7 harg7 T0 T1 x0 x1 x2 a b :=
  ⟨_, _, _, fun K => by
    unfold owns
    rw [cc0_matmul_swiglu_eq_skeleton]; unfold cc0_matmul_swiglu_skel
    iintro ⟨H0, H1, H2, HT0, HT1, ⟨%d3, %f3, -, HO3⟩, HS0, HS1, Hk⟩
    have hS0 : scG.IsWhole := Memref.isWhole_whole _
    have hS1 : scU.IsWhole := Memref.isWhole_whole _
    have hT0 : tbE.IsWhole := Memref.isWhole_whole _
    have hT1 : tbU.IsWhole := Memref.isWhole_whole _
    sl_exec! (disch := first | exact h0 | exact h2 | exact h3)
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

set_option backward.proofsInPublic true in
set_option maxHeartbeats 8000000 in
/-- A tile not in use with the panel of the point before. -/
noncomputable def runOldFree (c : Dev nD) (i : grid0.Coords) (arg4 : Memref sig .tc .vmem S512x2048 .bf16) (harg4 : arg4.IsWhole) (arg5 : Memref sig .tc .vmem S1x2048x512 .f32) (harg5 : arg5.IsWhole)
    (arg6 : Memref sig .tc .vmem S1x2048x512 .f32) (harg6 : arg6.IsWhole) (arg7 : Memref sig .tc .vmem S512x512 .bf16) (harg7 : arg7.IsWhole)
    (T0 : S72.Idx → Elt F .i32) (T1 : S1.Idx → Elt F .i32) (x0 : S512x2048.Idx → Elt F .bf16) (x1 x2 : S1x2048x512.Idx → Elt F .f32)
    (a : Buf (Elt F) ((c : Thread nD τ).loc cc0_scratch0)) (b : Buf (Elt F) ((c : Thread nD τ).loc cc0_scratch1))
    (h0 : ¬ cNew T0 i = 1#1) (h2 : ¬ k0_cond2 i (wUsed T1) = 1#1) (h3 : k0_cond3 i (wUsed T1) = 1#1) :
    Found c i arg4 harg4 arg5 harg5 arg6 harg6 arg7 harg7 T0 T1 x0 x1 x2 a b :=
  ⟨_, _, _, fun K => by
    unfold owns
    rw [cc0_matmul_swiglu_eq_skeleton]; unfold cc0_matmul_swiglu_skel
    iintro ⟨H0, H1, H2, HT0, HT1, ⟨%d3, %f3, -, HO3⟩, HS0, HS1, Hk⟩
    have hS0 : scG.IsWhole := Memref.isWhole_whole _
    have hS1 : scU.IsWhole := Memref.isWhole_whole _
    have hT0 : tbE.IsWhole := Memref.isWhole_whole _
    have hT1 : tbU.IsWhole := Memref.isWhole_whole _
    sl_exec! (disch := first | exact h0 | exact h2 | exact h3)
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

end Cert.UpIdeal.Hand

end
-- ==== Proof.UpWords.lean ====
/- The matmul call's words: what its prefetched tables hold, and what its control computes from them. -/
module

public import proofs.«01_k».proof.Proof.UpRuns
public import Idealize.ShloMosaic.Lib.ValueIdx

@[expose] public section

set_option maxRecDepth 16384

noncomputable section

namespace Cert.UpIdeal.Hand

open Cert.UpIdeal Cert.UpIdeal.Gen
open Idealize.ShloMosaic Idealize.ShloMosaic.TcCoe Idealize.ShloMosaic.ValueIdx

variable {F : FTy → Type} [FloatOps F]

/-- The ranges of the tables: the experts are eight, and some row tile is in use. -/
structure InRange (T0 : S72.Idx → BitVec 32) (T1 : S1.Idx → BitVec 32) : Prop where
  expert : ∀ x, (T0 x).toNat < 8
  used : ∀ x, 1 ≤ (T1 x).toInt

/-- The offset of the row tile's own table entry. -/
theorem off_here (i : grid0.Coords) : k0_off1 i = ![(i 1).val] := by
  have h : ∀ k : Fin 72, (![(Scalar.indexCast (BitVec.ofNat 32 k.val)).toNat] : Fin 1 → Nat) = ![k.val] := by decide
  exact h (i 1)

/-- The offset of the entry of the row tile before. -/
theorem off_prev (i : grid0.Coords) : k0_off2 i = ![(i 1).val - 1] := by
  have h : ∀ k : Fin 72, (![(Scalar.indexCast (Scalar.maxsi (Scalar.subi (BitVec.ofNat 32 k.val) 1#32) 0#32)).toNat] : Fin 1 → Nat) = ![k.val - 1] := by decide
  exact h (i 1)

/-- A loaded table word is the table's entry at the load's offset. -/
theorem word_at (T0 : S72.Idx → Elt F .i32) (off : Fin 1 → Nat) (inb : ∀ a, off a + S1.size a ≤ S72.size a) (k : Fin 72) (h : off = ![k.val]) :
    View.readAt (Elt F) tbE.view (Rect.unit (s := S72) off S1.size inb).toLoadRect T0 (Shape.Idx.first (numel1_S1.symm ▸ Nat.one_pos)) = T0 (ix1 k) := by
  subst h
  show T0 _ = T0 _
  congr 1; funext a; fin_cases a; rfl

theorem wHere_eq (T0 : S72.Idx → Elt F .i32) (i : grid0.Coords) : wHere T0 i = T0 (ix1 (i 1)) :=
  word_at T0 _ _ (i 1) (off_here i)

theorem wPrev_eq (T0 : S72.Idx → Elt F .i32) (i : grid0.Coords) :
    wPrev T0 i = T0 (ix1 (⟨(i 1).val - 1, Nat.lt_of_le_of_lt (Nat.sub_le _ _) (i 1).isLt⟩ : Fin 72)) :=
  word_at T0 _ _ ⟨(i 1).val - 1, Nat.lt_of_le_of_lt (Nat.sub_le _ _) (i 1).isLt⟩ (off_prev i)

theorem wUsed_eq (T1 : S1.Idx → Elt F .i32) : wUsed T1 = T1 (ix1 (0 : Fin 1)) := by
  show T1 _ = T1 _
  congr 1; funext a; fin_cases a; rfl

/-- A bit widened and compared with zero is the bit. -/
theorem bit_test (b : Bool) : (Scalar.cmpi .ne (Scalar.extui (BitVec.ofBool b)) 0#32 = 1#1) ↔ b = true := by
  cases b <;> decide

theorem bit_test' (b : BitVec 1) : (Scalar.cmpi .ne (Scalar.extui b) 0#32 = 1#1) ↔ b = 1#1 := by
  revert b; decide

/-- The tile is in use where its number is below the count. -/
theorem cond2_iff (i : grid0.Coords) (v : BitVec 32) : k0_cond2 i v = 1#1 ↔ (BitVec.ofNat 32 (i 1).val).slt v = true :=
  bit_test _

theorem cond3_iff (i : grid0.Coords) (v : BitVec 32) : k0_cond3 i v = 1#1 ↔ ¬ (BitVec.ofNat 32 (i 1).val).slt v = true := by
  refine (bit_test _).trans ?_
  show v.sle (BitVec.ofNat 32 (i 1).val) = true ↔ _
  rw [BitVec.sle_iff_toInt_le, BitVec.slt_iff_toInt_lt]; exact not_lt.symm

/-- Exactly one of the two stores happens. -/
theorem cond3_not (i : grid0.Coords) (v : BitVec 32) : k0_cond3 i v = 1#1 ↔ ¬ k0_cond2 i v = 1#1 := by
  rw [cond3_iff, cond2_iff]

/-- The output is stored at every point. -/
theorem never_idle (i : grid0.Coords) (v : BitVec 32) : (!(k0_cond2 i v == 1#1) && !(k0_cond3 i v == 1#1)) = false := by
  have h := cond3_not i v
  by_cases h2 : k0_cond2 i v = 1#1
  · rw [h2]; simp
  · rw [h.mpr h2]; simp

/-- Where the panel is not cast anew the tile is not its column's first, and its expert is the one before's. -/
theorem old_panel (T0 : S72.Idx → Elt F .i32) (i : grid0.Coords) (h : ¬ cNew T0 i = 1#1) : (i 1).val ≠ 0 ∧ wHere T0 i = wPrev T0 i := by
  rw [cNew, bit_test'] at h
  constructor
  · intro h0; apply h; rw [h0]
    show IntOp.ori (IntOp.cmpi .eq (BitVec.ofNat 32 0) 0#32) _ = 1#1
    have hb : ∀ b : BitVec 1, IntOp.ori (IntOp.cmpi .eq (BitVec.ofNat 32 0) 0#32) b = 1#1 := by decide
    exact hb _
  · by_contra hne; apply h
    have : Scalar.cmpi .ne (wHere T0 i) (wPrev T0 i) = 1#1 := by
      show BitVec.ofBool ((wHere T0 i : BitVec 32) != wPrev T0 i) = 1#1
      rw [bne_iff_ne.mpr hne]; rfl
    rw [this]
    have hb : ∀ b : BitVec 1, Scalar.ori b 1#1 = 1#1 := by decide
    exact hb _

/-- A tile's number as a signed word. -/
theorem tile_toInt (k : Fin 72) : (BitVec.ofNat 32 k.val).toInt = k.val := by revert k; decide
theorem tile_toNat (k : Fin 72) : (BitVec.ofNat 32 k.val).toNat = k.val := by revert k; decide

/-- The block of rows read for a tile: the tile itself, or the last one in use. -/
theorem row_block (k : Fin 72) (v : BitVec 32) (hv : 1 ≤ v.toInt) :
    (Scalar.minsi (BitVec.ofNat 32 k.val) (Scalar.subi v 1#32)).toNat ≤ k.val
      ∧ ((BitVec.ofNat 32 k.val).slt v = true → (Scalar.minsi (BitVec.ofNat 32 k.val) (Scalar.subi v 1#32)).toNat = k.val) := by
  have hk := k.isLt
  have e : (Scalar.subi v 1#32).toInt = v.toInt - 1 := by
    show (v - 1#32).toInt = _
    have := v.toInt_lt
    rw [BitVec.toInt_sub]; simp
    rw [Int.bmod_eq_of_le] <;> omega
  have e' : (Scalar.subi v 1#32).toInt = (Scalar.subi v 1#32).toNat := by
    rw [BitVec.toInt_eq_toNat_of_lt]
    by_contra hlt
    have := BitVec.toInt_neg_iff (x := Scalar.subi v 1#32)
    omega
  have hs : Scalar.minsi (BitVec.ofNat 32 k.val) (Scalar.subi v 1#32)
      = if (BitVec.ofNat 32 k.val).slt (Scalar.subi v 1#32) then BitVec.ofNat 32 k.val else Scalar.subi v 1#32 := rfl
  rw [hs]
  by_cases h : (BitVec.ofNat 32 k.val).slt (Scalar.subi v 1#32) = true
  · rw [if_pos h, tile_toNat]; exact ⟨le_refl _, fun _ => rfl⟩
  · rw [if_neg h]
    rw [BitVec.slt_iff_toInt_lt, tile_toInt] at h
    refine ⟨by omega, fun h' => ?_⟩
    rw [BitVec.slt_iff_toInt_lt, tile_toInt] at h'
    omega

/-- The experts' table and the count of tiles in use. -/
abbrev tabE (pf : pre0.Contents (Elt F)) : S72.Idx → BitVec 32 := pf 0
abbrev tabU (pf : pre0.Contents (Elt F)) : S1.Idx → BitVec 32 := pf 1

/-- The tables as the index maps read them. -/
theorem at_used (pf : pre0.Contents (Elt F)) : pf.at 1 (Rect.unit (s := S1) ![0] S1.size inb_S1_S1_0) numel1_S1 = tabU pf (ix1 (0 : Fin 1)) := by
  show tabU pf _ = tabU pf _
  congr 1; funext a; fin_cases a; rfl

theorem at_expert (pf : pre0.Contents (Elt F)) (i : grid0.Coords) :
    pf.at 0 (Rect.unit (s := S72) ![(Scalar.indexCast (BitVec.ofNat 32 (i 1).val)).toNat] S1.size (k0_off1_inb i)) numel1_S1 = tabE pf (ix1 (i 1)) :=
  word_at (F := F) (tabE pf) _ (k0_off1_inb i) (i 1) (off_here i)

theorem col_toNat (k : Fin 11) : (BitVec.ofNat 32 k.val).toNat = k.val := by revert k; decide

theorem ix_rows (pf : pre0.Contents (Elt F)) (i : grid0.Coords) :
    cc0_transform_0 inb_S1_S1_0 numel1_S1 pf i = ![(Scalar.minsi (BitVec.ofNat 32 (i 1).val) (Scalar.subi (tabU pf (ix1 (0 : Fin 1))) 1#32)).toNat, 0] :=
  congrArg (fun v : BitVec 32 => (![(Scalar.minsi (BitVec.ofNat 32 (i 1).val) (Scalar.subi v 1#32)).toNat, 0] : Fin 2 → Nat)) (at_used pf)

theorem ix_gate (pf : pre0.Contents (Elt F)) (i : grid0.Coords) :
    cc0_transform_1 k0_off1_inb numel1_S1 pf i = ![(tabE pf (ix1 (i 1))).toNat, 0, (i 0).val] :=
  (congrArg (fun v : BitVec 32 => (![v.toNat, 0, (BitVec.ofNat 32 (i 0).val).toNat] : Fin 3 → Nat)) (at_expert pf i)).trans
    (congrArg (fun n : Nat => (![(tabE pf (ix1 (i 1))).toNat, 0, n] : Fin 3 → Nat)) (col_toNat (i 0)))

theorem ix_up (pf : pre0.Contents (Elt F)) (i : grid0.Coords) :
    cc0_transform_2 k0_off1_inb numel1_S1 pf i = ![(tabE pf (ix1 (i 1))).toNat, 0, (i 0).val] :=
  ix_gate pf i

theorem ix_out (i : grid0.Coords) : cc0_transform_3 i = ![(i 1).val, (i 0).val] :=
  (congrArg (fun n : Nat => (![n, (BitVec.ofNat 32 (i 0).val).toNat] : Fin 2 → Nat)) (tile_toNat (i 1))).trans
    (congrArg (fun n : Nat => (![(i 1).val, n] : Fin 2 → Nat)) (col_toNat (i 0)))

/-- At tables in range every block lies in its array. -/
theorem ok_of_range (pf : pre0.Contents (Elt F)) (h : InRange (tabE pf) (tabU pf)) : ok0 pf := by
  refine ⟨fun i => ⟨fun a => ?_, .inr (Affine.block_words_dvd (of_decide_eq_true rfl) (by decide))⟩, fun i => ⟨fun a => ?_, .inl rfl⟩, fun i => ⟨fun a => ?_, .inl rfl⟩⟩
  · rw [ix_rows]
    have h1 := (row_block (i 1) _ (h.used (ix1 (0 : Fin 1)))).1
    have h2 : (i 1).val < 72 := (i 1).isLt
    fin_cases a
    · show (_ + 1) * 512 ≤ 36864
      show ((Scalar.minsi (BitVec.ofNat 32 (i 1).val) (Scalar.subi (tabU pf (ix1 (0 : Fin 1))) 1#32)).toNat + 1) * 512 ≤ 36864
      omega
    · show (0 + 1) * 2048 ≤ 2048
      omega
  · rw [ix_gate]
    have h1 := h.expert (ix1 (i 1))
    have h2 : (i 0).val < 11 := (i 0).isLt
    fin_cases a
    · show ((tabE pf (ix1 (i 1))).toNat + 1) * 1 ≤ 8
      omega
    · show (0 + 1) * 2048 ≤ 2048
      omega
    · show ((i 0).val + 1) * 512 ≤ 5632
      omega
  · rw [ix_up]
    have h1 := h.expert (ix1 (i 1))
    have h2 : (i 0).val < 11 := (i 0).isLt
    fin_cases a
    · show ((tabE pf (ix1 (i 1))).toNat + 1) * 1 ≤ 8
      omega
    · show (0 + 1) * 2048 ≤ 2048
      omega
    · show ((i 0).val + 1) * 512 ≤ 5632
      omega

end Cert.UpIdeal.Hand

end
-- ==== Proof.UpFrame.lean ====
/- The matmul call from a launch: what each grid point computes, that its body does so, and what a whole run leaves. -/
module

public import proofs.«01_k».proof.Proof.UpWords
public import Idealize.ShloMosaic.Lib.VecWindow
public import Idealize.ShloMosaic.Lib.Pipeline.Value

@[expose] public section

set_option maxRecDepth 16384
set_option Elab.async false

noncomputable section

namespace Cert.UpIdeal.Hand

open Cert.UpIdeal Cert.UpIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the four runs leave, in closed form -/

/-- The scratch panels once a weight block has been cast into them. -/
def panG (c : Dev nD) (x : S1x2048x512.Idx → Elt F .f32) : Buf (Elt F) ((c : Thread nD τ).loc cc0_scratch0) :=
  scG.view.writes (Elt F) scG.view.junk [⟨Rect.unit (s := S2048x512) ![0, 0] S2048x512.size inb_S2048x512_S2048x512_0_0, k0_pay1 x⟩]
def panU (c : Dev nD) (x : S1x2048x512.Idx → Elt F .f32) : Buf (Elt F) ((c : Thread nD τ).loc cc0_scratch1) :=
  scU.view.writes (Elt F) scU.view.junk [⟨Rect.unit (s := S2048x512) ![0, 0] S2048x512.size inb_S2048x512_S2048x512_0_0, k0_pay2 x⟩]

theorem zero2 : (![0, 0] : Fin 2 → Nat) = fun _ => 0 := by funext a; fin_cases a <;> rfl

/-- A panel loaded back is the cast block. -/
theorem load_panG (c : Dev nD) (x : S1x2048x512.Idx → Elt F .f32) :
    View.readAt (Elt F) scG.view (Rect.unit (s := S2048x512) ![0, 0] S2048x512.size inb_S2048x512_S2048x512_0_0).toLoadRect (panG (F := F) c x) = k0_pay1 x := by
  unfold panG
  exact (View.readAt_full _ _ _).trans ((View.read_writes_junk_eq_canon _ _).trans (View.canon_unit_zero zero2 _ _))
theorem load_panU (c : Dev nD) (x : S1x2048x512.Idx → Elt F .f32) :
    View.readAt (Elt F) scU.view (Rect.unit (s := S2048x512) ![0, 0] S2048x512.size inb_S2048x512_S2048x512_0_0).toLoadRect (panU (F := F) c x) = k0_pay2 x := by
  unfold panU
  exact (View.readAt_full _ _ _).trans ((View.read_writes_junk_eq_canon _ _).trans (View.canon_unit_zero zero2 _ _))

/-- The output buffer read back after its one store is what was stored. -/
theorem read_out (v : Memref sig .tc .vmem S512x512 .bf16) (f) (w : S512x512.Idx → Elt F .bf16) :
    v.view.read (Elt F) (v.view.writes (Elt F) f [⟨Rect.unit (s := S512x512) ![0, 0] S512x512.size inb_S512x512_S512x512_0_0, w⟩]) = w :=
  (View.read_writes_eq_canon _ _ _ (View.cover_of_tiledL _ S512x512.size (by sl_kernel_rfl))).trans (View.canon_unit_zero zero2 _ _)

/-- The block of results for a tile in use. -/
def prodOut (x0 : S512x2048.Idx → Elt F .bf16) (x1 x2 : S1x2048x512.Idx → Elt F .f32) : S512x512.Idx → Elt F .bf16 :=
  k0_pay3 x0 (k0_pay1 x1) x0 (k0_pay2 x2)

/-- A staged block of rows, and a staged block of weights, loaded whole. -/
abbrev ldX (v : Memref sig .tc .vmem S512x2048 .bf16) (x : S512x2048.Idx → Elt F .bf16) : S512x2048.Idx → Elt F .bf16 :=
  View.readAt (Elt F) v.view (Rect.unit (s := S512x2048) ![0, 0] S512x2048.size inb_S512x2048_S512x2048_0_0).toLoadRect (v.view.rep x)
abbrev ldW (v : Memref sig .tc .vmem S1x2048x512 .f32) (x : S1x2048x512.Idx → Elt F .f32) : S1x2048x512.Idx → Elt F .f32 :=
  View.readAt (Elt F) v.view (Rect.unit (s := S1x2048x512) ![0, 0, 0] S1x2048x512.size inb_S1x2048x512_S1x2048x512_0_0_0).toLoadRect (v.view.rep x)

theorem ldX_eq (v : Memref sig .tc .vmem S512x2048 .bf16) (x : S512x2048.Idx → Elt F .bf16) : ldX v x = x := View.readAt_rep_full _ _ _
theorem ldW_eq (v : Memref sig .tc .vmem S1x2048x512 .f32) (x : S1x2048x512.Idx → Elt F .f32) : ldW v x = x := View.readAt_rep_full _ _ _

/-- A panel just written, loaded back. -/
theorem cov_panG (w : S2048x512.Idx → Elt F .bf16) :
    scG.view.readCov [(⟨Rect.unit (s := S2048x512) ![0, 0] S2048x512.size inb_S2048x512_S2048x512_0_0, w⟩ : View.Piece (Elt F) S2048x512 .bf16)]
      (Rect.unit (s := S2048x512) ![0, 0] S2048x512.size inb_S2048x512_S2048x512_0_0).toLoadRect = w :=
  View.readCov_unit_zero _ zero2 _ _
theorem cov_panU (w : S2048x512.Idx → Elt F .bf16) :
    scU.view.readCov [(⟨Rect.unit (s := S2048x512) ![0, 0] S2048x512.size inb_S2048x512_S2048x512_0_0, w⟩ : View.Piece (Elt F) S2048x512 .bf16)]
      (Rect.unit (s := S2048x512) ![0, 0] S2048x512.size inb_S2048x512_S2048x512_0_0).toLoadRect = w :=
  View.readCov_unit_zero _ zero2 _ _

/-- What the one store of a point leaves. -/
abbrev one (w : S512x512.Idx → Elt F .bf16) : List (View.Piece (Elt F) S512x512 .bf16) :=
  [⟨Rect.unit (s := S512x512) ![0, 0] S512x512.size inb_S512x512_S512x512_0_0, w⟩]

/-- A run restated with what it leaves spelled otherwise. -/
theorem Runs.restate {c i arg4 harg4 arg5 harg5 arg6 harg6 arg7 harg7 T0 T1 x0 x1 x2 a b o o' p p' q q'}
    (h : Runs (F := F) c i arg4 harg4 arg5 harg5 arg6 harg6 arg7 harg7 T0 T1 x0 x1 x2 a b o p q) (eo : o = o') (ep : p = p') (eq : q = q') :
    Runs (F := F) c i arg4 harg4 arg5 harg5 arg6 harg6 arg7 harg7 T0 T1 x0 x1 x2 a b o' p' q' := by
  subst eo ep eq; exact h

section
variable (c : Dev nD) (i : grid0.Coords) (arg4 : Memref sig .tc .vmem S512x2048 .bf16) (harg4 : arg4.IsWhole) (arg5 : Memref sig .tc .vmem S1x2048x512 .f32) (harg5 : arg5.IsWhole)
    (arg6 : Memref sig .tc .vmem S1x2048x512 .f32) (harg6 : arg6.IsWhole) (arg7 : Memref sig .tc .vmem S512x512 .bf16) (harg7 : arg7.IsWhole)
    (T0 : S72.Idx → Elt F .i32) (T1 : S1.Idx → Elt F .i32) (x0 : S512x2048.Idx → Elt F .bf16) (x1 x2 : S1x2048x512.Idx → Elt F .f32)
    (a : Buf (Elt F) ((c : Thread nD τ).loc cc0_scratch0)) (b : Buf (Elt F) ((c : Thread nD τ).loc cc0_scratch1))

theorem panels_newUsed (h0 : cNew T0 i = 1#1) (h2 : k0_cond2 i (wUsed T1) = 1#1) (h3 : ¬ k0_cond3 i (wUsed T1) = 1#1) :
    (runNewUsed c i arg4 harg4 arg5 harg5 arg6 harg6 arg7 harg7 T0 T1 x0 x1 x2 a b h0 h2 h3).2.1 = panG c (ldW arg5 x1) ∧ (runNewUsed c i arg4 harg4 arg5 harg5 arg6 harg6 arg7 harg7 T0 T1 x0 x1 x2 a b h0 h2 h3).2.2.1 = panU c (ldW arg6 x2) := by
  unfold runNewUsed panG panU runNewUsed.sl.HS0_1 runNewUsed.sl.HS1_1
  dsimp only
  constructor <;> with_reducible rfl

theorem panels_newFree (h0 : cNew T0 i = 1#1) (h2 : ¬ k0_cond2 i (wUsed T1) = 1#1) (h3 : k0_cond3 i (wUsed T1) = 1#1) :
    (runNewFree c i arg4 harg4 arg5 harg5 arg6 harg6 arg7 harg7 T0 T1 x0 x1 x2 a b h0 h2 h3).2.1 = panG c (ldW arg5 x1) ∧ (runNewFree c i arg4 harg4 arg5 harg5 arg6 harg6 arg7 harg7 T0 T1 x0 x1 x2 a b h0 h2 h3).2.2.1 = panU c (ldW arg6 x2) := by
  unfold runNewFree panG panU runNewFree.sl.HS0_1 runNewFree.sl.HS1_1
  dsimp only
  constructor <;> with_reducible rfl

theorem panels_oldUsed (h0 : ¬ cNew T0 i = 1#1) (h2 : k0_cond2 i (wUsed T1) = 1#1) (h3 : ¬ k0_cond3 i (wUsed T1) = 1#1) :
    (runOldUsed c i arg4 harg4 arg5 harg5 arg6 harg6 arg7 harg7 T0 T1 x0 x1 x2 a b h0 h2 h3).2.1 = a ∧ (runOldUsed c i arg4 harg4 arg5 harg5 arg6 harg6 arg7 harg7 T0 T1 x0 x1 x2 a b h0 h2 h3).2.2.1 = b := by
  unfold runOldUsed
  exact ⟨rfl, rfl⟩

theorem panels_oldFree (h0 : ¬ cNew T0 i = 1#1) (h2 : ¬ k0_cond2 i (wUsed T1) = 1#1) (h3 : k0_cond3 i (wUsed T1) = 1#1) :
    (runOldFree c i arg4 harg4 arg5 harg5 arg6 harg6 arg7 harg7 T0 T1 x0 x1 x2 a b h0 h2 h3).2.1 = a ∧ (runOldFree c i arg4 harg4 arg5 harg5 arg6 harg6 arg7 harg7 T0 T1 x0 x1 x2 a b h0 h2 h3).2.2.1 = b := by
  unfold runOldFree
  exact ⟨rfl, rfl⟩

theorem newUsed (h0 : cNew T0 i = 1#1) (h2 : k0_cond2 i (wUsed T1) = 1#1) (h3 : ¬ k0_cond3 i (wUsed T1) = 1#1) :
    Runs c i arg4 harg4 arg5 harg5 arg6 harg6 arg7 harg7 T0 T1 x0 x1 x2 a b (one (prodOut x0 x1 x2)) (panG c x1) (panU c x2) :=
  Runs.restate (runNewUsed c i arg4 harg4 arg5 harg5 arg6 harg6 arg7 harg7 T0 T1 x0 x1 x2 a b h0 h2 h3).2.2.2
    ((show (runNewUsed c i arg4 harg4 arg5 harg5 arg6 harg6 arg7 harg7 T0 T1 x0 x1 x2 a b h0 h2 h3).1
        = one (k0_pay3 (ldX arg4 x0) (runNewUsed.sl.v20 arg5 x1) (ldX arg4 x0) (runNewUsed.sl.v23 arg6 x2)) from rfl).trans
      (by rw [ldX_eq, show runNewUsed.sl.v20 arg5 x1 = k0_pay1 (ldW arg5 x1) from cov_panG _,
            show runNewUsed.sl.v23 arg6 x2 = k0_pay2 (ldW arg6 x2) from cov_panU _, ldW_eq, ldW_eq]; rfl))
    ((panels_newUsed c i arg4 harg4 arg5 harg5 arg6 harg6 arg7 harg7 T0 T1 x0 x1 x2 a b h0 h2 h3).1.trans (by rw [ldW_eq]))
    ((panels_newUsed c i arg4 harg4 arg5 harg5 arg6 harg6 arg7 harg7 T0 T1 x0 x1 x2 a b h0 h2 h3).2.trans (by rw [ldW_eq]))

theorem newFree (h0 : cNew T0 i = 1#1) (h2 : ¬ k0_cond2 i (wUsed T1) = 1#1) (h3 : k0_cond3 i (wUsed T1) = 1#1) :
    Runs c i arg4 harg4 arg5 harg5 arg6 harg6 arg7 harg7 T0 T1 x0 x1 x2 a b (one k0_pay4) (panG c x1) (panU c x2) :=
  Runs.restate (runNewFree c i arg4 harg4 arg5 harg5 arg6 harg6 arg7 harg7 T0 T1 x0 x1 x2 a b h0 h2 h3).2.2.2
    rfl
    ((panels_newFree c i arg4 harg4 arg5 harg5 arg6 harg6 arg7 harg7 T0 T1 x0 x1 x2 a b h0 h2 h3).1.trans (by rw [ldW_eq]))
    ((panels_newFree c i arg4 harg4 arg5 harg5 arg6 harg6 arg7 harg7 T0 T1 x0 x1 x2 a b h0 h2 h3).2.trans (by rw [ldW_eq]))

theorem oldUsed (h0 : ¬ cNew T0 i = 1#1) (h2 : k0_cond2 i (wUsed T1) = 1#1) (h3 : ¬ k0_cond3 i (wUsed T1) = 1#1) :
    Runs c i arg4 harg4 arg5 harg5 arg6 harg6 arg7 harg7 T0 T1 x0 x1 x2 (panG c x1) (panU c x2) (one (prodOut x0 x1 x2)) (panG c x1) (panU c x2) :=
  Runs.restate (runOldUsed c i arg4 harg4 arg5 harg5 arg6 harg6 arg7 harg7 T0 T1 x0 x1 x2 (panG c x1) (panU c x2) h0 h2 h3).2.2.2
    ((show (runOldUsed c i arg4 harg4 arg5 harg5 arg6 harg6 arg7 harg7 T0 T1 x0 x1 x2 (panG c x1) (panU c x2) h0 h2 h3).1
        = one (k0_pay3 (ldX arg4 x0)
            (View.readAt (Elt F) scG.view (Rect.unit (s := S2048x512) ![0, 0] S2048x512.size inb_S2048x512_S2048x512_0_0).toLoadRect (panG (F := F) c x1))
            (ldX arg4 x0)
            (View.readAt (Elt F) scU.view (Rect.unit (s := S2048x512) ![0, 0] S2048x512.size inb_S2048x512_S2048x512_0_0).toLoadRect (panU (F := F) c x2))) from rfl).trans
      (by rw [ldX_eq, load_panG, load_panU]; rfl))
    (panels_oldUsed c i arg4 harg4 arg5 harg5 arg6 harg6 arg7 harg7 T0 T1 x0 x1 x2 _ _ h0 h2 h3).1 (panels_oldUsed c i arg4 harg4 arg5 harg5 arg6 harg6 arg7 harg7 T0 T1 x0 x1 x2 _ _ h0 h2 h3).2

theorem oldFree (h0 : ¬ cNew T0 i = 1#1) (h2 : ¬ k0_cond2 i (wUsed T1) = 1#1) (h3 : k0_cond3 i (wUsed T1) = 1#1) :
    Runs c i arg4 harg4 arg5 harg5 arg6 harg6 arg7 harg7 T0 T1 x0 x1 x2 a b (one k0_pay4) a b :=
  Runs.restate (runOldFree c i arg4 harg4 arg5 harg5 arg6 harg6 arg7 harg7 T0 T1 x0 x1 x2 a b h0 h2 h3).2.2.2 rfl (panels_oldFree c i arg4 harg4 arg5 harg5 arg6 harg6 arg7 harg7 T0 T1 x0 x1 x2 _ _ h0 h2 h3).1 (panels_oldFree c i arg4 harg4 arg5 harg5 arg6 harg6 arg7 harg7 T0 T1 x0 x1 x2 _ _ h0 h2 h3).2

end

end Cert.UpIdeal.Hand

end
-- ==== Proof.UpLaunch.lean ====
/- The matmul call from a launch: what each grid point leaves, that its body does so, and what a whole run leaves. -/
module

public import proofs.«01_k».proof.Proof.UpFrame

@[expose] public section

set_option maxRecDepth 16384
set_option Elab.async false

noncomputable section

namespace Cert.UpIdeal.Hand

open Cert.UpIdeal Cert.UpIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resources: the pipeline's staging cells. -/
abbrev EP : Emb (UR sig nD τ) 𝕄 := emb₁

/-- The tables a launch memory holds. -/
def pf (m : (ℓ : Loc nD τ sig) → Buf (Elt F) ℓ) : pre0.Contents (Elt F) := fun j => m (((0 : Dev nD) : Thread nD τ).loc (pre0.ref j))

variable (m : (ℓ : Loc nD τ sig) → Buf (Elt F) ℓ) (ρ : Dev nD → PrngReg)
variable (hT : InRange (tabE (pf m)) (tabU (pf m)))

/-- The call at the launch memory's tables. -/
def adm : (pcfg0 (F := F)).Adm := ⟨pf m, ok_of_range _ hT⟩
abbrev cfgA : Pipeline.Cfg sig Λ₀ := cfg0 (F := F) (adm m hT)
abbrev pcs : Fin 1 → Pipeline.Cfg sig Λ₀ := Pipeline.pin (pcfgs (F := F)) fun _ => adm m hT

/-- A point's coordinates and staging buffers. -/
abbrev crd (t : Fin (cfgA m hT).N) : (cfgA m hT).grid.Coords := (cfgA m hT).grid.coords t
abbrev ms0_0 (t : Fin (cfgA m hT).N) : Memref sig .tc .vmem S512x2048 .bf16 := spec0_0.stage ((cfgA m hT).slots t (0 : Fin 4))
abbrev hs0_0 (t : Fin (cfgA m hT).N) : (ms0_0 m hT t).IsWhole := hstage0_0 (((cfgA m hT).slots t (0 : Fin 4)).cast nbuf0_0)
abbrev ms0_1 (t : Fin (cfgA m hT).N) : Memref sig .tc .vmem S1x2048x512 .f32 := spec0_1.stage ((cfgA m hT).slots t (1 : Fin 4))
abbrev hs0_1 (t : Fin (cfgA m hT).N) : (ms0_1 m hT t).IsWhole := hstage0_1 (((cfgA m hT).slots t (1 : Fin 4)).cast nbuf0_1)
abbrev ms0_2 (t : Fin (cfgA m hT).N) : Memref sig .tc .vmem S1x2048x512 .f32 := spec0_2.stage ((cfgA m hT).slots t (2 : Fin 4))
abbrev hs0_2 (t : Fin (cfgA m hT).N) : (ms0_2 m hT t).IsWhole := hstage0_2 (((cfgA m hT).slots t (2 : Fin 4)).cast nbuf0_2)
abbrev ms0_3 (t : Fin (cfgA m hT).N) : Memref sig .tc .vmem S512x512 .bf16 := spec0_3.stage ((cfgA m hT).slots t (3 : Fin 4))
abbrev hs0_3 (t : Fin (cfgA m hT).N) : (ms0_3 m hT t).IsWhole := hstage0_3 (((cfgA m hT).slots t (3 : Fin 4)).cast nbuf0_3)

/-- Window `w`'s block at point `t`, read off its array at launch. -/
def iblk (c : Dev nD) (w : Fin (cfgA m hT).W) (t : Fin (cfgA m hT).N) : (((cfgA m hT).win w).xblock (crd m hT t)).Idx → Elt F ((cfgA m hT).win w).elt :=
  (((cfgA m hT).win w).blk t).view.read (Elt F) ((s₀ m ρ).mem (((cfgA m hT).win w).arr.view.loc (c : Thread nD τ)))

/-- What point `t` stores into its block of the output: the tile's product where the tile is in use, else zeros. -/
def outAt (c : Dev nD) (t : Fin (cfgA m hT).N) : S512x512.Idx → Elt F .bf16 :=
  if k0_cond2 (crd m hT t) (wUsed (F := F) (tabU (pf m))) = 1#1 then prodOut (iblk m ρ hT c (0 : Fin 4) t) (iblk m ρ hT c (1 : Fin 4) t) (iblk m ρ hT c (2 : Fin 4) t) else k0_pay4

/-- Before position `n` the panels hold the weight blocks of the point before, cast. -/
def heldG (c : Dev nD) (n : ℕ) (a : Buf (Elt F) ((c : Thread nD τ).loc cc0_scratch0)) : Prop :=
  ∀ t' : Fin (cfgA m hT).N, t'.val + 1 = n → a = panG (F := F) c (iblk m ρ hT c (1 : Fin 4) t')
def heldU (c : Dev nD) (n : ℕ) (b : Buf (Elt F) ((c : Thread nD τ).loc cc0_scratch1)) : Prop :=
  ∀ t' : Fin (cfgA m hT).N, t'.val + 1 = n → b = panU (F := F) c (iblk m ρ hT c (2 : Fin 4) t')

theorem heldG_succ (c : Dev nD) (t : Fin (cfgA m hT).N) : heldG m ρ hT c (t.val + 1) (panG (F := F) c (iblk m ρ hT c (1 : Fin 4) t)) := by
  intro t' h; rw [show t' = t from Fin.ext (Nat.succ.inj h)]
theorem heldU_succ (c : Dev nD) (t : Fin (cfgA m hT).N) : heldU m ρ hT c (t.val + 1) (panU (F := F) c (iblk m ρ hT c (2 : Fin 4) t)) := by
  intro t' h; rw [show t' = t from Fin.ext (Nat.succ.inj h)]
theorem heldG_zero (c : Dev nD) (a) : heldG m ρ hT c 0 a := fun _ h => absurd h (Nat.succ_ne_zero _)
theorem heldU_zero (c : Dev nD) (b) : heldU m ρ hT c 0 b := fun _ h => absurd h (Nat.succ_ne_zero _)

/-- Between points: the panels hold the weight blocks of the point before, cast; the tables are as they were. -/
def Phi (c : Dev nD) (n : ℕ) : sProp 𝕄 :=
  iprop((∃ a, ⌜heldG m ρ hT c n a⌝ ∗ (scG.view.loc (c : Thread nD τ) ↦{fullShare} a))
    ∗ (∃ a, ⌜heldU m ρ hT c n a⌝ ∗ (scU.view.loc (c : Thread nD τ) ↦{fullShare} a))
    ∗ (tbE.view.loc (c : Thread nD τ) ↦{fullShare.right} tabE (pf m)) ∗ (tbU.view.loc (c : Thread nD τ) ↦{fullShare.right} tabU (pf m)))

/-- The proof data of the one pipeline on core `c`. -/
def dats (_ : Fin 1) (c : Dev nD) : Dat τ (Elt F) Unit ℕ (UR sig nD τ) ℕ (cfgA m hT) c where
  A w := (s₀ m ρ).mem (((cfgA m hT).win w).arr.view.loc (c : Thread nD τ))
  after w t := match w with
    | ⟨0, _⟩ => iblk m ρ hT c (0 : Fin 4) t
    | ⟨1, _⟩ => iblk m ρ hT c (1 : Fin 4) t
    | ⟨2, _⟩ => iblk m ρ hT c (2 : Fin 4) t
    | ⟨3, _⟩ => outAt m ρ hT c t
  Φ t := Phi m ρ hT c t.val
  q _ := fullShare
  owed _ := 0

theorem after0_0 (c : Dev nD) (t : Fin (cfgA m hT).N) : (dats m ρ hT 0 c).after (0 : Fin 4) t = iblk m ρ hT c (0 : Fin 4) t := rfl
theorem after0_1 (c : Dev nD) (t : Fin (cfgA m hT).N) : (dats m ρ hT 0 c).after (1 : Fin 4) t = iblk m ρ hT c (1 : Fin 4) t := rfl
theorem after0_2 (c : Dev nD) (t : Fin (cfgA m hT).N) : (dats m ρ hT 0 c).after (2 : Fin 4) t = iblk m ρ hT c (2 : Fin 4) t := rfl
theorem after0_3 (c : Dev nD) (t : Fin (cfgA m hT).N) : (dats m ρ hT 0 c).after (3 : Fin 4) t = outAt m ρ hT c t := rfl

/-- An input window holds its block when the body runs. -/
theorem before0_0 (c : Dev nD) (t : Fin (cfgA m hT).N) (d) : (dats m ρ hT 0 c).before (0 : Fin 4) t d = iblk m ρ hT c (0 : Fin 4) t :=
  ((dats m ρ hT 0 c).before_in_eq_fetched (0 : Fin 4) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA m hT).N) (d) : (dats m ρ hT 0 c).before (1 : Fin 4) t d = iblk m ρ hT c (1 : Fin 4) t :=
  ((dats m ρ hT 0 c).before_in_eq_fetched (1 : Fin 4) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA m hT).N) (d) : (dats m ρ hT 0 c).before (2 : Fin 4) t d = iblk m ρ hT c (2 : Fin 4) t :=
  ((dats m ρ hT 0 c).before_in_eq_fetched (2 : Fin 4) rfl (fun _ => rfl) (fun _ _ _ => rfl) (fun t => by rw [after0_2]; unfold Dat.blockOf iblk; rfl) t d).trans
    (by unfold Dat.fetched Dat.blockOf iblk; rfl)

/-! ## The grid: column by column, and down each column the row tiles -/

theorem crd0 (t : Fin (cfgA m hT).N) : ((crd m hT t) 0).val = t.val / 72 % 11 := Pipeline.Grid.coords_val (G := grid0) t 0 (by decide) rfl
theorem crd1 (t : Fin (cfgA m hT).N) : ((crd m hT t) 1).val = t.val / 1 % 72 := Pipeline.Grid.coords_val (G := grid0) t 1 (by decide) rfl

/-- At a tile that is not its column's first, the point before is the tile above in the same column. -/
theorem above (t t' : Fin (cfgA m hT).N) (ht : t'.val = t.val - 1) (h : ((crd m hT t) 1).val ≠ 0) :
    ((crd m hT t') 1).val = ((crd m hT t) 1).val - 1 ∧ (crd m hT t') 0 = (crd m hT t) 0 := by
  refine ⟨?_, Fin.ext ?_⟩
  · rw [crd1, crd1] at *; omega
  · rw [crd1] at h; rw [crd0, crd0]; omega

/-- There, where the experts agree, the weight blocks are those of the point before. -/
theorem same_gate (c : Dev nD) (t t' : Fin (cfgA m hT).N) (ht : t'.val = t.val - 1)
    (h : ((crd m hT t) 1).val ≠ 0) (he : wHere (F := F) (tabE (pf m)) (crd m hT t) = wPrev (F := F) (tabE (pf m)) (crd m hT t)) :
    iblk m ρ hT c (1 : Fin 4) t' = iblk m ρ hT c (1 : Fin 4) t := by
  obtain ⟨e1, e0⟩ := above m hT t t' ht h
  have hi : ((cfgA m hT).win (1 : Fin 4)).index t' = ((cfgA m hT).win (1 : Fin 4)).index t := by
    show cc0_transform_1 k0_off1_inb numel1_S1 (pf m) (crd m hT t') = cc0_transform_1 k0_off1_inb numel1_S1 (pf m) (crd m hT t)
    rw [wHere_eq, wPrev_eq] at he
    rw [ix_gate, ix_gate, e0]
    have : tabE (pf m) (ix1 ((crd m hT t') 1)) = tabE (pf m) (ix1 ((crd m hT t) 1)) := by
      refine Eq.trans ?_ he.symm
      congr 2; exact Fin.ext e1
    rw [this]
  exact (by unfold Dat.fetched Dat.blockOf iblk; rfl : iblk m ρ hT c (1 : Fin 4) t' = (dats m ρ hT 0 c).fetched (1 : Fin 4) t' (fun _ => Classical.arbitrary _)).trans
    (((dats m ρ hT 0 c).fetched_congr (1 : Fin 4) hi rfl _).trans (by unfold Dat.fetched Dat.blockOf iblk; rfl))

theorem same_up (c : Dev nD) (t t' : Fin (cfgA m hT).N) (ht : t'.val = t.val - 1)
    (h : ((crd m hT t) 1).val ≠ 0) (he : wHere (F := F) (tabE (pf m)) (crd m hT t) = wPrev (F := F) (tabE (pf m)) (crd m hT t)) :
    iblk m ρ hT c (2 : Fin 4) t' = iblk m ρ hT c (2 : Fin 4) t := by
  obtain ⟨e1, e0⟩ := above m hT t t' ht h
  have hi : ((cfgA m hT).win (2 : Fin 4)).index t' = ((cfgA m hT).win (2 : Fin 4)).index t := by
    show cc0_transform_2 k0_off1_inb numel1_S1 (pf m) (crd m hT t') = cc0_transform_2 k0_off1_inb numel1_S1 (pf m) (crd m hT t)
    rw [wHere_eq, wPrev_eq] at he
    rw [ix_up, ix_up, e0]
    have : tabE (pf m) (ix1 ((crd m hT t') 1)) = tabE (pf m) (ix1 ((crd m hT t) 1)) := by
      refine Eq.trans ?_ he.symm
      congr 2; exact Fin.ext e1
    rw [this]
  exact (by unfold Dat.fetched Dat.blockOf iblk; rfl : iblk m ρ hT c (2 : Fin 4) t' = (dats m ρ hT 0 c).fetched (2 : Fin 4) t' (fun _ => Classical.arbitrary _)).trans
    (((dats m ρ hT 0 c).fetched_congr (2 : Fin 4) hi rfl _).trans (by unfold Dat.fetched Dat.blockOf iblk; rfl))

/-- The output is stored at every point. -/
theorem idle3 (t : Fin (cfgA m hT).N) : (cfgA m hT).idle (3 : Fin 4) ((cfgA m hT).grid.coords t) = false := never_idle _ _

/-- What a point's run leaves, whatever its path. -/
theorem point_run (c : Dev nD) (t : Fin (cfgA m hT).N)
    (a : Buf (Elt F) ((c : Thread nD τ).loc cc0_scratch0)) (b : Buf (Elt F) ((c : Thread nD τ).loc cc0_scratch1))
    (ha : heldG m ρ hT c t.val a) (hb : heldU m ρ hT c t.val b) :
    Runs c (crd m hT t) (ms0_0 m hT t) (hs0_0 m hT t) (ms0_1 m hT t) (hs0_1 m hT t) (ms0_2 m hT t) (hs0_2 m hT t) (ms0_3 m hT t) (hs0_3 m hT t)
      (tabE (pf m)) (tabU (pf m)) (iblk m ρ hT c (0 : Fin 4) t) (iblk m ρ hT c (1 : Fin 4) t) (iblk m ρ hT c (2 : Fin 4) t) a b
      (one (outAt m ρ hT c t)) (panG (F := F) c (iblk m ρ hT c (1 : Fin 4) t)) (panU (F := F) c (iblk m ρ hT c (2 : Fin 4) t)) := by
  have h23 := cond3_not (crd m hT t) (wUsed (F := F) (tabU (pf m)))
  by_cases h0 : cNew (F := F) (tabE (pf m)) (crd m hT t) = 1#1
  · by_cases h2 : k0_cond2 (crd m hT t) (wUsed (F := F) (tabU (pf m))) = 1#1
    · rw [show outAt m ρ hT c t = _ from if_pos h2]
      exact newUsed c _ _ _ _ _ _ _ _ _ _ _ _ _ _ _ _ h0 h2 (fun h => h23.mp h h2)
    · rw [show outAt m ρ hT c t = _ from if_neg h2]
      exact newFree c _ _ _ _ _ _ _ _ _ _ _ _ _ _ _ _ h0 h2 (h23.mpr h2)
  · obtain ⟨hm, he⟩ := old_panel _ _ h0
    have ht : t.val ≠ 0 := fun h => hm (by rw [crd1, h])
    have ea : a = panG (F := F) c (iblk m ρ hT c (1 : Fin 4) t) := (ha ⟨t.val - 1, by omega⟩ (Nat.succ_pred ht)).trans (congrArg (panG (F := F) c) (same_gate m ρ hT c t _ rfl hm he))
    have eb : b = panU (F := F) c (iblk m ρ hT c (2 : Fin 4) t) := (hb ⟨t.val - 1, by omega⟩ (Nat.succ_pred ht)).trans (congrArg (panU (F := F) c) (same_up m ρ hT c t _ rfl hm he))
    subst ea eb
    by_cases h2 : k0_cond2 (crd m hT t) (wUsed (F := F) (tabU (pf m))) = 1#1
    · rw [show outAt m ρ hT c t = _ from if_pos h2]
      exact oldUsed c _ _ _ _ _ _ _ _ _ _ _ _ _ _ h0 h2 (fun h => h23.mp h h2)
    · rw [show outAt m ρ hT c t = _ from if_neg h2]
      exact oldFree c _ _ _ _ _ _ _ _ _ _ _ _ _ _ _ _ h0 h2 (h23.mpr h2)

end Cert.UpIdeal.Hand

end
-- ==== Proof.UpWhole.lean ====
/- The matmul call run whole: the body at every point, the launch, and what it leaves. -/
module

public import proofs.«01_k».proof.Proof.UpLaunch

@[expose] public section

set_option maxRecDepth 16384
set_option Elab.async false

noncomputable section

namespace Cert.UpIdeal.Hand

open Cert.UpIdeal Cert.UpIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (hT : InRange (tabE (pf m)) (tabU (pf m)))

/-- The body at point `t` on its staging buffers. -/
abbrev bodyAt (t : Fin (cfgA m hT).N) : Prog (TpuEff nD τ sig (Elt F) Λ₀ .tc) PUnit :=
  cc0_matmul_swiglu (crd m hT t) tbE (Memref.isWhole_whole _) tbU (Memref.isWhole_whole _) (ms0_0 m hT t) (hs0_0 m hT t) (ms0_1 m hT t) (hs0_1 m hT t) (ms0_2 m hT t) (hs0_2 m hT t) (ms0_3 m hT t) (hs0_3 m hT t) scG (Memref.isWhole_whole _) scU (Memref.isWhole_whole _)

theorem phi_here (c : Dev nD) (t : Fin (cfgA m hT).N) : (dats m ρ hT 0 c).Φ t.castSucc = Phi m ρ hT c t.val :=
  congrArg (Phi m ρ hT c) (Fin.val_castSucc t)
theorem phi_succ (c : Dev nD) (t : Fin (cfgA m hT).N) : (dats m ρ hT 0 c).Φ t.succ = Phi m ρ hT c (t.val + 1) :=
  congrArg (Phi m ρ hT c) (Fin.val_succ t)

set_option maxHeartbeats 400000 in
/-- The body does at point `t` what the proof data says. -/
theorem sound_body (c : Dev nD) (t : Fin (cfgA m hT).N) :
    iprop((dats m ρ hT 0 c).Φ t.castSucc ∗ (dats m ρ hT 0 c).owesAt () t.castSucc
        ∗ (∃ d, owns (c : Thread nD τ) (ms0_0 m hT t) fullShare ((dats m ρ hT 0 c).before (0 : Fin 4) t d))
        ∗ (∃ d, owns (c : Thread nD τ) (ms0_1 m hT t) fullShare ((dats m ρ hT 0 c).before (1 : Fin 4) t d))
        ∗ (∃ d, owns (c : Thread nD τ) (ms0_2 m hT t) fullShare ((dats m ρ hT 0 c).before (2 : Fin 4) t d))
        ∗ (∃ d, owns (c : Thread nD τ) (ms0_3 m hT t) fullShare ((dats m ρ hT 0 c).before (3 : Fin 4) t d)))
      ⊢ wp frame (wpE (defs₀ (F := F)) Variants.none c none) Set.univ (bodyAt m hT t) fun _ =>
          iprop((dats m ρ hT 0 c).Φ t.succ ∗ (dats m ρ hT 0 c).owesAt () t.succ
            ∗ bigSep Finset.univ fun w : Fin (cfgA m hT).W =>
                match (cfgA m hT).idle w ((cfgA m hT).grid.coords t) with
                | true =>
                  match ((cfgA m hT).win w).flush t with
                  | false => iprop(∃ d, owns (c : Thread nD τ) (((cfgA m hT).win w).stage ((cfgA m hT).slots t w)) fullShare ((dats m ρ hT 0 c).before w t d))
                  | true => owns (c : Thread nD τ) (((cfgA m hT).win w).stage ((cfgA m hT).slots t w)) fullShare ((dats m ρ hT 0 c).after w t)
                | false => owns (c : Thread nD τ) (((cfgA m hT).win w).stage ((cfgA m hT).slots t w)) fullShare ((dats m ρ hT 0 c).after w t)) := by
  rw [bigSep_W0]
  rewrite [idle3 m hT t]
  simp only [before0_0, before0_1, before0_2, after0_0, after0_1, after0_2, after0_3]
  rewrite [phi_succ m ρ hT c t, phi_here m ρ hT c t,
    show (dats m ρ hT 0 c).owesAt () t.succ = (dats m ρ hT 0 c).owesAt () t.castSucc from rfl]
  unfold Phi
  iintro ⟨⟨⟨%a0, %ha0, HS0⟩, ⟨%a1, %ha1, HS1⟩, HT0, HT1⟩, Ho, ⟨%d0, H0⟩, ⟨%d1, H1⟩, ⟨%d2, H2⟩, ⟨%d3, H3⟩⟩
  have run := point_run m ρ hT c t a0 a1 ha0 ha1
  unfold Runs at run
  iapply (run _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HS0]; · iexact HS0
  isplitl [HS1]; · iexact HS1
  iintro ⟨H0, H1, H2, HT0, HT1, ⟨%e3, H3⟩, HS0, HS1⟩
  isplitl [HS0 HS1 HT0 HT1]
  · isplitl [HS0]
    · iexists _; isplitr; swap
      · iexact HS0
      · ipureintro; exact heldG_succ m ρ hT c t
    isplitl [HS1]
    · iexists _; isplitr; swap
      · iexact HS1
      · ipureintro; exact heldU_succ m ρ hT c t
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  unfold owns; iexists _; isplitr; swap
  · iexact H3
  · ipureintro; exact read_out _ _ _

/-- The library's body obligation. -/
theorem body_obligation (c : Dev nD) : BodyObligation (dats m ρ hT 0 c) (defs₀ (F := F)) Variants.none () Set.univ := fun t => by
  rw [bigSep_W0]
  exact sound_body m ρ hT c t

/-! ## The launch -/

/-- The launch's staging cells. -/
def u₀ : UR sig nD τ :=
  initOf (Pipeline.cells (pcs m hT) ((launch0 (F := F)).cellOf_inj fun _ => adm m hT))
    (Pipeline.launchToks (pcs m hT) ((launch0 (F := F)).cellOf_inj fun _ => adm m hT))

theorem share_eq (c : Dev nD) (w : Fin (cfgA m hT).W) : (dats m ρ hT 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm m hT).1 ∗ Pipeline.scopedRest spec0 c) ⊢ (dats m ρ hT 0 c).Φ 0 := by
  rw [prefHeld_eq, scopedRest0_eq, show (dats m ρ hT 0 c).Φ 0 = Phi m ρ hT c 0 from rfl]
  unfold Phi
  iintro ⟨-, ⟨HT0, HT1⟩, ⟨%a0, HS0⟩, ⟨%a1, HS1⟩⟩
  isplitl [HS0]
  · iexists a0; isplitr; swap
    · iexact HS0
    · ipureintro; exact heldG_zero m ρ hT c _
  isplitl [HS1]
  · iexists a1; isplitr; swap
    · iexact HS1
    · ipureintro; exact heldU_zero m ρ hT c _
  isplitl [HT0]
  · iexact HT0
  iexact HT1

theorem phiN_exit (c : Dev nD) : (dats m ρ hT 0 c).Φ (Fin.last (cfgA m hT).N) ⊢ iprop(BI.emp ∗ Pipeline.scopedRest spec0 c) := by
  rw [scopedRest0_eq, show (dats m ρ hT 0 c).Φ (Fin.last (cfgA m hT).N) = Phi m ρ hT c (Fin.last (cfgA m hT).N).val from rfl]
  unfold Phi
  iintro ⟨⟨%a0, -, HS0⟩, ⟨%a1, -, HS1⟩, -, -⟩
  isplitr; · iempintro
  isplitl [HS0]
  · iexists a0; iexact HS0
  iexists a1; iexact HS1

/-- A finished run: every array holds what the proof data computes, and the tables are as they were. -/
def QC : PUnit × MemSt nD τ sig (Elt F) → Prop := fun r =>
  ∀ c : Dev nD, (∀ w : Fin (cfgA m hT).W, r.2.mem (((cfgA m hT).win w).arr.view.loc (c : Thread nD τ)) = (dats m ρ hT 0 c).arrAt w (cfgA m hT).N)
    ∧ ∀ j, r.2.mem ((c : Thread nD τ).loc (pre0.ref j)) = (adm m hT).1 j

theorem V_pre (c : Dev nD) (j : Fin 2) : m ((c : Thread nD τ).loc (pre0.ref j)) = (adm m hT).1 j := by
  rw [show c = 0 from Subsingleton.elim _ _]; rfl

set_option backward.isDefEq.respectTransparency.types false in
set_option maxHeartbeats 4000000 in
/-- From a launch memory whose tables are in range every run finishes, with the arrays as computed and no semaphore held. -/
theorem run_main_quiescent : θ_run (defs (F := F)) (onTc (τ := τ) (main (F := F))) (s₀ m ρ) (fun r => QC m ρ hT r ∧ r.2.sem = fun _ => 0) :=
  Pipeline.θ_run_region_noSem_pf_quiescent pcfgs (fun _ => adm m hT) (dats m ρ hT) () ((launch0 (F := F)).cellOf_inj fun _ => adm m hT) (0 : Fin 1)
    (launch0 (F := F)).win.to₀ (launch0 (F := F)).pre EP defs₀ Variants.none m ρ main
    (hbody := fun c => (body_obligation m ρ hT c).loose) (hne := (launch0 (F := F)).block_pos)
    (harr := (launch0 (F := F)).arr_whole) (hstage := (launch0 (F := F)).stage_whole) (howed := fun _ _ => rfl)
    (u₀ := u₀ m hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hT) (dats m ρ hT) 0 (launch0 (F := F)).win.arr_inj c (launch0 (F := F)).arr_whole
      (share_eq m ρ hT c) _ _ fun _ => rfl)
    (hpf := V_pre m hT)
    (X := fun _ => iprop(emp)) (Y := fun _ => iprop(emp)) (Z := fun _ => iprop(emp))
    (hX := fun c => by rw [unscopedRestP0_eq]; iintro -; isplitr <;> iempintro)
    (hin := phi0_intro m ρ hT)
    (hout := phiN_exit m ρ hT)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The result array is what the proof data computes, and the arguments are unchanged. -/
theorem run_blocks :
    θ_run (defs (F := F)) (onTc (τ := τ) (main (F := F))) ⟨m, fun _ => 0, ρ⟩ (fun r => (∀ c : Dev nD,
      r.2.mem ((c.tc : Thread nD τ).loc main_v0) = (dats m ρ hT 0 c).arrAt (3 : Fin 4) (cfgA m hT).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 (3 : Fin 4),
    ((h.1 c).1 (0 : Fin 4)).trans ((dats m ρ hT 0 c).arrAt_in (0 : Fin 4) rfl _),
    ((h.1 c).2 0).trans (V_pre m hT c 0).symm, ((h.1 c).2 1).trans (V_pre m hT c 1).symm,
    ((h.1 c).1 (1 : Fin 4)).trans ((dats m ρ hT 0 c).arrAt_in (1 : Fin 4) rfl _),
    ((h.1 c).1 (2 : Fin 4)).trans ((dats m ρ hT 0 c).arrAt_in (2 : Fin 4) rfl _)⟩, h.2⟩) (run_main_quiescent m ρ hT)

include hT in
/-- Every run finishes with the arguments unchanged and no semaphore held. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_blocks m ρ hT)

end Cert.UpIdeal.Hand

end
-- ==== Proof.UpSpec.lean ====
/- The experts' gated products in closed form. -/
module

public import Idealize.ShloMosaic.Lib.IdealHost
public import Idealize.ShloMosaic.Lib.ValueIdx

@[expose] public section

noncomputable section

namespace Cert.Expert

open Idealize.ShloMosaic Idealize.ShloMosaic.ValueIdx
open scoped BigOperators

/-- A row's product with one expert's column. -/
def edot {R K E N : ℕ} (xs : (⟨2, ![R, K]⟩ : Shape).Idx → EReal) (w : (⟨3, ![E, K, N]⟩ : Shape).Idx → EReal) (e : Fin E) (r : Fin R) (n : Fin N) : EReal :=
  ∑ k : Fin K, xs (ix2 r k) * w (ix3 e k n)

/-- The gate: a number times its logistic. -/
def silu (z : EReal) : EReal := z * Ideal.logistic z

/-- The expert a tile's table word names. -/
def named (v : BitVec 32) : Fin 8 := ⟨v.toNat % 8, by omega⟩

/-- The row tile a row lies in, of 512 rows each. -/
def tile (r : Fin 36864) : Fin 72 := ⟨r.val / 512, by omega⟩

/-- A row's result: in a tile in use, its tile's expert's gate times its up product; else zero. -/
def up (xs : (⟨2, ![36864, 2048]⟩ : Shape).Idx → EReal) (te : (⟨1, ![72]⟩ : Shape).Idx → BitVec 32) (nu : (⟨1, ![1]⟩ : Shape).Idx → BitVec 32)
    (wg wu : (⟨3, ![8, 2048, 5632]⟩ : Shape).Idx → EReal) (r : Fin 36864) (n : Fin 5632) : EReal :=
  if (BitVec.ofNat 32 (tile r).val).slt (nu (ix1 (0 : Fin 1))) = true then
    silu (edot xs wg (named (te (ix1 (tile r)))) r n) * edot xs wu (named (te (ix1 (tile r)))) r n
  else 0

end Cert.Expert

end
-- ==== Proof.UpArray.lean ====
/- The matmul call's result array: every grid point's block is its block of the experts' gated products of the arguments,
   and the blocks tile the array. -/
module

public import proofs.«01_k».proof.Proof.UpWhole
public import proofs.«01_k».proof.Proof.UpSpec
public import Idealize.ShloMosaic.Lib.MatmulPlain

@[expose] public section

set_option maxRecDepth 16384

noncomputable section

namespace Cert.UpVal

open Cert.UpIdeal Cert.UpIdeal.Gen Cert.UpIdeal.Hand Cert.Expert Idealize.ShloMosaic Idealize.ShloMosaic.ValueIdx Idealize.ShloMosaic.TcCoe Idealize.SL.Sem
open Idealize.ShloMosaic.Pipeline (Dat)
open scoped BigOperators

/-! ## One grid point -/

/-- A weight block cast to the panel, at an index. -/
theorem panel_gate (x : S1x2048x512.Idx → EReal) (k : Fin 2048) (l : Fin 512) :
    k0_pay1 (F := Ideal) x (ix2 k l) = x (ix3 ⟨0, Nat.one_pos⟩ k l) := by
  unfold k0_pay1
  refine (shapeCast_apply _ shapeCasts_S2048x512_S2048x512 (ix2 k l) (ix2 k l) rfl).trans ?_
  rw [ValueIdx.truncf_apply]
  refine (shapeCast_dropUnit_apply ![2048, 512] x shapeCasts_S1x2048x512_S2048x512 (ix2 k l)).trans (congrArg x ?_)
  funext a
  match a with
  | ⟨0, _⟩ => rfl
  | ⟨1, _⟩ => rfl
  | ⟨2, _⟩ => rfl

/-- The two panels are cast alike. -/
theorem panel_up (x : S1x2048x512.Idx → EReal) (k : Fin 2048) (l : Fin 512) :
    k0_pay2 (F := Ideal) x (ix2 k l) = x (ix3 ⟨0, Nat.one_pos⟩ k l) := panel_gate x k l

/-- One product of a block of rows with a panel, at an index. -/
theorem product (x : FVec Ideal S512x2048 .bf16) (w : FVec Ideal S2048x512 .bf16) (r l : Fin 512) :
    matmul dot_S512x2048_S2048x512_S512x512_1_0_0_1_n_n none x w (constant S512x512 .f32 0x00000000#32 : FVec Ideal S512x512 .f32) (ix2 r l)
      = ∑ k : Fin 2048, x (ix2 r k) * w (ix2 k l) := by
  refine (Ideal.matmul_plain_apply none _ _ _ r l).trans ?_
  show Ideal.ofBits .f32 0x00000000#32 + _ = _
  rw [Ideal.ofBits_zero_f32, zero_add]

/-- The block stored for a tile in use, at an index. -/
theorem prod_apply (x : S512x2048.Idx → EReal) (g u : S1x2048x512.Idx → EReal) (r l : Fin 512) :
    prodOut (F := Ideal) x g u (ix2 r l)
      = silu (∑ k : Fin 2048, x (ix2 r k) * g (ix3 ⟨0, Nat.one_pos⟩ k l)) * ∑ k : Fin 2048, x (ix2 r k) * u (ix3 ⟨0, Nat.one_pos⟩ k l) := by
  unfold prodOut k0_pay3
  rw [ValueIdx.truncf_apply]
  have eg := product x (k0_pay1 (F := Ideal) g) r l
  have eu := product x (k0_pay2 (F := Ideal) u) r l
  simp only [panel_gate] at eg
  simp only [panel_up] at eu
  rw [← eg, ← eu]
  rfl

/-- The block stored for a tile past the last in use is zero. -/
theorem free_apply (y : S512x512.Idx) : k0_pay4 (F := Ideal) y = (0 : EReal) := Ideal.ofBits_zero_bf16

/-! ## The blocks -/

variable (m : (ℓ : Loc nD τ sig) → Buf (Elt Ideal) ℓ) (ρ : Dev nD → PrngReg)
variable (hT : InRange (tabE (pf m)) (tabU (pf m)))

theorem count : (cfgA m hT).N = 792 := by
  have : grid0.N = 792 := by decide
  exact this

/-- A point's row tile and column block. -/
def tl (t : Fin (cfgA m hT).N) : Fin 72 := (crd m hT t) 1
def cb (t : Fin (cfgA m hT).N) : Fin 11 := (crd m hT t) 0

theorem index_out (t : Fin (cfgA m hT).N) : ((cfgA m hT).win (3 : Fin 4)).index t = ![(tl m hT t).val, (cb m hT t).val] := ix_out (crd m hT t)
theorem index_rows (t : Fin (cfgA m hT).N) : ((cfgA m hT).win (0 : Fin 4)).index t
    = ![(Scalar.minsi (BitVec.ofNat 32 (tl m hT t).val) (Scalar.subi (tabU (pf m) (ix1 (0 : Fin 1))) 1#32)).toNat, 0] := ix_rows (pf m) (crd m hT t)
theorem index_gate (t : Fin (cfgA m hT).N) : ((cfgA m hT).win (1 : Fin 4)).index t = ![(tabE (pf m) (ix1 (tl m hT t))).toNat, 0, (cb m hT t).val] := ix_gate (pf m) (crd m hT t)
theorem index_up (t : Fin (cfgA m hT).N) : ((cfgA m hT).win (2 : Fin 4)).index t = ![(tabE (pf m) (ix1 (tl m hT t))).toNat, 0, (cb m hT t).val] := ix_up (pf m) (crd m hT t)

/-- A block of the output ends at every point: the next point's row tile is another. -/
theorem flush_out (t : Fin (cfgA m hT).N) : ((cfgA m hT).win (3 : Fin 4)).flush t = true := by
  have hN := count m hT
  unfold Pipeline.Window.flush
  refine Bool.and_eq_true_iff.mpr ⟨rfl, Bool.or_eq_true_iff.mpr ?_⟩
  by_cases h : t.val + 1 < (cfgA m hT).N
  · refine .inr (decide_eq_true ⟨h, fun e => ?_⟩)
    have e0 := congrFun ((index_out m hT ⟨t.val + 1, h⟩).symm.trans (e.trans (index_out m hT t))) (0 : Fin 2)
    have e1 : (t.val + 1) / 1 % 72 = t.val / 1 % 72 := (crd1 m hT ⟨t.val + 1, h⟩).symm.trans (e0.trans (crd1 m hT t))
    omega
  · exact .inl (decide_eq_true (by have := t.isLt; show t.val + 1 = (cfgA m hT).N; omega))

/-- The array row and column of a block's row and column. -/
abbrev rowOf (t : Fin (cfgA m hT).N) (r : Fin 512) : Fin 36864 := ⟨(tl m hT t).val * 512 + r.val, by have := (tl m hT t).isLt; omega⟩
abbrev colOf (t : Fin (cfgA m hT).N) (l : Fin 512) : Fin 5632 := ⟨(cb m hT t).val * 512 + l.val, by have := (cb m hT t).isLt; omega⟩

theorem tile_rowOf (t : Fin (cfgA m hT).N) (r : Fin 512) : tile (rowOf m hT t r) = tl m hT t := Fin.ext (by
  show ((tl m hT t).val * 512 + r.val) / 512 = (tl m hT t).val
  omega)

/-- Where an element of the output's block sits in the array. -/
theorem emb_out (t : Fin (cfgA m hT).N) (r l : Fin 512) :
    (((cfgA m hT).win (3 : Fin 4)).blk t).view.emb (ix2 r l) = (ix2 (rowOf m hT t r) (colOf m hT t l) : S36864x5632.Idx) := by
  have e := index_out m hT t
  have e0 := congrFun e (0 : Fin 2)
  have e1 := congrFun e (1 : Fin 2)
  funext a; apply Fin.ext
  match a with
  | ⟨0, _⟩ =>
    show ((cfgA m hT).win (3 : Fin 4)).index t (0 : Fin 2) * 512 + 1 * r.val = (tl m hT t).val * 512 + r.val
    rw [e0]; show (tl m hT t).val * 512 + 1 * r.val = _; omega
  | ⟨1, _⟩ =>
    show ((cfgA m hT).win (3 : Fin 4)).index t (1 : Fin 2) * 512 + 1 * l.val = (cb m hT t).val * 512 + l.val
    rw [e1]; show (cb m hT t).val * 512 + 1 * l.val = _; omega

/-- The rows' block of a tile in use, at an index. -/
theorem blk_rows (c : Dev nD) (t : Fin (cfgA m hT).N) (hu : (BitVec.ofNat 32 (tl m hT t).val).slt (tabU (pf m) (ix1 (0 : Fin 1))) = true) (r : Fin 512) (k : Fin 2048) :
    iblk m ρ hT c (0 : Fin 4) t (ix2 r k) = m ((c : Thread nD τ).loc main_arg0) (ix2 (rowOf m hT t r) k) := by
  have e := index_rows m hT t
  have e0 := congrFun e (0 : Fin 2)
  have e1 := congrFun e (1 : Fin 2)
  have hr := (row_block (tl m hT t) _ (hT.used (ix1 (0 : Fin 1)))).2 hu
  show m ((c : Thread nD τ).loc main_arg0) ((((cfgA m hT).win (0 : Fin 4)).blk t).view.emb (ix2 r k)) = _
  congr 1
  funext a; apply Fin.ext
  match a with
  | ⟨0, _⟩ =>
    show ((cfgA m hT).win (0 : Fin 4)).index t (0 : Fin 2) * 512 + 1 * r.val = (tl m hT t).val * 512 + r.val
    rw [e0]; show (Scalar.minsi _ _).toNat * 512 + 1 * r.val = _; rw [hr]; omega
  | ⟨1, _⟩ =>
    show ((cfgA m hT).win (0 : Fin 4)).index t (1 : Fin 2) * 2048 + 1 * k.val = k.val
    rw [e1]; show 0 * 2048 + 1 * k.val = _; omega

/-- A weight word in range names its expert. -/
theorem named_val (t : Fin (cfgA m hT).N) : (named (tabE (pf m) (ix1 (tl m hT t)))).val = (tabE (pf m) (ix1 (tl m hT t))).toNat :=
  Nat.mod_eq_of_lt (hT.expert _)

/-- The gate weights' block at an index. -/
theorem blk_gate (c : Dev nD) (t : Fin (cfgA m hT).N) (k : Fin 2048) (l : Fin 512) :
    iblk m ρ hT c (1 : Fin 4) t (ix3 ⟨0, Nat.one_pos⟩ k l)
      = m ((c : Thread nD τ).loc main_arg3) (ix3 (named (tabE (pf m) (ix1 (tl m hT t)))) k (colOf m hT t l)) := by
  have e := index_gate m hT t
  have e0 := congrFun e (0 : Fin 3)
  have e1 := congrFun e (1 : Fin 3)
  have e2 := congrFun e (2 : Fin 3)
  have hn := named_val m hT t
  show m ((c : Thread nD τ).loc main_arg3) ((((cfgA m hT).win (1 : Fin 4)).blk t).view.emb (ix3 ⟨0, Nat.one_pos⟩ k l)) = _
  congr 1
  funext a; apply Fin.ext
  match a with
  | ⟨0, _⟩ =>
    show ((cfgA m hT).win (1 : Fin 4)).index t (0 : Fin 3) * 1 + 1 * 0 = (named (tabE (pf m) (ix1 (tl m hT t)))).val
    rw [e0, hn]; show (tabE (pf m) (ix1 (tl m hT t))).toNat * 1 + 1 * 0 = _; omega
  | ⟨1, _⟩ =>
    show ((cfgA m hT).win (1 : Fin 4)).index t (1 : Fin 3) * 2048 + 1 * k.val = k.val
    rw [e1]; show 0 * 2048 + 1 * k.val = _; omega
  | ⟨2, _⟩ =>
    show ((cfgA m hT).win (1 : Fin 4)).index t (2 : Fin 3) * 512 + 1 * l.val = (cb m hT t).val * 512 + l.val
    rw [e2]; show (cb m hT t).val * 512 + 1 * l.val = _; omega

/-- The up weights' block at an index. -/
theorem blk_up (c : Dev nD) (t : Fin (cfgA m hT).N) (k : Fin 2048) (l : Fin 512) :
    iblk m ρ hT c (2 : Fin 4) t (ix3 ⟨0, Nat.one_pos⟩ k l)
      = m ((c : Thread nD τ).loc main_arg4) (ix3 (named (tabE (pf m) (ix1 (tl m hT t)))) k (colOf m hT t l)) := by
  have e := index_up m hT t
  have e0 := congrFun e (0 : Fin 3)
  have e1 := congrFun e (1 : Fin 3)
  have e2 := congrFun e (2 : Fin 3)
  have hn := named_val m hT t
  show m ((c : Thread nD τ).loc main_arg4) ((((cfgA m hT).win (2 : Fin 4)).blk t).view.emb (ix3 ⟨0, Nat.one_pos⟩ k l)) = _
  congr 1
  funext a; apply Fin.ext
  match a with
  | ⟨0, _⟩ =>
    show ((cfgA m hT).win (2 : Fin 4)).index t (0 : Fin 3) * 1 + 1 * 0 = (named (tabE (pf m) (ix1 (tl m hT t)))).val
    rw [e0, hn]; show (tabE (pf m) (ix1 (tl m hT t))).toNat * 1 + 1 * 0 = _; omega
  | ⟨1, _⟩ =>
    show ((cfgA m hT).win (2 : Fin 4)).index t (1 : Fin 3) * 2048 + 1 * k.val = k.val
    rw [e1]; show 0 * 2048 + 1 * k.val = _; omega
  | ⟨2, _⟩ =>
    show ((cfgA m hT).win (2 : Fin 4)).index t (2 : Fin 3) * 512 + 1 * l.val = (cb m hT t).val * 512 + l.val
    rw [e2]; show (cb m hT t).val * 512 + 1 * l.val = _; omega

/-! ## The whole array -/

/-- The whole result: the experts' gated products of the arguments, the tables those the launch reads. -/
abbrev result (c : Dev nD) : S36864x5632.Idx → EReal := fun i =>
  up (m ((c : Thread nD τ).loc main_arg0)) (tabE (pf m)) (tabU (pf m)) (m ((c : Thread nD τ).loc main_arg3)) (m ((c : Thread nD τ).loc main_arg4)) (i 0) (i 1)

/-- What a grid point stores, at an index. -/
theorem out_apply (c : Dev nD) (t : Fin (cfgA m hT).N) (r l : Fin 512) :
    outAt m ρ hT c t (ix2 r l) = up (m ((c : Thread nD τ).loc main_arg0)) (tabE (pf m)) (tabU (pf m)) (m ((c : Thread nD τ).loc main_arg3))
      (m ((c : Thread nD τ).loc main_arg4)) (rowOf m hT t r) (colOf m hT t l) := by
  have hc : k0_cond2 (crd m hT t) (wUsed (F := Ideal) (tabU (pf m))) = 1#1 ↔ (BitVec.ofNat 32 (tl m hT t).val).slt (tabU (pf m) (ix1 (0 : Fin 1))) = true := by
    rw [cond2_iff, wUsed_eq]; rfl
  unfold outAt up
  rw [tile_rowOf]
  by_cases hu : (BitVec.ofNat 32 (tl m hT t).val).slt (tabU (pf m) (ix1 (0 : Fin 1))) = true
  · rw [if_pos (hc.mpr hu), if_pos hu, prod_apply]
    have er := fun k => blk_rows m ρ hT c t hu r k
    have eg := fun k => blk_gate m ρ hT c t k l
    have eu := fun k => blk_up m ρ hT c t k l
    exact congrArg₂ (fun a b : EReal => silu a * b) (Finset.sum_congr rfl fun k _ => congrArg₂ (· * ·) (er k) (eg k))
      (Finset.sum_congr rfl fun k _ => congrArg₂ (· * ·) (er k) (eu k))
  · rw [if_neg (fun h => hu (hc.mp h)), if_neg hu]
    exact free_apply _

/-- What a grid point writes back is its block of the whole result. -/
theorem flushed_eq (c : Dev nD) (t : Fin (cfgA m hT).N) :
    (dats m ρ hT 0 c).flushed (3 : Fin 4) t = (((cfgA m hT).win (3 : Fin 4)).blk t).view.read (Elt Ideal) (result m c) := by
  have h1 : (dats m ρ hT 0 c).flushed (3 : Fin 4) t = outAt m ρ hT c t := by
    show ((cfgA m hT).win (3 : Fin 4)).cut ((cfgA m hT).grid.coords t) ((dats m ρ hT 0 c).after (3 : Fin 4) t) = _
    rw [after0_3]
    rfl
  rw [h1]
  funext y
  obtain ⟨r, l, rfl⟩ : ∃ r l : Fin 512, y = ix2 r l := ⟨y 0, y 1, eq_ix2 y⟩
  show _ = result m c ((((cfgA m hT).win (3 : Fin 4)).blk t).view.emb (ix2 r l))
  rw [emb_out]
  exact out_apply m ρ hT c t r l

/-- Every index of the result is in some grid point's block. -/
theorem cover (i : S36864x5632.Idx) : ∃ t : Fin (cfgA m hT).N, ((cfgA m hT).win (3 : Fin 4)).flush t = true ∧ i ∈ (((cfgA m hT).win (3 : Fin 4)).blk t).view.set := by
  have h0 : (i 0).val < 36864 := (i 0).isLt
  have h1 : (i 1).val < 5632 := (i 1).isLt
  have hN := count m hT
  have ht : (i 1).val / 512 * 72 + (i 0).val / 512 < (cfgA m hT).N := by omega
  have et : (tl m hT ⟨_, ht⟩).val = (i 0).val / 512 := (crd1 m hT ⟨_, ht⟩).trans (by
    show ((i 1).val / 512 * 72 + (i 0).val / 512) / 1 % 72 = _; omega)
  have ec : (cb m hT ⟨_, ht⟩).val = (i 1).val / 512 := (crd0 m hT ⟨_, ht⟩).trans (by
    show ((i 1).val / 512 * 72 + (i 0).val / 512) / 72 % 11 = _; omega)
  refine ⟨⟨_, ht⟩, flush_out m hT _, ?_⟩
  have h := (((cfgA m hT).win (3 : Fin 4)).blk ⟨_, ht⟩).view.emb_mem_set (ix2 (⟨(i 0).val % 512, by omega⟩ : Fin 512) (⟨(i 1).val % 512, by omega⟩ : Fin 512))
  refine (congrArg (· ∈ _) (Eq.trans ?_ (emb_out m hT ⟨_, ht⟩ (⟨(i 0).val % 512, by omega⟩ : Fin 512) (⟨(i 1).val % 512, by omega⟩ : Fin 512)).symm)).mpr h
  refine (eq_ix2 i).trans (congrArg₂ (fun a b => (ix2 a b : S36864x5632.Idx)) (Fin.ext ?_) (Fin.ext ?_))
  · show (i 0).val = (tl m hT ⟨_, ht⟩).val * 512 + (i 0).val % 512
    rw [et]; omega
  · show (i 1).val = (cb m hT ⟨_, ht⟩).val * 512 + (i 1).val % 512
    rw [ec]; omega

/-- **The result array** after the run: the experts' gated products of the arguments. -/
theorem final (c : Dev nD) : (dats m ρ hT 0 c).arrAt (3 : Fin 4) (cfgA m hT).N = result m c :=
  (dats m ρ hT 0 c).arrAt_eq_of_cover (3 : Fin 4) (result m c) (fun t _ => flushed_eq m ρ hT c t) (cover m hT)

end Cert.UpVal

end
-- ==== Proof.UpRefValue.lean ====
/- The matmul call's reference, index by index: every element is the experts' gated product of the arguments. -/
module

public import proofs.«01_k».proof.Proof.UpSpec
public import proofs.«01_k».proof.Proof.Gen.UpRefIdeal.Read
public import Idealize.ShloMosaic.Lib.StackMember
public import Idealize.ShloMosaic.Lib.ValueLayout

@[expose] public section

set_option maxRecDepth 16384

noncomputable section

namespace Cert.UpRefVal

open Cert.UpRefIdeal Cert.UpRefIdeal.Gen Cert.UpRefIdeal.Read Cert.Expert Idealize.ShloMosaic Idealize.ShloMosaic.ValueIdx
open scoped BigOperators

variable (xs : S36864x2048.Idx → EReal) (te : S72.Idx → BitVec 32) (nu : S1.Idx → BitVec 32) (wg wu : S8x2048x5632.Idx → EReal)

/-- One expert's weights, cut out of the stack, at an index. -/
theorem weights_apply (e : Fin 8) (h : S8x2048x5632.Slices (![e.val, 0, 0] : Fin 3 → Nat) S1x2048x5632) (w : S8x2048x5632.Idx → EReal) (k : Fin 2048) (n : Fin 5632) :
    shapeCast S2048x5632 (extractStridedSlice S1x2048x5632 ![e.val, 0, 0] w h) shapeCasts_S1x2048x5632_S2048x5632 (ix2 k n) = w (ix3 e k n) := by
  refine (shapeCast_1ab_ab_apply _ _ k n).trans ?_
  refine extractStridedSlice_apply _ w h _ _ fun a => match a with
    | ⟨0, _⟩ => by show e.val = e.val + 0; omega
    | ⟨1, _⟩ => by show k.val = 0 + k.val; omega
    | ⟨2, _⟩ => by show n.val = 0 + n.val; omega

/-- The rows' product with one expert's weights. -/
abbrev dotE (e : Fin 8) (h : S8x2048x5632.Slices (![e.val, 0, 0] : Fin 3 → Nat) S1x2048x5632) (w : S8x2048x5632.Idx → EReal) : FVec Ideal S36864x5632 .f32 :=
  Host.dotGeneral (F := Ideal) (φ₁ := .f32) (φ₂ := .f32) dot_S36864x2048_S2048x5632_S36864x5632_1_0_0_1_n_n none (val_main_v8 (F := Ideal) xs)
    (shapeCast S2048x5632 (extractStridedSlice S1x2048x5632 ![e.val, 0, 0] w h) shapeCasts_S1x2048x5632_S2048x5632)

theorem dotE_apply (e : Fin 8) (h) (w : S8x2048x5632.Idx → EReal) (r : Fin 36864) (n : Fin 5632) : dotE xs e h w (ix2 r n) = edot xs w e r n := by
  refine (StackMember.dotGeneral_plain_apply none _ _ r n).trans ?_
  exact Finset.sum_congr rfl fun k _ => congrArg₂ (· * ·) rfl (weights_apply e h w k n)

/-- One expert's gated product as the host spells it. -/
abbrev gatedE (e : Fin 8) (h : S8x2048x5632.Slices (![e.val, 0, 0] : Fin 3 → Nat) S1x2048x5632) : FVec Ideal S36864x5632 .f32 :=
  mulf (mulf (dotE xs e h wg) (Host.divf (broadcastInDim S36864x5632 ![] bcast_S_S36864x5632 (constant (F := Ideal) S_ .f32 0x3F800000#32))
    (addf (broadcastInDim S36864x5632 ![] bcast_S_S36864x5632 (constant (F := Ideal) S_ .f32 0x3F800000#32)) (Host.exp (Host.negf (dotE xs e h wg))))))
    (dotE xs e h wu)

/-- One expert's gated product at an index. -/
abbrev gated (e : Fin 8) (r : Fin 36864) (n : Fin 5632) : EReal := silu (edot xs wg e r n) * edot xs wu e r n

theorem gatedE_apply (e : Fin 8) (h) (r : Fin 36864) (n : Fin 5632) : gatedE xs wg wu e h (ix2 r n) = gated xs wg wu e r n := by
  have h1 : broadcastInDim S36864x5632 ![] bcast_S_S36864x5632 (constant (F := Ideal) S_ .f32 0x3F800000#32) (ix2 r n) = (1 : EReal) :=
    (broadcastInDim_apply _ bcast_S_S36864x5632 (constant (F := Ideal) S_ .f32 0x3F800000#32) (ix2 r n) ix0 (fun a => a.elim0)).trans Ideal.ofBits_one_f32
  show (dotE xs e h wg (ix2 r n) * Ideal.div (broadcastInDim S36864x5632 ![] bcast_S_S36864x5632 (constant (F := Ideal) S_ .f32 0x3F800000#32) (ix2 r n))
    (broadcastInDim S36864x5632 ![] bcast_S_S36864x5632 (constant (F := Ideal) S_ .f32 0x3F800000#32) (ix2 r n) + Ideal.exp (-(dotE xs e h wg (ix2 r n)))))
      * dotE xs e h wu (ix2 r n) = _
  rw [h1, dotE_apply, dotE_apply]
  rfl

/-- Each row's expert: its tile's table word. -/
theorem expert_apply (r : Fin 36864) : val_main_v1 (F := Ideal) te (ix1 r) = te (ix1 (tile r)) := by
  rw [val_main_v1_apply, val_main_v0_apply]
  congr 1
  funext a
  match a with
  | ⟨0, _⟩ => rfl

/-- Whether a row's expert is `v`, spread along the row. -/
theorem mask_apply (v : BitVec 32) (r : Fin 36864) (n : Fin 5632) :
    broadcastInDim S36864x5632 ![0, 1] bcast_S36864x1_S36864x5632_0_1 (broadcastInDim S36864x1 ![0] bcast_S36864_S36864x1_0
      (cmpi .eq (val_main_v1 (F := Ideal) te) (broadcastInDim S36864 ![] bcast_S_S36864 (constantI S_ 32 v)))) (ix2 r n)
      = IntOp.cmpi .eq (te (ix1 (tile r))) v := by
  refine (broadcastInDim_apply _ bcast_S36864x1_S36864x5632_0_1 _ (ix2 r n) (ix2 r (0 : Fin 1)) (fun a => match a with
    | ⟨0, _⟩ => by show r.val = if (36864 : Nat) = 1 then 0 else r.val; rw [if_neg (by decide)]
    | ⟨1, _⟩ => by show 0 = if (1 : Nat) = 1 then 0 else n.val; rw [if_pos rfl])).trans ?_
  refine (broadcastInDim_apply _ bcast_S36864_S36864x1_0 _ (ix2 r (0 : Fin 1)) (ix1 r) (fun a => match a with
    | ⟨0, _⟩ => by show r.val = if (36864 : Nat) = 1 then 0 else r.val; rw [if_neg (by decide)])).trans ?_
  show IntOp.cmpi .eq (val_main_v1 (F := Ideal) te (ix1 r)) (broadcastInDim S36864 ![] bcast_S_S36864 (constantI S_ 32 v) (ix1 r)) = _
  rw [expert_apply]
  exact congrArg (IntOp.cmpi .eq (te (ix1 (tile r)))) (broadcastInDim_apply _ bcast_S_S36864 (constantI S_ 32 v) (ix1 r) ix0 (fun a => a.elim0))

/-- A choice by comparing with `v`. -/
theorem choose_eq (x v : BitVec 32) (a b : EReal) : Scalar.select (IntOp.cmpi .eq x v) a b = if x = v then a else b := by
  show (if BitVec.ofBool (x == v) = 1#1 then a else b) = _
  by_cases h : x = v
  · rw [if_pos h, if_pos (by rw [beq_iff_eq.mpr h]; rfl)]
  · rw [if_neg h, if_neg (by rw [beq_eq_false_iff_ne.mpr h]; decide)]

/-- After the first expert: its product where the row's expert is it, else what was there. -/
theorem stage0 (r : Fin 36864) (n : Fin 5632) : val_main_v21 (F := Ideal) xs te wg wu (ix2 r n)
    = if te (ix1 (tile r)) = 0#32 then gated xs wg wu 0 r n else val_main_v9 (F := Ideal) (ix2 r n) :=
  (congrArg₂ (fun c p => Scalar.select c p (val_main_v9 (F := Ideal) (ix2 r n))) (mask_apply te 0#32 r n)
    (gatedE_apply xs wg wu 0 slices_S8x2048x5632_S1x2048x5632_0_0_0 r n)).trans (choose_eq _ _ _ _)

/-- After the second expert: its product where the row's expert is it, else what was there. -/
theorem stage1 (r : Fin 36864) (n : Fin 5632) : val_main_v33 (F := Ideal) xs te wg wu (ix2 r n)
    = if te (ix1 (tile r)) = 1#32 then gated xs wg wu 1 r n else val_main_v21 (F := Ideal) xs te wg wu (ix2 r n) :=
  (congrArg₂ (fun c p => Scalar.select c p (val_main_v21 (F := Ideal) xs te wg wu (ix2 r n))) (mask_apply te 1#32 r n)
    (gatedE_apply xs wg wu 1 slices_S8x2048x5632_S1x2048x5632_1_0_0 r n)).trans (choose_eq _ _ _ _)

/-- After the third expert: its product where the row's expert is it, else what was there. -/
theorem stage2 (r : Fin 36864) (n : Fin 5632) : val_main_v45 (F := Ideal) xs te wg wu (ix2 r n)
    = if te (ix1 (tile r)) = 2#32 then gated xs wg wu 2 r n else val_main_v33 (F := Ideal) xs te wg wu (ix2 r n) :=
  (congrArg₂ (fun c p => Scalar.select c p (val_main_v33 (F := Ideal) xs te wg wu (ix2 r n))) (mask_apply te 2#32 r n)
    (gatedE_apply xs wg wu 2 slices_S8x2048x5632_S1x2048x5632_2_0_0 r n)).trans (choose_eq _ _ _ _)

/-- After the fourth expert: its product where the row's expert is it, else what was there. -/
theorem stage3 (r : Fin 36864) (n : Fin 5632) : val_main_v57 (F := Ideal) xs te wg wu (ix2 r n)
    = if te (ix1 (tile r)) = 3#32 then gated xs wg wu 3 r n else val_main_v45 (F := Ideal) xs te wg wu (ix2 r n) :=
  (congrArg₂ (fun c p => Scalar.select c p (val_main_v45 (F := Ideal) xs te wg wu (ix2 r n))) (mask_apply te 3#32 r n)
    (gatedE_apply xs wg wu 3 slices_S8x2048x5632_S1x2048x5632_3_0_0 r n)).trans (choose_eq _ _ _ _)

/-- After the fifth expert: its product where the row's expert is it, else what was there. -/
theorem stage4 (r : Fin 36864) (n : Fin 5632) : val_main_v69 (F := Ideal) xs te wg wu (ix2 r n)
    = if te (ix1 (tile r)) = 4#32 then gated xs wg wu 4 r n else val_main_v57 (F := Ideal) xs te wg wu (ix2 r n) :=
  (congrArg₂ (fun c p => Scalar.select c p (val_main_v57 (F := Ideal) xs te wg wu (ix2 r n))) (mask_apply te 4#32 r n)
    (gatedE_apply xs wg wu 4 slices_S8x2048x5632_S1x2048x5632_4_0_0 r n)).trans (choose_eq _ _ _ _)

/-- After the sixth expert: its product where the row's expert is it, else what was there. -/
theorem stage5 (r : Fin 36864) (n : Fin 5632) : val_main_v81 (F := Ideal) xs te wg wu (ix2 r n)
    = if te (ix1 (tile r)) = 5#32 then gated xs wg wu 5 r n else val_main_v69 (F := Ideal) xs te wg wu (ix2 r n) :=
  (congrArg₂ (fun c p => Scalar.select c p (val_main_v69 (F := Ideal) xs te wg wu (ix2 r n))) (mask_apply te 5#32 r n)
    (gatedE_apply xs wg wu 5 slices_S8x2048x5632_S1x2048x5632_5_0_0 r n)).trans (choose_eq _ _ _ _)

/-- After the seventh expert: its product where the row's expert is it, else what was there. -/
theorem stage6 (r : Fin 36864) (n : Fin 5632) : val_main_v93 (F := Ideal) xs te wg wu (ix2 r n)
    = if te (ix1 (tile r)) = 6#32 then gated xs wg wu 6 r n else val_main_v81 (F := Ideal) xs te wg wu (ix2 r n) :=
  (congrArg₂ (fun c p => Scalar.select c p (val_main_v81 (F := Ideal) xs te wg wu (ix2 r n))) (mask_apply te 6#32 r n)
    (gatedE_apply xs wg wu 6 slices_S8x2048x5632_S1x2048x5632_6_0_0 r n)).trans (choose_eq _ _ _ _)

/-- After the eighth expert: its product where the row's expert is it, else what was there. -/
theorem stage7 (r : Fin 36864) (n : Fin 5632) : val_main_v105 (F := Ideal) xs te wg wu (ix2 r n)
    = if te (ix1 (tile r)) = 7#32 then gated xs wg wu 7 r n else val_main_v93 (F := Ideal) xs te wg wu (ix2 r n) :=
  (congrArg₂ (fun c p => Scalar.select c p (val_main_v93 (F := Ideal) xs te wg wu (ix2 r n))) (mask_apply te 7#32 r n)
    (gatedE_apply xs wg wu 7 slices_S8x2048x5632_S1x2048x5632_7_0_0 r n)).trans (choose_eq _ _ _ _)

/-- A word in range is one of the eight experts. -/
theorem eight (v : BitVec 32) (h : v.toNat < 8) : v = 0#32 ∨ v = 1#32 ∨ v = 2#32 ∨ v = 3#32 ∨ v = 4#32 ∨ v = 5#32 ∨ v = 6#32 ∨ v = 7#32 := by
  have hv : v = BitVec.ofNat 32 v.toNat := BitVec.eq_of_toNat_eq (by simp)
  have : v.toNat = 0 ∨ v.toNat = 1 ∨ v.toNat = 2 ∨ v.toNat = 3 ∨ v.toNat = 4 ∨ v.toNat = 5 ∨ v.toNat = 6 ∨ v.toNat = 7 := by omega
  rcases this with e | e | e | e | e | e | e | e <;> rw [e] at hv <;> simp [hv]

/-- After all eight: the row's expert's product. -/
theorem experts_apply (hte : ∀ x, (te x).toNat < 8) (r : Fin 36864) (n : Fin 5632) :
    val_main_v105 (F := Ideal) xs te wg wu (ix2 r n) = gated xs wg wu (named (te (ix1 (tile r)))) r n := by
  rw [stage7, stage6, stage5, stage4, stage3, stage2, stage1, stage0]
  rcases eight _ (hte (ix1 (tile r))) with e | e | e | e | e | e | e | e <;> rw [e] <;> rfl

/-- Whether a row's tile is in use, spread along the row. -/
theorem used_apply (r : Fin 36864) (n : Fin 5632) :
    val_main_call16_v1 (F := Ideal) nu (ix2 r n) = IntOp.cmpi .slt (BitVec.ofNat 32 (tile r).val) (nu (ix1 (0 : Fin 1))) := by
  rw [val_main_call16_v1_apply, val_main_v106_apply, val_main_v7_apply, val_main_v6_apply, val_main_v5_apply, val_main_v2_apply, val_main_v4_apply]
  refine congrArg (IntOp.cmpi .slt (BitVec.ofNat 32 (tile r).val)) ?_
  exact shapeCast_apply nu shapeCasts_S1_S_ _ (ix1 (0 : Fin 1)) rfl

/-- **The reference** at an index. -/
theorem value (hte : ∀ x, (te x).toNat < 8) (r : Fin 36864) (n : Fin 5632) :
    val_main_v108 (F := Ideal) xs te nu wg wu (ix2 r n) = up xs te nu wg wu r n := by
  rw [val_main_v108_apply]
  show val_main_v107 (F := Ideal) xs te nu wg wu (ix2 r n) = _
  rw [val_main_v107_apply, used_apply, experts_apply xs te wg wu hte, val_main_call16_v2_apply, val_main_call16_v0_apply, val_main_cst_7_apply]
  show (if BitVec.ofBool ((BitVec.ofNat 32 (tile r).val).slt (nu (ix1 (0 : Fin 1)))) = 1#1 then _ else Ideal.ofBits .f32 0x00000000#32) = _
  rw [Ideal.ofBits_zero_f32]
  unfold up
  by_cases h : (BitVec.ofNat 32 (tile r).val).slt (nu (ix1 (0 : Fin 1))) = true
  · rw [if_pos h, if_pos (by rw [h]; rfl)]
  · rw [if_neg h, if_neg (by rw [Bool.eq_false_iff.mpr h]; decide)]

end Cert.UpRefVal

end
-- ==== Proof.UpPre.lean ====
/- The precondition of the matmul call's claims, read back: every tile's expert is one of the eight, and at least one tile is
   in use. -/
module

public import proofs.«01_k».proof.Pre_tables_in_range
public import Idealize.ShloMosaic.Lib.ValueIdx
public import Idealize.ShloMosaic.Lib.ReduceAll

@[expose] public section

noncomputable section

namespace Cert.UpPre

open Cert.Pre_tables_in_range Idealize.ShloMosaic Idealize.ShloMosaic.ValueIdx

/-- The side conditions the printed predicate states. -/
instance facts : Cert.Pre_tables_in_range.Facts where
  bcast_S_S72 := by decide
  reducesTo_S72_S_d0 := by decide
  h_S_ := by decide
  bcast_S_S1 := by decide
  reducesTo_S1_S_d0 := by decide

/-- A scalar has one index. -/
instance one_index : Subsingleton S_.Idx := ⟨fun _ _ => funext fun a => a.elim0⟩

/-- A word between zero and eight, signed, is below eight. -/
theorem below_eight (v : BitVec 32) (h0 : IntOp.cmpi .sge v 0#32 = 1#1) (h8 : IntOp.cmpi .slt v 8#32 = 1#1) : v.toNat < 8 := by
  have a : (0#32).sle v = true := by
    by_contra h
    have : IntOp.cmpi .sge v 0#32 = BitVec.ofBool ((0#32).sle v) := rfl
    rw [this, Bool.eq_false_iff.mpr h] at h0; exact absurd h0 (by decide)
  have b : v.slt 8#32 = true := by
    by_contra h
    have : IntOp.cmpi .slt v 8#32 = BitVec.ofBool (v.slt 8#32) := rfl
    rw [this, Bool.eq_false_iff.mpr h] at h8; exact absurd h8 (by decide)
  rw [BitVec.sle_iff_toInt_le] at a
  rw [BitVec.slt_iff_toInt_lt] at b
  have z : (0#32).toInt = 0 := by decide
  have e : (8#32).toInt = 8 := by decide
  rw [z] at a; rw [e] at b
  have := BitVec.toInt_eq_toNat_cond v
  have := v.isLt
  split at * <;> omega

/-- A word at least one, signed. -/
theorem at_least_one (v : BitVec 32) (h : IntOp.cmpi .sge v 1#32 = 1#1) : 1 ≤ v.toInt := by
  have a : (1#32).sle v = true := by
    by_contra h'
    have : IntOp.cmpi .sge v 1#32 = BitVec.ofBool ((1#32).sle v) := rfl
    rw [this, Bool.eq_false_iff.mpr h'] at h; exact absurd h (by decide)
  rw [BitVec.sle_iff_toInt_le] at a
  exact a

/-- Where the predicate holds, the tables are in range. -/
theorem in_range {F : FTy → Type} [FloatOps F] (xs : FVec F S36864x2048 .bf16) (te : IVec S72 32) (nu : IVec S1 32) (wg wu : FVec F S8x2048x5632 .f32)
    (h : Cert.Pre_tables_in_range.fn (F := F) xs te nu wg wu = fun _ => 1#1) : (∀ x, (te x).toNat < 8) ∧ ∀ x, 1 ≤ (nu x).toInt := by
  obtain ⟨h1, h2⟩ := IntOp.andi_eq_one.mp (congrFun h ix0)
  obtain ⟨h3, h4⟩ := IntOp.andi_eq_one.mp h1
  exact ⟨fun x => below_eight _ (Host.reduce_andi_all _ _ _ _ ix0 h3 x) (Host.reduce_andi_all _ _ _ _ ix0 h4 x), fun x => at_least_one _ (Host.reduce_andi_all _ _ _ _ ix0 h2 x)⟩

end Cert.UpPre

end
-- ==== Proof.UpClaim.lean ====
/- The matmul call's claims: the frames, and that kernel and reference end at the same array. -/
module

public import proofs.«01_k».proof.Defs
public import proofs.«01_k».proof.Proof.UpArray
public import proofs.«01_k».proof.Proof.UpBitWhole
public import proofs.«01_k».proof.Proof.UpRefValue
public import proofs.«01_k».proof.Proof.UpPre
public import proofs.«01_k».proof.Proof.Gen.UpRefIdeal.Run
public import Idealize.ShloMosaic.Adequacy
public import Idealize.ShloMosaic.Init

@[expose] public section

noncomputable section

namespace Cert.UpClaim

open Idealize.ShloMosaic Idealize.SL.Sem Cert.Expert Idealize.ShloMosaic.ValueIdx

/-- Where the precondition holds, the tables the ideal kernel reads are in range. -/
theorem ideal_range (m : (ℓ : Loc UpIdeal.nD UpIdeal.τ UpIdeal.sig) → Buf (Elt Ideal) ℓ) (h : Cert.Pre_UpIdeal (hPre_tables_in_range := UpPre.facts) m) :
    UpIdeal.Hand.InRange (UpIdeal.Hand.tabE (UpIdeal.Hand.pf m)) (UpIdeal.Hand.tabU (UpIdeal.Hand.pf m)) :=
  have p := UpPre.in_range _ _ _ _ _ (h 0)
  ⟨p.1, p.2⟩

/-- Likewise for the kernel as printed. -/
theorem printed_range (m : (ℓ : Loc Up.nD Up.τ Up.sig) → Buf (Elt Bits) ℓ) (h : Cert.Pre_Up (hPre_tables_in_range := UpPre.facts) m) :
    Up.Hand.InRange (Up.Hand.tabE (Up.Hand.pf m)) (Up.Hand.tabU (Up.Hand.pf m)) :=
  have p := UpPre.in_range _ _ _ _ _ (h 0)
  ⟨p.1, p.2⟩

/-- The printed kernel's frame. -/
theorem frame_printed : Cert.quiescent_Up (hUp := Up.Gen.facts) (hPre_tables_in_range := UpPre.facts) :=
  fun m ρ h => Up.Hand.frame m ρ (printed_range m h)

/-- The ideal kernel's frame. -/
theorem frame_ideal : Cert.quiescent_UpIdeal (hUpIdeal := UpIdeal.Gen.facts) (hPre_tables_in_range := UpPre.facts) :=
  fun m ρ h => UpIdeal.Hand.frame m ρ (ideal_range m h)

/-- The reference's frame: its arguments end unchanged, and it declares no semaphore. -/
theorem frame_ref : Cert.quiescent_UpRefIdeal (hUpRefIdeal := UpRefIdeal.Gen.facts) := fun m ρ _ =>
  (θ_run _ _ _).mono (fun r h => ⟨fun c => (h c).2, sem_eq_zero_of_no_sems (by decide) r.2⟩) (UpRefIdeal.Value.run m ρ)

/-- Likewise where the tables are in range. -/
theorem frame_ref_pre : Cert.quiescent_UpRefIdeal_pre_tables_in_range (hUpRefIdeal := UpRefIdeal.Gen.facts) (hPre_tables_in_range := UpPre.facts) :=
  fun m ρ _ => frame_ref m ρ trivial

/-- At tables in range the kernel's array and the reference's are both `Expert.up` of the arguments. -/
theorem algebraic : Cert.algebraic_UpIdeal_UpRefIdeal (hUpIdeal := UpIdeal.Gen.facts) (hUpRefIdeal := UpRefIdeal.Gen.facts)
    (hPre_tables_in_range := UpPre.facts) := by
  intro m g m' g' hpre hargs
  have hT := ideal_range m hpre
  refine ⟨fun c => UpVal.result m c, (θ_run _ _ _).mono (fun r h c => ?_) (UpIdeal.Hand.run_blocks m g hT),
    (θ_run _ _ _).mono (fun r h c => ?_) (UpRefIdeal.Value.run m' g')⟩
  · obtain ⟨h0, h1⟩ := h.1 c
    exact ⟨h0.trans (UpVal.final m g hT c), h1⟩
  · obtain ⟨h0, h1⟩ := h c
    obtain ⟨a0, a1, a2, a3, a4⟩ := hargs c
    refine ⟨h0.trans ?_, h1⟩
    refine (UpRefIdeal.Read.val_main_v108_eq (F := Ideal) _).trans (funext fun i => ?_)
    refine (congrArg _ (eq_ix2 i)).trans ?_
    have hc : c = (0 : Dev UpIdeal.nD) := Subsingleton.elim _ _
    subst hc
    have hv := UpRefVal.value (m ((Dev.tc (0 : Dev UpIdeal.nD) : Thread UpIdeal.nD UpIdeal.τ).loc UpIdeal.main_arg0)) (UpIdeal.Hand.tabE (UpIdeal.Hand.pf m)) (UpIdeal.Hand.tabU (UpIdeal.Hand.pf m))
      (m ((Dev.tc (0 : Dev UpIdeal.nD) : Thread UpIdeal.nD UpIdeal.τ).loc UpIdeal.main_arg3)) (m ((Dev.tc (0 : Dev UpIdeal.nD) : Thread UpIdeal.nD UpIdeal.τ).loc UpIdeal.main_arg4)) hT.expert (i 0) (i 1)
    refine Eq.trans ?_ hv
    exact congrFun (congr (congr (congr (congr (congrArg (UpRefIdeal.Read.val_main_v108 (F := Ideal)) a0) a1) a2) a3) a4) _

end Cert.UpClaim

end
-- ==== Proof.DownImports.lean ====
/- The generated readings the down call's proof builds on. -/
module

public import proofs.«01_k».proof.Proof.Gen.Down.Skeleton
public import proofs.«01_k».proof.Proof.Gen.Down.Launch
public import proofs.«01_k».proof.Proof.Gen.DownIdeal.Skeleton
public import proofs.«01_k».proof.Proof.Gen.DownIdeal.Launch
public import proofs.«01_k».proof.Proof.Gen.DownRefIdeal.Run
public import proofs.«01_k».proof.Proof.Gen.DownRefIdeal.Read
-- ==== Proof.DownRuns.lean ====
/- The down call's body, run along each of its four control paths. -/
module

public import proofs.«01_k».proof.Proof.DownImports
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two prefetched tables and the scratch panel the body is handed, whole. -/
abbrev tbE : Memref sig .tc .smem S72 .i32 := Memref.whole main_arg1
abbrev tbU : Memref sig .tc .smem S1 .i32 := Memref.whole main_arg2
abbrev scG : Memref sig .tc .vmem S5632x512 .bf16 := Memref.whole cc0_scratch0

/-- The expert of the row tile of point `i`, as the body loads it. -/
abbrev wHere (T0 : S72.Idx → Elt F .i32) (i : grid0.Coords) : Elt F .i32 :=
  View.readAt (Elt F) tbE.view (Rect.unit (s := S72) (k0_off1 i) S1.size (k0_off1_inb i)).toLoadRect T0 (Shape.Idx.first (numel1_S1.symm ▸ Nat.one_pos))
/-- The expert of the row tile before, as the body loads it. -/
abbrev wPrev (T0 : S72.Idx → Elt F .i32) (i : grid0.Coords) : Elt F .i32 :=
  View.readAt (Elt F) tbE.view (Rect.unit (s := S72) (k0_off2 i) S1.size (k0_off2_inb i)).toLoadRect T0 (Shape.Idx.first (numel1_S1.symm ▸ Nat.one_pos))
/-- The number of row tiles in use, as the body loads it. -/
abbrev wUsed (T1 : S1.Idx → Elt F .i32) : Elt F .i32 :=
  View.readAt (Elt F) tbU.view (Rect.unit (s := S1) ![0] S1.size inb_S1_S1_0).toLoadRect T1 (Shape.Idx.first (numel1_S1.symm ▸ Nat.one_pos))
/-- The body's decision to cast the weight panel anew: at a column's first row tile, or where the expert changes. -/
abbrev cNew (T0 : S72.Idx → Elt F .i32) (i : grid0.Coords) : BitVec 1 :=
  Scalar.cmpi .ne (Scalar.extui (Scalar.ori (Scalar.cmpi .eq (BitVec.ofNat 32 (i 1).val) 0#32) (Scalar.cmpi .ne (wHere T0 i) (wPrev T0 i))) : BitVec 32) 0#32

/-- What a run of the body from given blocks, tables and panel shows: it ends with the inputs and tables as they were,
    the output's staging buffer written by `o`, and the panel at `p`. -/
def Runs (c : Dev nD) (i : grid0.Coords) (arg4 : Memref sig .tc .vmem S512x5632 .bf16) (harg4 : arg4.IsWhole) (arg5 : Memref sig .tc .vmem S1x5632x512 .f32) (harg5 : arg5.IsWhole) (arg6 : Memref sig .tc .vmem S512x512 .bf16) (harg6 : arg6.IsWhole)
    (T0 : S72.Idx → Elt F .i32) (T1 : S1.Idx → Elt F .i32) (x0 : S512x5632.Idx → Elt F .bf16) (x1 : S1x5632x512.Idx → Elt F .f32)
    (a : Buf (Elt F) ((c : Thread nD τ).loc cc0_scratch0))
    (o : List (View.Piece (Elt F) S512x512 .bf16)) (p : Buf (Elt F) ((c : Thread nD τ).loc cc0_scratch0)) : Prop :=
  ∀ K : PUnit → sProp 𝕄,
    iprop((arg4.view.loc (c : Thread nD τ) ↦[arg4.view.set]{fullShare} arg4.view.rep x0)
      ∗ (arg5.view.loc (c : Thread nD τ) ↦[arg5.view.set]{fullShare} arg5.view.rep x1)
      ∗ (tbE.view.loc (c : Thread nD τ) ↦{fullShare.right} T0)
      ∗ (tbU.view.loc (c : Thread nD τ) ↦{fullShare.right} T1)
      ∗ (∃ d, owns (c : Thread nD τ) arg6 fullShare d)
      ∗ (scG.view.loc (c : Thread nD τ) ↦{fullShare} a)
      ∗ (iprop((arg4.view.loc (c : Thread nD τ) ↦[arg4.view.set]{fullShare} arg4.view.rep x0)
          ∗ (arg5.view.loc (c : Thread nD τ) ↦[arg5.view.set]{fullShare} arg5.view.rep x1)
              ∗ (tbE.view.loc (c : Thread nD τ) ↦{fullShare.right} T0)
          ∗ (tbU.view.loc (c : Thread nD τ) ↦{fullShare.right} T1)
          ∗ (∃ f, arg6.view.loc (c : Thread nD τ) ↦[arg6.view.set]{fullShare} arg6.view.writes (Elt F) f o)
          ∗ (scG.view.loc (c : Thread nD τ) ↦{fullShare} p)) -∗ K ⟨⟩))
      ⊢ wp frame (wpE (defs₀ (F := F)) Variants.none c none) Set.univ (cc0_matmul_plain i tbE (Memref.isWhole_whole _) tbU (Memref.isWhole_whole _) arg4 harg4 arg5 harg5 arg6 harg6 scG (Memref.isWhole_whole _)) K

/-- The run, with what it leaves. -/
abbrev Found (c : Dev nD) (i : grid0.Coords) (arg4 : Memref sig .tc .vmem S512x5632 .bf16) (harg4 : arg4.IsWhole) (arg5 : Memref sig .tc .vmem S1x5632x512 .f32) (harg5 : arg5.IsWhole) (arg6 : Memref sig .tc .vmem S512x512 .bf16) (harg6 : arg6.IsWhole)
    (T0 : S72.Idx → Elt F .i32) (T1 : S1.Idx → Elt F .i32) (x0 : S512x5632.Idx → Elt F .bf16) (x1 : S1x5632x512.Idx → Elt F .f32)
    (a : Buf (Elt F) ((c : Thread nD τ).loc cc0_scratch0)) :=
  Σ' (o : List (View.Piece (Elt F) S512x512 .bf16)),
    { p : Buf (Elt F) ((c : Thread nD τ).loc cc0_scratch0) // Runs c i arg4 harg4 arg5 harg5 arg6 harg6 T0 T1 x0 x1 a o p }

set_option backward.proofsInPublic true in
set_option maxHeartbeats 8000000 in
/-- A tile in use whose panel is cast anew. -/
noncomputable def runNewUsed (c : Dev nD) (i : grid0.Coords) (arg4 : Memref sig .tc .vmem S512x5632 .bf16) (harg4 : arg4.IsWhole) (arg5 : Memref sig .tc .vmem S1x5632x512 .f32) (harg5 : arg5.IsWhole) (arg6 : Memref sig .tc .vmem S512x512 .bf16) (harg6 : arg6.IsWhole)
    (T0 : S72.Idx → Elt F .i32) (T1 : S1.Idx → Elt F .i32) (x0 : S512x5632.Idx → Elt F .bf16) (x1 : S1x5632x512.Idx → Elt F .f32)
    (a : Buf (Elt F) ((c : Thread nD τ).loc cc0_scratch0))
    (h0 : cNew T0 i = 1#1) (h2 : k0_cond2 i (wUsed T1) = 1#1) (h3 : ¬ k0_cond3 i (wUsed T1) = 1#1) :
    Found c i arg4 harg4 arg5 harg5 arg6 harg6 T0 T1 x0 x1 a :=
  ⟨_, _, fun K => by
    unfold owns
    rw [cc0_matmul_plain_eq_skeleton]; unfold cc0_matmul_plain_skel
    iintro ⟨H0, H1, HT0, HT1, ⟨%d2, %f2, -, HO2⟩, HS0, Hk⟩
    have hS0 : scG.IsWhole := Memref.isWhole_whole _
    have hT0 : tbE.IsWhole := Memref.isWhole_whole _
    have hT1 : tbU.IsWhole := Memref.isWhole_whole _
    sl_exec! (disch := first | exact h0 | exact h2 | exact h3)
    sl_step
    iapply Hk
    isplitl [H0]; · iexact H0
    isplitl [H1]; · iexact H1
    isplitl [HT0]; · iexact HT0
    isplitl [HT1]; · iexact HT1
    isplitl [HO2]; · iexists _; iexact HO2
    iexact HS0⟩

set_option backward.proofsInPublic true in
set_option maxHeartbeats 8000000 in
/-- A tile not in use whose panel is cast anew. -/
noncomputable def runNewFree (c : Dev nD) (i : grid0.Coords) (arg4 : Memref sig .tc .vmem S512x5632 .bf16) (harg4 : arg4.IsWhole) (arg5 : Memref sig .tc .vmem S1x5632x512 .f32) (harg5 : arg5.IsWhole) (arg6 : Memref sig .tc .vmem S512x512 .bf16) (harg6 : arg6.IsWhole)
    (T0 : S72.Idx → Elt F .i32) (T1 : S1.Idx → Elt F .i32) (x0 : S512x5632.Idx → Elt F .bf16) (x1 : S1x5632x512.Idx → Elt F .f32)
    (a : Buf (Elt F) ((c : Thread nD τ).loc cc0_scratch0))
    (h0 : cNew T0 i = 1#1) (h2 : ¬ k0_cond2 i (wUsed T1) = 1#1) (h3 : k0_cond3 i (wUsed T1) = 1#1) :
    Found c i arg4 harg4 arg5 harg5 arg6 harg6 T0 T1 x0 x1 a :=
  ⟨_, _, fun K => by
    unfold owns
    rw [cc0_matmul_plain_eq_skeleton]; unfold cc0_matmul_plain_skel
    iintro ⟨H0, H1, HT0, HT1, ⟨%d2, %f2, -, HO2⟩, HS0, Hk⟩
    have hS0 : scG.IsWhole := Memref.isWhole_whole _
    have hT0 : tbE.IsWhole := Memref.isWhole_whole _
    have hT1 : tbU.IsWhole := Memref.isWhole_whole _
    sl_exec! (disch := first | exact h0 | exact h2 | exact h3)
    sl_step
    iapply Hk
    isplitl [H0]; · iexact H0
    isplitl [H1]; · iexact H1
    isplitl [HT0]; · iexact HT0
    isplitl [HT1]; · iexact HT1
    isplitl [HO2]; · iexists _; iexact HO2
    iexact HS0⟩

set_option backward.proofsInPublic true in
set_option maxHeartbeats 8000000 in
/-- A tile in use with the panel of the point before. -/
noncomputable def runOldUsed (c : Dev nD) (i : grid0.Coords) (arg4 : Memref sig .tc .vmem S512x5632 .bf16) (harg4 : arg4.IsWhole) (arg5 : Memref sig .tc .vmem S1x5632x512 .f32) (harg5 : arg5.IsWhole) (arg6 : Memref sig .tc .vmem S512x512 .bf16) (harg6 : arg6.IsWhole)
    (T0 : S72.Idx → Elt F .i32) (T1 : S1.Idx → Elt F .i32) (x0 : S512x5632.Idx → Elt F .bf16) (x1 : S1x5632x512.Idx → Elt F .f32)
    (a : Buf (Elt F) ((c : Thread nD τ).loc cc0_scratch0))
    (h0 : ¬ cNew T0 i = 1#1) (h2 : k0_cond2 i (wUsed T1) = 1#1) (h3 : ¬ k0_cond3 i (wUsed T1) = 1#1) :
    Found c i arg4 harg4 arg5 harg5 arg6 harg6 T0 T1 x0 x1 a :=
  ⟨_, _, fun K => by
    unfold owns
    rw [cc0_matmul_plain_eq_skeleton]; unfold cc0_matmul_plain_skel
    iintro ⟨H0, H1, HT0, HT1, ⟨%d2, %f2, -, HO2⟩, HS0, Hk⟩
    have hS0 : scG.IsWhole := Memref.isWhole_whole _
    have hT0 : tbE.IsWhole := Memref.isWhole_whole _
    have hT1 : tbU.IsWhole := Memref.isWhole_whole _
    sl_exec! (disch := first | exact h0 | exact h2 | exact h3)
    sl_step
    iapply Hk
    isplitl [H0]; · iexact H0
    isplitl [H1]; · iexact H1
    isplitl [HT0]; · iexact HT0
    isplitl [HT1]; · iexact HT1
    isplitl [HO2]; · iexists _; iexact HO2
    iexact HS0⟩

set_option backward.proofsInPublic true in
set_option maxHeartbeats 8000000 in
/-- A tile not in use with the panel of the point before. -/
noncomputable def runOldFree (c : Dev nD) (i : grid0.Coords) (arg4 : Memref sig .tc .vmem S512x5632 .bf16) (harg4 : arg4.IsWhole) (arg5 : Memref sig .tc .vmem S1x5632x512 .f32) (harg5 : arg5.IsWhole) (arg6 : Memref sig .tc .vmem S512x512 .bf16) (harg6 : arg6.IsWhole)
    (T0 : S72.Idx → Elt F .i32) (T1 : S1.Idx → Elt F .i32) (x0 : S512x5632.Idx → Elt F .bf16) (x1 : S1x5632x512.Idx → Elt F .f32)
    (a : Buf (Elt F) ((c : Thread nD τ).loc cc0_scratch0))
    (h0 : ¬ cNew T0 i = 1#1) (h2 : ¬ k0_cond2 i (wUsed T1) = 1#1) (h3 : k0_cond3 i (wUsed T1) = 1#1) :
    Found c i arg4 harg4 arg5 harg5 arg6 harg6 T0 T1 x0 x1 a :=
  ⟨_, _, fun K => by
    unfold owns
    rw [cc0_matmul_plain_eq_skeleton]; unfold cc0_matmul_plain_skel
    iintro ⟨H0, H1, HT0, HT1, ⟨%d2, %f2, -, HO2⟩, HS0, Hk⟩
    have hS0 : scG.IsWhole := Memref.isWhole_whole _
    have hT0 : tbE.IsWhole := Memref.isWhole_whole _
    have hT1 : tbU.IsWhole := Memref.isWhole_whole _
    sl_exec! (disch := first | exact h0 | exact h2 | exact h3)
    sl_step
    iapply Hk
    isplitl [H0]; · iexact H0
    isplitl [H1]; · iexact H1
    isplitl [HT0]; · iexact HT0
    isplitl [HT1]; · iexact HT1
    isplitl [HO2]; · iexists _; iexact HO2
    iexact HS0⟩

end Cert.DownIdeal.Hand

end
-- ==== Proof.DownWords.lean ====
/- The down call's words: what its prefetched tables hold, and what its control computes from them. -/
module

public import proofs.«01_k».proof.Proof.DownRuns
public import Idealize.ShloMosaic.Lib.ValueIdx

@[expose] public section

set_option maxRecDepth 16384

noncomputable section

namespace Cert.DownIdeal.Hand

open Cert.DownIdeal Cert.DownIdeal.Gen
open Idealize.ShloMosaic Idealize.ShloMosaic.TcCoe Idealize.ShloMosaic.ValueIdx

variable {F : FTy → Type} [FloatOps F]

/-- The ranges of the tables: the experts are eight, and some row tile is in use. -/
structure InRange (T0 : S72.Idx → BitVec 32) (T1 : S1.Idx → BitVec 32) : Prop where
  expert : ∀ x, (T0 x).toNat < 8
  used : ∀ x, 1 ≤ (T1 x).toInt

/-- The offset of the row tile's own table entry. -/
theorem off_here (i : grid0.Coords) : k0_off1 i = ![(i 1).val] := by
  have h : ∀ k : Fin 72, (![(Scalar.indexCast (BitVec.ofNat 32 k.val)).toNat] : Fin 1 → Nat) = ![k.val] := by decide
  exact h (i 1)

/-- The offset of the entry of the row tile before. -/
theorem off_prev (i : grid0.Coords) : k0_off2 i = ![(i 1).val - 1] := by
  have h : ∀ k : Fin 72, (![(Scalar.indexCast (Scalar.maxsi (Scalar.subi (BitVec.ofNat 32 k.val) 1#32) 0#32)).toNat] : Fin 1 → Nat) = ![k.val - 1] := by decide
  exact h (i 1)

/-- A loaded table word is the table's entry at the load's offset. -/
theorem word_at (T0 : S72.Idx → Elt F .i32) (off : Fin 1 → Nat) (inb : ∀ a, off a + S1.size a ≤ S72.size a) (k : Fin 72) (h : off = ![k.val]) :
    View.readAt (Elt F) tbE.view (Rect.unit (s := S72) off S1.size inb).toLoadRect T0 (Shape.Idx.first (numel1_S1.symm ▸ Nat.one_pos)) = T0 (ix1 k) := by
  subst h
  show T0 _ = T0 _
  congr 1; funext a; fin_cases a; rfl

theorem wHere_eq (T0 : S72.Idx → Elt F .i32) (i : grid0.Coords) : wHere T0 i = T0 (ix1 (i 1)) :=
  word_at T0 _ _ (i 1) (off_here i)

theorem wPrev_eq (T0 : S72.Idx → Elt F .i32) (i : grid0.Coords) :
    wPrev T0 i = T0 (ix1 (⟨(i 1).val - 1, Nat.lt_of_le_of_lt (Nat.sub_le _ _) (i 1).isLt⟩ : Fin 72)) :=
  word_at T0 _ _ ⟨(i 1).val - 1, Nat.lt_of_le_of_lt (Nat.sub_le _ _) (i 1).isLt⟩ (off_prev i)

theorem wUsed_eq (T1 : S1.Idx → Elt F .i32) : wUsed T1 = T1 (ix1 (0 : Fin 1)) := by
  show T1 _ = T1 _
  congr 1; funext a; fin_cases a; rfl

/-- A bit widened and compared with zero is the bit. -/
theorem bit_test (b : Bool) : (Scalar.cmpi .ne (Scalar.extui (BitVec.ofBool b)) 0#32 = 1#1) ↔ b = true := by
  cases b <;> decide

theorem bit_test' (b : BitVec 1) : (Scalar.cmpi .ne (Scalar.extui b) 0#32 = 1#1) ↔ b = 1#1 := by
  revert b; decide

/-- The tile is in use where its number is below the count. -/
theorem cond2_iff (i : grid0.Coords) (v : BitVec 32) : k0_cond2 i v = 1#1 ↔ (BitVec.ofNat 32 (i 1).val).slt v = true :=
  bit_test _

theorem cond3_iff (i : grid0.Coords) (v : BitVec 32) : k0_cond3 i v = 1#1 ↔ ¬ (BitVec.ofNat 32 (i 1).val).slt v = true := by
  refine (bit_test _).trans ?_
  show v.sle (BitVec.ofNat 32 (i 1).val) = true ↔ _
  rw [BitVec.sle_iff_toInt_le, BitVec.slt_iff_toInt_lt]; exact not_lt.symm

/-- Exactly one of the two stores happens. -/
theorem cond3_not (i : grid0.Coords) (v : BitVec 32) : k0_cond3 i v = 1#1 ↔ ¬ k0_cond2 i v = 1#1 := by
  rw [cond3_iff, cond2_iff]

/-- The output is stored at every point. -/
theorem never_idle (i : grid0.Coords) (v : BitVec 32) : (!(k0_cond2 i v == 1#1) && !(k0_cond3 i v == 1#1)) = false := by
  have h := cond3_not i v
  by_cases h2 : k0_cond2 i v = 1#1
  · rw [h2]; simp
  · rw [h.mpr h2]; simp

/-- Where the panel is not cast anew the tile is not its column's first, and its expert is the one before's. -/
theorem old_panel (T0 : S72.Idx → Elt F .i32) (i : grid0.Coords) (h : ¬ cNew T0 i = 1#1) : (i 1).val ≠ 0 ∧ wHere T0 i = wPrev T0 i := by
  rw [cNew, bit_test'] at h
  constructor
  · intro h0; apply h; rw [h0]
    show IntOp.ori (IntOp.cmpi .eq (BitVec.ofNat 32 0) 0#32) _ = 1#1
    have hb : ∀ b : BitVec 1, IntOp.ori (IntOp.cmpi .eq (BitVec.ofNat 32 0) 0#32) b = 1#1 := by decide
    exact hb _
  · by_contra hne; apply h
    have : Scalar.cmpi .ne (wHere T0 i) (wPrev T0 i) = 1#1 := by
      show BitVec.ofBool ((wHere T0 i : BitVec 32) != wPrev T0 i) = 1#1
      rw [bne_iff_ne.mpr hne]; rfl
    rw [this]
    have hb : ∀ b : BitVec 1, Scalar.ori b 1#1 = 1#1 := by decide
    exact hb _

/-- A tile's number as a signed word. -/
theorem tile_toInt (k : Fin 72) : (BitVec.ofNat 32 k.val).toInt = k.val := by revert k; decide
theorem tile_toNat (k : Fin 72) : (BitVec.ofNat 32 k.val).toNat = k.val := by revert k; decide

/-- The block of rows read for a tile: the tile itself, or the last one in use. -/
theorem row_block (k : Fin 72) (v : BitVec 32) (hv : 1 ≤ v.toInt) :
    (Scalar.minsi (BitVec.ofNat 32 k.val) (Scalar.subi v 1#32)).toNat ≤ k.val
      ∧ ((BitVec.ofNat 32 k.val).slt v = true → (Scalar.minsi (BitVec.ofNat 32 k.val) (Scalar.subi v 1#32)).toNat = k.val) := by
  have hk := k.isLt
  have e : (Scalar.subi v 1#32).toInt = v.toInt - 1 := by
    show (v - 1#32).toInt = _
    have := v.toInt_lt
    rw [BitVec.toInt_sub]; simp
    rw [Int.bmod_eq_of_le] <;> omega
  have e' : (Scalar.subi v 1#32).toInt = (Scalar.subi v 1#32).toNat := by
    rw [BitVec.toInt_eq_toNat_of_lt]
    by_contra hlt
    have := BitVec.toInt_neg_iff (x := Scalar.subi v 1#32)
    omega
  have hs : Scalar.minsi (BitVec.ofNat 32 k.val) (Scalar.subi v 1#32)
      = if (BitVec.ofNat 32 k.val).slt (Scalar.subi v 1#32) then BitVec.ofNat 32 k.val else Scalar.subi v 1#32 := rfl
  rw [hs]
  by_cases h : (BitVec.ofNat 32 k.val).slt (Scalar.subi v 1#32) = true
  · rw [if_pos h, tile_toNat]; exact ⟨le_refl _, fun _ => rfl⟩
  · rw [if_neg h]
    rw [BitVec.slt_iff_toInt_lt, tile_toInt] at h
    refine ⟨by omega, fun h' => ?_⟩
    rw [BitVec.slt_iff_toInt_lt, tile_toInt] at h'
    omega

/-- The experts' table and the count of tiles in use. -/
abbrev tabE (pf : pre0.Contents (Elt F)) : S72.Idx → BitVec 32 := pf 0
abbrev tabU (pf : pre0.Contents (Elt F)) : S1.Idx → BitVec 32 := pf 1

/-- The tables as the index maps read them. -/
theorem at_used (pf : pre0.Contents (Elt F)) : pf.at 1 (Rect.unit (s := S1) ![0] S1.size inb_S1_S1_0) numel1_S1 = tabU pf (ix1 (0 : Fin 1)) := by
  show tabU pf _ = tabU pf _
  congr 1; funext a; fin_cases a; rfl

theorem at_expert (pf : pre0.Contents (Elt F)) (i : grid0.Coords) :
    pf.at 0 (Rect.unit (s := S72) ![(Scalar.indexCast (BitVec.ofNat 32 (i 1).val)).toNat] S1.size (k0_off1_inb i)) numel1_S1 = tabE pf (ix1 (i 1)) :=
  word_at (F := F) (tabE pf) _ (k0_off1_inb i) (i 1) (off_here i)

theorem col_toNat (k : Fin 4) : (BitVec.ofNat 32 k.val).toNat = k.val := by revert k; decide

theorem ix_rows (pf : pre0.Contents (Elt F)) (i : grid0.Coords) :
    cc0_transform_0 inb_S1_S1_0 numel1_S1 pf i = ![(Scalar.minsi (BitVec.ofNat 32 (i 1).val) (Scalar.subi (tabU pf (ix1 (0 : Fin 1))) 1#32)).toNat, 0] :=
  congrArg (fun v : BitVec 32 => (![(Scalar.minsi (BitVec.ofNat 32 (i 1).val) (Scalar.subi v 1#32)).toNat, 0] : Fin 2 → Nat)) (at_used pf)

theorem ix_weight (pf : pre0.Contents (Elt F)) (i : grid0.Coords) :
    cc0_transform_1 k0_off1_inb numel1_S1 pf i = ![(tabE pf (ix1 (i 1))).toNat, 0, (i 0).val] :=
  (congrArg (fun v : BitVec 32 => (![v.toNat, 0, (BitVec.ofNat 32 (i 0).val).toNat] : Fin 3 → Nat)) (at_expert pf i)).trans
    (congrArg (fun n : Nat => (![(tabE pf (ix1 (i 1))).toNat, 0, n] : Fin 3 → Nat)) (col_toNat (i 0)))

theorem ix_out (i : grid0.Coords) : cc0_transform_2 i = ![(i 1).val, (i 0).val] :=
  (congrArg (fun n : Nat => (![n, (BitVec.ofNat 32 (i 0).val).toNat] : Fin 2 → Nat)) (tile_toNat (i 1))).trans
    (congrArg (fun n : Nat => (![(i 1).val, n] : Fin 2 → Nat)) (col_toNat (i 0)))

/-- At tables in range every block lies in its array. -/
theorem ok_of_range (pf : pre0.Contents (Elt F)) (h : InRange (tabE pf) (tabU pf)) : ok0 pf := by
  refine ⟨fun i => ⟨fun a => ?_, .inr (Affine.block_words_dvd (of_decide_eq_true rfl) (by decide))⟩, fun i => ⟨fun a => ?_, .inl rfl⟩⟩
  · rw [ix_rows]
    have h1 := (row_block (i 1) _ (h.used (ix1 (0 : Fin 1)))).1
    have h2 : (i 1).val < 72 := (i 1).isLt
    fin_cases a
    · show (_ + 1) * 512 ≤ 36864
      show ((Scalar.minsi (BitVec.ofNat 32 (i 1).val) (Scalar.subi (tabU pf (ix1 (0 : Fin 1))) 1#32)).toNat + 1) * 512 ≤ 36864
      omega
    · show (0 + 1) * 5632 ≤ 5632
      omega
  · rw [ix_weight]
    have h1 := h.expert (ix1 (i 1))
    have h2 : (i 0).val < 4 := (i 0).isLt
    fin_cases a
    · show ((tabE pf (ix1 (i 1))).toNat + 1) * 1 ≤ 8
      omega
    · show (0 + 1) * 5632 ≤ 5632
      omega
    · show ((i 0).val + 1) * 512 ≤ 2048
      omega

end Cert.DownIdeal.Hand

end
-- ==== Proof.DownFrame.lean ====
/- The down call from a launch: what each grid point computes, that its body does so, and what a whole run leaves. -/
module

public import proofs.«01_k».proof.Proof.DownWords
public import Idealize.ShloMosaic.Lib.VecWindow
public import Idealize.ShloMosaic.Lib.Pipeline.Value

@[expose] public section

set_option maxRecDepth 16384
set_option Elab.async false

noncomputable section

namespace Cert.DownIdeal.Hand

open Cert.DownIdeal Cert.DownIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the four runs leave, in closed form -/

/-- The scratch panel once a weight block has been cast into it. -/
def panG (c : Dev nD) (x : S1x5632x512.Idx → Elt F .f32) : Buf (Elt F) ((c : Thread nD τ).loc cc0_scratch0) :=
  scG.view.writes (Elt F) scG.view.junk [⟨Rect.unit (s := S5632x512) ![0, 0] S5632x512.size inb_S5632x512_S5632x512_0_0, k0_pay1 x⟩]

theorem zero2 : (![0, 0] : Fin 2 → Nat) = fun _ => 0 := by funext a; fin_cases a <;> rfl

/-- A panel loaded back is the cast block. -/
theorem load_panG (c : Dev nD) (x : S1x5632x512.Idx → Elt F .f32) :
    View.readAt (Elt F) scG.view (Rect.unit (s := S5632x512) ![0, 0] S5632x512.size inb_S5632x512_S5632x512_0_0).toLoadRect (panG (F := F) c x) = k0_pay1 x := by
  unfold panG
  exact (View.readAt_full _ _ _).trans ((View.read_writes_junk_eq_canon _ _).trans (View.canon_unit_zero zero2 _ _))

/-- The output buffer read back after its one store is what was stored. -/
theorem read_out (v : Memref sig .tc .vmem S512x512 .bf16) (f) (w : S512x512.Idx → Elt F .bf16) :
    v.view.read (Elt F) (v.view.writes (Elt F) f [⟨Rect.unit (s := S512x512) ![0, 0] S512x512.size inb_S512x512_S512x512_0_0, w⟩]) = w :=
  (View.read_writes_eq_canon _ _ _ (View.cover_of_tiledL _ S512x512.size (by sl_kernel_rfl))).trans (View.canon_unit_zero zero2 _ _)

/-- The block of results for a tile in use. -/
def prodOut (x0 : S512x5632.Idx → Elt F .bf16) (x1 : S1x5632x512.Idx → Elt F .f32) : S512x512.Idx → Elt F .bf16 :=
  k0_pay2 x0 (k0_pay1 x1)

/-- A staged block of rows, and a staged block of weights, loaded whole. -/
abbrev ldX (v : Memref sig .tc .vmem S512x5632 .bf16) (x : S512x5632.Idx → Elt F .bf16) : S512x5632.Idx → Elt F .bf16 :=
  View.readAt (Elt F) v.view (Rect.unit (s := S512x5632) ![0, 0] S512x5632.size inb_S512x5632_S512x5632_0_0).toLoadRect (v.view.rep x)
abbrev ldW (v : Memref sig .tc .vmem S1x5632x512 .f32) (x : S1x5632x512.Idx → Elt F .f32) : S1x5632x512.Idx → Elt F .f32 :=
  View.readAt (Elt F) v.view (Rect.unit (s := S1x5632x512) ![0, 0, 0] S1x5632x512.size inb_S1x5632x512_S1x5632x512_0_0_0).toLoadRect (v.view.rep x)

theorem ldX_eq (v : Memref sig .tc .vmem S512x5632 .bf16) (x : S512x5632.Idx → Elt F .bf16) : ldX v x = x := View.readAt_rep_full _ _ _
theorem ldW_eq (v : Memref sig .tc .vmem S1x5632x512 .f32) (x : S1x5632x512.Idx → Elt F .f32) : ldW v x = x := View.readAt_rep_full _ _ _

/-- A panel just written, loaded back. -/
theorem cov_panG (w : S5632x512.Idx → Elt F .bf16) :
    scG.view.readCov [(⟨Rect.unit (s := S5632x512) ![0, 0] S5632x512.size inb_S5632x512_S5632x512_0_0, w⟩ : View.Piece (Elt F) S5632x512 .bf16)]
      (Rect.unit (s := S5632x512) ![0, 0] S5632x512.size inb_S5632x512_S5632x512_0_0).toLoadRect = w :=
  View.readCov_unit_zero _ zero2 _ _

/-- What the one store of a point leaves. -/
abbrev one (w : S512x512.Idx → Elt F .bf16) : List (View.Piece (Elt F) S512x512 .bf16) :=
  [⟨Rect.unit (s := S512x512) ![0, 0] S512x512.size inb_S512x512_S512x512_0_0, w⟩]

/-- A run restated with what it leaves spelled otherwise. -/
theorem Runs.restate {c i arg4 harg4 arg5 harg5 arg6 harg6 T0 T1 x0 x1 a o o' p p'}
    (h : Runs (F := F) c i arg4 harg4 arg5 harg5 arg6 harg6 T0 T1 x0 x1 a o p) (eo : o = o') (ep : p = p') :
    Runs (F := F) c i arg4 harg4 arg5 harg5 arg6 harg6 T0 T1 x0 x1 a o' p' := by
  subst eo ep; exact h

section
variable (c : Dev nD) (i : grid0.Coords) (arg4 : Memref sig .tc .vmem S512x5632 .bf16) (harg4 : arg4.IsWhole) (arg5 : Memref sig .tc .vmem S1x5632x512 .f32) (harg5 : arg5.IsWhole) (arg6 : Memref sig .tc .vmem S512x512 .bf16) (harg6 : arg6.IsWhole)
    (T0 : S72.Idx → Elt F .i32) (T1 : S1.Idx → Elt F .i32) (x0 : S512x5632.Idx → Elt F .bf16) (x1 : S1x5632x512.Idx → Elt F .f32)
    (a : Buf (Elt F) ((c : Thread nD τ).loc cc0_scratch0))

theorem panels_newUsed (h0 : cNew T0 i = 1#1) (h2 : k0_cond2 i (wUsed T1) = 1#1) (h3 : ¬ k0_cond3 i (wUsed T1) = 1#1) :
    (runNewUsed c i arg4 harg4 arg5 harg5 arg6 harg6 T0 T1 x0 x1 a h0 h2 h3).2.1 = panG c (ldW arg5 x1) := by
  unfold runNewUsed panG runNewUsed.sl.HS0_1
  dsimp only

theorem panels_newFree (h0 : cNew T0 i = 1#1) (h2 : ¬ k0_cond2 i (wUsed T1) = 1#1) (h3 : k0_cond3 i (wUsed T1) = 1#1) :
    (runNewFree c i arg4 harg4 arg5 harg5 arg6 harg6 T0 T1 x0 x1 a h0 h2 h3).2.1 = panG c (ldW arg5 x1) := by
  unfold runNewFree panG runNewFree.sl.HS0_1
  dsimp only

theorem panels_oldUsed (h0 : ¬ cNew T0 i = 1#1) (h2 : k0_cond2 i (wUsed T1) = 1#1) (h3 : ¬ k0_cond3 i (wUsed T1) = 1#1) :
    (runOldUsed c i arg4 harg4 arg5 harg5 arg6 harg6 T0 T1 x0 x1 a h0 h2 h3).2.1 = a := by
  unfold runOldUsed
  rfl

theorem panels_oldFree (h0 : ¬ cNew T0 i = 1#1) (h2 : ¬ k0_cond2 i (wUsed T1) = 1#1) (h3 : k0_cond3 i (wUsed T1) = 1#1) :
    (runOldFree c i arg4 harg4 arg5 harg5 arg6 harg6 T0 T1 x0 x1 a h0 h2 h3).2.1 = a := by
  unfold runOldFree
  rfl

theorem newUsed (h0 : cNew T0 i = 1#1) (h2 : k0_cond2 i (wUsed T1) = 1#1) (h3 : ¬ k0_cond3 i (wUsed T1) = 1#1) :
    Runs c i arg4 harg4 arg5 harg5 arg6 harg6 T0 T1 x0 x1 a (one (prodOut x0 x1)) (panG c x1) :=
  Runs.restate (runNewUsed c i arg4 harg4 arg5 harg5 arg6 harg6 T0 T1 x0 x1 a h0 h2 h3).2.2
    ((show (runNewUsed c i arg4 harg4 arg5 harg5 arg6 harg6 T0 T1 x0 x1 a h0 h2 h3).1
        = one (k0_pay2 (ldX arg4 x0) (runNewUsed.sl.v20 arg5 x1)) from rfl).trans
      (by rw [ldX_eq, show runNewUsed.sl.v20 arg5 x1 = k0_pay1 (ldW arg5 x1) from cov_panG _, ldW_eq]; rfl))
    ((panels_newUsed c i arg4 harg4 arg5 harg5 arg6 harg6 T0 T1 x0 x1 a h0 h2 h3).trans (by rw [ldW_eq]))

theorem newFree (h0 : cNew T0 i = 1#1) (h2 : ¬ k0_cond2 i (wUsed T1) = 1#1) (h3 : k0_cond3 i (wUsed T1) = 1#1) :
    Runs c i arg4 harg4 arg5 harg5 arg6 harg6 T0 T1 x0 x1 a (one k0_pay3) (panG c x1) :=
  Runs.restate (runNewFree c i arg4 harg4 arg5 harg5 arg6 harg6 T0 T1 x0 x1 a h0 h2 h3).2.2
    rfl
    ((panels_newFree c i arg4 harg4 arg5 harg5 arg6 harg6 T0 T1 x0 x1 a h0 h2 h3).trans (by rw [ldW_eq]))

theorem oldUsed (h0 : ¬ cNew T0 i = 1#1) (h2 : k0_cond2 i (wUsed T1) = 1#1) (h3 : ¬ k0_cond3 i (wUsed T1) = 1#1) :
    Runs c i arg4 harg4 arg5 harg5 arg6 harg6 T0 T1 x0 x1 (panG c x1) (one (prodOut x0 x1)) (panG c x1) :=
  Runs.restate (runOldUsed c i arg4 harg4 arg5 harg5 arg6 harg6 T0 T1 x0 x1 (panG c x1) h0 h2 h3).2.2
    ((show (runOldUsed c i arg4 harg4 arg5 harg5 arg6 harg6 T0 T1 x0 x1 (panG c x1) h0 h2 h3).1
        = one (k0_pay2 (ldX arg4 x0)
            (View.readAt (Elt F) scG.view (Rect.unit (s := S5632x512) ![0, 0] S5632x512.size inb_S5632x512_S5632x512_0_0).toLoadRect (panG (F := F) c x1))) from rfl).trans
      (by rw [ldX_eq, load_panG]; rfl))
    (panels_oldUsed c i arg4 harg4 arg5 harg5 arg6 harg6 T0 T1 x0 x1 _ h0 h2 h3)

theorem oldFree (h0 : ¬ cNew T0 i = 1#1) (h2 : ¬ k0_cond2 i (wUsed T1) = 1#1) (h3 : k0_cond3 i (wUsed T1) = 1#1) :
    Runs c i arg4 harg4 arg5 harg5 arg6 harg6 T0 T1 x0 x1 a (one k0_pay3) a :=
  Runs.restate (runOldFree c i arg4 harg4 arg5 harg5 arg6 harg6 T0 T1 x0 x1 a h0 h2 h3).2.2 rfl (panels_oldFree c i arg4 harg4 arg5 harg5 arg6 harg6 T0 T1 x0 x1 _ h0 h2 h3)

end

end Cert.DownIdeal.Hand

end
-- ==== Proof.DownLaunch.lean ====
/- The down call from a launch: what each grid point leaves, that its body does so, and what a whole run leaves. -/
module

public import proofs.«01_k».proof.Proof.DownFrame

@[expose] public section

set_option maxRecDepth 16384
set_option Elab.async false

noncomputable section

namespace Cert.DownIdeal.Hand

open Cert.DownIdeal Cert.DownIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resources: the pipeline's staging cells. -/
abbrev EP : Emb (UR sig nD τ) 𝕄 := emb₁

/-- The tables a launch memory holds. -/
def pf (m : (ℓ : Loc nD τ sig) → Buf (Elt F) ℓ) : pre0.Contents (Elt F) := fun j => m (((0 : Dev nD) : Thread nD τ).loc (pre0.ref j))

variable (m : (ℓ : Loc nD τ sig) → Buf (Elt F) ℓ) (ρ : Dev nD → PrngReg)
variable (hT : InRange (tabE (pf m)) (tabU (pf m)))

/-- The call at the launch memory's tables. -/
def adm : (pcfg0 (F := F)).Adm := ⟨pf m, ok_of_range _ hT⟩
abbrev cfgA : Pipeline.Cfg sig Λ₀ := cfg0 (F := F) (adm m hT)
abbrev pcs : Fin 1 → Pipeline.Cfg sig Λ₀ := Pipeline.pin (pcfgs (F := F)) fun _ => adm m hT

/-- A point's coordinates and staging buffers. -/
abbrev crd (t : Fin (cfgA m hT).N) : (cfgA m hT).grid.Coords := (cfgA m hT).grid.coords t
abbrev ms0_0 (t : Fin (cfgA m hT).N) : Memref sig .tc .vmem S512x5632 .bf16 := spec0_0.stage ((cfgA m hT).slots t (0 : Fin 3))
abbrev hs0_0 (t : Fin (cfgA m hT).N) : (ms0_0 m hT t).IsWhole := hstage0_0 (((cfgA m hT).slots t (0 : Fin 3)).cast nbuf0_0)
abbrev ms0_1 (t : Fin (cfgA m hT).N) : Memref sig .tc .vmem S1x5632x512 .f32 := spec0_1.stage ((cfgA m hT).slots t (1 : Fin 3))
abbrev hs0_1 (t : Fin (cfgA m hT).N) : (ms0_1 m hT t).IsWhole := hstage0_1 (((cfgA m hT).slots t (1 : Fin 3)).cast nbuf0_1)
abbrev ms0_2 (t : Fin (cfgA m hT).N) : Memref sig .tc .vmem S512x512 .bf16 := spec0_2.stage ((cfgA m hT).slots t (2 : Fin 3))
abbrev hs0_2 (t : Fin (cfgA m hT).N) : (ms0_2 m hT t).IsWhole := hstage0_2 (((cfgA m hT).slots t (2 : Fin 3)).cast nbuf0_2)

/-- Window `w`'s block at point `t`, read off its array at launch. -/
def iblk (c : Dev nD) (w : Fin (cfgA m hT).W) (t : Fin (cfgA m hT).N) : (((cfgA m hT).win w).xblock (crd m hT t)).Idx → Elt F ((cfgA m hT).win w).elt :=
  (((cfgA m hT).win w).blk t).view.read (Elt F) ((s₀ m ρ).mem (((cfgA m hT).win w).arr.view.loc (c : Thread nD τ)))

/-- What point `t` stores into its block of the output: the tile's product where the tile is in use, else zeros. -/
def outAt (c : Dev nD) (t : Fin (cfgA m hT).N) : S512x512.Idx → Elt F .bf16 :=
  if k0_cond2 (crd m hT t) (wUsed (F := F) (tabU (pf m))) = 1#1 then prodOut (iblk m ρ hT c (0 : Fin 3) t) (iblk m ρ hT c (1 : Fin 3) t) else k0_pay3

/-- Before position `n` the panel holds the weight block of the point before, cast. -/
def heldG (c : Dev nD) (n : ℕ) (a : Buf (Elt F) ((c : Thread nD τ).loc cc0_scratch0)) : Prop :=
  ∀ t' : Fin (cfgA m hT).N, t'.val + 1 = n → a = panG (F := F) c (iblk m ρ hT c (1 : Fin 3) t')

theorem heldG_succ (c : Dev nD) (t : Fin (cfgA m hT).N) : heldG m ρ hT c (t.val + 1) (panG (F := F) c (iblk m ρ hT c (1 : Fin 3) t)) := by
  intro t' h; rw [show t' = t from Fin.ext (Nat.succ.inj h)]
theorem heldG_zero (c : Dev nD) (a) : heldG m ρ hT c 0 a := fun _ h => absurd h (Nat.succ_ne_zero _)

/-- Between points: the panel holds the weight block of the point before, cast; the tables are as they were. -/
def Phi (c : Dev nD) (n : ℕ) : sProp 𝕄 :=
  iprop((∃ a, ⌜heldG m ρ hT c n a⌝ ∗ (scG.view.loc (c : Thread nD τ) ↦{fullShare} a))
    ∗ (tbE.view.loc (c : Thread nD τ) ↦{fullShare.right} tabE (pf m)) ∗ (tbU.view.loc (c : Thread nD τ) ↦{fullShare.right} tabU (pf m)))

/-- The proof data of the one pipeline on core `c`. -/
def dats (_ : Fin 1) (c : Dev nD) : Dat τ (Elt F) Unit ℕ (UR sig nD τ) ℕ (cfgA m hT) c where
  A w := (s₀ m ρ).mem (((cfgA m hT).win w).arr.view.loc (c : Thread nD τ))
  after w t := match w with
    | ⟨0, _⟩ => iblk m ρ hT c (0 : Fin 3) t
    | ⟨1, _⟩ => iblk m ρ hT c (1 : Fin 3) t
    | ⟨2, _⟩ => outAt m ρ hT c t
  Φ t := Phi m ρ hT c t.val
  q _ := fullShare
  owed _ := 0

theorem after0_0 (c : Dev nD) (t : Fin (cfgA m hT).N) : (dats m ρ hT 0 c).after (0 : Fin 3) t = iblk m ρ hT c (0 : Fin 3) t := rfl
theorem after0_1 (c : Dev nD) (t : Fin (cfgA m hT).N) : (dats m ρ hT 0 c).after (1 : Fin 3) t = iblk m ρ hT c (1 : Fin 3) t := rfl
theorem after0_2 (c : Dev nD) (t : Fin (cfgA m hT).N) : (dats m ρ hT 0 c).after (2 : Fin 3) t = outAt m ρ hT c t := rfl

/-- An input window holds its block when the body runs. -/
theorem before0_0 (c : Dev nD) (t : Fin (cfgA m hT).N) (d) : (dats m ρ hT 0 c).before (0 : Fin 3) t d = iblk m ρ hT c (0 : Fin 3) t :=
  ((dats m ρ hT 0 c).before_in_eq_fetched (0 : Fin 3) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA m hT).N) (d) : (dats m ρ hT 0 c).before (1 : Fin 3) t d = iblk m ρ hT c (1 : Fin 3) t :=
  ((dats m ρ hT 0 c).before_in_eq_fetched (1 : Fin 3) rfl (fun _ => rfl) (fun _ _ _ => rfl) (fun t => by rw [after0_1]; unfold Dat.blockOf iblk; rfl) t d).trans
    (by unfold Dat.fetched Dat.blockOf iblk; rfl)

/-! ## The grid: column by column, and down each column the row tiles -/

theorem crd0 (t : Fin (cfgA m hT).N) : ((crd m hT t) 0).val = t.val / 72 % 4 := Pipeline.Grid.coords_val (G := grid0) t 0 (by decide) rfl
theorem crd1 (t : Fin (cfgA m hT).N) : ((crd m hT t) 1).val = t.val / 1 % 72 := Pipeline.Grid.coords_val (G := grid0) t 1 (by decide) rfl

/-- At a tile that is not its column's first, the point before is the tile above in the same column. -/
theorem above (t t' : Fin (cfgA m hT).N) (ht : t'.val = t.val - 1) (h : ((crd m hT t) 1).val ≠ 0) :
    ((crd m hT t') 1).val = ((crd m hT t) 1).val - 1 ∧ (crd m hT t') 0 = (crd m hT t) 0 := by
  refine ⟨?_, Fin.ext ?_⟩
  · rw [crd1, crd1] at *; omega
  · rw [crd1] at h; rw [crd0, crd0]; omega

/-- There, where the experts agree, the weight block is that of the point before. -/
theorem same_weight (c : Dev nD) (t t' : Fin (cfgA m hT).N) (ht : t'.val = t.val - 1)
    (h : ((crd m hT t) 1).val ≠ 0) (he : wHere (F := F) (tabE (pf m)) (crd m hT t) = wPrev (F := F) (tabE (pf m)) (crd m hT t)) :
    iblk m ρ hT c (1 : Fin 3) t' = iblk m ρ hT c (1 : Fin 3) t := by
  obtain ⟨e1, e0⟩ := above m hT t t' ht h
  have hi : ((cfgA m hT).win (1 : Fin 3)).index t' = ((cfgA m hT).win (1 : Fin 3)).index t := by
    show cc0_transform_1 k0_off1_inb numel1_S1 (pf m) (crd m hT t') = cc0_transform_1 k0_off1_inb numel1_S1 (pf m) (crd m hT t)
    rw [wHere_eq, wPrev_eq] at he
    rw [ix_weight, ix_weight, e0]
    have : tabE (pf m) (ix1 ((crd m hT t') 1)) = tabE (pf m) (ix1 ((crd m hT t) 1)) := by
      refine Eq.trans ?_ he.symm
      congr 2; exact Fin.ext e1
    rw [this]
  exact (by unfold Dat.fetched Dat.blockOf iblk; rfl : iblk m ρ hT c (1 : Fin 3) t' = (dats m ρ hT 0 c).fetched (1 : Fin 3) t' (fun _ => Classical.arbitrary _)).trans
    (((dats m ρ hT 0 c).fetched_congr (1 : Fin 3) hi rfl _).trans (by unfold Dat.fetched Dat.blockOf iblk; rfl))

/-- The output is stored at every point. -/
theorem idle2 (t : Fin (cfgA m hT).N) : (cfgA m hT).idle (2 : Fin 3) ((cfgA m hT).grid.coords t) = false := never_idle _ _

/-- What a point's run leaves, whatever its path. -/
theorem point_run (c : Dev nD) (t : Fin (cfgA m hT).N)
    (a : Buf (Elt F) ((c : Thread nD τ).loc cc0_scratch0))
    (ha : heldG m ρ hT c t.val a) :
    Runs c (crd m hT t) (ms0_0 m hT t) (hs0_0 m hT t) (ms0_1 m hT t) (hs0_1 m hT t) (ms0_2 m hT t) (hs0_2 m hT t)
      (tabE (pf m)) (tabU (pf m)) (iblk m ρ hT c (0 : Fin 3) t) (iblk m ρ hT c (1 : Fin 3) t) a
      (one (outAt m ρ hT c t)) (panG (F := F) c (iblk m ρ hT c (1 : Fin 3) t)) := by
  have h23 := cond3_not (crd m hT t) (wUsed (F := F) (tabU (pf m)))
  by_cases h0 : cNew (F := F) (tabE (pf m)) (crd m hT t) = 1#1
  · by_cases h2 : k0_cond2 (crd m hT t) (wUsed (F := F) (tabU (pf m))) = 1#1
    · rw [show outAt m ρ hT c t = _ from if_pos h2]
      exact newUsed c _ _ _ _ _ _ _ _ _ _ _ _ h0 h2 (fun h => h23.mp h h2)
    · rw [show outAt m ρ hT c t = _ from if_neg h2]
      exact newFree c _ _ _ _ _ _ _ _ _ _ _ _ h0 h2 (h23.mpr h2)
  · obtain ⟨hm, he⟩ := old_panel _ _ h0
    have ht : t.val ≠ 0 := fun h => hm (by rw [crd1, h])
    have ea : a = panG (F := F) c (iblk m ρ hT c (1 : Fin 3) t) := (ha ⟨t.val - 1, by omega⟩ (Nat.succ_pred ht)).trans (congrArg (panG (F := F) c) (same_weight m ρ hT c t _ rfl hm he))
    subst ea
    by_cases h2 : k0_cond2 (crd m hT t) (wUsed (F := F) (tabU (pf m))) = 1#1
    · rw [show outAt m ρ hT c t = _ from if_pos h2]
      exact oldUsed c _ _ _ _ _ _ _ _ _ _ _ h0 h2 (fun h => h23.mp h h2)
    · rw [show outAt m ρ hT c t = _ from if_neg h2]
      exact oldFree c _ _ _ _ _ _ _ _ _ _ _ _ h0 h2 (h23.mpr h2)

end Cert.DownIdeal.Hand

end
-- ==== Proof.DownWhole.lean ====
/- The down call run whole: the body at every point, the launch, and what it leaves. -/
module

public import proofs.«01_k».proof.Proof.DownLaunch

@[expose] public section

set_option maxRecDepth 16384
set_option Elab.async false

noncomputable section

namespace Cert.DownIdeal.Hand

open Cert.DownIdeal Cert.DownIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (hT : InRange (tabE (pf m)) (tabU (pf m)))

/-- The body at point `t` on its staging buffers. -/
abbrev bodyAt (t : Fin (cfgA m hT).N) : Prog (TpuEff nD τ sig (Elt F) Λ₀ .tc) PUnit :=
  cc0_matmul_plain (crd m hT t) tbE (Memref.isWhole_whole _) tbU (Memref.isWhole_whole _) (ms0_0 m hT t) (hs0_0 m hT t) (ms0_1 m hT t) (hs0_1 m hT t) (ms0_2 m hT t) (hs0_2 m hT t) scG (Memref.isWhole_whole _)

theorem phi_here (c : Dev nD) (t : Fin (cfgA m hT).N) : (dats m ρ hT 0 c).Φ t.castSucc = Phi m ρ hT c t.val :=
  congrArg (Phi m ρ hT c) (Fin.val_castSucc t)
theorem phi_succ (c : Dev nD) (t : Fin (cfgA m hT).N) : (dats m ρ hT 0 c).Φ t.succ = Phi m ρ hT c (t.val + 1) :=
  congrArg (Phi m ρ hT c) (Fin.val_succ t)

set_option maxHeartbeats 400000 in
/-- The body does at point `t` what the proof data says. -/
theorem sound_body (c : Dev nD) (t : Fin (cfgA m hT).N) :
    iprop((dats m ρ hT 0 c).Φ t.castSucc ∗ (dats m ρ hT 0 c).owesAt () t.castSucc
        ∗ (∃ d, owns (c : Thread nD τ) (ms0_0 m hT t) fullShare ((dats m ρ hT 0 c).before (0 : Fin 3) t d))
        ∗ (∃ d, owns (c : Thread nD τ) (ms0_1 m hT t) fullShare ((dats m ρ hT 0 c).before (1 : Fin 3) t d))
        ∗ (∃ d, owns (c : Thread nD τ) (ms0_2 m hT t) fullShare ((dats m ρ hT 0 c).before (2 : Fin 3) t d)))
      ⊢ wp frame (wpE (defs₀ (F := F)) Variants.none c none) Set.univ (bodyAt m hT t) fun _ =>
          iprop((dats m ρ hT 0 c).Φ t.succ ∗ (dats m ρ hT 0 c).owesAt () t.succ
            ∗ bigSep Finset.univ fun w : Fin (cfgA m hT).W =>
                match (cfgA m hT).idle w ((cfgA m hT).grid.coords t) with
                | true =>
                  match ((cfgA m hT).win w).flush t with
                  | false => iprop(∃ d, owns (c : Thread nD τ) (((cfgA m hT).win w).stage ((cfgA m hT).slots t w)) fullShare ((dats m ρ hT 0 c).before w t d))
                  | true => owns (c : Thread nD τ) (((cfgA m hT).win w).stage ((cfgA m hT).slots t w)) fullShare ((dats m ρ hT 0 c).after w t)
                | false => owns (c : Thread nD τ) (((cfgA m hT).win w).stage ((cfgA m hT).slots t w)) fullShare ((dats m ρ hT 0 c).after w t)) := by
  rw [bigSep_W0]
  rewrite [idle2 m hT t]
  simp only [before0_0, before0_1, after0_0, after0_1, after0_2]
  rewrite [phi_succ m ρ hT c t, phi_here m ρ hT c t,
    show (dats m ρ hT 0 c).owesAt () t.succ = (dats m ρ hT 0 c).owesAt () t.castSucc from rfl]
  unfold Phi
  iintro ⟨⟨⟨%a0, %ha0, HS0⟩, HT0, HT1⟩, Ho, ⟨%d0, H0⟩, ⟨%d1, H1⟩, ⟨%d2, H2⟩⟩
  have run := point_run m ρ hT c t a0 ha0
  unfold Runs at run
  iapply (run _)
  isplitl [H0]; · iapply rep_of_owns; iexact H0
  isplitl [H1]; · iapply rep_of_owns; iexact H1
  isplitl [HT0]; · iexact HT0
  isplitl [HT1]; · iexact HT1
  isplitl [H2]; · iexists _; iexact H2
  isplitl [HS0]; · iexact HS0
  iintro ⟨H0, H1, HT0, HT1, ⟨%e2, H2⟩, HS0⟩
  isplitl [HS0 HT0 HT1]
  · isplitl [HS0]
    · iexists _; isplitr; swap
      · iexact HS0
      · ipureintro; exact heldG_succ m ρ hT c t
    isplitl [HT0]
    · iexact HT0
    iexact HT1
  isplitl [Ho]; · iexact Ho
  isplitl [H0]
  · iapply owns_of_rep; iexact H0
  isplitl [H1]
  · iapply owns_of_rep; iexact H1
  unfold owns; iexists _; isplitr; swap
  · iexact H2
  · ipureintro; exact read_out _ _ _

/-- The library's body obligation. -/
theorem body_obligation (c : Dev nD) : BodyObligation (dats m ρ hT 0 c) (defs₀ (F := F)) Variants.none () Set.univ := fun t => by
  rw [bigSep_W0]
  exact sound_body m ρ hT c t

/-! ## The launch -/

/-- The launch's staging cells. -/
def u₀ : UR sig nD τ :=
  initOf (Pipeline.cells (pcs m hT) ((launch0 (F := F)).cellOf_inj fun _ => adm m hT))
    (Pipeline.launchToks (pcs m hT) ((launch0 (F := F)).cellOf_inj fun _ => adm m hT))

theorem share_eq (c : Dev nD) (w : Fin (cfgA m hT).W) : (dats m ρ hT 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm m hT).1 ∗ Pipeline.scopedRest spec0 c) ⊢ (dats m ρ hT 0 c).Φ 0 := by
  rw [prefHeld_eq, scopedRest0_eq, show (dats m ρ hT 0 c).Φ 0 = Phi m ρ hT c 0 from rfl]
  unfold Phi
  iintro ⟨-, ⟨HT0, HT1⟩, ⟨%a0, HS0⟩⟩
  isplitl [HS0]
  · iexists a0; isplitr; swap
    · iexact HS0
    · ipureintro; exact heldG_zero m ρ hT c _
  isplitl [HT0]
  · iexact HT0
  iexact HT1

theorem phiN_exit (c : Dev nD) : (dats m ρ hT 0 c).Φ (Fin.last (cfgA m hT).N) ⊢ iprop(BI.emp ∗ Pipeline.scopedRest spec0 c) := by
  rw [scopedRest0_eq, show (dats m ρ hT 0 c).Φ (Fin.last (cfgA m hT).N) = Phi m ρ hT c (Fin.last (cfgA m hT).N).val from rfl]
  unfold Phi
  iintro ⟨⟨%a0, -, HS0⟩, -, -⟩
  isplitr; · iempintro
  iexists a0; iexact HS0

/-- A finished run: every array holds what the proof data computes, and the tables are as they were. -/
def QC : PUnit × MemSt nD τ sig (Elt F) → Prop := fun r =>
  ∀ c : Dev nD, (∀ w : Fin (cfgA m hT).W, r.2.mem (((cfgA m hT).win w).arr.view.loc (c : Thread nD τ)) = (dats m ρ hT 0 c).arrAt w (cfgA m hT).N)
    ∧ ∀ j, r.2.mem ((c : Thread nD τ).loc (pre0.ref j)) = (adm m hT).1 j

theorem V_pre (c : Dev nD) (j : Fin 2) : m ((c : Thread nD τ).loc (pre0.ref j)) = (adm m hT).1 j := by
  rw [show c = 0 from Subsingleton.elim _ _]; rfl

set_option backward.isDefEq.respectTransparency.types false in
set_option maxHeartbeats 4000000 in
/-- From a launch memory whose tables are in range every run finishes, with the arrays as computed and no semaphore held. -/
theorem run_main_quiescent : θ_run (defs (F := F)) (onTc (τ := τ) (main (F := F))) (s₀ m ρ) (fun r => QC m ρ hT r ∧ r.2.sem = fun _ => 0) :=
  Pipeline.θ_run_region_noSem_pf_quiescent pcfgs (fun _ => adm m hT) (dats m ρ hT) () ((launch0 (F := F)).cellOf_inj fun _ => adm m hT) (0 : Fin 1)
    (launch0 (F := F)).win.to₀ (launch0 (F := F)).pre EP defs₀ Variants.none m ρ main
    (hbody := fun c => (body_obligation m ρ hT c).loose) (hne := (launch0 (F := F)).block_pos)
    (harr := (launch0 (F := F)).arr_whole) (hstage := (launch0 (F := F)).stage_whole) (howed := fun _ _ => rfl)
    (u₀ := u₀ m hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hT) (dats m ρ hT) 0 (launch0 (F := F)).win.arr_inj c (launch0 (F := F)).arr_whole
      (share_eq m ρ hT c) _ _ fun _ => rfl)
    (hpf := V_pre m hT)
    (X := fun _ => iprop(emp)) (Y := fun _ => iprop(emp)) (Z := fun _ => iprop(emp))
    (hX := fun c => by rw [unscopedRestP0_eq]; iintro -; isplitr <;> iempintro)
    (hin := phi0_intro m ρ hT)
    (hout := phiN_exit m ρ hT)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The result array is what the proof data computes, and the arguments are unchanged. -/
theorem run_blocks :
    θ_run (defs (F := F)) (onTc (τ := τ) (main (F := F))) ⟨m, fun _ => 0, ρ⟩ (fun r => (∀ c : Dev nD,
      r.2.mem ((c.tc : Thread nD τ).loc main_v0) = (dats m ρ hT 0 c).arrAt (2 : Fin 3) (cfgA m hT).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 (2 : Fin 3),
    ((h.1 c).1 (0 : Fin 3)).trans ((dats m ρ hT 0 c).arrAt_in (0 : Fin 3) rfl _),
    ((h.1 c).2 0).trans (V_pre m hT c 0).symm, ((h.1 c).2 1).trans (V_pre m hT c 1).symm,
    ((h.1 c).1 (1 : Fin 3)).trans ((dats m ρ hT 0 c).arrAt_in (1 : Fin 3) rfl _)⟩, h.2⟩) (run_main_quiescent m ρ hT)

include hT in
/-- Every run finishes with the arguments unchanged and no semaphore held. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_blocks m ρ hT)

end Cert.DownIdeal.Hand

end
-- ==== Proof.DownSpec.lean ====
/- The experts' down projections in closed form. -/
module

public import proofs.«01_k».proof.Proof.UpSpec

@[expose] public section

noncomputable section

namespace Cert.Expert

open Idealize.ShloMosaic Idealize.ShloMosaic.ValueIdx

/-- A row's down projection: in a tile in use, its product with its tile's expert's weights; else zero. -/
def down (xs : (⟨2, ![36864, 5632]⟩ : Shape).Idx → EReal) (te : (⟨1, ![72]⟩ : Shape).Idx → BitVec 32) (nu : (⟨1, ![1]⟩ : Shape).Idx → BitVec 32)
    (w : (⟨3, ![8, 5632, 2048]⟩ : Shape).Idx → EReal) (r : Fin 36864) (n : Fin 2048) : EReal :=
  if (BitVec.ofNat 32 (tile r).val).slt (nu (ix1 (0 : Fin 1))) = true then edot xs w (named (te (ix1 (tile r)))) r n else 0

end Cert.Expert

end
-- ==== Proof.DownArray.lean ====
/- The down call's result array: every grid point's block is its block of the experts' down projections of the arguments,
   and the blocks tile the array. -/
module

public import proofs.«01_k».proof.Proof.DownWhole
public import proofs.«01_k».proof.Proof.DownSpec
public import Idealize.ShloMosaic.Lib.MatmulPlain

@[expose] public section

set_option maxRecDepth 16384

noncomputable section

namespace Cert.DownVal

open Cert.DownIdeal Cert.DownIdeal.Gen Cert.DownIdeal.Hand Cert.Expert Idealize.ShloMosaic Idealize.ShloMosaic.ValueIdx Idealize.ShloMosaic.TcCoe Idealize.SL.Sem
open Idealize.ShloMosaic.Pipeline (Dat)
open scoped BigOperators

/-! ## One grid point -/

/-- A weight block cast to the panel, at an index. -/
theorem panel (x : S1x5632x512.Idx → EReal) (k : Fin 5632) (l : Fin 512) :
    k0_pay1 (F := Ideal) x (ix2 k l) = x (ix3 ⟨0, Nat.one_pos⟩ k l) := by
  unfold k0_pay1
  refine (shapeCast_apply _ shapeCasts_S5632x512_S5632x512 (ix2 k l) (ix2 k l) rfl).trans ?_
  rw [ValueIdx.truncf_apply]
  refine (shapeCast_dropUnit_apply ![5632, 512] x shapeCasts_S1x5632x512_S5632x512 (ix2 k l)).trans (congrArg x ?_)
  funext a
  match a with
  | ⟨0, _⟩ => rfl
  | ⟨1, _⟩ => rfl
  | ⟨2, _⟩ => rfl

/-- One product of a block of rows with a panel, at an index. -/
theorem product (x : FVec Ideal S512x5632 .bf16) (w : FVec Ideal S5632x512 .bf16) (r l : Fin 512) :
    matmul dot_S512x5632_S5632x512_S512x512_1_0_0_1_n_n none x w (constant S512x512 .f32 0x00000000#32 : FVec Ideal S512x512 .f32) (ix2 r l)
      = ∑ k : Fin 5632, x (ix2 r k) * w (ix2 k l) := by
  refine (Ideal.matmul_plain_apply none _ _ _ r l).trans ?_
  show Ideal.ofBits .f32 0x00000000#32 + _ = _
  rw [Ideal.ofBits_zero_f32, zero_add]

/-- The block stored for a tile in use, at an index. -/
theorem prod_apply (x : S512x5632.Idx → EReal) (w : S1x5632x512.Idx → EReal) (r l : Fin 512) :
    prodOut (F := Ideal) x w (ix2 r l) = ∑ k : Fin 5632, x (ix2 r k) * w (ix3 ⟨0, Nat.one_pos⟩ k l) := by
  unfold prodOut k0_pay2
  rw [ValueIdx.truncf_apply]
  have e := product x (k0_pay1 (F := Ideal) w) r l
  simp only [panel] at e
  rw [← e]

/-- The block stored for a tile past the last in use is zero. -/
theorem free_apply (y : S512x512.Idx) : k0_pay3 (F := Ideal) y = (0 : EReal) := Ideal.ofBits_zero_bf16

/-! ## The blocks -/

variable (m : (ℓ : Loc nD τ sig) → Buf (Elt Ideal) ℓ) (ρ : Dev nD → PrngReg)
variable (hT : InRange (tabE (pf m)) (tabU (pf m)))

theorem count : (cfgA m hT).N = 288 := by
  have : grid0.N = 288 := by decide
  exact this

/-- A point's row tile and column block. -/
def tl (t : Fin (cfgA m hT).N) : Fin 72 := (crd m hT t) 1
def cb (t : Fin (cfgA m hT).N) : Fin 4 := (crd m hT t) 0

theorem index_out (t : Fin (cfgA m hT).N) : ((cfgA m hT).win (2 : Fin 3)).index t = ![(tl m hT t).val, (cb m hT t).val] := ix_out (crd m hT t)
theorem index_rows (t : Fin (cfgA m hT).N) : ((cfgA m hT).win (0 : Fin 3)).index t
    = ![(Scalar.minsi (BitVec.ofNat 32 (tl m hT t).val) (Scalar.subi (tabU (pf m) (ix1 (0 : Fin 1))) 1#32)).toNat, 0] := ix_rows (pf m) (crd m hT t)
theorem index_weight (t : Fin (cfgA m hT).N) : ((cfgA m hT).win (1 : Fin 3)).index t = ![(tabE (pf m) (ix1 (tl m hT t))).toNat, 0, (cb m hT t).val] := ix_weight (pf m) (crd m hT t)

/-- A block of the output ends at every point: the next point's row tile is another. -/
theorem flush_out (t : Fin (cfgA m hT).N) : ((cfgA m hT).win (2 : Fin 3)).flush t = true := by
  have hN := count m hT
  unfold Pipeline.Window.flush
  refine Bool.and_eq_true_iff.mpr ⟨rfl, Bool.or_eq_true_iff.mpr ?_⟩
  by_cases h : t.val + 1 < (cfgA m hT).N
  · refine .inr (decide_eq_true ⟨h, fun e => ?_⟩)
    have e0 := congrFun ((index_out m hT ⟨t.val + 1, h⟩).symm.trans (e.trans (index_out m hT t))) (0 : Fin 2)
    have e1 : (t.val + 1) / 1 % 72 = t.val / 1 % 72 := (crd1 m hT ⟨t.val + 1, h⟩).symm.trans (e0.trans (crd1 m hT t))
    omega
  · exact .inl (decide_eq_true (by have := t.isLt; show t.val + 1 = (cfgA m hT).N; omega))

/-- The array row and column of a block's row and column. -/
abbrev rowOf (t : Fin (cfgA m hT).N) (r : Fin 512) : Fin 36864 := ⟨(tl m hT t).val * 512 + r.val, by have := (tl m hT t).isLt; omega⟩
abbrev colOf (t : Fin (cfgA m hT).N) (l : Fin 512) : Fin 2048 := ⟨(cb m hT t).val * 512 + l.val, by have := (cb m hT t).isLt; omega⟩

theorem tile_rowOf (t : Fin (cfgA m hT).N) (r : Fin 512) : tile (rowOf m hT t r) = tl m hT t := Fin.ext (by
  show ((tl m hT t).val * 512 + r.val) / 512 = (tl m hT t).val
  omega)

/-- Where an element of the output's block sits in the array. -/
theorem emb_out (t : Fin (cfgA m hT).N) (r l : Fin 512) :
    (((cfgA m hT).win (2 : Fin 3)).blk t).view.emb (ix2 r l) = (ix2 (rowOf m hT t r) (colOf m hT t l) : S36864x2048.Idx) := by
  have e := index_out m hT t
  have e0 := congrFun e (0 : Fin 2)
  have e1 := congrFun e (1 : Fin 2)
  funext a; apply Fin.ext
  match a with
  | ⟨0, _⟩ =>
    show ((cfgA m hT).win (2 : Fin 3)).index t (0 : Fin 2) * 512 + 1 * r.val = (tl m hT t).val * 512 + r.val
    rw [e0]; show (tl m hT t).val * 512 + 1 * r.val = _; omega
  | ⟨1, _⟩ =>
    show ((cfgA m hT).win (2 : Fin 3)).index t (1 : Fin 2) * 512 + 1 * l.val = (cb m hT t).val * 512 + l.val
    rw [e1]; show (cb m hT t).val * 512 + 1 * l.val = _; omega

/-- The rows' block of a tile in use, at an index. -/
theorem blk_rows (c : Dev nD) (t : Fin (cfgA m hT).N) (hu : (BitVec.ofNat 32 (tl m hT t).val).slt (tabU (pf m) (ix1 (0 : Fin 1))) = true) (r : Fin 512) (k : Fin 5632) :
    iblk m ρ hT c (0 : Fin 3) t (ix2 r k) = m ((c : Thread nD τ).loc main_arg0) (ix2 (rowOf m hT t r) k) := by
  have e := index_rows m hT t
  have e0 := congrFun e (0 : Fin 2)
  have e1 := congrFun e (1 : Fin 2)
  have hr := (row_block (tl m hT t) _ (hT.used (ix1 (0 : Fin 1)))).2 hu
  show m ((c : Thread nD τ).loc main_arg0) ((((cfgA m hT).win (0 : Fin 3)).blk t).view.emb (ix2 r k)) = _
  congr 1
  funext a; apply Fin.ext
  match a with
  | ⟨0, _⟩ =>
    show ((cfgA m hT).win (0 : Fin 3)).index t (0 : Fin 2) * 512 + 1 * r.val = (tl m hT t).val * 512 + r.val
    rw [e0]; show (Scalar.minsi _ _).toNat * 512 + 1 * r.val = _; rw [hr]; omega
  | ⟨1, _⟩ =>
    show ((cfgA m hT).win (0 : Fin 3)).index t (1 : Fin 2) * 5632 + 1 * k.val = k.val
    rw [e1]; show 0 * 5632 + 1 * k.val = _; omega

/-- A weight word in range names its expert. -/
theorem named_val (t : Fin (cfgA m hT).N) : (named (tabE (pf m) (ix1 (tl m hT t)))).val = (tabE (pf m) (ix1 (tl m hT t))).toNat :=
  Nat.mod_eq_of_lt (hT.expert _)

/-- The weights' block at an index. -/
theorem blk_weight (c : Dev nD) (t : Fin (cfgA m hT).N) (k : Fin 5632) (l : Fin 512) :
    iblk m ρ hT c (1 : Fin 3) t (ix3 ⟨0, Nat.one_pos⟩ k l)
      = m ((c : Thread nD τ).loc main_arg3) (ix3 (named (tabE (pf m) (ix1 (tl m hT t)))) k (colOf m hT t l)) := by
  have e := index_weight m hT t
  have e0 := congrFun e (0 : Fin 3)
  have e1 := congrFun e (1 : Fin 3)
  have e2 := congrFun e (2 : Fin 3)
  have hn := named_val m hT t
  show m ((c : Thread nD τ).loc main_arg3) ((((cfgA m hT).win (1 : Fin 3)).blk t).view.emb (ix3 ⟨0, Nat.one_pos⟩ k l)) = _
  congr 1
  funext a; apply Fin.ext
  match a with
  | ⟨0, _⟩ =>
    show ((cfgA m hT).win (1 : Fin 3)).index t (0 : Fin 3) * 1 + 1 * 0 = (named (tabE (pf m) (ix1 (tl m hT t)))).val
    rw [e0, hn]; show (tabE (pf m) (ix1 (tl m hT t))).toNat * 1 + 1 * 0 = _; omega
  | ⟨1, _⟩ =>
    show ((cfgA m hT).win (1 : Fin 3)).index t (1 : Fin 3) * 5632 + 1 * k.val = k.val
    rw [e1]; show 0 * 5632 + 1 * k.val = _; omega
  | ⟨2, _⟩ =>
    show ((cfgA m hT).win (1 : Fin 3)).index t (2 : Fin 3) * 512 + 1 * l.val = (cb m hT t).val * 512 + l.val
    rw [e2]; show (cb m hT t).val * 512 + 1 * l.val = _; omega

/-! ## The whole array -/

/-- The whole result: the experts' down projections of the arguments, the tables those the launch reads. -/
abbrev result (c : Dev nD) : S36864x2048.Idx → EReal := fun i =>
  down (m ((c : Thread nD τ).loc main_arg0)) (tabE (pf m)) (tabU (pf m)) (m ((c : Thread nD τ).loc main_arg3)) (i 0) (i 1)

/-- What a grid point stores, at an index. -/
theorem out_apply (c : Dev nD) (t : Fin (cfgA m hT).N) (r l : Fin 512) :
    outAt m ρ hT c t (ix2 r l) = down (m ((c : Thread nD τ).loc main_arg0)) (tabE (pf m)) (tabU (pf m)) (m ((c : Thread nD τ).loc main_arg3))
      (rowOf m hT t r) (colOf m hT t l) := by
  have hc : k0_cond2 (crd m hT t) (wUsed (F := Ideal) (tabU (pf m))) = 1#1 ↔ (BitVec.ofNat 32 (tl m hT t).val).slt (tabU (pf m) (ix1 (0 : Fin 1))) = true := by
    rw [cond2_iff, wUsed_eq]; rfl
  unfold outAt down
  rw [tile_rowOf]
  by_cases hu : (BitVec.ofNat 32 (tl m hT t).val).slt (tabU (pf m) (ix1 (0 : Fin 1))) = true
  · rw [if_pos (hc.mpr hu), if_pos hu, prod_apply]
    have er := fun k => blk_rows m ρ hT c t hu r k
    have ew := fun k => blk_weight m ρ hT c t k l
    exact Finset.sum_congr rfl fun k _ => congrArg₂ (· * ·) (er k) (ew k)
  · rw [if_neg (fun h => hu (hc.mp h)), if_neg hu]
    exact free_apply _

/-- What a grid point writes back is its block of the whole result. -/
theorem flushed_eq (c : Dev nD) (t : Fin (cfgA m hT).N) :
    (dats m ρ hT 0 c).flushed (2 : Fin 3) t = (((cfgA m hT).win (2 : Fin 3)).blk t).view.read (Elt Ideal) (result m c) := by
  have h1 : (dats m ρ hT 0 c).flushed (2 : Fin 3) t = outAt m ρ hT c t := by
    show ((cfgA m hT).win (2 : Fin 3)).cut ((cfgA m hT).grid.coords t) ((dats m ρ hT 0 c).after (2 : Fin 3) t) = _
    rw [after0_2]
    rfl
  rw [h1]
  funext y
  obtain ⟨r, l, rfl⟩ : ∃ r l : Fin 512, y = ix2 r l := ⟨y 0, y 1, eq_ix2 y⟩
  show _ = result m c ((((cfgA m hT).win (2 : Fin 3)).blk t).view.emb (ix2 r l))
  rw [emb_out]
  exact out_apply m ρ hT c t r l

/-- Every index of the result is in some grid point's block. -/
theorem cover (i : S36864x2048.Idx) : ∃ t : Fin (cfgA m hT).N, ((cfgA m hT).win (2 : Fin 3)).flush t = true ∧ i ∈ (((cfgA m hT).win (2 : Fin 3)).blk t).view.set := by
  have h0 : (i 0).val < 36864 := (i 0).isLt
  have h1 : (i 1).val < 2048 := (i 1).isLt
  have hN := count m hT
  have ht : (i 1).val / 512 * 72 + (i 0).val / 512 < (cfgA m hT).N := by omega
  have et : (tl m hT ⟨_, ht⟩).val = (i 0).val / 512 := (crd1 m hT ⟨_, ht⟩).trans (by
    show ((i 1).val / 512 * 72 + (i 0).val / 512) / 1 % 72 = _; omega)
  have ec : (cb m hT ⟨_, ht⟩).val = (i 1).val / 512 := (crd0 m hT ⟨_, ht⟩).trans (by
    show ((i 1).val / 512 * 72 + (i 0).val / 512) / 72 % 4 = _; omega)
  refine ⟨⟨_, ht⟩, flush_out m hT _, ?_⟩
  have h := (((cfgA m hT).win (2 : Fin 3)).blk ⟨_, ht⟩).view.emb_mem_set (ix2 (⟨(i 0).val % 512, by omega⟩ : Fin 512) (⟨(i 1).val % 512, by omega⟩ : Fin 512))
  refine (congrArg (· ∈ _) (Eq.trans ?_ (emb_out m hT ⟨_, ht⟩ (⟨(i 0).val % 512, by omega⟩ : Fin 512) (⟨(i 1).val % 512, by omega⟩ : Fin 512)).symm)).mpr h
  refine (eq_ix2 i).trans (congrArg₂ (fun a b => (ix2 a b : S36864x2048.Idx)) (Fin.ext ?_) (Fin.ext ?_))
  · show (i 0).val = (tl m hT ⟨_, ht⟩).val * 512 + (i 0).val % 512
    rw [et]; omega
  · show (i 1).val = (cb m hT ⟨_, ht⟩).val * 512 + (i 1).val % 512
    rw [ec]; omega

/-- **The result array** after the run: the experts' down projections of the arguments. -/
theorem final (c : Dev nD) : (dats m ρ hT 0 c).arrAt (2 : Fin 3) (cfgA m hT).N = result m c :=
  (dats m ρ hT 0 c).arrAt_eq_of_cover (2 : Fin 3) (result m c) (fun t _ => flushed_eq m ρ hT c t) (cover m hT)

end Cert.DownVal

end
-- ==== Proof.DownRefValue.lean ====
/- The down call's reference, index by index: every element is the experts' down projection of the arguments. -/
module

public import proofs.«01_k».proof.Proof.DownSpec
public import proofs.«01_k».proof.Proof.UpRefValue
public import proofs.«01_k».proof.Proof.Gen.DownRefIdeal.Read
public import Idealize.ShloMosaic.Lib.StackMember
public import Idealize.ShloMosaic.Lib.ValueLayout

@[expose] public section

set_option maxRecDepth 16384

noncomputable section

namespace Cert.DownRefVal

open Cert.DownRefIdeal Cert.DownRefIdeal.Gen Cert.DownRefIdeal.Read Cert.Expert Idealize.ShloMosaic Idealize.ShloMosaic.ValueIdx
open scoped BigOperators

variable (xs : S36864x5632.Idx → EReal) (te : S72.Idx → BitVec 32) (nu : S1.Idx → BitVec 32) (w : S8x5632x2048.Idx → EReal)

/-- One expert's weights, cut out of the stack, at an index. -/
theorem weights_apply (e : Fin 8) (h : S8x5632x2048.Slices (![e.val, 0, 0] : Fin 3 → Nat) S1x5632x2048) (w : S8x5632x2048.Idx → EReal) (k : Fin 5632) (n : Fin 2048) :
    shapeCast S5632x2048 (extractStridedSlice S1x5632x2048 ![e.val, 0, 0] w h) shapeCasts_S1x5632x2048_S5632x2048 (ix2 k n) = w (ix3 e k n) := by
  refine (shapeCast_1ab_ab_apply _ _ k n).trans ?_
  refine extractStridedSlice_apply _ w h _ _ fun a => match a with
    | ⟨0, _⟩ => by show e.val = e.val + 0; omega
    | ⟨1, _⟩ => by show k.val = 0 + k.val; omega
    | ⟨2, _⟩ => by show n.val = 0 + n.val; omega

/-- The rows' product with one expert's weights. -/
abbrev dotE (e : Fin 8) (h : S8x5632x2048.Slices (![e.val, 0, 0] : Fin 3 → Nat) S1x5632x2048) (w : S8x5632x2048.Idx → EReal) : FVec Ideal S36864x2048 .f32 :=
  Host.dotGeneral (F := Ideal) (φ₁ := .f32) (φ₂ := .f32) dot_S36864x5632_S5632x2048_S36864x2048_1_0_0_1_n_n none (val_main_v8 (F := Ideal) xs)
    (shapeCast S5632x2048 (extractStridedSlice S1x5632x2048 ![e.val, 0, 0] w h) shapeCasts_S1x5632x2048_S5632x2048)

theorem dotE_apply (e : Fin 8) (h) (w : S8x5632x2048.Idx → EReal) (r : Fin 36864) (n : Fin 2048) : dotE xs e h w (ix2 r n) = edot xs w e r n := by
  refine (StackMember.dotGeneral_plain_apply none _ _ r n).trans ?_
  exact Finset.sum_congr rfl fun k _ => congrArg₂ (· * ·) rfl (weights_apply e h w k n)

/-- Each row's expert: its tile's table word. -/
theorem expert_apply (r : Fin 36864) : val_main_v1 (F := Ideal) te (ix1 r) = te (ix1 (tile r)) := by
  rw [val_main_v1_apply, val_main_v0_apply]
  congr 1
  funext a
  match a with
  | ⟨0, _⟩ => rfl

/-- Whether a row's expert is `v`, spread along the row. -/
theorem mask_apply (v : BitVec 32) (r : Fin 36864) (n : Fin 2048) :
    broadcastInDim S36864x2048 ![0, 1] bcast_S36864x1_S36864x2048_0_1 (broadcastInDim S36864x1 ![0] bcast_S36864_S36864x1_0
      (cmpi .eq (val_main_v1 (F := Ideal) te) (broadcastInDim S36864 ![] bcast_S_S36864 (constantI S_ 32 v)))) (ix2 r n)
      = IntOp.cmpi .eq (te (ix1 (tile r))) v := by
  refine (broadcastInDim_apply _ bcast_S36864x1_S36864x2048_0_1 _ (ix2 r n) (ix2 r (0 : Fin 1)) (fun a => match a with
    | ⟨0, _⟩ => by show r.val = if (36864 : Nat) = 1 then 0 else r.val; rw [if_neg (by decide)]
    | ⟨1, _⟩ => by show 0 = if (1 : Nat) = 1 then 0 else n.val; rw [if_pos rfl])).trans ?_
  refine (broadcastInDim_apply _ bcast_S36864_S36864x1_0 _ (ix2 r (0 : Fin 1)) (ix1 r) (fun a => match a with
    | ⟨0, _⟩ => by show r.val = if (36864 : Nat) = 1 then 0 else r.val; rw [if_neg (by decide)])).trans ?_
  show IntOp.cmpi .eq (val_main_v1 (F := Ideal) te (ix1 r)) (broadcastInDim S36864 ![] bcast_S_S36864 (constantI S_ 32 v) (ix1 r)) = _
  rw [expert_apply]
  exact congrArg (IntOp.cmpi .eq (te (ix1 (tile r)))) (broadcastInDim_apply _ bcast_S_S36864 (constantI S_ 32 v) (ix1 r) ix0 (fun a => a.elim0))

/-- After the first expert: its product where the row's expert is it, else what was there. -/
theorem stage0 (r : Fin 36864) (n : Fin 2048) : val_main_v16 (F := Ideal) xs te w (ix2 r n)
    = if te (ix1 (tile r)) = 0#32 then edot xs w 0 r n else val_main_v9 (F := Ideal) (ix2 r n) :=
  (congrArg₂ (fun c p => Scalar.select c p (val_main_v9 (F := Ideal) (ix2 r n))) (mask_apply te 0#32 r n)
    (dotE_apply xs 0 slices_S8x5632x2048_S1x5632x2048_0_0_0 w r n)).trans (UpRefVal.choose_eq _ _ _ _)

/-- After the second expert: its product where the row's expert is it, else what was there. -/
theorem stage1 (r : Fin 36864) (n : Fin 2048) : val_main_v23 (F := Ideal) xs te w (ix2 r n)
    = if te (ix1 (tile r)) = 1#32 then edot xs w 1 r n else val_main_v16 (F := Ideal) xs te w (ix2 r n) :=
  (congrArg₂ (fun c p => Scalar.select c p (val_main_v16 (F := Ideal) xs te w (ix2 r n))) (mask_apply te 1#32 r n)
    (dotE_apply xs 1 slices_S8x5632x2048_S1x5632x2048_1_0_0 w r n)).trans (UpRefVal.choose_eq _ _ _ _)

/-- After the third expert: its product where the row's expert is it, else what was there. -/
theorem stage2 (r : Fin 36864) (n : Fin 2048) : val_main_v30 (F := Ideal) xs te w (ix2 r n)
    = if te (ix1 (tile r)) = 2#32 then edot xs w 2 r n else val_main_v23 (F := Ideal) xs te w (ix2 r n) :=
  (congrArg₂ (fun c p => Scalar.select c p (val_main_v23 (F := Ideal) xs te w (ix2 r n))) (mask_apply te 2#32 r n)
    (dotE_apply xs 2 slices_S8x5632x2048_S1x5632x2048_2_0_0 w r n)).trans (UpRefVal.choose_eq _ _ _ _)

/-- After the fourth expert: its product where the row's expert is it, else what was there. -/
theorem stage3 (r : Fin 36864) (n : Fin 2048) : val_main_v37 (F := Ideal) xs te w (ix2 r n)
    = if te (ix1 (tile r)) = 3#32 then edot xs w 3 r n else val_main_v30 (F := Ideal) xs te w (ix2 r n) :=
  (congrArg₂ (fun c p => Scalar.select c p (val_main_v30 (F := Ideal) xs te w (ix2 r n))) (mask_apply te 3#32 r n)
    (dotE_apply xs 3 slices_S8x5632x2048_S1x5632x2048_3_0_0 w r n)).trans (UpRefVal.choose_eq _ _ _ _)

/-- After the fifth expert: its product where the row's expert is it, else what was there. -/
theorem stage4 (r : Fin 36864) (n : Fin 2048) : val_main_v44 (F := Ideal) xs te w (ix2 r n)
    = if te (ix1 (tile r)) = 4#32 then edot xs w 4 r n else val_main_v37 (F := Ideal) xs te w (ix2 r n) :=
  (congrArg₂ (fun c p => Scalar.select c p (val_main_v37 (F := Ideal) xs te w (ix2 r n))) (mask_apply te 4#32 r n)
    (dotE_apply xs 4 slices_S8x5632x2048_S1x5632x2048_4_0_0 w r n)).trans (UpRefVal.choose_eq _ _ _ _)

/-- After the sixth expert: its product where the row's expert is it, else what was there. -/
theorem stage5 (r : Fin 36864) (n : Fin 2048) : val_main_v51 (F := Ideal) xs te w (ix2 r n)
    = if te (ix1 (tile r)) = 5#32 then edot xs w 5 r n else val_main_v44 (F := Ideal) xs te w (ix2 r n) :=
  (congrArg₂ (fun c p => Scalar.select c p (val_main_v44 (F := Ideal) xs te w (ix2 r n))) (mask_apply te 5#32 r n)
    (dotE_apply xs 5 slices_S8x5632x2048_S1x5632x2048_5_0_0 w r n)).trans (UpRefVal.choose_eq _ _ _ _)

/-- After the seventh expert: its product where the row's expert is it, else what was there. -/
theorem stage6 (r : Fin 36864) (n : Fin 2048) : val_main_v58 (F := Ideal) xs te w (ix2 r n)
    = if te (ix1 (tile r)) = 6#32 then edot xs w 6 r n else val_main_v51 (F := Ideal) xs te w (ix2 r n) :=
  (congrArg₂ (fun c p => Scalar.select c p (val_main_v51 (F := Ideal) xs te w (ix2 r n))) (mask_apply te 6#32 r n)
    (dotE_apply xs 6 slices_S8x5632x2048_S1x5632x2048_6_0_0 w r n)).trans (UpRefVal.choose_eq _ _ _ _)

/-- After the eighth expert: its product where the row's expert is it, else what was there. -/
theorem stage7 (r : Fin 36864) (n : Fin 2048) : val_main_v65 (F := Ideal) xs te w (ix2 r n)
    = if te (ix1 (tile r)) = 7#32 then edot xs w 7 r n else val_main_v58 (F := Ideal) xs te w (ix2 r n) :=
  (congrArg₂ (fun c p => Scalar.select c p (val_main_v58 (F := Ideal) xs te w (ix2 r n))) (mask_apply te 7#32 r n)
    (dotE_apply xs 7 slices_S8x5632x2048_S1x5632x2048_7_0_0 w r n)).trans (UpRefVal.choose_eq _ _ _ _)

/-- After all eight: the row's expert's product. -/
theorem experts_apply (hte : ∀ x, (te x).toNat < 8) (r : Fin 36864) (n : Fin 2048) :
    val_main_v65 (F := Ideal) xs te w (ix2 r n) = edot xs w (named (te (ix1 (tile r)))) r n := by
  rw [stage7, stage6, stage5, stage4, stage3, stage2, stage1, stage0]
  rcases UpRefVal.eight _ (hte (ix1 (tile r))) with e | e | e | e | e | e | e | e <;> rw [e] <;> rfl

/-- Whether a row's tile is in use, spread along the row. -/
theorem used_apply (r : Fin 36864) (n : Fin 2048) :
    val_main_call8_v1 (F := Ideal) nu (ix2 r n) = IntOp.cmpi .slt (BitVec.ofNat 32 (tile r).val) (nu (ix1 (0 : Fin 1))) := by
  rw [val_main_call8_v1_apply, val_main_v66_apply, val_main_v7_apply, val_main_v6_apply, val_main_v5_apply, val_main_v2_apply, val_main_v4_apply]
  refine congrArg (IntOp.cmpi .slt (BitVec.ofNat 32 (tile r).val)) ?_
  exact shapeCast_apply nu shapeCasts_S1_S_ _ (ix1 (0 : Fin 1)) rfl

/-- **The reference** at an index. -/
theorem value (hte : ∀ x, (te x).toNat < 8) (r : Fin 36864) (n : Fin 2048) :
    val_main_v68 (F := Ideal) xs te nu w (ix2 r n) = down xs te nu w r n := by
  rw [val_main_v68_apply]
  show val_main_v67 (F := Ideal) xs te nu w (ix2 r n) = _
  rw [val_main_v67_apply, used_apply, experts_apply xs te w hte, val_main_call8_v2_apply, val_main_call8_v0_apply, val_main_cst_7_apply]
  show (if BitVec.ofBool ((BitVec.ofNat 32 (tile r).val).slt (nu (ix1 (0 : Fin 1)))) = 1#1 then _ else Ideal.ofBits .f32 0x00000000#32) = _
  rw [Ideal.ofBits_zero_f32]
  unfold down
  by_cases h : (BitVec.ofNat 32 (tile r).val).slt (nu (ix1 (0 : Fin 1))) = true
  · rw [if_pos h, if_pos (by rw [h]; rfl)]
  · rw [if_neg h, if_neg (by rw [Bool.eq_false_iff.mpr h]; decide)]

end Cert.DownRefVal

end
-- ==== Proof.DownPre.lean ====
/- The precondition of the down call's claims, read back: every tile's expert is one of the eight, and at least one tile is
   in use. -/
module

public import proofs.«01_k».proof.Pre_down_tables_in_range
public import proofs.«01_k».proof.Proof.UpPre
public import Idealize.ShloMosaic.Lib.ValueIdx
public import Idealize.ShloMosaic.Lib.ReduceAll

@[expose] public section

noncomputable section

namespace Cert.DownPre

open Cert.Pre_down_tables_in_range Idealize.ShloMosaic Idealize.ShloMosaic.ValueIdx

/-- The side conditions the printed predicate states. -/
instance facts : Cert.Pre_down_tables_in_range.Facts where
  bcast_S_S72 := by decide
  reducesTo_S72_S_d0 := by decide
  h_S_ := by decide
  bcast_S_S1 := by decide
  reducesTo_S1_S_d0 := by decide

/-- A scalar has one index. -/
instance one_index : Subsingleton S_.Idx := ⟨fun _ _ => funext fun a => a.elim0⟩

/-- Where the predicate holds, the tables are in range. -/
theorem in_range {F : FTy → Type} [FloatOps F] (xs : FVec F S36864x5632 .bf16) (te : IVec S72 32) (nu : IVec S1 32) (w : FVec F S8x5632x2048 .f32)
    (h : Cert.Pre_down_tables_in_range.fn (F := F) xs te nu w = fun _ => 1#1) : (∀ x, (te x).toNat < 8) ∧ ∀ x, 1 ≤ (nu x).toInt := by
  obtain ⟨h1, h2⟩ := IntOp.andi_eq_one.mp (congrFun h ix0)
  obtain ⟨h3, h4⟩ := IntOp.andi_eq_one.mp h1
  exact ⟨fun x => UpPre.below_eight _ (Host.reduce_andi_all _ _ _ _ ix0 h3 x) (Host.reduce_andi_all _ _ _ _ ix0 h4 x), fun x => UpPre.at_least_one _ (Host.reduce_andi_all _ _ _ _ ix0 h2 x)⟩

end Cert.DownPre

end
-- ==== Proof.DownClaim.lean ====
/- The down call's claims: the frames, and that kernel and reference end at the same array. -/
module

public import proofs.«01_k».proof.Defs
public import proofs.«01_k».proof.Proof.DownArray
public import proofs.«01_k».proof.Proof.DownBitWhole
public import proofs.«01_k».proof.Proof.DownRefValue
public import proofs.«01_k».proof.Proof.DownPre
public import proofs.«01_k».proof.Proof.Gen.DownRefIdeal.Run
public import Idealize.ShloMosaic.Adequacy
public import Idealize.ShloMosaic.Init

@[expose] public section

noncomputable section

namespace Cert.DownClaim

open Idealize.ShloMosaic Idealize.SL.Sem Cert.Expert Idealize.ShloMosaic.ValueIdx

/-- Where the precondition holds, the tables the ideal kernel reads are in range. -/
theorem ideal_range (m : (ℓ : Loc DownIdeal.nD DownIdeal.τ DownIdeal.sig) → Buf (Elt Ideal) ℓ) (h : Cert.Pre_DownIdeal (hPre_down_tables_in_range := DownPre.facts) m) :
    DownIdeal.Hand.InRange (DownIdeal.Hand.tabE (DownIdeal.Hand.pf m)) (DownIdeal.Hand.tabU (DownIdeal.Hand.pf m)) :=
  have p := DownPre.in_range _ _ _ _ (h 0)
  ⟨p.1, p.2⟩

/-- Likewise for the kernel as printed. -/
theorem printed_range (m : (ℓ : Loc Down.nD Down.τ Down.sig) → Buf (Elt Bits) ℓ) (h : Cert.Pre_Down (hPre_down_tables_in_range := DownPre.facts) m) :
    Down.Hand.InRange (Down.Hand.tabE (Down.Hand.pf m)) (Down.Hand.tabU (Down.Hand.pf m)) :=
  have p := DownPre.in_range _ _ _ _ (h 0)
  ⟨p.1, p.2⟩

/-- The printed kernel's frame. -/
theorem frame_printed : Cert.quiescent_Down (hDown := Down.Gen.facts) (hPre_down_tables_in_range := DownPre.facts) :=
  fun m ρ h => Down.Hand.frame m ρ (printed_range m h)

/-- The ideal kernel's frame. -/
theorem frame_ideal : Cert.quiescent_DownIdeal (hDownIdeal := DownIdeal.Gen.facts) (hPre_down_tables_in_range := DownPre.facts) :=
  fun m ρ h => DownIdeal.Hand.frame m ρ (ideal_range m h)

/-- The reference's frame: its arguments end unchanged, and it declares no semaphore. -/
theorem frame_ref : Cert.quiescent_DownRefIdeal (hDownRefIdeal := DownRefIdeal.Gen.facts) := fun m ρ _ =>
  (θ_run _ _ _).mono (fun r h => ⟨fun c => (h c).2, sem_eq_zero_of_no_sems (by decide) r.2⟩) (DownRefIdeal.Value.run m ρ)

/-- Likewise where the tables are in range. -/
theorem frame_ref_pre : Cert.quiescent_DownRefIdeal_pre_down_tables_in_range (hDownRefIdeal := DownRefIdeal.Gen.facts) (hPre_down_tables_in_range := DownPre.facts) :=
  fun m ρ _ => frame_ref m ρ trivial

/-- At tables in range the kernel's array and the reference's are both `Expert.down` of the arguments. -/
theorem algebraic : Cert.algebraic_DownIdeal_DownRefIdeal (hDownIdeal := DownIdeal.Gen.facts) (hDownRefIdeal := DownRefIdeal.Gen.facts)
    (hPre_down_tables_in_range := DownPre.facts) := by
  intro m g m' g' hpre hargs
  have hT := ideal_range m hpre
  refine ⟨fun c => DownVal.result m c, (θ_run _ _ _).mono (fun r h c => ?_) (DownIdeal.Hand.run_blocks m g hT),
    (θ_run _ _ _).mono (fun r h c => ?_) (DownRefIdeal.Value.run m' g')⟩
  · obtain ⟨h0, h1⟩ := h.1 c
    exact ⟨h0.trans (DownVal.final m g hT c), h1⟩
  · obtain ⟨h0, h1⟩ := h c
    obtain ⟨a0, a1, a2, a3⟩ := hargs c
    refine ⟨h0.trans ?_, h1⟩
    refine (DownRefIdeal.Read.val_main_v68_eq (F := Ideal) _ _).trans (funext fun i => ?_)
    refine (congrArg _ (eq_ix2 i)).trans ?_
    have hc : c = (0 : Dev DownIdeal.nD) := Subsingleton.elim _ _
    subst hc
    have hv := DownRefVal.value (m ((Dev.tc (0 : Dev DownIdeal.nD) : Thread DownIdeal.nD DownIdeal.τ).loc DownIdeal.main_arg0)) (DownIdeal.Hand.tabE (DownIdeal.Hand.pf m)) (DownIdeal.Hand.tabU (DownIdeal.Hand.pf m))
      (m ((Dev.tc (0 : Dev DownIdeal.nD) : Thread DownIdeal.nD DownIdeal.τ).loc DownIdeal.main_arg3)) hT.expert (i 0) (i 1)
    refine Eq.trans ?_ hv
    exact congrFun (congr (congr (congr (congrArg (DownRefIdeal.Read.val_main_v68 (F := Ideal)) a0) a1) a2) a3) _

end Cert.DownClaim

end
-- ==== Proof.MidImports.lean ====
/- The generated readings the gate and up call's proof builds on. -/
module

public import proofs.«01_k».proof.Proof.Gen.Mid.Skeleton
public import proofs.«01_k».proof.Proof.Gen.Mid.Launch
public import proofs.«01_k».proof.Proof.Gen.MidIdeal.Skeleton
public import proofs.«01_k».proof.Proof.Gen.MidIdeal.Launch
public import proofs.«01_k».proof.Proof.Gen.Mid.Frame
public import proofs.«01_k».proof.Proof.Gen.MidIdeal.Frame
public import proofs.«01_k».proof.Proof.Gen.MidRefIdeal.Run
public import proofs.«01_k».proof.Proof.Gen.MidRefIdeal.Read
-- ==== Proof.MidSpec.lean ====
/- The gated hidden layer of the modulated rows in closed form. -/
module

public import proofs.«01_k».proof.Proof.UpSpec

@[expose] public section

noncomputable section

namespace Cert.Dense

open Cert.Expert Idealize.ShloMosaic Idealize.ShloMosaic.ValueIdx
open scoped BigOperators

/-- The modulation row a row of the residual stream takes: one per 4096 rows, and row 4 for the last 1024. -/
def modRow (r : Fin 17408) : Fin 8 := ⟨if r.val < 16384 then r.val / 4096 else 4, by split <;> omega⟩

/-- The reciprocal root of a row's mean square, raised by the small constant. -/
def scaleOf (s : EReal) : EReal := Ideal.rsqrt (Ideal.div s (Ideal.ofBits .f32 0x45000000#32) + Ideal.ofBits .f32 0x358637BD#32)

/-- One entry of a row brought to unit mean square, times its gain, scaled and shifted. -/
def modulated (x s g scale shift : EReal) : EReal := x * scaleOf s * g * (Ideal.ofBits .f32 0x3F800000#32 + scale) + shift

/-- The modulated rows: each row normalised, times the gain, scaled and shifted by its modulation row. -/
def rows (h : (⟨2, ![17408, 2048]⟩ : Shape).Idx → EReal) (g : (⟨1, ![2048]⟩ : Shape).Idx → EReal) (mod : (⟨3, ![8, 1, 12288]⟩ : Shape).Idx → EReal)
    (r : Fin 17408) (k : Fin 2048) : EReal :=
  modulated (h (ix2 r k)) (∑ j : Fin 2048, h (ix2 r j) * h (ix2 r j)) (g (ix1 k)) (mod (ix3 (modRow r) (0 : Fin 1) (⟨8192 + k.val, by omega⟩ : Fin 12288)))
    (mod (ix3 (modRow r) (0 : Fin 1) (⟨6144 + k.val, by omega⟩ : Fin 12288)))

/-- The gated hidden layer: the gate's product with `wg`, times its logistic, times the product with `wu`. -/
def hidden (h : (⟨2, ![17408, 2048]⟩ : Shape).Idx → EReal) (g : (⟨1, ![2048]⟩ : Shape).Idx → EReal) (mod : (⟨3, ![8, 1, 12288]⟩ : Shape).Idx → EReal)
    (wg wu : (⟨2, ![2048, 5632]⟩ : Shape).Idx → EReal) (r : Fin 17408) (n : Fin 5632) : EReal :=
  silu (∑ k : Fin 2048, rows h g mod r k * wg (ix2 k n)) * ∑ k : Fin 2048, rows h g mod r k * wu (ix2 k n)

end Cert.Dense

end
-- ==== Proof.MidBlock.lean ====
/- One grid point of the gate and up call: what it keeps in the scratch and what it stores, index by index. -/
module

public import proofs.«01_k».proof.Proof.MidImports
public import proofs.«01_k».proof.Proof.MidSpec
public import Idealize.ShloMosaic.Lib.MatmulPlain
public import Idealize.ShloMosaic.Lib.ValueLayout
public import Idealize.ShloMosaic.Lib.Pipeline.Value
public import Idealize.ShloMosaic.Lib.VecWindow

@[expose] public section

set_option maxRecDepth 16384

noncomputable section

namespace Cert.MidVal

open Cert.MidIdeal Cert.MidIdeal.Gen Cert.Dense Cert.Expert Idealize.ShloMosaic Idealize.ShloMosaic.ValueIdx Idealize.ShloMosaic.TcCoe Idealize.SL.Sem
open Idealize.ShloMosaic.Tactic
open scoped BigOperators

/-! ## The stored words -/

/-- A block of rows' scale, spread along each row. -/
theorem scale_apply (x : S1024x2048.Idx → EReal) (r : Fin 1024) (k : Fin 2048) :
    broadcastTo S1024x2048 (rsqrt (addf (divf (shapeCast S1024x1 (multiReduction (F := Ideal) (φ := .f32) .add [1] S1024 (mulf (F := Ideal) (φ := .f32) x x) 0x00000000#32 reduces_S1024x2048_S1024 (.inl rfl) rfl) shapeCasts_S1024_S1024x1)
      (broadcast S1024x1 (Scalar.ofBits .f32 0x45000000#32))) (broadcast S1024x1 (Scalar.ofBits .f32 0x358637BD#32)))) broadcasts_S1024x1_S1024x2048 (ix2 r k)
      = scaleOf (∑ j : Fin 2048, x (ix2 r j) * x (ix2 r j)) := by
  refine (broadcastTo_apply _ broadcasts_S1024x1_S1024x2048 (ix2 r k) (ix2 r (0 : Fin 1)) (fun a => match a with
    | ⟨0, _⟩ => by show r.val = if (1024 : Nat) = 1 then 0 else r.val; rw [if_neg (by decide)]
    | ⟨1, _⟩ => by show 0 = if (1 : Nat) = 1 then 0 else k.val; rw [if_pos rfl])).trans ?_
  refine congrArg scaleOf ((shapeCast_apply _ shapeCasts_S1024_S1024x1 (ix2 r (0 : Fin 1)) (ix1 r) (by simp [Shape.rowMajor_val_two, Shape.rowMajor_val_one])).trans ?_)
  refine (Ideal.multiReduction_add_single _ _ reduces_S1024x2048_S1024 _ _ (ix1 r)).trans (Finset.sum_congr rfl fun j _ => ?_)
  refine congrArg (fun i => x i * x i) (funext fun a => Fin.ext ?_)
  match a with
  | ⟨0, _⟩ => rfl
  | ⟨1, _⟩ => rfl

/-- A row of numbers spread over the block. -/
theorem spread_apply (v : S1x2048.Idx → EReal) (r : Fin 1024) (k : Fin 2048) :
    broadcastTo S1024x2048 v broadcasts_S1x2048_S1024x2048 (ix2 r k) = v (ix2 (0 : Fin 1) k) :=
  broadcastTo_1b_ab_apply v broadcasts_S1x2048_S1024x2048 r k

/-- A modulation block read as a row. -/
theorem modblock_apply (v : S1x1x2048.Idx → EReal) (k : Fin 2048) :
    shapeCast S1x2048 v shapeCasts_S1x1x2048_S1x2048 (ix2 (0 : Fin 1) k) = v (ix3 (0 : Fin 1) (0 : Fin 1) k) :=
  shapeCast_1ab_ab_apply v shapeCasts_S1x1x2048_S1x2048 (0 : Fin 1) k

/-- The modulated block of rows kept in the scratch, at an index. -/
theorem kept_apply (x : S1024x2048.Idx → EReal) (g : S1x2048.Idx → EReal) (sc sh : S1x1x2048.Idx → EReal) (r : Fin 1024) (k : Fin 2048) :
    k0_pay1 (F := Ideal) x g sc sh (ix2 r k) = modulated (x (ix2 r k)) (∑ j : Fin 2048, x (ix2 r j) * x (ix2 r j)) (g (ix2 (0 : Fin 1) k))
      (sc (ix3 (0 : Fin 1) (0 : Fin 1) k)) (sh (ix3 (0 : Fin 1) (0 : Fin 1) k)) := by
  unfold k0_pay1
  refine (shapeCast_apply _ shapeCasts_S1024x2048_S1024x2048 (ix2 r k) (ix2 r k) rfl).trans ?_
  rw [ValueIdx.truncf_apply]
  have e1 := scale_apply x r k
  have e2 := (spread_apply (shapeCast S1x2048 g shapeCasts_S1x2048_S1x2048) r k).trans (shapeCast_apply g shapeCasts_S1x2048_S1x2048 (ix2 (0 : Fin 1) k) (ix2 (0 : Fin 1) k) rfl)
  have e3 := (spread_apply (addf (F := Ideal) (φ := .f32) (broadcast S1x2048 (Scalar.ofBits .f32 0x3F800000#32)) (shapeCast S1x2048 sc shapeCasts_S1x1x2048_S1x2048)) r k).trans
    (congrArg (fun z : EReal => Ideal.ofBits .f32 0x3F800000#32 + z) (modblock_apply sc k))
  have e4 := (spread_apply (shapeCast S1x2048 sh shapeCasts_S1x1x2048_S1x2048) r k).trans (modblock_apply sh k)
  unfold modulated
  rw [← e1, ← e2, ← e3, ← e4]
  rfl

/-- One product of the kept rows with a cast weight block, at an index. -/
theorem product (x : FVec Ideal S1024x2048 .bf16) (w : FVec Ideal S2048x512 .f32) (r : Fin 1024) (l : Fin 512) :
    matmul dot_S1024x2048_S2048x512_S1024x512_1_0_0_1_n_n none x (truncf .bf16 w bitsLt_bf16_f32 : FVec Ideal S2048x512 .bf16) (constant S1024x512 .f32 0x00000000#32 : FVec Ideal S1024x512 .f32) (ix2 r l)
      = ∑ k : Fin 2048, x (ix2 r k) * w (ix2 k l) := by
  refine (Ideal.matmul_plain_apply none _ _ _ r l).trans ?_
  show Ideal.ofBits .f32 0x00000000#32 + _ = _
  rw [Ideal.ofBits_zero_f32, zero_add]
  rfl

/-- The stored block at an index. -/
theorem stored_apply (x : S1024x2048.Idx → EReal) (g u : S2048x512.Idx → EReal) (r : Fin 1024) (l : Fin 512) :
    k0_pay2 (F := Ideal) x g u (ix2 r l) = silu (∑ k : Fin 2048, x (ix2 r k) * g (ix2 k l)) * ∑ k : Fin 2048, x (ix2 r k) * u (ix2 k l) := by
  unfold k0_pay2
  rw [ValueIdx.truncf_apply, ← product x g r l, ← product x u r l]
  rfl

/-! ## What the points leave -/

theorem zero2 : (![0, 0] : Fin 2 → Nat) = fun _ => 0 := by funext a; fin_cases a <;> rfl
theorem zero3 : (![0, 0, 0] : Fin 3 → Nat) = fun _ => 0 := by funext a; fin_cases a <;> rfl

section
variable {F : FTy → Type} [FloatOps F]

/-- A first column block's point leaves the modulated rows in the scratch. -/
theorem sfill (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x1x2048 .f32) (harg4 : arg4.IsWhole) (arg5 : Memref sig .tc .vmem S1x1x2048 .f32) (harg5 : arg5.IsWhole)
    (arg6 : Memref sig .tc .vmem S2048x512 .f32) (harg6 : arg6.IsWhole) (arg7 : Memref sig .tc .vmem S2048x512 .f32) (harg7 : arg7.IsWhole)
    (arg8 : Memref sig .tc .vmem S1024x512 .bf16) (harg8 : arg8.IsWhole) (arg9 : Memref sig .tc .vmem S1024x2048 .bf16) (harg9 : arg9.IsWhole) (hc0 : cond0_0 i)
    (x0 : Vec F S1024x2048 .f32) (x1 : Vec F S1x2048 .f32) (x2 x3 : Vec F S1x1x2048 .f32) (x4 x5 : Vec F S2048x512 .f32) :
    sout0_A_0 c i arg2 harg2 arg3 harg3 arg4 harg4 arg5 harg5 arg6 harg6 arg7 harg7 arg8 harg8 arg9 harg9 hc0 x0 x1 x2 x3 x4 x5 = k0_pay1 x0 x1 x3 x2 := by
  unfold sout0_A_0
  rw [View.read_writes_junk_eq_canon]
  unfold kernelRun0_A
  dsimp only
  sl_unfold_words
  rw [View.canon_unit_zero (S := S1024x2048) zero2]
  simp only [View.readAt_eq_ld, harg2.read_unread, harg3.read_unread, harg4.read_unread, harg5.read_unread,
    View.ld_unit_zero (S := S1024x2048) zero2, View.ld_unit_zero (S := S1x2048) zero2, View.ld_unit_zero (S := S1x1x2048) zero3]

/-- It stores the gated products of those rows. -/
theorem fill (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x1x2048 .f32) (harg4 : arg4.IsWhole) (arg5 : Memref sig .tc .vmem S1x1x2048 .f32) (harg5 : arg5.IsWhole)
    (arg6 : Memref sig .tc .vmem S2048x512 .f32) (harg6 : arg6.IsWhole) (arg7 : Memref sig .tc .vmem S2048x512 .f32) (harg7 : arg7.IsWhole)
    (arg8 : Memref sig .tc .vmem S1024x512 .bf16) (harg8 : arg8.IsWhole) (arg9 : Memref sig .tc .vmem S1024x2048 .bf16) (harg9 : arg9.IsWhole) (hc0 : cond0_0 i)
    (x0 : Vec F S1024x2048 .f32) (x1 : Vec F S1x2048 .f32) (x2 x3 : Vec F S1x1x2048 .f32) (x4 x5 : Vec F S2048x512 .f32) :
    out0_A_6 c i arg2 harg2 arg3 harg3 arg4 harg4 arg5 harg5 arg6 harg6 arg7 harg7 arg8 harg8 arg9 harg9 hc0 x0 x1 x2 x3 x4 x5 = k0_pay2 (k0_pay1 x0 x1 x3 x2) x4 x5 := by
  unfold out0_A_6
  rw [View.read_writes_junk_eq_canon]
  unfold kernelRun0_A
  dsimp only
  sl_unfold_words
  rw [View.canon_unit_zero (S := S1024x512) zero2, View.readCov_unit_zero (S := S1024x2048) _ zero2]
  simp only [View.readAt_eq_ld, harg2.read_unread, harg3.read_unread, harg4.read_unread, harg5.read_unread, harg6.read_unread, harg7.read_unread,
    View.ld_unit_zero (S := S1024x2048) zero2, View.ld_unit_zero (S := S1x2048) zero2, View.ld_unit_zero (S := S1x1x2048) zero3, View.ld_unit_zero (S := S2048x512) zero2]

/-- Any other point stores the gated products of the rows the scratch holds. -/
theorem keep (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x1x2048 .f32) (harg4 : arg4.IsWhole) (arg5 : Memref sig .tc .vmem S1x1x2048 .f32) (harg5 : arg5.IsWhole)
    (arg6 : Memref sig .tc .vmem S2048x512 .f32) (harg6 : arg6.IsWhole) (arg7 : Memref sig .tc .vmem S2048x512 .f32) (harg7 : arg7.IsWhole)
    (arg8 : Memref sig .tc .vmem S1024x512 .bf16) (harg8 : arg8.IsWhole) (arg9 : Memref sig .tc .vmem S1024x2048 .bf16) (harg9 : arg9.IsWhole) (hc0 : ¬cond0_0 i)
    (x0 : Vec F S1024x2048 .f32) (x1 : Vec F S1x2048 .f32) (x2 x3 : Vec F S1x1x2048 .f32) (x4 x5 : Vec F S2048x512 .f32) (xs : Vec F S1024x2048 .bf16) :
    out0_B_6 c i arg2 harg2 arg3 harg3 arg4 harg4 arg5 harg5 arg6 harg6 arg7 harg7 arg8 harg8 arg9 harg9 hc0 x0 x1 x2 x3 x4 x5 xs = k0_pay2 xs x4 x5 := by
  unfold out0_B_6
  rw [View.read_writes_junk_eq_canon]
  unfold kernelRun0_B
  dsimp only
  rw [View.canon_unit_zero (S := S1024x512) zero2]
  simp only [View.readAt_eq_ld, harg6.read_unread, harg7.read_unread, harg9.read_unread,
    View.ld_unit_zero (S := S1024x2048) zero2, View.ld_unit_zero (S := S2048x512) zero2]

end

end Cert.MidVal

end
-- ==== Proof.MidArray.lean ====
/- The gate and up call's result array: every grid point's block is its block of the gated hidden layer of the arguments,
   and the blocks tile the array. -/
module

public import proofs.«01_k».proof.Proof.MidBlock

@[expose] public section

set_option maxRecDepth 16384

noncomputable section

namespace Cert.MidVal

open Cert.MidIdeal Cert.MidIdeal.Gen Cert.Dense Cert.Expert Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The gain as the kernel finds it: laid out as one row. -/
theorem V_gain (c : Dev nD) : V m c main_v0 = shapeCast S1x2048 (m ((c : Thread nD τ).loc main_arg1)) shapeCasts_S2048_S1x2048 := by
  unfold V
  after_results
  rfl

/-- Where the seven windows' blocks sit at a grid point: the rows' at row tile `t / 11`, the weights' at column block `t % 11`,
    the shift and the scale at the fourth and fifth chunk of the row tile's modulation row. -/
theorem index_facts : ∀ t : Fin cfg0.N, (win0_0.index t 0 = t.val / 11 ∧ win0_0.index t 1 = 0)
    ∧ (win0_1.index t 0 = 0 ∧ win0_1.index t 1 = 0)
    ∧ (win0_2.index t 0 = (if t.val / 11 < 16 then t.val / 11 / 4 else 4) ∧ win0_2.index t 1 = 0 ∧ win0_2.index t 2 = 3)
    ∧ (win0_3.index t 0 = (if t.val / 11 < 16 then t.val / 11 / 4 else 4) ∧ win0_3.index t 1 = 0 ∧ win0_3.index t 2 = 4)
    ∧ (win0_4.index t 0 = 0 ∧ win0_4.index t 1 = t.val % 11)
    ∧ (win0_5.index t 0 = 0 ∧ win0_5.index t 1 = t.val % 11)
    ∧ (win0_6.index t 0 = t.val / 11 ∧ win0_6.index t 1 = t.val % 11) :=
  (by decide +kernel : ∀ t : Fin grid0.N, (win0_0.index t 0 = t.val / 11 ∧ win0_0.index t 1 = 0)
    ∧ (win0_1.index t 0 = 0 ∧ win0_1.index t 1 = 0)
    ∧ (win0_2.index t 0 = (if t.val / 11 < 16 then t.val / 11 / 4 else 4) ∧ win0_2.index t 1 = 0 ∧ win0_2.index t 2 = 3)
    ∧ (win0_3.index t 0 = (if t.val / 11 < 16 then t.val / 11 / 4 else 4) ∧ win0_3.index t 1 = 0 ∧ win0_3.index t 2 = 4)
    ∧ (win0_4.index t 0 = 0 ∧ win0_4.index t 1 = t.val % 11)
    ∧ (win0_5.index t 0 = 0 ∧ win0_5.index t 1 = t.val % 11)
    ∧ (win0_6.index t 0 = t.val / 11 ∧ win0_6.index t 1 = t.val % 11))

/-- The number of grid points. -/
theorem point_lt (t : Fin cfg0.N) : t.val < 187 := lt_of_lt_of_eq t.isLt N_0

/-- The array row and column of a block's row and column at point `n`. -/
def rowOf (n : Nat) (hn : n < 187) (r : Fin 1024) : Fin 17408 := ⟨n / 11 * 1024 + r.val, by omega⟩
def colOf (n : Nat) (l : Fin 512) : Fin 5632 := ⟨n % 11 * 512 + l.val, by omega⟩

/-- A row tile's rows all take one modulation row. -/
theorem modRow_rowOf (n : Nat) (hn : n < 187) (r : Fin 1024) : (modRow (rowOf n hn r)).val = if n / 11 < 16 then n / 11 / 4 else 4 := by
  show (if n / 11 * 1024 + r.val < 16384 then (n / 11 * 1024 + r.val) / 4096 else 4) = _
  by_cases h : n / 11 < 16
  · rw [if_pos (by omega), if_pos h]; omega
  · rw [if_neg (by omega), if_neg h]

/-- Where an element of the result's block sits in the array. -/
theorem emb_out (t : Fin cfg0.N) (r : Fin 1024) (l : Fin 512) :
    ((cfg0.win 6).blk t).view.emb (ix2 r l) = (ix2 (rowOf t.val (point_lt t) r) (colOf t.val l) : S17408x5632.Idx) := by
  obtain ⟨_, _, _, _, _, _, e0, e1⟩ := index_facts t
  funext a; apply Fin.ext
  match a with
  | ⟨0, _⟩ => show win0_6.index t (0 : Fin 2) * 1024 + 1 * r.val = t.val / 11 * 1024 + r.val; omega
  | ⟨1, _⟩ => show win0_6.index t (1 : Fin 2) * 512 + 1 * l.val = t.val % 11 * 512 + l.val; omega

/-- The rows' block at an index. -/
theorem blk_rows (c : Dev nD) (t : Fin cfg0.N) (r : Fin 1024) (k : Fin 2048) :
    iblk m c 0 t (ix2 r k) = m ((c : Thread nD τ).loc main_arg0) (ix2 (rowOf t.val (point_lt t) r) k) := by
  obtain ⟨⟨e0, e1⟩, _⟩ := index_facts t
  rw [← V_main_arg0 m c]
  show V m c main_arg0 (((cfg0.win 0).blk t).view.emb (ix2 r k)) = _
  congr 1
  funext a; apply Fin.ext
  match a with
  | ⟨0, _⟩ => show win0_0.index t (0 : Fin 2) * 1024 + 1 * r.val = t.val / 11 * 1024 + r.val; omega
  | ⟨1, _⟩ => show win0_0.index t (1 : Fin 2) * 2048 + 1 * k.val = k.val; omega

/-- The gain's block at an index. -/
theorem blk_gain (c : Dev nD) (t : Fin cfg0.N) (k : Fin 2048) :
    iblk m c 1 t (ix2 (0 : Fin 1) k) = m ((c : Thread nD τ).loc main_arg1) (ix1 k) := by
  obtain ⟨_, ⟨e0, e1⟩, _⟩ := index_facts t
  refine Eq.trans ?_ ((congrFun (V_gain m c) (ix2 (0 : Fin 1) k)).trans (shapeCast_a_1a_apply _ shapeCasts_S2048_S1x2048 (0 : Fin 1) k))
  show V m c main_v0 (((cfg0.win 1).blk t).view.emb (ix2 (0 : Fin 1) k)) = _
  congr 1
  funext a; apply Fin.ext
  match a with
  | ⟨0, _⟩ => show win0_1.index t (0 : Fin 2) * 1 + 1 * 0 = 0; omega
  | ⟨1, _⟩ => show win0_1.index t (1 : Fin 2) * 2048 + 1 * k.val = k.val; omega

/-- The shift's block at an index. -/
theorem blk_shift (c : Dev nD) (t : Fin cfg0.N) (r : Fin 1024) (k : Fin 2048) :
    iblk m c 2 t (ix3 (0 : Fin 1) (0 : Fin 1) k) = m ((c : Thread nD τ).loc main_arg2)
      (ix3 (modRow (rowOf t.val (point_lt t) r)) (0 : Fin 1) (⟨6144 + k.val, by omega⟩ : Fin 12288)) := by
  obtain ⟨_, _, ⟨e0, e1, e2⟩, _⟩ := index_facts t
  have hr := modRow_rowOf t.val (point_lt t) r
  rw [← V_main_arg2 m c]
  show V m c main_arg2 (((cfg0.win 2).blk t).view.emb (ix3 (0 : Fin 1) (0 : Fin 1) k)) = _
  congr 1
  funext a; apply Fin.ext
  match a with
  | ⟨0, _⟩ => show win0_2.index t (0 : Fin 3) * 1 + 1 * 0 = (modRow (rowOf t.val (point_lt t) r)).val; rw [hr, e0]; omega
  | ⟨1, _⟩ => show win0_2.index t (1 : Fin 3) * 1 + 1 * 0 = 0; omega
  | ⟨2, _⟩ => show win0_2.index t (2 : Fin 3) * 2048 + 1 * k.val = 6144 + k.val; omega

/-- The scale's block at an index. -/
theorem blk_scale (c : Dev nD) (t : Fin cfg0.N) (r : Fin 1024) (k : Fin 2048) :
    iblk m c 3 t (ix3 (0 : Fin 1) (0 : Fin 1) k) = m ((c : Thread nD τ).loc main_arg2)
      (ix3 (modRow (rowOf t.val (point_lt t) r)) (0 : Fin 1) (⟨8192 + k.val, by omega⟩ : Fin 12288)) := by
  obtain ⟨_, _, _, ⟨e0, e1, e2⟩, _⟩ := index_facts t
  have hr := modRow_rowOf t.val (point_lt t) r
  rw [← V_main_arg2 m c]
  show V m c main_arg2 (((cfg0.win 3).blk t).view.emb (ix3 (0 : Fin 1) (0 : Fin 1) k)) = _
  congr 1
  funext a; apply Fin.ext
  match a with
  | ⟨0, _⟩ => show win0_3.index t (0 : Fin 3) * 1 + 1 * 0 = (modRow (rowOf t.val (point_lt t) r)).val; rw [hr, e0]; omega
  | ⟨1, _⟩ => show win0_3.index t (1 : Fin 3) * 1 + 1 * 0 = 0; omega
  | ⟨2, _⟩ => show win0_3.index t (2 : Fin 3) * 2048 + 1 * k.val = 8192 + k.val; omega

/-- The gate weights' block at an index. -/
theorem blk_gate (c : Dev nD) (t : Fin cfg0.N) (k : Fin 2048) (l : Fin 512) :
    iblk m c 4 t (ix2 k l) = m ((c : Thread nD τ).loc main_arg3) (ix2 k (colOf t.val l)) := by
  obtain ⟨_, _, _, _, ⟨e0, e1⟩, _⟩ := index_facts t
  rw [← V_main_arg3 m c]
  show V m c main_arg3 (((cfg0.win 4).blk t).view.emb (ix2 k l)) = _
  congr 1
  funext a; apply Fin.ext
  match a with
  | ⟨0, _⟩ => show win0_4.index t (0 : Fin 2) * 2048 + 1 * k.val = k.val; omega
  | ⟨1, _⟩ => show win0_4.index t (1 : Fin 2) * 512 + 1 * l.val = t.val % 11 * 512 + l.val; omega

/-- The up weights' block at an index. -/
theorem blk_up (c : Dev nD) (t : Fin cfg0.N) (k : Fin 2048) (l : Fin 512) :
    iblk m c 5 t (ix2 k l) = m ((c : Thread nD τ).loc main_arg4) (ix2 k (colOf t.val l)) := by
  obtain ⟨_, _, _, _, _, ⟨e0, e1⟩, _⟩ := index_facts t
  rw [← V_main_arg4 m c]
  show V m c main_arg4 (((cfg0.win 5).blk t).view.emb (ix2 k l)) = _
  congr 1
  funext a; apply Fin.ext
  match a with
  | ⟨0, _⟩ => show win0_5.index t (0 : Fin 2) * 2048 + 1 * k.val = k.val; omega
  | ⟨1, _⟩ => show win0_5.index t (1 : Fin 2) * 512 + 1 * l.val = t.val % 11 * 512 + l.val; omega

/-! ## The scratch and the stored blocks -/

/-- The modulated rows of the arguments. -/
abbrev argRows (c : Dev nD) : Fin 17408 → Fin 2048 → EReal :=
  rows (m ((c : Thread nD τ).loc main_arg0)) (m ((c : Thread nD τ).loc main_arg1)) (m ((c : Thread nD τ).loc main_arg2))

/-- Equal entries give equal modulated entries. -/
theorem modulated_congr {f f' : Fin 2048 → EReal} {g g' a a' b b' : EReal} (k : Fin 2048) (hf : ∀ j, f j = f' j) (hg : g = g') (ha : a = a') (hb : b = b') :
    modulated (f k) (∑ j : Fin 2048, f j * f j) g a b = modulated (f' k) (∑ j : Fin 2048, f' j * f' j) g' a' b' := by
  rw [hg, ha, hb, funext hf]

/-- The block of modulated rows a point computes is its block of the modulated rows. -/
theorem modulated_apply (c : Dev nD) (t : Fin cfg0.N) (r : Fin 1024) (k : Fin 2048) :
    k0_pay1 (F := Ideal) (iblk m c 0 t) (iblk m c 1 t) (iblk m c 3 t) (iblk m c 2 t) (ix2 r k) = argRows m c (rowOf t.val (point_lt t) r) k := by
  rw [kept_apply]
  have h := modulated_congr (f := fun j => iblk m c 0 t (ix2 r j)) (f' := fun j => m ((c : Thread nD τ).loc main_arg0) (ix2 (rowOf t.val (point_lt t) r) j))
    k (fun j => blk_rows m c t r j) (blk_gain m c t k) (blk_scale m c t r k) (blk_shift m c t r k)
  exact h

/-- What the point of a first column block leaves. -/
theorem point_first (c : Dev nD) (t : Fin cfg0.N) (h0 : t.val % 11 = 0) :
    outsAt0 m c t.val t.isLt = (k0_pay2 (F := Ideal) (k0_pay1 (iblk m c 0 t) (iblk m c 1 t) (iblk m c 3 t) (iblk m c 2 t)) (iblk m c 4 t) (iblk m c 5 t),
      k0_pay1 (F := Ideal) (iblk m c 0 t) (iblk m c 1 t) (iblk m c 3 t) (iblk m c 2 t)) := by
  rw [outsAt0_A m c t h0, fill, sfill]

/-- What any other point leaves, the scratch as the point before left it. -/
theorem point_later (c : Dev nD) (t : Fin cfg0.N) (h0 : ¬t.val % 11 = 0) (hp : t.val - 1 < cfg0.N) :
    outsAt0 m c t.val t.isLt = (k0_pay2 (F := Ideal) (outsAt0 m c (t.val - 1) hp).2 (iblk m c 4 t) (iblk m c 5 t), (outsAt0 m c (t.val - 1) hp).2) := by
  rw [outsAt0_B m c t h0, keep]
  unfold sout0_B_0
  rfl

/-- After every point the scratch holds the modulated rows of the point's row tile. -/
theorem scratch_apply (c : Dev nD) (n : Nat) : ∀ (hn : n < cfg0.N) (r : Fin 1024) (k : Fin 2048),
    (outsAt0 m c n hn).2 (ix2 r k) = argRows m c (rowOf n (point_lt ⟨n, hn⟩) r) k := by
  induction n using Nat.strong_induction_on with
  | _ n ih =>
    intro hn r k
    by_cases h0 : n % 11 = 0
    · exact (congrFun (congrArg Prod.snd (point_first m c ⟨n, hn⟩ h0)) (ix2 r k)).trans (modulated_apply m c ⟨n, hn⟩ r k)
    · have h1 : n - 1 < cfg0.N := by omega
      refine (congrFun (congrArg Prod.snd (point_later m c ⟨n, hn⟩ h0 h1)) (ix2 r k)).trans ((ih (n - 1) (by omega) h1 r k).trans (congrArg (fun i => argRows m c i k) (Fin.ext ?_)))
      show (n - 1) / 11 * 1024 + r.val = n / 11 * 1024 + r.val
      omega

/-- What a point stores is the gated products of the scratch it leaves. -/
theorem stored_eq (c : Dev nD) (t : Fin cfg0.N) :
    (outsAt0 m c t.val t.isLt).1 = k0_pay2 (F := Ideal) (outsAt0 m c t.val t.isLt).2 (iblk m c 4 t) (iblk m c 5 t) := by
  by_cases h0 : t.val % 11 = 0
  · rw [point_first m c t h0]
  · rw [point_later m c t h0 (by have := t.isLt; omega)]

/-- The whole result: the gated hidden layer of the arguments. -/
abbrev result (c : Dev nD) : S17408x5632.Idx → EReal := fun i =>
  hidden (m ((c : Thread nD τ).loc main_arg0)) (m ((c : Thread nD τ).loc main_arg1)) (m ((c : Thread nD τ).loc main_arg2)) (m ((c : Thread nD τ).loc main_arg3))
    (m ((c : Thread nD τ).loc main_arg4)) (i 0) (i 1)

/-- What a grid point writes back is its block of the whole result. -/
theorem flushed_eq (c : Dev nD) (t : Fin cfg0.N) :
    (dats m 0 c).flushed 6 t = ((cfg0.win 6).blk t).view.read (Elt Ideal) (result m c) := by
  have h1 : (dats m 0 c).flushed 6 t = (outsAt0 m c t.val t.isLt).1 := by
    show (cfg0.win 6).cut (grid0.coords t) ((dats m 0 c).after 6 t) = _
    rw [after0_6]
    rfl
  rw [h1, stored_eq]
  funext y
  obtain ⟨r, l, rfl⟩ : ∃ (r : Fin 1024) (l : Fin 512), y = ix2 r l := ⟨y 0, y 1, eq_ix2 y⟩
  show _ = result m c (((cfg0.win 6).blk t).view.emb (ix2 r l))
  rw [emb_out]
  refine (stored_apply (outsAt0 m c t.val t.isLt).2 (iblk m c 4 t) (iblk m c 5 t) r l).trans ?_
  have es := fun k => scratch_apply m c t.val t.isLt r k
  exact congrArg₂ (fun a b : EReal => silu a * b) (Finset.sum_congr rfl fun k _ => congrArg₂ (fun a b : EReal => a * b) (es k) (blk_gate m c t k l))
    (Finset.sum_congr rfl fun k _ => congrArg₂ (fun a b : EReal => a * b) (es k) (blk_up m c t k l))

/-- Every index of the result is in some grid point's block. -/
theorem cover (i : S17408x5632.Idx) : ∃ t : Fin cfg0.N, (cfg0.win 6).flush t = true ∧ i ∈ ((cfg0.win 6).blk t).view.set := by
  have h0 : (i 0).val < 17408 := (i 0).isLt
  have h1 : (i 1).val < 5632 := (i 1).isLt
  have hN : cfg0.N = 187 := N_0
  have ht : (i 0).val / 1024 * 11 + (i 1).val / 512 < cfg0.N := by omega
  refine ⟨⟨_, ht⟩, flush0_6 _, ?_⟩
  have h := ((cfg0.win 6).blk (⟨_, ht⟩ : Fin cfg0.N)).view.emb_mem_set (ix2 (⟨(i 0).val % 1024, by omega⟩ : Fin 1024) (⟨(i 1).val % 512, by omega⟩ : Fin 512))
  refine (congrArg (· ∈ _) (Eq.trans ?_ (emb_out (⟨_, ht⟩ : Fin cfg0.N) (⟨(i 0).val % 1024, by omega⟩ : Fin 1024) (⟨(i 1).val % 512, by omega⟩ : Fin 512)).symm)).mpr h
  refine (eq_ix2 i).trans (congrArg₂ (fun a b => (ix2 a b : S17408x5632.Idx)) (Fin.ext ?_) (Fin.ext ?_))
  · show (i 0).val = ((i 0).val / 1024 * 11 + (i 1).val / 512) / 11 * 1024 + (i 0).val % 1024
    omega
  · show (i 1).val = ((i 0).val / 1024 * 11 + (i 1).val / 512) % 11 * 512 + (i 1).val % 512
    omega

/-- **The result array** after the run: the gated hidden layer of the arguments. -/
theorem final (c : Dev nD) : (dats m 0 c).arrAt 6 cfg0.N = result m c :=
  (dats m 0 c).arrAt_eq_of_cover 6 (result m c) (fun t _ => flushed_eq m c t) cover

/-- **The run**: the result array and the untouched arguments. -/
theorem run : θ_run defs (onTc (τ := τ) (main (F := Ideal))) ⟨m, fun _ => 0, ρ⟩ (fun r => ∀ c : Dev nD,
    r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 6).trans (final m c), ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).1 3).trans (((dats m 0 c).arrAt_in 3 rfl _).trans ((A_eq m c 3).trans (V_main_arg2 m c))),
    ((h c).1 4).trans (((dats m 0 c).arrAt_in 4 rfl _).trans ((A_eq m c 4).trans (V_main_arg3 m c))),
    ((h c).1 5).trans (((dats m 0 c).arrAt_in 5 rfl _).trans ((A_eq m c 5).trans (V_main_arg4 m c)))⟩) (run_main m ρ)

end Cert.MidVal

end
-- ==== Proof.MidRefValue.lean ====
/- The gate and up call's reference, index by index: every element is the gated hidden layer of the arguments. -/
module

public import proofs.«01_k».proof.Proof.MidSpec
public import proofs.«01_k».proof.Proof.Gen.MidRefIdeal.Read
public import Idealize.ShloMosaic.Lib.ValueLayout

@[expose] public section

set_option maxRecDepth 16384

noncomputable section

namespace Cert.MidRefVal

open Cert.MidRefIdeal Cert.MidRefIdeal.Gen Cert.MidRefIdeal.Read Cert.Dense Cert.Expert Idealize.ShloMosaic Idealize.ShloMosaic.ValueIdx
open scoped BigOperators

variable (h : S17408x2048.Idx → EReal) (g : S2048.Idx → EReal) (mod : S8x1x12288.Idx → EReal) (wg wu : S2048x5632.Idx → EReal)

/-- A row's scale. -/
theorem scale_apply (r : Fin 17408) (k : Fin 2048) : val_main_v8 (F := Ideal) h (ix2 r k) = scaleOf (∑ j : Fin 2048, h (ix2 r j) * h (ix2 r j)) := by
  rw [val_main_v8_apply, val_main_v7_apply, val_main_v6_apply, val_main_v4_apply, val_main_v2_apply, val_main_v1_apply, val_main_v3_apply, val_main_v5_apply]
  refine congrArg scaleOf ?_
  show Ideal.ofBits .f32 0x00000000#32 + _ = _
  rw [Ideal.ofBits_zero_f32, zero_add]
  refine Finset.sum_congr rfl fun j _ => congrArg (fun i => h i * h i) (funext fun a => ?_)
  match a with
  | ⟨0, _⟩ => rfl
  | ⟨1, _⟩ => rfl

/-- The gain, spread over the rows. -/
theorem gain_apply (r : Fin 17408) (k : Fin 2048) : val_main_v11 (F := Ideal) g (ix2 r k) = g (ix1 k) := by
  rw [val_main_v11_apply, val_main_v10_apply]
  refine congrArg g (funext fun a => ?_)
  match a with
  | ⟨0, _⟩ => rfl

/-- Two pieces of rows laid end to end, the first a group of four rows repeated, the second one row repeated. -/
theorem stack_apply (x : S16384x2048.Idx → EReal) (y : S1024x2048.Idx → EReal) (f : Fin 8 → Fin 2048 → EReal)
    (hx : ∀ (r : Fin 16384) (k : Fin 2048), x (ix2 r k) = f ⟨r.val / 4096, by omega⟩ k) (hy : ∀ (r : Fin 1024) (k : Fin 2048), y (ix2 r k) = f 4 k)
    (r : Fin 17408) (k : Fin 2048) :
    concatenate S17408x2048 0 [⟨S16384x2048, x⟩, ⟨S1024x2048, y⟩] concatenates_S16384x2048_S1024x2048_S17408x2048_d0 (ix2 r k) = f (modRow r) k := by
  by_cases hr : r.val < 16384
  · refine (concatenate_pair_apply_left (t := S17408x2048) (s₁ := S16384x2048) (s₂ := S1024x2048) 0 x y _ (ix2 r k) rfl (ix2 (⟨r.val, hr⟩ : Fin 16384) k)
      (fun b => match b with | ⟨0, _⟩ => rfl | ⟨1, _⟩ => rfl)).trans ((hx _ k).trans (congrArg (fun e => f e k) (Fin.ext ?_)))
    show r.val / 4096 = if r.val < 16384 then r.val / 4096 else 4
    rw [if_pos hr]
  · refine (concatenate_pair_apply_right (t := S17408x2048) (s₁ := S16384x2048) (s₂ := S1024x2048) 0 x y _ (ix2 r k) rfl rfl (ix2 (⟨r.val - 16384, by omega⟩ : Fin 1024) k)
      (fun b hb => match b, hb with | ⟨0, _⟩, hb => absurd rfl hb | ⟨1, _⟩, _ => rfl) (by show r.val - 16384 + 16384 = r.val; omega)).trans ((hy _ k).trans (congrArg (fun e => f e k) (Fin.ext ?_)))
    show 4 = if r.val < 16384 then r.val / 4096 else 4
    rw [if_neg hr]

/-- The scale rows. -/
theorem scales_apply (r : Fin 17408) (k : Fin 2048) :
    val_main_v21 (F := Ideal) mod (ix2 r k) = mod (ix3 (modRow r) (0 : Fin 1) (⟨8192 + k.val, by omega⟩ : Fin 12288)) := by
  unfold val_main_v21
  refine stack_apply _ _ (fun e k => mod (ix3 e (0 : Fin 1) (⟨8192 + k.val, by omega⟩ : Fin 12288))) (fun r k => ?_) (fun r k => ?_) r k
  · rw [val_main_v17_apply, val_main_v16_apply, val_main_v15_apply, val_main_v14_apply, val_main_v13_apply]
    refine congrArg mod (funext fun a => Fin.ext ?_)
    match a with
    | ⟨0, _⟩ => show ((r.val * 2048 + k.val) / 8388608 * 2048 + (r.val * 2048 + k.val) % 2048) / 2048 = r.val / 4096; omega
    | ⟨1, _⟩ => rfl
    | ⟨2, _⟩ => show 8192 + ((r.val * 2048 + k.val) / 8388608 * 2048 + (r.val * 2048 + k.val) % 2048) % 2048 = 8192 + k.val; omega
  · rw [val_main_v20_apply, val_main_v19_apply, val_main_v18_apply, val_main_v14_apply, val_main_v13_apply]
    refine congrArg mod (funext fun a => Fin.ext ?_)
    match a with
    | ⟨0, _⟩ => show ((4 + 0) * 2048 + k.val % 2048) / 2048 = 4; omega
    | ⟨1, _⟩ => rfl
    | ⟨2, _⟩ => show 8192 + ((4 + 0) * 2048 + k.val % 2048) % 2048 = 8192 + k.val; omega

/-- The shift rows. -/
theorem shifts_apply (r : Fin 17408) (k : Fin 2048) :
    val_main_v33 (F := Ideal) mod (ix2 r k) = mod (ix3 (modRow r) (0 : Fin 1) (⟨6144 + k.val, by omega⟩ : Fin 12288)) := by
  unfold val_main_v33
  refine stack_apply _ _ (fun e k => mod (ix3 e (0 : Fin 1) (⟨6144 + k.val, by omega⟩ : Fin 12288))) (fun r k => ?_) (fun r k => ?_) r k
  · rw [val_main_v29_apply, val_main_v28_apply, val_main_v27_apply, val_main_v26_apply, val_main_v25_apply]
    refine congrArg mod (funext fun a => Fin.ext ?_)
    match a with
    | ⟨0, _⟩ => show ((r.val * 2048 + k.val) / 8388608 * 2048 + (r.val * 2048 + k.val) % 2048) / 2048 = r.val / 4096; omega
    | ⟨1, _⟩ => rfl
    | ⟨2, _⟩ => show 6144 + ((r.val * 2048 + k.val) / 8388608 * 2048 + (r.val * 2048 + k.val) % 2048) % 2048 = 6144 + k.val; omega
  · rw [val_main_v32_apply, val_main_v31_apply, val_main_v30_apply, val_main_v26_apply, val_main_v25_apply]
    refine congrArg mod (funext fun a => Fin.ext ?_)
    match a with
    | ⟨0, _⟩ => show ((4 + 0) * 2048 + k.val % 2048) / 2048 = 4; omega
    | ⟨1, _⟩ => rfl
    | ⟨2, _⟩ => show 6144 + ((4 + 0) * 2048 + k.val % 2048) % 2048 = 6144 + k.val; omega

/-- The modulated rows at an index. -/
theorem rows_apply (r : Fin 17408) (k : Fin 2048) : val_main_v34 (F := Ideal) h g mod (ix2 r k) = rows h g mod r k := by
  rw [val_main_v34_apply, val_main_v24_apply, val_main_v23_apply, val_main_v12_apply, val_main_v9_apply, scale_apply, gain_apply, scales_apply, shifts_apply, val_main_v22_apply]
  rfl

/-- The rows' product with the gate weights, and with the up weights. -/
theorem gate_apply (r : Fin 17408) (n : Fin 5632) : val_main_v35 (F := Ideal) h g mod wg (ix2 r n) = ∑ k : Fin 2048, rows h g mod r k * wg (ix2 k n) := by
  rw [val_main_v35_apply]
  refine Finset.sum_congr rfl fun k _ => congrArg₂ (· * ·) ((congrArg _ ?_).trans (rows_apply h g mod r k)) (congrArg wg ?_)
  · exact (eq_ix2 _)
  · exact (eq_ix2 _)
theorem up_apply (r : Fin 17408) (n : Fin 5632) : val_main_v37 (F := Ideal) h g mod wu (ix2 r n) = ∑ k : Fin 2048, rows h g mod r k * wu (ix2 k n) := by
  rw [val_main_v37_apply]
  refine Finset.sum_congr rfl fun k _ => congrArg₂ (· * ·) ((congrArg _ ?_).trans (rows_apply h g mod r k)) (congrArg wu ?_)
  · exact (eq_ix2 _)
  · exact (eq_ix2 _)

/-- **The reference's array**: the gated hidden layer of the arguments. -/
theorem value (r : Fin 17408) (n : Fin 5632) : val_main_v39 (F := Ideal) h g mod wg wu (ix2 r n) = hidden h g mod wg wu r n := by
  have h1 : val_main_call0_v2 (F := Ideal) (ix2 r n) = (1 : EReal) := (val_main_call0_v2_apply (F := Ideal) (ix2 r n)).trans Ideal.ofBits_one_f32
  have h4 : val_main_call0_v4 (F := Ideal) (ix2 r n) = (1 : EReal) := (val_main_call0_v4_apply (F := Ideal) (ix2 r n)).trans Ideal.ofBits_one_f32
  rw [val_main_v39_apply, val_main_v38_apply, val_main_v36_apply, val_main_call0_v5_apply, val_main_call0_v3_apply, val_main_call0_v1_apply, val_main_call0_v0_apply,
    h1, h4, gate_apply, up_apply]
  rfl

end Cert.MidRefVal

end
-- ==== Proof.MidClaim.lean ====
/- The gate and up claim: kernel and reference end at the same array. -/
module

public import proofs.«01_k».proof.Defs
public import proofs.«01_k».proof.Proof.MidArray
public import proofs.«01_k».proof.Proof.MidRefValue
public import Idealize.ShloMosaic.Adequacy
public import Idealize.ShloMosaic.Init

@[expose] public section

noncomputable section

namespace Cert.MidClaim

open Idealize.ShloMosaic Idealize.SL.Sem Idealize.ShloMosaic.ValueIdx

/-- The reference's frame: its arguments end unchanged, and it declares no semaphore. -/
theorem frame_ref : Cert.quiescent_MidRefIdeal (hMidRefIdeal := MidRefIdeal.Gen.facts) := fun m ρ _ =>
  (θ_run _ _ _).mono (fun r h => ⟨fun c => (h c).2, sem_eq_zero_of_no_sems (by decide) r.2⟩) (MidRefIdeal.Value.run m ρ)

/-- The kernel's array and the reference's are both the gated hidden layer of the arguments. -/
theorem algebraic : Cert.algebraic_MidIdeal_MidRefIdeal (hMidIdeal := MidIdeal.Gen.facts) (hMidRefIdeal := MidRefIdeal.Gen.facts) := by
  intro m g m' g' _ hargs
  refine ⟨fun c => MidVal.result m c, MidVal.run m g, (θ_run _ _ _).mono (fun r h c => ?_) (MidRefIdeal.Value.run m' g')⟩
  obtain ⟨h0, h1⟩ := h c
  obtain ⟨a0, a1, a2, a3, a4⟩ := hargs c
  refine ⟨h0.trans ?_, h1⟩
  rw [MidRefIdeal.Read.val_main_v39_eq, a0, a1, a2, a3, a4]
  refine funext fun i => ?_
  refine (congrArg _ (eq_ix2 i)).trans ?_
  exact MidRefVal.value _ _ _ _ _ (i 0) (i 1)

end Cert.MidClaim

end
-- ==== Proof.DenseImports.lean ====
/- The generated readings the dense down call's proof builds on. -/
module

public import proofs.«01_k».proof.Proof.Gen.DenseDown.Skeleton
public import proofs.«01_k».proof.Proof.Gen.DenseDown.Launch
public import proofs.«01_k».proof.Proof.Gen.DenseDownIdeal.Skeleton
public import proofs.«01_k».proof.Proof.Gen.DenseDownIdeal.Launch
public import proofs.«01_k».proof.Proof.Gen.DenseDownRefIdeal.Run
public import proofs.«01_k».proof.Proof.Gen.DenseDownRefIdeal.Read
-- ==== Proof.DenseRuns.lean ====
/- The dense down call's body, run along its two control paths: every row tile is in use. -/
module

public import proofs.«01_k».proof.Proof.DenseImports
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.DenseDownIdeal.Hand

open Cert.DenseDownIdeal Cert.DenseDownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two prefetched tables and the scratch panel the body is handed, whole. -/
abbrev tbE : Memref sig .tc .smem S34 .i32 := Memref.whole main_v1
abbrev tbU : Memref sig .tc .smem S1 .i32 := Memref.whole main_v2
abbrev scG : Memref sig .tc .vmem S5632x512 .bf16 := Memref.whole cc0_scratch0

/-- The expert of the row tile of point `i`, as the body loads it. -/
abbrev wHere (T0 : S34.Idx → Elt F .i32) (i : grid0.Coords) : Elt F .i32 :=
  View.readAt (Elt F) tbE.view (Rect.unit (s := S34) (k0_off1 i) S1.size (k0_off1_inb i)).toLoadRect T0 (Shape.Idx.first (numel1_S1.symm ▸ Nat.one_pos))
/-- The expert of the row tile before, as the body loads it. -/
abbrev wPrev (T0 : S34.Idx → Elt F .i32) (i : grid0.Coords) : Elt F .i32 :=
  View.readAt (Elt F) tbE.view (Rect.unit (s := S34) (k0_off2 i) S1.size (k0_off2_inb i)).toLoadRect T0 (Shape.Idx.first (numel1_S1.symm ▸ Nat.one_pos))
/-- The number of row tiles in use, as the body loads it. -/
abbrev wUsed (T1 : S1.Idx → Elt F .i32) : Elt F .i32 :=
  View.readAt (Elt F) tbU.view (Rect.unit (s := S1) ![0] S1.size inb_S1_S1_0).toLoadRect T1 (Shape.Idx.first (numel1_S1.symm ▸ Nat.one_pos))
/-- The body's decision to cast the weight panel anew: at a column's first row tile, or where the expert changes. -/
abbrev cNew (T0 : S34.Idx → Elt F .i32) (i : grid0.Coords) : BitVec 1 :=
  Scalar.cmpi .ne (Scalar.extui (Scalar.ori (Scalar.cmpi .eq (BitVec.ofNat 32 (i 1).val) 0#32) (Scalar.cmpi .ne (wHere T0 i) (wPrev T0 i))) : BitVec 32) 0#32

/-- What a run of the body from given blocks, tables and panel shows: it ends with the inputs and tables as they were,
    the output's staging buffer written by `o`, and the panel at `p`. -/
def Runs (c : Dev nD) (i : grid0.Coords) (arg4 : Memref sig .tc .vmem S512x5632 .bf16) (harg4 : arg4.IsWhole) (arg5 : Memref sig .tc .vmem S1x5632x512 .f32) (harg5 : arg5.IsWhole) (arg6 : Memref sig .tc .vmem S512x512 .f32) (harg6 : arg6.IsWhole) (arg7 : Memref sig .tc .vmem S1x1x512 .f32) (harg7 : arg7.IsWhole) (arg8 : Memref sig .tc .vmem S512x512 .f32) (harg8 : arg8.IsWhole)
    (T0 : S34.Idx → Elt F .i32) (T1 : S1.Idx → Elt F .i32) (x0 : S512x5632.Idx → Elt F .bf16) (x1 : S1x5632x512.Idx → Elt F .f32) (x2 : S512x512.Idx → Elt F .f32) (x3 : S1x1x512.Idx → Elt F .f32)
    (a : Buf (Elt F) ((c : Thread nD τ).loc cc0_scratch0))
    (o : List (View.Piece (Elt F) S512x512 .f32)) (p : Buf (Elt F) ((c : Thread nD τ).loc cc0_scratch0)) : Prop :=
  ∀ K : PUnit → sProp 𝕄,
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (arg7.view.loc (c : Thread nD τ) ↦[arg7.view.set]{fullShare} arg7.view.rep x3)
      ∗ (tbE.view.loc (c : Thread nD τ) ↦{fullShare.right} T0)
      ∗ (tbU.view.loc (c : Thread nD τ) ↦{fullShare.right} T1)
      ∗ (∃ d, owns (c : Thread nD τ) arg8 fullShare d)
      ∗ (scG.view.loc (c : Thread nD τ) ↦{fullShare} a)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
              ∗ (tbE.view.loc (c : Thread nD τ) ↦{fullShare.right} T0)
          ∗ (tbU.view.loc (c : Thread nD τ) ↦{fullShare.right} T1)
          ∗ (∃ f, arg8.view.loc (c : Thread nD τ) ↦[arg8.view.set]{fullShare} arg8.view.writes (Elt F) f o)
          ∗ (scG.view.loc (c : Thread nD τ) ↦{fullShare} p)) -∗ K ⟨⟩))
      ⊢ wp frame (wpE (defs₀ (F := F)) Variants.none c none) Set.univ (cc0_matmul_resgate i tbE (Memref.isWhole_whole _) tbU (Memref.isWhole_whole _) arg4 harg4 arg5 harg5 arg6 harg6 arg7 harg7 arg8 harg8 scG (Memref.isWhole_whole _)) K

/-- The run, with what it leaves. -/
abbrev Found (c : Dev nD) (i : grid0.Coords) (arg4 : Memref sig .tc .vmem S512x5632 .bf16) (harg4 : arg4.IsWhole) (arg5 : Memref sig .tc .vmem S1x5632x512 .f32) (harg5 : arg5.IsWhole) (arg6 : Memref sig .tc .vmem S512x512 .f32) (harg6 : arg6.IsWhole) (arg7 : Memref sig .tc .vmem S1x1x512 .f32) (harg7 : arg7.IsWhole) (arg8 : Memref sig .tc .vmem S512x512 .f32) (harg8 : arg8.IsWhole)
    (T0 : S34.Idx → Elt F .i32) (T1 : S1.Idx → Elt F .i32) (x0 : S512x5632.Idx → Elt F .bf16) (x1 : S1x5632x512.Idx → Elt F .f32) (x2 : S512x512.Idx → Elt F .f32) (x3 : S1x1x512.Idx → Elt F .f32)
    (a : Buf (Elt F) ((c : Thread nD τ).loc cc0_scratch0)) :=
  Σ' (o : List (View.Piece (Elt F) S512x512 .f32)),
    { p : Buf (Elt F) ((c : Thread nD τ).loc cc0_scratch0) // Runs c i arg4 harg4 arg5 harg5 arg6 harg6 arg7 harg7 arg8 harg8 T0 T1 x0 x1 x2 x3 a o p }

set_option backward.proofsInPublic true in
set_option maxHeartbeats 8000000 in
/-- A tile in use whose panel is cast anew. -/
noncomputable def runNewUsed (c : Dev nD) (i : grid0.Coords) (arg4 : Memref sig .tc .vmem S512x5632 .bf16) (harg4 : arg4.IsWhole) (arg5 : Memref sig .tc .vmem S1x5632x512 .f32) (harg5 : arg5.IsWhole) (arg6 : Memref sig .tc .vmem S512x512 .f32) (harg6 : arg6.IsWhole) (arg7 : Memref sig .tc .vmem S1x1x512 .f32) (harg7 : arg7.IsWhole) (arg8 : Memref sig .tc .vmem S512x512 .f32) (harg8 : arg8.IsWhole)
    (T0 : S34.Idx → Elt F .i32) (T1 : S1.Idx → Elt F .i32) (x0 : S512x5632.Idx → Elt F .bf16) (x1 : S1x5632x512.Idx → Elt F .f32) (x2 : S512x512.Idx → Elt F .f32) (x3 : S1x1x512.Idx → Elt F .f32)
    (a : Buf (Elt F) ((c : Thread nD τ).loc cc0_scratch0))
    (h0 : cNew T0 i = 1#1) (h2 : k0_cond2 i (wUsed T1) = 1#1) (h3 : ¬ k0_cond3 i (wUsed T1) = 1#1) :
    Found c i arg4 harg4 arg5 harg5 arg6 harg6 arg7 harg7 arg8 harg8 T0 T1 x0 x1 x2 x3 a :=
  ⟨_, _, fun K => by
    unfold owns
    rw [cc0_matmul_resgate_eq_skeleton]; unfold cc0_matmul_resgate_skel
    iintro ⟨H0, H1, H2, H3, HT0, HT1, ⟨%d2, %f2, -, HO2⟩, HS0, Hk⟩
    have hS0 : scG.IsWhole := Memref.isWhole_whole _
    have hT0 : tbE.IsWhole := Memref.isWhole_whole _
    have hT1 : tbU.IsWhole := Memref.isWhole_whole _
    sl_exec! (disch := first | exact h0 | exact h2 | exact h3)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO2]; · iexists _; iexact HO2
    iexact HS0⟩

set_option backward.proofsInPublic true in
set_option maxHeartbeats 8000000 in
/-- A tile in use with the panel of the point before. -/
noncomputable def runOldUsed (c : Dev nD) (i : grid0.Coords) (arg4 : Memref sig .tc .vmem S512x5632 .bf16) (harg4 : arg4.IsWhole) (arg5 : Memref sig .tc .vmem S1x5632x512 .f32) (harg5 : arg5.IsWhole) (arg6 : Memref sig .tc .vmem S512x512 .f32) (harg6 : arg6.IsWhole) (arg7 : Memref sig .tc .vmem S1x1x512 .f32) (harg7 : arg7.IsWhole) (arg8 : Memref sig .tc .vmem S512x512 .f32) (harg8 : arg8.IsWhole)
    (T0 : S34.Idx → Elt F .i32) (T1 : S1.Idx → Elt F .i32) (x0 : S512x5632.Idx → Elt F .bf16) (x1 : S1x5632x512.Idx → Elt F .f32) (x2 : S512x512.Idx → Elt F .f32) (x3 : S1x1x512.Idx → Elt F .f32)
    (a : Buf (Elt F) ((c : Thread nD τ).loc cc0_scratch0))
    (h0 : ¬ cNew T0 i = 1#1) (h2 : k0_cond2 i (wUsed T1) = 1#1) (h3 : ¬ k0_cond3 i (wUsed T1) = 1#1) :
    Found c i arg4 harg4 arg5 harg5 arg6 harg6 arg7 harg7 arg8 harg8 T0 T1 x0 x1 x2 x3 a :=
  ⟨_, _, fun K => by
    unfold owns
    rw [cc0_matmul_resgate_eq_skeleton]; unfold cc0_matmul_resgate_skel
    iintro ⟨H0, H1, H2, H3, HT0, HT1, ⟨%d2, %f2, -, HO2⟩, HS0, Hk⟩
    have hS0 : scG.IsWhole := Memref.isWhole_whole _
    have hT0 : tbE.IsWhole := Memref.isWhole_whole _
    have hT1 : tbU.IsWhole := Memref.isWhole_whole _
    sl_exec! (disch := first | exact h0 | exact h2 | exact h3)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO2]; · iexists _; iexact HO2
    iexact HS0⟩

end Cert.DenseDownIdeal.Hand

end
-- ==== Proof.DenseWords.lean ====
/- The dense down call's words: its two prefetched tables are constants, every row tile being in use and of the one expert. -/
module

public import proofs.«01_k».proof.Proof.DenseRuns
public import Idealize.ShloMosaic.Lib.ValueIdx

@[expose] public section

set_option maxRecDepth 16384

noncomputable section

namespace Cert.DenseDownIdeal.Hand

open Cert.DenseDownIdeal Cert.DenseDownIdeal.Gen
open Idealize.ShloMosaic Idealize.ShloMosaic.TcCoe Idealize.ShloMosaic.ValueIdx

variable {F : FTy → Type} [FloatOps F]

/-- The experts' table, all zero, and the count of tiles in use, all 34. -/
abbrev tabE : S34.Idx → Elt F .i32 := fun _ => (0#32 : BitVec 32)
abbrev tabU : S1.Idx → Elt F .i32 := fun _ => (34#32 : BitVec 32)

/-- The two tables as the call prefetches them. -/
def tabs : pre0.Contents (Elt F) := fun
  | ⟨0, _⟩ => tabE (F := F)
  | ⟨1, _⟩ => tabU (F := F)

theorem wHere_eq (i : grid0.Coords) : wHere (F := F) tabE i = (0#32 : BitVec 32) := rfl
theorem wPrev_eq (i : grid0.Coords) : wPrev (F := F) tabE i = (0#32 : BitVec 32) := rfl
theorem wUsed_eq : wUsed (F := F) tabU = (34#32 : BitVec 32) := rfl

/-- The weight panel is cast anew exactly at a column's first row tile. -/
theorem new_iff (i : grid0.Coords) : cNew (F := F) tabE i = 1#1 ↔ (i 1).val = 0 := by
  have h : ∀ k : Fin 34, (Scalar.cmpi .ne (Scalar.extui (Scalar.ori (Scalar.cmpi .eq (BitVec.ofNat 32 k.val) 0#32) (Scalar.cmpi .ne 0#32 (0#32 : BitVec 32))) : BitVec 32) 0#32 = 1#1) ↔ k.val = 0 := by decide
  exact h (i 1)

/-- Every tile is in use. -/
theorem cond2_true (i : grid0.Coords) : k0_cond2 i (wUsed (F := F) tabU) = 1#1 := by
  have h : ∀ k : Fin 34, Scalar.cmpi .ne (Scalar.extui (Scalar.cmpi .slt (BitVec.ofNat 32 k.val) 34#32) : BitVec 32) 0#32 = 1#1 := by decide
  exact h (i 1)
theorem cond3_false (i : grid0.Coords) : ¬ k0_cond3 i (wUsed (F := F) tabU) = 1#1 := by
  have h : ∀ k : Fin 34, ¬ Scalar.cmpi .ne (Scalar.extui (Scalar.cmpi .sge (BitVec.ofNat 32 k.val) 34#32) : BitVec 32) 0#32 = 1#1 := by decide
  exact h (i 1)

/-- Where each window's block sits at a grid point. -/
theorem ix_rows (i : grid0.Coords) : cc0_transform_0 inb_S1_S1_0 numel1_S1 (tabs (F := F)) i = ![(i 1).val, 0] := by
  have h : ∀ k : Fin 34, (![(Scalar.minsi (BitVec.ofNat 32 k.val) (Scalar.subi 34#32 1#32)).toNat, 0] : Fin 2 → Nat) = ![k.val, 0] := by decide
  exact h (i 1)

theorem ix_weight (i : grid0.Coords) : cc0_transform_1 k0_off1_inb numel1_S1 (tabs (F := F)) i = ![0, 0, (i 0).val] := by
  have h : ∀ k : Fin 4, (![(0#32 : BitVec 32).toNat, 0, (BitVec.ofNat 32 k.val).toNat] : Fin 3 → Nat) = ![0, 0, k.val] := by decide
  exact h (i 0)

theorem ix_res (i : grid0.Coords) : cc0_transform_2 i = ![(i 1).val, (i 0).val] := by
  have h : ∀ (k : Fin 34) (l : Fin 4), (![(BitVec.ofNat 32 k.val).toNat, (BitVec.ofNat 32 l.val).toNat] : Fin 2 → Nat) = ![k.val, l.val] := by decide
  exact h (i 1) (i 0)

theorem ix_gate : ∀ i : grid0.Coords, cc0_transform_3 i = ![if (i 1).val < 32 then (i 1).val / 8 else 4, 0, 20 + (i 0).val] := by decide +kernel

theorem ix_out (i : grid0.Coords) : cc0_transform_4 i = ![(i 1).val, (i 0).val] := ix_res i

/-- Every block lies in its array. -/
theorem ok_tabs : ok0 (tabs (F := F)) := by
  refine ⟨fun i => ⟨fun a => ?_, .inr (Affine.block_words_dvd (of_decide_eq_true rfl) (by decide))⟩, fun i => ⟨fun a => ?_, .inl rfl⟩⟩
  · rw [ix_rows]
    have h2 : (i 1).val < 34 := (i 1).isLt
    fin_cases a
    · show ((i 1).val + 1) * 512 ≤ 17408
      omega
    · show (0 + 1) * 5632 ≤ 5632
      omega
  · rw [ix_weight]
    have h2 : (i 0).val < 4 := (i 0).isLt
    fin_cases a
    · show (0 + 1) * 1 ≤ 1
      omega
    · show (0 + 1) * 5632 ≤ 5632
      omega
    · show ((i 0).val + 1) * 512 ≤ 2048
      omega

end Cert.DenseDownIdeal.Hand

end
-- ==== Proof.DenseFrame.lean ====
/- The dense down call from a launch: what each grid point computes, that its body does so, and what a whole run leaves. -/
module

public import proofs.«01_k».proof.Proof.DenseWords
public import Idealize.ShloMosaic.Lib.VecWindow
public import Idealize.ShloMosaic.Lib.Pipeline.Value

@[expose] public section

set_option maxRecDepth 16384
set_option Elab.async false

noncomputable section

namespace Cert.DenseDownIdeal.Hand

open Cert.DenseDownIdeal Cert.DenseDownIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the two runs leave, in closed form -/

/-- The scratch panel once a weight block has been cast into it. -/
def panG (c : Dev nD) (x : S1x5632x512.Idx → Elt F .f32) : Buf (Elt F) ((c : Thread nD τ).loc cc0_scratch0) :=
  scG.view.writes (Elt F) scG.view.junk [⟨Rect.unit (s := S5632x512) ![0, 0] S5632x512.size inb_S5632x512_S5632x512_0_0, k0_pay1 x⟩]

theorem zero2 : (![0, 0] : Fin 2 → Nat) = fun _ => 0 := by funext a; fin_cases a <;> rfl

/-- A panel loaded back is the cast block. -/
theorem load_panG (c : Dev nD) (x : S1x5632x512.Idx → Elt F .f32) :
    View.readAt (Elt F) scG.view (Rect.unit (s := S5632x512) ![0, 0] S5632x512.size inb_S5632x512_S5632x512_0_0).toLoadRect (panG (F := F) c x) = k0_pay1 x := by
  unfold panG
  exact (View.readAt_full _ _ _).trans ((View.read_writes_junk_eq_canon _ _).trans (View.canon_unit_zero zero2 _ _))

/-- The output buffer read back after its one store is what was stored. -/
theorem read_out (v : Memref sig .tc .vmem S512x512 .f32) (f) (w : S512x512.Idx → Elt F .f32) :
    v.view.read (Elt F) (v.view.writes (Elt F) f [⟨Rect.unit (s := S512x512) ![0, 0] S512x512.size inb_S512x512_S512x512_0_0, w⟩]) = w :=
  (View.read_writes_eq_canon _ _ _ (View.cover_of_tiledL _ S512x512.size (by sl_kernel_rfl))).trans (View.canon_unit_zero zero2 _ _)

/-- The block of results of a point: the residual block plus the gated product. -/
def prodOut (x0 : S512x5632.Idx → Elt F .bf16) (x1 : S1x5632x512.Idx → Elt F .f32) (x2 : S512x512.Idx → Elt F .f32) (x3 : S1x1x512.Idx → Elt F .f32) : S512x512.Idx → Elt F .f32 :=
  k0_pay2 x0 (k0_pay1 x1) x2 x3

/-- A staged block of rows, and a staged block of weights, loaded whole. -/
abbrev ldX (v : Memref sig .tc .vmem S512x5632 .bf16) (x : S512x5632.Idx → Elt F .bf16) : S512x5632.Idx → Elt F .bf16 :=
  View.readAt (Elt F) v.view (Rect.unit (s := S512x5632) ![0, 0] S512x5632.size inb_S512x5632_S512x5632_0_0).toLoadRect (v.view.rep x)
abbrev ldW (v : Memref sig .tc .vmem S1x5632x512 .f32) (x : S1x5632x512.Idx → Elt F .f32) : S1x5632x512.Idx → Elt F .f32 :=
  View.readAt (Elt F) v.view (Rect.unit (s := S1x5632x512) ![0, 0, 0] S1x5632x512.size inb_S1x5632x512_S1x5632x512_0_0_0).toLoadRect (v.view.rep x)

theorem ldX_eq (v : Memref sig .tc .vmem S512x5632 .bf16) (x : S512x5632.Idx → Elt F .bf16) : ldX v x = x := View.readAt_rep_full _ _ _
theorem ldW_eq (v : Memref sig .tc .vmem S1x5632x512 .f32) (x : S1x5632x512.Idx → Elt F .f32) : ldW v x = x := View.readAt_rep_full _ _ _

/-- A staged block of the residual stream, and a staged row of gates, loaded whole. -/
abbrev ldR (v : Memref sig .tc .vmem S512x512 .f32) (x : S512x512.Idx → Elt F .f32) : S512x512.Idx → Elt F .f32 :=
  View.readAt (Elt F) v.view (Rect.unit (s := S512x512) ![0, 0] S512x512.size inb_S512x512_S512x512_0_0).toLoadRect (v.view.rep x)
abbrev ldM (v : Memref sig .tc .vmem S1x1x512 .f32) (x : S1x1x512.Idx → Elt F .f32) : S1x1x512.Idx → Elt F .f32 :=
  View.readAt (Elt F) v.view (Rect.unit (s := S1x1x512) ![0, 0, 0] S1x1x512.size inb_S1x1x512_S1x1x512_0_0_0).toLoadRect (v.view.rep x)

theorem ldR_eq (v : Memref sig .tc .vmem S512x512 .f32) (x : S512x512.Idx → Elt F .f32) : ldR v x = x := View.readAt_rep_full _ _ _
theorem ldM_eq (v : Memref sig .tc .vmem S1x1x512 .f32) (x : S1x1x512.Idx → Elt F .f32) : ldM v x = x := View.readAt_rep_full _ _ _

/-- A panel just written, loaded back. -/
theorem cov_panG (w : S5632x512.Idx → Elt F .bf16) :
    scG.view.readCov [(⟨Rect.unit (s := S5632x512) ![0, 0] S5632x512.size inb_S5632x512_S5632x512_0_0, w⟩ : View.Piece (Elt F) S5632x512 .bf16)]
      (Rect.unit (s := S5632x512) ![0, 0] S5632x512.size inb_S5632x512_S5632x512_0_0).toLoadRect = w :=
  View.readCov_unit_zero _ zero2 _ _

/-- What the one store of a point leaves. -/
abbrev one (w : S512x512.Idx → Elt F .f32) : List (View.Piece (Elt F) S512x512 .f32) :=
  [⟨Rect.unit (s := S512x512) ![0, 0] S512x512.size inb_S512x512_S512x512_0_0, w⟩]

/-- A run restated with what it leaves spelled otherwise. -/
theorem Runs.restate {c i arg4 harg4 arg5 harg5 arg6 harg6 arg7 harg7 arg8 harg8 T0 T1 x0 x1 x2 x3 a o o' p p'}
    (h : Runs (F := F) c i arg4 harg4 arg5 harg5 arg6 harg6 arg7 harg7 arg8 harg8 T0 T1 x0 x1 x2 x3 a o p) (eo : o = o') (ep : p = p') :
    Runs (F := F) c i arg4 harg4 arg5 harg5 arg6 harg6 arg7 harg7 arg8 harg8 T0 T1 x0 x1 x2 x3 a o' p' := by
  subst eo ep; exact h

section
variable (c : Dev nD) (i : grid0.Coords) (arg4 : Memref sig .tc .vmem S512x5632 .bf16) (harg4 : arg4.IsWhole) (arg5 : Memref sig .tc .vmem S1x5632x512 .f32) (harg5 : arg5.IsWhole) (arg6 : Memref sig .tc .vmem S512x512 .f32) (harg6 : arg6.IsWhole) (arg7 : Memref sig .tc .vmem S1x1x512 .f32) (harg7 : arg7.IsWhole) (arg8 : Memref sig .tc .vmem S512x512 .f32) (harg8 : arg8.IsWhole)
    (T0 : S34.Idx → Elt F .i32) (T1 : S1.Idx → Elt F .i32) (x0 : S512x5632.Idx → Elt F .bf16) (x1 : S1x5632x512.Idx → Elt F .f32) (x2 : S512x512.Idx → Elt F .f32) (x3 : S1x1x512.Idx → Elt F .f32)
    (a : Buf (Elt F) ((c : Thread nD τ).loc cc0_scratch0))

theorem panels_newUsed (h0 : cNew T0 i = 1#1) (h2 : k0_cond2 i (wUsed T1) = 1#1) (h3 : ¬ k0_cond3 i (wUsed T1) = 1#1) :
    (runNewUsed c i arg4 harg4 arg5 harg5 arg6 harg6 arg7 harg7 arg8 harg8 T0 T1 x0 x1 x2 x3 a h0 h2 h3).2.1 = panG c (ldW arg5 x1) := by
  unfold runNewUsed panG runNewUsed.sl.HS0_1
  dsimp only

theorem panels_oldUsed (h0 : ¬ cNew T0 i = 1#1) (h2 : k0_cond2 i (wUsed T1) = 1#1) (h3 : ¬ k0_cond3 i (wUsed T1) = 1#1) :
    (runOldUsed c i arg4 harg4 arg5 harg5 arg6 harg6 arg7 harg7 arg8 harg8 T0 T1 x0 x1 x2 x3 a h0 h2 h3).2.1 = a := by
  unfold runOldUsed
  rfl

theorem newUsed (h0 : cNew T0 i = 1#1) (h2 : k0_cond2 i (wUsed T1) = 1#1) (h3 : ¬ k0_cond3 i (wUsed T1) = 1#1) :
    Runs c i arg4 harg4 arg5 harg5 arg6 harg6 arg7 harg7 arg8 harg8 T0 T1 x0 x1 x2 x3 a (one (prodOut x0 x1 x2 x3)) (panG c x1) :=
  Runs.restate (runNewUsed c i arg4 harg4 arg5 harg5 arg6 harg6 arg7 harg7 arg8 harg8 T0 T1 x0 x1 x2 x3 a h0 h2 h3).2.2
    ((show (runNewUsed c i arg4 harg4 arg5 harg5 arg6 harg6 arg7 harg7 arg8 harg8 T0 T1 x0 x1 x2 x3 a h0 h2 h3).1
        = one (k0_pay2 (ldX arg4 x0) (runNewUsed.sl.v20 arg5 x1) (ldR arg6 x2) (ldM arg7 x3)) from rfl).trans
      (by rw [ldX_eq, show runNewUsed.sl.v20 arg5 x1 = k0_pay1 (ldW arg5 x1) from cov_panG _, ldW_eq, ldR_eq, ldM_eq]; rfl))
    ((panels_newUsed c i arg4 harg4 arg5 harg5 arg6 harg6 arg7 harg7 arg8 harg8 T0 T1 x0 x1 x2 x3 a h0 h2 h3).trans (by rw [ldW_eq]))

theorem oldUsed (h0 : ¬ cNew T0 i = 1#1) (h2 : k0_cond2 i (wUsed T1) = 1#1) (h3 : ¬ k0_cond3 i (wUsed T1) = 1#1) :
    Runs c i arg4 harg4 arg5 harg5 arg6 harg6 arg7 harg7 arg8 harg8 T0 T1 x0 x1 x2 x3 (panG c x1) (one (prodOut x0 x1 x2 x3)) (panG c x1) :=
  Runs.restate (runOldUsed c i arg4 harg4 arg5 harg5 arg6 harg6 arg7 harg7 arg8 harg8 T0 T1 x0 x1 x2 x3 (panG c x1) h0 h2 h3).2.2
    ((show (runOldUsed c i arg4 harg4 arg5 harg5 arg6 harg6 arg7 harg7 arg8 harg8 T0 T1 x0 x1 x2 x3 (panG c x1) h0 h2 h3).1
        = one (k0_pay2 (ldX arg4 x0)
            (View.readAt (Elt F) scG.view (Rect.unit (s := S5632x512) ![0, 0] S5632x512.size inb_S5632x512_S5632x512_0_0).toLoadRect (panG (F := F) c x1)) (ldR arg6 x2) (ldM arg7 x3)) from rfl).trans
      (by rw [ldX_eq, load_panG, ldR_eq, ldM_eq]; rfl))
    (panels_oldUsed c i arg4 harg4 arg5 harg5 arg6 harg6 arg7 harg7 arg8 harg8 T0 T1 x0 x1 x2 x3 _ h0 h2 h3)

end

end Cert.DenseDownIdeal.Hand

end
-- ==== Proof.DenseLaunch.lean ====
/- The dense down call from a launch: what each grid point leaves, that its body does so, and what a whole run leaves. -/
module

public import proofs.«01_k».proof.Proof.DenseFrame

@[expose] public section

set_option maxRecDepth 16384
set_option Elab.async false

noncomputable section

namespace Cert.DenseDownIdeal.Hand

open Cert.DenseDownIdeal Cert.DenseDownIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resources: the pipeline's staging cells. -/
abbrev EP : Emb (UR sig nD τ) 𝕄 := emb₁

variable (m : (ℓ : Loc nD τ sig) → Buf (Elt F) ℓ)

/-- Core `c`'s buffers once the host operations before the call have run. -/
abbrev V (c : Dev nD) (b : Ref sig .tc) : Buf (Elt F) ((c : Thread nD τ).loc b) := StableHlo.after hostOps0 (fun b => m (c, b)) b

/-- The call at its constant tables. -/
def adm : (pcfg0 (F := F)).Adm := ⟨tabs, ok_tabs⟩
abbrev cfgA (F : FTy → Type) [FloatOps F] : Pipeline.Cfg sig Λ₀ := cfg0 (F := F) adm
abbrev pcs (F : FTy → Type) [FloatOps F] : Fin 1 → Pipeline.Cfg sig Λ₀ := Pipeline.pin (pcfgs (F := F)) fun _ => adm

/-- A point's coordinates and staging buffers. -/
abbrev crd (F : FTy → Type) [FloatOps F] (t : Fin (cfgA F).N) : (cfgA F).grid.Coords := (cfgA F).grid.coords t
abbrev ms0_0 (F : FTy → Type) [FloatOps F] (t : Fin (cfgA F).N) : Memref sig .tc .vmem S512x5632 .bf16 := spec0_0.stage ((cfgA F).slots t (0 : Fin 5))
abbrev hs0_0 (F : FTy → Type) [FloatOps F] (t : Fin (cfgA F).N) : (ms0_0 F t).IsWhole := hstage0_0 (((cfgA F).slots t (0 : Fin 5)).cast nbuf0_0)
abbrev ms0_1 (F : FTy → Type) [FloatOps F] (t : Fin (cfgA F).N) : Memref sig .tc .vmem S1x5632x512 .f32 := spec0_1.stage ((cfgA F).slots t (1 : Fin 5))
abbrev hs0_1 (F : FTy → Type) [FloatOps F] (t : Fin (cfgA F).N) : (ms0_1 F t).IsWhole := hstage0_1 (((cfgA F).slots t (1 : Fin 5)).cast nbuf0_1)
abbrev ms0_2 (F : FTy → Type) [FloatOps F] (t : Fin (cfgA F).N) : Memref sig .tc .vmem S512x512 .f32 := spec0_2.stage ((cfgA F).slots t (2 : Fin 5))
abbrev hs0_2 (F : FTy → Type) [FloatOps F] (t : Fin (cfgA F).N) : (ms0_2 F t).IsWhole := hstage0_2 (((cfgA F).slots t (2 : Fin 5)).cast nbuf0_2)
abbrev ms0_3 (F : FTy → Type) [FloatOps F] (t : Fin (cfgA F).N) : Memref sig .tc .vmem S1x1x512 .f32 := spec0_3.stage ((cfgA F).slots t (3 : Fin 5))
abbrev hs0_3 (F : FTy → Type) [FloatOps F] (t : Fin (cfgA F).N) : (ms0_3 F t).IsWhole := hstage0_3 (((cfgA F).slots t (3 : Fin 5)).cast nbuf0_3)
abbrev ms0_4 (F : FTy → Type) [FloatOps F] (t : Fin (cfgA F).N) : Memref sig .tc .vmem S512x512 .f32 := spec0_4.stage ((cfgA F).slots t (4 : Fin 5))
abbrev hs0_4 (F : FTy → Type) [FloatOps F] (t : Fin (cfgA F).N) : (ms0_4 F t).IsWhole := hstage0_4 (((cfgA F).slots t (4 : Fin 5)).cast nbuf0_4)

/-- Window `w`'s block at point `t`, read off its array as the call finds it. -/
def iblk (c : Dev nD) (w : Fin (cfgA F).W) (t : Fin (cfgA F).N) : (((cfgA F).win w).xblock (crd F t)).Idx → Elt F ((cfgA F).win w).elt :=
  (((cfgA F).win w).blk t).view.read (Elt F) (V m c (Pipeline.arrRef spec0 w))

/-- What point `t` stores into its block of the output. -/
def outAt (c : Dev nD) (t : Fin (cfgA F).N) : S512x512.Idx → Elt F .f32 :=
  prodOut (iblk m c (0 : Fin 5) t) (iblk m c (1 : Fin 5) t) (iblk m c (2 : Fin 5) t) (iblk m c (3 : Fin 5) t)

/-- Before position `n` the panel holds the weight block of the point before, cast. -/
def heldG (c : Dev nD) (n : ℕ) (a : Buf (Elt F) ((c : Thread nD τ).loc cc0_scratch0)) : Prop :=
  ∀ t' : Fin (cfgA F).N, t'.val + 1 = n → a = panG (F := F) c (iblk m c (1 : Fin 5) t')

theorem heldG_succ (c : Dev nD) (t : Fin (cfgA F).N) : heldG m c (t.val + 1) (panG (F := F) c (iblk m c (1 : Fin 5) t)) := by
  intro t' h; rw [show t' = t from Fin.ext (Nat.succ.inj h)]
theorem heldG_zero (c : Dev nD) (a) : heldG m c 0 a := fun _ h => absurd h (Nat.succ_ne_zero _)

/-- Between points: the panel holds the weight block of the point before, cast; the tables are as they were. -/
def Phi (c : Dev nD) (n : ℕ) : sProp 𝕄 :=
  iprop((∃ a, ⌜heldG m c n a⌝ ∗ (scG.view.loc (c : Thread nD τ) ↦{fullShare} a))
    ∗ (tbE.view.loc (c : Thread nD τ) ↦{fullShare.right} tabE (F := F)) ∗ (tbU.view.loc (c : Thread nD τ) ↦{fullShare.right} tabU (F := F)))

/-- The proof data of the one pipeline on core `c`. -/
def dats (_ : Fin 1) (c : Dev nD) : Dat τ (Elt F) Unit ℕ (UR sig nD τ) ℕ (cfgA F) c where
  A w := V m c (Pipeline.arrRef spec0 w)
  after w t := match w with
    | ⟨0, _⟩ => iblk m c (0 : Fin 5) t
    | ⟨1, _⟩ => iblk m c (1 : Fin 5) t
    | ⟨2, _⟩ => iblk m c (2 : Fin 5) t
    | ⟨3, _⟩ => iblk m c (3 : Fin 5) t
    | ⟨4, _⟩ => outAt m c t
  Φ t := Phi m c t.val
  q _ := fullShare
  owed _ := 0

theorem after0_0 (c : Dev nD) (t : Fin (cfgA F).N) : (dats m 0 c).after (0 : Fin 5) t = iblk m c (0 : Fin 5) t := rfl
theorem after0_1 (c : Dev nD) (t : Fin (cfgA F).N) : (dats m 0 c).after (1 : Fin 5) t = iblk m c (1 : Fin 5) t := rfl
theorem after0_2 (c : Dev nD) (t : Fin (cfgA F).N) : (dats m 0 c).after (2 : Fin 5) t = iblk m c (2 : Fin 5) t := rfl
theorem after0_3 (c : Dev nD) (t : Fin (cfgA F).N) : (dats m 0 c).after (3 : Fin 5) t = iblk m c (3 : Fin 5) t := rfl
theorem after0_4 (c : Dev nD) (t : Fin (cfgA F).N) : (dats m 0 c).after (4 : Fin 5) t = outAt m c t := rfl

/-- An input window holds its block when the body runs. -/
theorem before0_0 (c : Dev nD) (t : Fin (cfgA F).N) (d) : (dats m 0 c).before (0 : Fin 5) t d = iblk m c (0 : Fin 5) t :=
  ((dats m 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA F).N) (d) : (dats m 0 c).before (1 : Fin 5) t d = iblk m c (1 : Fin 5) t :=
  ((dats m 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA F).N) (d) : (dats m 0 c).before (2 : Fin 5) t d = iblk m c (2 : Fin 5) t :=
  ((dats m 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA F).N) (d) : (dats m 0 c).before (3 : Fin 5) t d = iblk m c (3 : Fin 5) t :=
  ((dats m 0 c).before_in_eq_fetched (3 : Fin 5) rfl (fun _ => rfl) (fun _ _ _ => rfl) (fun t => by rw [after0_3]; unfold Dat.blockOf iblk; rfl) t d).trans
    (by unfold Dat.fetched Dat.blockOf iblk; rfl)

/-! ## The grid: column by column, and down each column the row tiles -/

theorem crd0 (t : Fin (cfgA F).N) : ((crd F t) 0).val = t.val / 34 % 4 := Pipeline.Grid.coords_val (G := grid0) t 0 (by decide) rfl
theorem crd1 (t : Fin (cfgA F).N) : ((crd F t) 1).val = t.val / 1 % 34 := Pipeline.Grid.coords_val (G := grid0) t 1 (by decide) rfl

/-- At a tile that is not its column's first, the point before is the tile above in the same column. -/
theorem above (t t' : Fin (cfgA F).N) (ht : t'.val = t.val - 1) (h : ((crd F t) 1).val ≠ 0) : (crd F t') 0 = (crd F t) 0 := by
  refine Fin.ext ?_
  rw [crd1] at h; rw [crd0, crd0]; omega

/-- There the weight block is that of the point before. -/
theorem same_weight (c : Dev nD) (t t' : Fin (cfgA F).N) (ht : t'.val = t.val - 1) (h : ((crd F t) 1).val ≠ 0) :
    iblk m c (1 : Fin 5) t' = iblk m c (1 : Fin 5) t := by
  have hi : ((cfgA F).win (1 : Fin 5)).index t' = ((cfgA F).win (1 : Fin 5)).index t := by
    show cc0_transform_1 k0_off1_inb numel1_S1 (tabs (F := F)) (crd F t') = cc0_transform_1 k0_off1_inb numel1_S1 (tabs (F := F)) (crd F t)
    rw [ix_weight, ix_weight, above t t' ht h]
  exact (by unfold Dat.fetched Dat.blockOf iblk; rfl : iblk m c (1 : Fin 5) t' = (dats m 0 c).fetched (1 : Fin 5) t' (fun _ => Classical.arbitrary _)).trans
    (((dats m 0 c).fetched_congr (1 : Fin 5) hi rfl _).trans (by unfold Dat.fetched Dat.blockOf iblk; rfl))

/-- The output is stored at every point. -/
theorem idle4 (t : Fin (cfgA F).N) : (cfgA F).idle (4 : Fin 5) ((cfgA F).grid.coords t) = false := by
  show (!(k0_cond2 (crd F t) (wUsed (F := F) tabU) == 1#1) && !(k0_cond3 (crd F t) (wUsed (F := F) tabU) == 1#1)) = false
  rw [cond2_true]; rfl

/-- What a point's run leaves, whatever its path. -/
theorem point_run (c : Dev nD) (t : Fin (cfgA F).N)
    (a : Buf (Elt F) ((c : Thread nD τ).loc cc0_scratch0))
    (ha : heldG m c t.val a) :
    Runs c (crd F t) (ms0_0 F t) (hs0_0 F t) (ms0_1 F t) (hs0_1 F t) (ms0_2 F t) (hs0_2 F t) (ms0_3 F t) (hs0_3 F t) (ms0_4 F t) (hs0_4 F t)
      (tabE (F := F)) (tabU (F := F)) (iblk m c (0 : Fin 5) t) (iblk m c (1 : Fin 5) t) (iblk m c (2 : Fin 5) t) (iblk m c (3 : Fin 5) t) a
      (one (outAt m c t)) (panG (F := F) c (iblk m c (1 : Fin 5) t)) := by
  unfold outAt
  by_cases h0 : cNew (F := F) tabE (crd F t) = 1#1
  · exact newUsed c _ _ _ _ _ _ _ _ _ _ _ _ _ _ _ _ _ _ h0 (cond2_true _) (cond3_false _)
  · have hm : ((crd F t) 1).val ≠ 0 := fun h => h0 ((new_iff _).mpr h)
    have ht : t.val ≠ 0 := fun h => hm (by rw [crd1, h])
    have ea : a = panG (F := F) c (iblk m c (1 : Fin 5) t) := (ha ⟨t.val - 1, by omega⟩ (Nat.succ_pred ht)).trans (congrArg (panG (F := F) c) (same_weight m c t _ rfl hm))
    subst ea
    exact oldUsed c _ _ _ _ _ _ _ _ _ _ _ _ _ _ _ _ _ h0 (cond2_true _) (cond3_false _)

end Cert.DenseDownIdeal.Hand

end
-- ==== Proof.DenseWhole.lean ====
/- The dense down call run whole: the body at every point, the launch, and what it leaves. -/
module

public import proofs.«01_k».proof.Proof.DenseLaunch

@[expose] public section

set_option maxRecDepth 16384
set_option Elab.async false

noncomputable section

namespace Cert.DenseDownIdeal.Hand

open Cert.DenseDownIdeal Cert.DenseDownIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The body at point `t` on its staging buffers. -/
abbrev bodyAt (F : FTy → Type) [FloatOps F] (t : Fin (cfgA F).N) : Prog (TpuEff nD τ sig (Elt F) Λ₀ .tc) PUnit :=
  cc0_matmul_resgate (crd F t) tbE (Memref.isWhole_whole _) tbU (Memref.isWhole_whole _) (ms0_0 F t) (hs0_0 F t) (ms0_1 F t) (hs0_1 F t) (ms0_2 F t) (hs0_2 F t) (ms0_3 F t) (hs0_3 F t) (ms0_4 F t) (hs0_4 F t) scG (Memref.isWhole_whole _)

theorem phi_here (c : Dev nD) (t : Fin (cfgA F).N) : (dats m 0 c).Φ t.castSucc = Phi m c t.val :=
  congrArg (Phi m c) (Fin.val_castSucc t)
theorem phi_succ (c : Dev nD) (t : Fin (cfgA F).N) : (dats m 0 c).Φ t.succ = Phi m c (t.val + 1) :=
  congrArg (Phi m c) (Fin.val_succ t)

set_option maxHeartbeats 400000 in
/-- The body does at point `t` what the proof data says. -/
theorem sound_body (c : Dev nD) (t : Fin (cfgA F).N) :
    iprop((dats m 0 c).Φ t.castSucc ∗ (dats m 0 c).owesAt () t.castSucc
        ∗ (∃ d, owns (c : Thread nD τ) (ms0_0 F t) fullShare ((dats m 0 c).before (0 : Fin 5) t d))
        ∗ (∃ d, owns (c : Thread nD τ) (ms0_1 F t) fullShare ((dats m 0 c).before (1 : Fin 5) t d))
        ∗ (∃ d, owns (c : Thread nD τ) (ms0_2 F t) fullShare ((dats m 0 c).before (2 : Fin 5) t d))
        ∗ (∃ d, owns (c : Thread nD τ) (ms0_3 F t) fullShare ((dats m 0 c).before (3 : Fin 5) t d))
        ∗ (∃ d, owns (c : Thread nD τ) (ms0_4 F t) fullShare ((dats m 0 c).before (4 : Fin 5) t d)))
      ⊢ wp frame (wpE (defs₀ (F := F)) Variants.none c none) Set.univ (bodyAt F t) fun _ =>
          iprop((dats m 0 c).Φ t.succ ∗ (dats m 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats m 0 c).before w t d))
                  | true => owns (c : Thread nD τ) (((cfgA F).win w).stage ((cfgA F).slots t w)) fullShare ((dats m 0 c).after w t)
                | false => owns (c : Thread nD τ) (((cfgA F).win w).stage ((cfgA F).slots t w)) fullShare ((dats m 0 c).after w t)) := by
  rw [bigSep_W0]
  rewrite [idle4 (F := F) t]
  simp only [before0_0, before0_1, before0_2, before0_3, after0_0, after0_1, after0_2, after0_3, after0_4]
  rewrite [phi_succ m c t, phi_here m c t,
    show (dats m 0 c).owesAt () t.succ = (dats m 0 c).owesAt () t.castSucc from rfl]
  unfold Phi
  iintro ⟨⟨⟨%a0, %ha0, HS0⟩, HT0, HT1⟩, Ho, ⟨%d0, H0⟩, ⟨%d1, H1⟩, ⟨%d2, H2⟩, ⟨%d3, H3⟩, ⟨%d4, H4⟩⟩
  have run := point_run m c t a0 ha0
  unfold Runs at run
  iapply (run _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  iintro ⟨H0, H1, H2, H3, HT0, HT1, ⟨%e4, H4⟩, HS0⟩
  isplitl [HS0 HT0 HT1]
  · isplitl [HS0]
    · iexists _; isplitr; swap
      · iexact HS0
      · ipureintro; exact heldG_succ m c t
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; exact read_out _ _ _

/-- The library's body obligation. -/
theorem body_obligation (c : Dev nD) : BodyObligation (dats m 0 c) (defs₀ (F := F)) Variants.none () Set.univ := fun t => by
  rw [bigSep_W0]
  exact sound_body m c t

/-! ## The launch -/

/-- The launch's staging cells. -/
def u₀ (F : FTy → Type) [FloatOps F] : UR sig nD τ :=
  initOf (Pipeline.cells (pcs F) ((launch0 (F := F)).cellOf_inj fun _ => adm)) (Pipeline.launchToks (pcs F) ((launch0 (F := F)).cellOf_inj fun _ => adm))

theorem share_eq (c : Dev nD) (w : Fin (cfgA F).W) : (dats m 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v1) ↦{q 0} v 0) ∗ (((c : Thread nD τ).loc main_v2) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm (F := F)).1 ∗ Pipeline.scopedRest spec0 c) ⊢ (dats m 0 c).Φ 0 := by
  rw [prefHeld_eq, scopedRest0_eq, show (dats m 0 c).Φ 0 = Phi m c 0 from rfl]
  unfold Phi
  iintro ⟨-, ⟨HT0, HT1⟩, ⟨%a0, HS0⟩⟩
  isplitl [HS0]
  · iexists a0; isplitr; swap
    · iexact HS0
    · ipureintro; exact heldG_zero m c _
  isplitl [HT0]
  · iexact HT0
  iexact HT1

theorem phiN_exit (c : Dev nD) : (dats m 0 c).Φ (Fin.last (cfgA F).N) ⊢ iprop(BI.emp ∗ Pipeline.scopedRest spec0 c) := by
  rw [scopedRest0_eq, show (dats m 0 c).Φ (Fin.last (cfgA F).N) = Phi m c (Fin.last (cfgA F).N).val from rfl]
  unfold Phi
  iintro ⟨⟨%a0, -, HS0⟩, -, -⟩
  isplitr; · iempintro
  iexists a0; iexact HS0

/-- A finished run: every array holds what the proof data computes, and the weights are as they were. -/
def QC : PUnit × MemSt nD τ sig (Elt F) → Prop := fun r =>
  ∀ c : Dev nD, (∀ w : Fin (cfgA F).W, r.2.mem (((cfgA F).win w).arr.view.loc (c : Thread nD τ)) = (dats m 0 c).arrAt w (cfgA F).N)
    ∧ r.2.mem ((c : Thread nD τ).loc main_arg3) = V m c main_arg3

/-! ## The host operations before the call -/

/-- The host operations write none of the arguments. -/
theorem V_main_arg0 (c : Dev nD) : V m c main_arg0 = m ((c : Thread nD τ).loc main_arg0) := by unfold V; after_results
theorem V_main_arg1 (c : Dev nD) : V m c main_arg1 = m ((c : Thread nD τ).loc main_arg1) := by unfold V; after_results
theorem V_main_arg2 (c : Dev nD) : V m c main_arg2 = m ((c : Thread nD τ).loc main_arg2) := by unfold V; after_results
theorem V_main_arg3 (c : Dev nD) : V m c main_arg3 = m ((c : Thread nD τ).loc main_arg3) := by unfold V; after_results

/-- They fill the two tables with the constants. -/
theorem V_main_v1 (c : Dev nD) : V m c main_v1 = tabE (F := F) := by unfold V; after_results; rfl
theorem V_main_v2 (c : Dev nD) : V m c main_v2 = tabU (F := F) := by unfold V; after_results; rfl

theorem V_pre (c : Dev nD) : ∀ j : Fin 2, V m c (pre0.ref j) = (adm (F := F)).1 j
  | ⟨0, _⟩ => V_main_v1 m c
  | ⟨1, _⟩ => V_main_v2 m c

/-- No operation draws a fresh value. -/
theorem hostOps0_fresh : (hostOps0 : List (HloOp τ sig (Elt F))).Forall fun op => op.fresh = ∅ := by
  simp only [List.Forall]; repeat' constructor

/-! ## The run -/

variable (ρ : Dev nD → PrngReg)

set_option backward.isDefEq.respectTransparency.types false in
set_option maxHeartbeats 4000000 in
/-- Every run finishes, with the arrays as computed and no semaphore held. -/
theorem run_main_quiescent : θ_run (defs (F := F)) (onTc (τ := τ) (main (F := F))) (s₀ m ρ) (fun r => QC m r ∧ r.2.sem = fun _ => 0) :=
  Pipeline.θ_run_region_noSem_pf_quiescent pcfgs (fun _ => adm) (dats m) () ((launch0 (F := F)).cellOf_inj fun _ => adm) (0 : Fin 1)
    (launch0 (F := F)).win.to₀ (launch0 (F := F)).pre EP defs₀ Variants.none m ρ main
    (hbody := fun c => (body_obligation m c).loose) (hne := (launch0 (F := F)).block_pos)
    (harr := (launch0 (F := F)).arr_whole) (hstage := (launch0 (F := F)).stage_whole) (howed := fun _ _ => rfl)
    (u₀ := u₀ F) (hu₀ := .rfl)
    (V := V m)
    (hmain := Pipeline.hmainP_prefix pcfgs 0 defs₀ Variants.none m main hostOps0 hostOps0_sub hostOps0_fresh main_chain)
    (hsplit := fun c => Pipeline.arrays_split (pcs F) (dats m) 0 (launch0 (F := F)).win.arr_inj c (launch0 (F := F)).arr_whole
      (share_eq m c) _ _ fun _ => rfl)
    (hpf := V_pre m)
    (X := fun _ => iprop(emp)) (Y := fun _ => iprop(emp)) (Z := fun c => iprop(((c : Thread nD τ).loc main_arg3) ↦{fullShare} V m c main_arg3))
    (hX := fun c => by rw [unscopedRestP0_eq]; iintro ⟨H3, -⟩; isplitr; · iempintro
                       iexact H3)
    (hin := phi0_intro m)
    (hout := phiN_exit m)
    (QY := fun c s => s.mem ((c : Thread nD τ).loc main_arg3) = V m c main_arg3)
    (hY := fun c s' => by
      have hr := pointsTo_read_all (Name := ℕ) (U := UR sig nD τ) (Lvl := ℕ) (Ix := Unit) ({main_arg3} : Finset (Ref sig .tc)) (fun b => (c : Thread nD τ).loc b) (V m c) s'
      rw [bigSep_singleton] at hr
      iintro ⟨-, HZ, HSI⟩; imodintro
      ihave H := hr $$ [HZ HSI]
      · isplitl [HZ] <;> iassumption
      icases H with ⟨%h, HSI⟩
      isplitr
      · ipureintro; exact h main_arg3 (Finset.mem_singleton_self _)
      iexact HSI)
    (hQ := fun _ h hz => ⟨fun c => ⟨(h c).1, (h c).2.2⟩, hz⟩)

/-- The result array is what the proof data computes, and the arguments are unchanged. -/
theorem run_blocks :
    θ_run (defs (F := F)) (onTc (τ := τ) (main (F := F))) ⟨m, fun _ => 0, ρ⟩ (fun r => (∀ c : Dev nD,
      r.2.mem ((c.tc : Thread nD τ).loc main_v3) = (dats m 0 c).arrAt (4 : Fin 5) (cfgA F).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 (4 : Fin 5),
    (((h.1 c).1 (0 : Fin 5)).trans ((dats m 0 c).arrAt_in (0 : Fin 5) rfl _)).trans (V_main_arg0 m c),
    (((h.1 c).1 (2 : Fin 5)).trans ((dats m 0 c).arrAt_in (2 : Fin 5) rfl _)).trans (V_main_arg1 m c),
    (((h.1 c).1 (3 : Fin 5)).trans ((dats m 0 c).arrAt_in (3 : Fin 5) rfl _)).trans (V_main_arg2 m c),
    (h.1 c).2.trans (V_main_arg3 m c)⟩, h.2⟩) (run_main_quiescent m ρ)

/-- Every run finishes with the arguments unchanged and no semaphore held. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_blocks m ρ)

end Cert.DenseDownIdeal.Hand

end
-- ==== Proof.DenseSpec.lean ====
/- The gated down projection added to the residual stream, in closed form. -/
module

public import proofs.«01_k».proof.Proof.MidSpec

@[expose] public section

noncomputable section

namespace Cert.Dense

open Idealize.ShloMosaic Idealize.ShloMosaic.ValueIdx
open scoped BigOperators

/-- A row of the residual stream plus its modulation row's gate times its down projection. -/
def gatedResidual (x : (⟨2, ![17408, 5632]⟩ : Shape).Idx → EReal) (h : (⟨2, ![17408, 2048]⟩ : Shape).Idx → EReal) (mod : (⟨3, ![8, 1, 12288]⟩ : Shape).Idx → EReal)
    (w : (⟨2, ![5632, 2048]⟩ : Shape).Idx → EReal) (r : Fin 17408) (n : Fin 2048) : EReal :=
  h (ix2 r n) + mod (ix3 (modRow r) (0 : Fin 1) (⟨10240 + n.val, by omega⟩ : Fin 12288)) * ∑ k : Fin 5632, x (ix2 r k) * w (ix2 k n)

end Cert.Dense

end
-- ==== Proof.DenseArray.lean ====
/- The dense down call's result array: every grid point's block is its block of the residual stream plus the gated down projection,
   and the blocks tile the array. -/
module

public import proofs.«01_k».proof.Proof.DenseWhole
public import proofs.«01_k».proof.Proof.DenseSpec
public import Idealize.ShloMosaic.Lib.MatmulPlain
public import Idealize.ShloMosaic.Lib.ValueLayout

@[expose] public section

set_option maxRecDepth 16384

noncomputable section

namespace Cert.DenseVal

open Cert.DenseDownIdeal Cert.DenseDownIdeal.Gen Cert.DenseDownIdeal.Hand Cert.Dense Idealize.ShloMosaic Idealize.ShloMosaic.ValueIdx Idealize.ShloMosaic.TcCoe Idealize.SL.Sem
open Idealize.ShloMosaic.Pipeline (Dat)
open scoped BigOperators

/-! ## One grid point -/

/-- A weight block cast to the panel, at an index. -/
theorem panel (x : S1x5632x512.Idx → EReal) (k : Fin 5632) (l : Fin 512) :
    k0_pay1 (F := Ideal) x (ix2 k l) = x (ix3 ⟨0, Nat.one_pos⟩ k l) := by
  unfold k0_pay1
  refine (shapeCast_apply _ shapeCasts_S5632x512_S5632x512 (ix2 k l) (ix2 k l) rfl).trans ?_
  rw [ValueIdx.truncf_apply]
  refine (shapeCast_dropUnit_apply ![5632, 512] x shapeCasts_S1x5632x512_S5632x512 (ix2 k l)).trans (congrArg x ?_)
  funext a
  match a with
  | ⟨0, _⟩ => rfl
  | ⟨1, _⟩ => rfl
  | ⟨2, _⟩ => rfl

/-- One product of a block of rows with a panel, at an index. -/
theorem product (x : FVec Ideal S512x5632 .bf16) (w : FVec Ideal S5632x512 .bf16) (r l : Fin 512) :
    matmul dot_S512x5632_S5632x512_S512x512_1_0_0_1_n_n none x w (constant S512x512 .f32 0x00000000#32 : FVec Ideal S512x512 .f32) (ix2 r l)
      = ∑ k : Fin 5632, x (ix2 r k) * w (ix2 k l) := by
  refine (Ideal.matmul_plain_apply none _ _ _ r l).trans ?_
  show Ideal.ofBits .f32 0x00000000#32 + _ = _
  rw [Ideal.ofBits_zero_f32, zero_add]

/-- The gate's block read along a row, at an index. -/
theorem gate_row (g : FVec Ideal S1x1x512 .f32) (r l : Fin 512) :
    broadcastTo S512x512 (shapeCast S1x512 g shapeCasts_S1x1x512_S1x512) broadcasts_S1x512_S512x512 (ix2 r l) = g (ix3 (0 : Fin 1) (0 : Fin 1) l) :=
  (broadcastTo_1b_ab_apply _ broadcasts_S1x512_S512x512 r l).trans (shapeCast_1ab_ab_apply g shapeCasts_S1x1x512_S1x512 (0 : Fin 1) l)

/-- The block a grid point stores, at an index. -/
theorem stored_apply (x : S512x5632.Idx → EReal) (w : S1x5632x512.Idx → EReal) (h : S512x512.Idx → EReal) (g : S1x1x512.Idx → EReal) (r l : Fin 512) :
    prodOut (F := Ideal) x w h g (ix2 r l)
      = h (ix2 r l) + g (ix3 (0 : Fin 1) (0 : Fin 1) l) * ∑ k : Fin 5632, x (ix2 r k) * w (ix3 (0 : Fin 1) k l) := by
  have e1 := gate_row g r l
  have e2 := (product x (k0_pay1 (F := Ideal) w) r l).trans (Finset.sum_congr rfl fun k _ => congrArg (x (ix2 r k) * ·) (panel w k l))
  exact congrArg₂ (fun a b : EReal => h (ix2 r l) + a * b) e1 e2

/-! ## The blocks -/

variable (m : (ℓ : Loc nD τ sig) → Buf (Elt Ideal) ℓ) (ρ : Dev nD → PrngReg)

/-- The weights as the kernel finds them: laid out as one expert's. -/
theorem V_weight (c : Dev nD) : V m c main_v0 = broadcastInDim S1x5632x2048 ![1, 2] bcast_S5632x2048_S1x5632x2048_1_2 (m ((c : Thread nD τ).loc main_arg3)) := by
  unfold V
  after_results

/-- At an index. -/
theorem weight_apply (c : Dev nD) (k : Fin 5632) (n : Fin 2048) :
    V m c main_v0 (ix3 (0 : Fin 1) k n) = m ((c : Thread nD τ).loc main_arg3) (ix2 k n) := by
  refine (congrFun (V_weight m c) (ix3 (0 : Fin 1) k n)).trans ?_
  generalize m ((c : Thread nD τ).loc main_arg3) = y
  exact broadcastInDim_apply _ bcast_S5632x2048_S1x5632x2048_1_2 y (ix3 (0 : Fin 1) k n) (ix2 k n) (fun a => match a with
    | ⟨0, _⟩ => by show k.val = if (5632 : Nat) = 1 then 0 else k.val; rw [if_neg (by decide)]
    | ⟨1, _⟩ => by show n.val = if (2048 : Nat) = 1 then 0 else n.val; rw [if_neg (by decide)])

/-- The number of grid points. -/
theorem count : (cfgA Ideal).N = 136 := by
  have : grid0.N = 136 := by decide
  exact this

/-- A point's row tile and column block. -/
def tl (t : Fin (cfgA Ideal).N) : Fin 34 := (crd Ideal t) 1
def cb (t : Fin (cfgA Ideal).N) : Fin 4 := (crd Ideal t) 0

theorem index_out (t : Fin (cfgA Ideal).N) : ((cfgA Ideal).win (4 : Fin 5)).index t = ![(tl t).val, (cb t).val] := ix_out (crd Ideal t)
theorem index_rows (t : Fin (cfgA Ideal).N) : ((cfgA Ideal).win (0 : Fin 5)).index t = ![(tl t).val, 0] := ix_rows (F := Ideal) (crd Ideal t)
theorem index_weight (t : Fin (cfgA Ideal).N) : ((cfgA Ideal).win (1 : Fin 5)).index t = ![0, 0, (cb t).val] := ix_weight (F := Ideal) (crd Ideal t)
theorem index_res (t : Fin (cfgA Ideal).N) : ((cfgA Ideal).win (2 : Fin 5)).index t = ![(tl t).val, (cb t).val] := ix_res (crd Ideal t)
theorem index_gate (t : Fin (cfgA Ideal).N) :
    ((cfgA Ideal).win (3 : Fin 5)).index t = ![if (tl t).val < 32 then (tl t).val / 8 else 4, 0, 20 + (cb t).val] := ix_gate (crd Ideal t)

/-- A block of the output ends at every point: the next point's row tile is another. -/
theorem flush_out (t : Fin (cfgA Ideal).N) : ((cfgA Ideal).win (4 : Fin 5)).flush t = true := by
  have hN := count
  unfold Pipeline.Window.flush
  refine Bool.and_eq_true_iff.mpr ⟨rfl, Bool.or_eq_true_iff.mpr ?_⟩
  by_cases h : t.val + 1 < (cfgA Ideal).N
  · refine .inr (decide_eq_true ⟨h, fun e => ?_⟩)
    have e0 := congrFun ((index_out ⟨t.val + 1, h⟩).symm.trans (e.trans (index_out t))) (0 : Fin 2)
    have e1 : (t.val + 1) / 1 % 34 = t.val / 1 % 34 := (crd1 (F := Ideal) ⟨t.val + 1, h⟩).symm.trans (e0.trans (crd1 (F := Ideal) t))
    omega
  · exact .inl (decide_eq_true (by have := t.isLt; show t.val + 1 = (cfgA Ideal).N; omega))

/-- The array row and column of a block's row and column. -/
abbrev rowOf (t : Fin (cfgA Ideal).N) (r : Fin 512) : Fin 17408 := ⟨(tl t).val * 512 + r.val, by have := (tl t).isLt; omega⟩
abbrev colOf (t : Fin (cfgA Ideal).N) (l : Fin 512) : Fin 2048 := ⟨(cb t).val * 512 + l.val, by have := (cb t).isLt; omega⟩

/-- A row tile's rows all take one modulation row. -/
theorem modRow_rowOf (t : Fin (cfgA Ideal).N) (r : Fin 512) : (modRow (rowOf t r)).val = if (tl t).val < 32 then (tl t).val / 8 else 4 := by
  show (if (tl t).val * 512 + r.val < 16384 then ((tl t).val * 512 + r.val) / 4096 else 4) = _
  by_cases h : (tl t).val < 32
  · rw [if_pos (by omega), if_pos h]; omega
  · rw [if_neg (by omega), if_neg h]

/-- Where an element of the output's block sits in the array. -/
theorem emb_out (t : Fin (cfgA Ideal).N) (r l : Fin 512) :
    (((cfgA Ideal).win (4 : Fin 5)).blk t).view.emb (ix2 r l) = (ix2 (rowOf t r) (colOf t l) : S17408x2048.Idx) := by
  have e := index_out t
  have e0 := congrFun e (0 : Fin 2)
  have e1 := congrFun e (1 : Fin 2)
  funext a; apply Fin.ext
  match a with
  | ⟨0, _⟩ =>
    show ((cfgA Ideal).win (4 : Fin 5)).index t (0 : Fin 2) * 512 + 1 * r.val = (tl t).val * 512 + r.val
    rw [e0]; show (tl t).val * 512 + 1 * r.val = _; omega
  | ⟨1, _⟩ =>
    show ((cfgA Ideal).win (4 : Fin 5)).index t (1 : Fin 2) * 512 + 1 * l.val = (cb t).val * 512 + l.val
    rw [e1]; show (cb t).val * 512 + 1 * l.val = _; omega

/-- The rows' block at an index. -/
theorem blk_rows (c : Dev nD) (t : Fin (cfgA Ideal).N) (r : Fin 512) (k : Fin 5632) :
    iblk m c (0 : Fin 5) t (ix2 r k) = m ((c : Thread nD τ).loc main_arg0) (ix2 (rowOf t r) k) := by
  have e := index_rows t
  have e0 := congrFun e (0 : Fin 2)
  have e1 := congrFun e (1 : Fin 2)
  rw [← V_main_arg0 m c]
  show V m c main_arg0 ((((cfgA Ideal).win (0 : Fin 5)).blk t).view.emb (ix2 r k)) = _
  congr 1
  funext a; apply Fin.ext
  match a with
  | ⟨0, _⟩ =>
    show ((cfgA Ideal).win (0 : Fin 5)).index t (0 : Fin 2) * 512 + 1 * r.val = (tl t).val * 512 + r.val
    rw [e0]; show (tl t).val * 512 + 1 * r.val = _; omega
  | ⟨1, _⟩ =>
    show ((cfgA Ideal).win (0 : Fin 5)).index t (1 : Fin 2) * 5632 + 1 * k.val = k.val
    rw [e1]; show 0 * 5632 + 1 * k.val = _; omega

/-- The weights' block at an index. -/
theorem blk_weight (c : Dev nD) (t : Fin (cfgA Ideal).N) (k : Fin 5632) (l : Fin 512) :
    iblk m c (1 : Fin 5) t (ix3 (0 : Fin 1) k l) = m ((c : Thread nD τ).loc main_arg3) (ix2 k (colOf t l)) := by
  have e := index_weight t
  have e0 := congrFun e (0 : Fin 3)
  have e1 := congrFun e (1 : Fin 3)
  have e2 := congrFun e (2 : Fin 3)
  refine Eq.trans ?_ (weight_apply m c k (colOf t l))
  show V m c main_v0 ((((cfgA Ideal).win (1 : Fin 5)).blk t).view.emb (ix3 (0 : Fin 1) k l)) = _
  congr 1
  funext a; apply Fin.ext
  match a with
  | ⟨0, _⟩ =>
    show ((cfgA Ideal).win (1 : Fin 5)).index t (0 : Fin 3) * 1 + 1 * 0 = 0
    rw [e0]; rfl
  | ⟨1, _⟩ =>
    show ((cfgA Ideal).win (1 : Fin 5)).index t (1 : Fin 3) * 5632 + 1 * k.val = k.val
    rw [e1]; show 0 * 5632 + 1 * k.val = _; omega
  | ⟨2, _⟩ =>
    show ((cfgA Ideal).win (1 : Fin 5)).index t (2 : Fin 3) * 512 + 1 * l.val = (cb t).val * 512 + l.val
    rw [e2]; show (cb t).val * 512 + 1 * l.val = _; omega

/-- The residual stream's block at an index. -/
theorem blk_res (c : Dev nD) (t : Fin (cfgA Ideal).N) (r l : Fin 512) :
    iblk m c (2 : Fin 5) t (ix2 r l) = m ((c : Thread nD τ).loc main_arg1) (ix2 (rowOf t r) (colOf t l)) := by
  have e := index_res t
  have e0 := congrFun e (0 : Fin 2)
  have e1 := congrFun e (1 : Fin 2)
  rw [← V_main_arg1 m c]
  show V m c main_arg1 ((((cfgA Ideal).win (2 : Fin 5)).blk t).view.emb (ix2 r l)) = _
  congr 1
  funext a; apply Fin.ext
  match a with
  | ⟨0, _⟩ =>
    show ((cfgA Ideal).win (2 : Fin 5)).index t (0 : Fin 2) * 512 + 1 * r.val = (tl t).val * 512 + r.val
    rw [e0]; show (tl t).val * 512 + 1 * r.val = _; omega
  | ⟨1, _⟩ =>
    show ((cfgA Ideal).win (2 : Fin 5)).index t (1 : Fin 2) * 512 + 1 * l.val = (cb t).val * 512 + l.val
    rw [e1]; show (cb t).val * 512 + 1 * l.val = _; omega

/-- The gate's block at an index. -/
theorem blk_gate (c : Dev nD) (t : Fin (cfgA Ideal).N) (r l : Fin 512) :
    iblk m c (3 : Fin 5) t (ix3 (0 : Fin 1) (0 : Fin 1) l) = m ((c : Thread nD τ).loc main_arg2)
      (ix3 (modRow (rowOf t r)) (0 : Fin 1) (⟨10240 + (colOf t l).val, by omega⟩ : Fin 12288)) := by
  have e := index_gate t
  have e0 := congrFun e (0 : Fin 3)
  have e1 := congrFun e (1 : Fin 3)
  have e2 := congrFun e (2 : Fin 3)
  have hr := modRow_rowOf t r
  rw [← V_main_arg2 m c]
  show V m c main_arg2 ((((cfgA Ideal).win (3 : Fin 5)).blk t).view.emb (ix3 (0 : Fin 1) (0 : Fin 1) l)) = _
  congr 1
  funext a; apply Fin.ext
  match a with
  | ⟨0, _⟩ =>
    show ((cfgA Ideal).win (3 : Fin 5)).index t (0 : Fin 3) * 1 + 1 * 0 = (modRow (rowOf t r)).val
    rw [e0, hr]; show (if (tl t).val < 32 then (tl t).val / 8 else 4) * 1 + 1 * 0 = _; omega
  | ⟨1, _⟩ =>
    show ((cfgA Ideal).win (3 : Fin 5)).index t (1 : Fin 3) * 1 + 1 * 0 = 0
    rw [e1]; rfl
  | ⟨2, _⟩ =>
    show ((cfgA Ideal).win (3 : Fin 5)).index t (2 : Fin 3) * 512 + 1 * l.val = 10240 + ((cb t).val * 512 + l.val)
    rw [e2]; show (20 + (cb t).val) * 512 + 1 * l.val = _; omega

/-! ## The whole array -/

/-- The whole result: the residual stream plus the gated down projection of the arguments. -/
abbrev result (c : Dev nD) : S17408x2048.Idx → EReal := fun i =>
  gatedResidual (m ((c : Thread nD τ).loc main_arg0)) (m ((c : Thread nD τ).loc main_arg1)) (m ((c : Thread nD τ).loc main_arg2)) (m ((c : Thread nD τ).loc main_arg3)) (i 0) (i 1)

/-- What a grid point stores, at an index. -/
theorem out_apply (c : Dev nD) (t : Fin (cfgA Ideal).N) (r l : Fin 512) :
    outAt m c t (ix2 r l) = gatedResidual (m ((c : Thread nD τ).loc main_arg0)) (m ((c : Thread nD τ).loc main_arg1)) (m ((c : Thread nD τ).loc main_arg2))
      (m ((c : Thread nD τ).loc main_arg3)) (rowOf t r) (colOf t l) := by
  unfold outAt gatedResidual
  refine (stored_apply _ _ _ _ r l).trans ?_
  have er := fun k => blk_rows m c t r k
  have ew := fun k => blk_weight m c t k l
  exact congr (congrArg (fun a b : EReal => a + b) (blk_res m c t r l)) (congrArg₂ (fun a b : EReal => a * b) (blk_gate m c t r l)
    (Finset.sum_congr rfl fun k _ => congrArg₂ (fun a b : EReal => a * b) (er k) (ew k)))

/-- What a grid point writes back is its block of the whole result. -/
theorem flushed_eq (c : Dev nD) (t : Fin (cfgA Ideal).N) :
    (dats m 0 c).flushed (4 : Fin 5) t = (((cfgA Ideal).win (4 : Fin 5)).blk t).view.read (Elt Ideal) (result m c) := by
  have h1 : (dats m 0 c).flushed (4 : Fin 5) t = outAt m c t := by
    show ((cfgA Ideal).win (4 : Fin 5)).cut ((cfgA Ideal).grid.coords t) ((dats m 0 c).after (4 : Fin 5) t) = _
    rw [after0_4]
    rfl
  rw [h1]
  funext y
  obtain ⟨r, l, rfl⟩ : ∃ r l : Fin 512, y = ix2 r l := ⟨y 0, y 1, eq_ix2 y⟩
  show _ = result m c ((((cfgA Ideal).win (4 : Fin 5)).blk t).view.emb (ix2 r l))
  rw [emb_out]
  exact out_apply m c t r l

/-- Every index of the result is in some grid point's block. -/
theorem cover (i : S17408x2048.Idx) : ∃ t : Fin (cfgA Ideal).N, ((cfgA Ideal).win (4 : Fin 5)).flush t = true ∧ i ∈ (((cfgA Ideal).win (4 : Fin 5)).blk t).view.set := by
  have h0 : (i 0).val < 17408 := (i 0).isLt
  have h1 : (i 1).val < 2048 := (i 1).isLt
  have hN := count
  have ht : (i 1).val / 512 * 34 + (i 0).val / 512 < (cfgA Ideal).N := by omega
  have et : (tl ⟨_, ht⟩).val = (i 0).val / 512 := (crd1 (F := Ideal) ⟨_, ht⟩).trans (by
    show ((i 1).val / 512 * 34 + (i 0).val / 512) / 1 % 34 = _; omega)
  have ec : (cb ⟨_, ht⟩).val = (i 1).val / 512 := (crd0 (F := Ideal) ⟨_, ht⟩).trans (by
    show ((i 1).val / 512 * 34 + (i 0).val / 512) / 34 % 4 = _; omega)
  refine ⟨⟨_, ht⟩, flush_out _, ?_⟩
  have h := (((cfgA Ideal).win (4 : Fin 5)).blk ⟨_, ht⟩).view.emb_mem_set (ix2 (⟨(i 0).val % 512, by omega⟩ : Fin 512) (⟨(i 1).val % 512, by omega⟩ : Fin 512))
  refine (congrArg (· ∈ _) (Eq.trans ?_ (emb_out ⟨_, ht⟩ (⟨(i 0).val % 512, by omega⟩ : Fin 512) (⟨(i 1).val % 512, by omega⟩ : Fin 512)).symm)).mpr h
  refine (eq_ix2 i).trans (congrArg₂ (fun a b => (ix2 a b : S17408x2048.Idx)) (Fin.ext ?_) (Fin.ext ?_))
  · show (i 0).val = (tl ⟨_, ht⟩).val * 512 + (i 0).val % 512
    rw [et]; omega
  · show (i 1).val = (cb ⟨_, ht⟩).val * 512 + (i 1).val % 512
    rw [ec]; omega

/-- **The result array** after the run: the residual stream plus the gated down projection of the arguments. -/
theorem final (c : Dev nD) : (dats m 0 c).arrAt (4 : Fin 5) (cfgA Ideal).N = result m c :=
  (dats m 0 c).arrAt_eq_of_cover (4 : Fin 5) (result m c) (fun t _ => flushed_eq m c t) cover

end Cert.DenseVal

end
-- ==== Proof.DenseRefValue.lean ====
/- The dense down call's reference, index by index: every element is the residual stream plus the gated down projection. -/
module

public import proofs.«01_k».proof.Proof.DenseSpec
public import proofs.«01_k».proof.Proof.MidRefValue
public import proofs.«01_k».proof.Proof.Gen.DenseDownRefIdeal.Read
public import Idealize.ShloMosaic.Lib.ValueLayout

@[expose] public section

set_option maxRecDepth 16384

noncomputable section

namespace Cert.DenseRefVal

open Cert.DenseDownRefIdeal Cert.DenseDownRefIdeal.Gen Cert.DenseDownRefIdeal.Read Cert.Dense Idealize.ShloMosaic Idealize.ShloMosaic.ValueIdx
open scoped BigOperators

variable (x : S17408x5632.Idx → EReal) (h : S17408x2048.Idx → EReal) (mod : S8x1x12288.Idx → EReal) (w : S5632x2048.Idx → EReal)

/-- The gate rows. -/
theorem gates_apply (r : Fin 17408) (k : Fin 2048) :
    val_main_v8 (F := Ideal) mod (ix2 r k) = mod (ix3 (modRow r) (0 : Fin 1) (⟨10240 + k.val, by omega⟩ : Fin 12288)) := by
  unfold val_main_v8
  refine MidRefVal.stack_apply _ _ (fun e k => mod (ix3 e (0 : Fin 1) (⟨10240 + k.val, by omega⟩ : Fin 12288))) (fun r k => ?_) (fun r k => ?_) r k
  · rw [val_main_v4_apply, val_main_v3_apply, val_main_v2_apply, val_main_v1_apply, val_main_v0_apply]
    refine congrArg mod (funext fun a => Fin.ext ?_)
    match a with
    | ⟨0, _⟩ => show ((r.val * 2048 + k.val) / 8388608 * 2048 + (r.val * 2048 + k.val) % 2048) / 2048 = r.val / 4096; omega
    | ⟨1, _⟩ => rfl
    | ⟨2, _⟩ => show 10240 + ((r.val * 2048 + k.val) / 8388608 * 2048 + (r.val * 2048 + k.val) % 2048) % 2048 = 10240 + k.val; omega
  · rw [val_main_v7_apply, val_main_v6_apply, val_main_v5_apply, val_main_v1_apply, val_main_v0_apply]
    refine congrArg mod (funext fun a => Fin.ext ?_)
    match a with
    | ⟨0, _⟩ => show ((4 + 0) * 2048 + k.val % 2048) / 2048 = 4; omega
    | ⟨1, _⟩ => rfl
    | ⟨2, _⟩ => show 10240 + ((4 + 0) * 2048 + k.val % 2048) % 2048 = 10240 + k.val; omega

/-- The rows' product with the weights. -/
theorem product_apply (r : Fin 17408) (n : Fin 2048) : val_main_v10 (F := Ideal) x w (ix2 r n) = ∑ k : Fin 5632, x (ix2 r k) * w (ix2 k n) := by
  rw [val_main_v10_apply]
  refine Finset.sum_congr rfl fun k _ => congrArg₂ (· * ·) ((val_main_v9_apply (F := Ideal) x _).trans (congrArg x ?_)) (congrArg w ?_)
  · exact (eq_ix2 _)
  · exact (eq_ix2 _)

/-- **The reference's array**: the residual stream plus the gated down projection. -/
theorem value (r : Fin 17408) (n : Fin 2048) : val_main_v12 (F := Ideal) x h mod w (ix2 r n) = gatedResidual x h mod w r n := by
  rw [val_main_v12_apply, val_main_v11_apply, gates_apply, product_apply]
  rfl

end Cert.DenseRefVal

end
-- ==== Proof.DenseClaim.lean ====
/- The dense down call's claims: the frames, and that kernel and reference end at the same array. -/
module

public import proofs.«01_k».proof.Defs
public import proofs.«01_k».proof.Proof.DenseArray
public import proofs.«01_k».proof.Proof.DenseBitWhole
public import proofs.«01_k».proof.Proof.DenseRefValue
public import proofs.«01_k».proof.Proof.Gen.DenseDownRefIdeal.Run
public import Idealize.ShloMosaic.Adequacy
public import Idealize.ShloMosaic.Init

@[expose] public section

noncomputable section

namespace Cert.DenseClaim

open Idealize.ShloMosaic Idealize.SL.Sem Idealize.ShloMosaic.ValueIdx

/-- The printed kernel's frame. -/
theorem frame_printed : Cert.quiescent_DenseDown (hDenseDown := DenseDown.Gen.facts) := fun m ρ _ => DenseDown.Hand.frame m ρ

/-- The ideal kernel's frame. -/
theorem frame_ideal : Cert.quiescent_DenseDownIdeal (hDenseDownIdeal := DenseDownIdeal.Gen.facts) := fun m ρ _ => DenseDownIdeal.Hand.frame m ρ

/-- The reference's frame: its arguments end unchanged, and it declares no semaphore. -/
theorem frame_ref : Cert.quiescent_DenseDownRefIdeal (hDenseDownRefIdeal := DenseDownRefIdeal.Gen.facts) := fun m ρ _ =>
  (θ_run _ _ _).mono (fun r h => ⟨fun c => (h c).2, sem_eq_zero_of_no_sems (by decide) r.2⟩) (DenseDownRefIdeal.Value.run m ρ)

/-- The kernel's array and the reference's are both the residual stream plus the gated down projection of the arguments. -/
theorem algebraic : Cert.algebraic_DenseDownIdeal_DenseDownRefIdeal (hDenseDownIdeal := DenseDownIdeal.Gen.facts) (hDenseDownRefIdeal := DenseDownRefIdeal.Gen.facts) := by
  intro m g m' g' _ hargs
  refine ⟨fun c => DenseVal.result m c, (θ_run _ _ _).mono (fun r h c => ?_) (DenseDownIdeal.Hand.run_blocks m g),
    (θ_run _ _ _).mono (fun r h c => ?_) (DenseDownRefIdeal.Value.run m' g')⟩
  · obtain ⟨h0, h1⟩ := h.1 c
    exact ⟨h0.trans (DenseVal.final m c), h1⟩
  · obtain ⟨h0, h1⟩ := h c
    obtain ⟨a0, a1, a2, a3⟩ := hargs c
    refine ⟨h0.trans ?_, h1⟩
    rw [DenseDownRefIdeal.Read.val_main_v12_eq, a0, a1, a2, a3]
    refine funext fun i => ?_
    refine (congrArg _ (eq_ix2 i)).trans ?_
    exact DenseRefVal.value _ _ _ _ (i 0) (i 1)

end Cert.DenseClaim

end
-- ==== Proof.MlaSpec.lean ====
/- What the latent attention of eight heads computes at finite queries and keys, index by index: 96 lanes a head in the
   scores, 64 value dimensions a head in the result. -/
module

public import proofs.«01_k».proof.Proof.GqaSpec

@[expose] public section

noncomputable section

namespace Cert.Attn

open Idealize.ShloMosaic Idealize.ShloMosaic.ValueIdx
open scoped BigOperators

/-- The scale of the scores: the reference's `96 ** -0.5`, as the binary fraction its f32 constant is. -/
def scale96 : ℝ := 3424635 / 33554432

/-- The reference's constant. -/
theorem ofBits_scale96 : Ideal.ofBits .f32 0x3DD105EC#32 = (scale96 : EReal) := by
  unfold scale96
  simp [Ideal.ofBits, Ideal.ieee, -EReal.coe_mul]; norm_num

/-- Latent attention: row `r` is a query of batch `r / 4096`, column `c` a value dimension of head `c / 64`. -/
def mla (q : (⟨2, ![16384, 768]⟩ : Shape).Idx → EReal) (k : (⟨3, ![4, 4352, 768]⟩ : Shape).Idx → EReal)
    (v : (⟨3, ![4, 4352, 512]⟩ : Shape).Idx → EReal) (r : Fin 16384) (c : Fin 512) : EReal :=
  attn (fun key : Fin 4352 => (∑ e : Fin 96,
      (k (ix3 (⟨r.val / 4096, by omega⟩ : Fin 4) key (⟨c.val / 64 * 96 + e.val, by omega⟩ : Fin 768))).toReal
        * (q (ix2 r (⟨c.val / 64 * 96 + e.val, by omega⟩ : Fin 768))).toReal) * scale96)
    fun key => v (ix3 (⟨r.val / 4096, by omega⟩ : Fin 4) key c)

/-- A sum over 128 lanes whose last 32 are zero is a sum over the first 96. -/
theorem sum_lanes (f : Fin 128 → ℝ) (hf : ∀ l : Fin 128, 96 ≤ l.val → f l = 0) :
    ∑ l : Fin 128, f l = ∑ e : Fin 96, f ⟨e.val, by omega⟩ := by
  rw [show (∑ l : Fin 128, f l) = ∑ l : Fin (96 + 32), f l from rfl, Fin.sum_univ_add,
    Finset.sum_eq_zero (s := Finset.univ) (f := fun e : Fin 32 => f (Fin.natAdd 96 e)) fun e _ => hf _ (Nat.le_add_right 96 e.val), add_zero]
  rfl

end Cert.Attn

end
-- ==== Proof.MlaBlock.lean ====
/- One grid point of the latent attention kernel: each of its eight heads' columns is the attention of that head's queries
   over the block's keys and values. -/
module

public import proofs.«01_k».proof.Proof.SoftmaxBlock
public import proofs.«01_k».proof.Proof.MlaSpec
public import proofs.«01_k».proof.Proof.Gen.MlaIdeal.Value

@[expose] public section

noncomputable section

namespace Cert.MlaVal

open Cert.MlaIdeal Cert.MlaIdeal.Gen Cert.Attn Idealize.ShloMosaic Idealize.ShloMosaic.ValueIdx
open scoped BigOperators

/-- The kernel's scale is the reference's over the logarithm of two. -/
theorem scale_named : Named.named (F := Ideal) MlaIdeal.κ "mla_scale_log2e" (φ := .f32) 0x3E16C740#32 = ((scale96 * (Real.log 2)⁻¹ : ℝ) : EReal) :=
  IdealRules.named_const.ideal_named_scalar _ _ _ _ rfl

/-- A head's scores: the keys against the scaled queries, over all 128 lanes. -/
def scores (q : Vec Ideal S512x128 .f32) (k : Vec Ideal S1x4352x128 .bf16) : FVec Ideal S4352x512 .f32 :=
  matmul (DotDims.transposedRhs 4352 128 512) none (shapeCast S4352x128 k shapeCasts_S1x4352x128_S4352x128 : FVec Ideal S4352x128 .bf16)
    (truncf .bf16 (mulf (shapeCast S512x128 q shapeCasts_S512x128_S512x128 : FVec Ideal S512x128 .f32)
      (broadcast S512x128 (Named.named κ "mla_scale_log2e" 0x3E16C740#32 : Ideal .f32))) bitsLt_bf16_f32 : FVec Ideal S512x128 .bf16)
    (constant S4352x512 .f32 0x00000000#32)

/-- One head's output, value dimensions down the rows. -/
def head (q : Vec Ideal S512x128 .f32) (k : Vec Ideal S1x4352x128 .bf16) (v : Vec Ideal S1x64x4352 .bf16) : FVec Ideal S64x512 .f32 :=
  divT (sumsT (expT (scores q k) reduces_S4352x512_S512 (.inl rfl) rfl shapeCasts_S512_S1x512 broadcasts_S1x512_S4352x512 bitsLt_bf16_f32)
      (shapeCast S64x4352 v shapeCasts_S1x64x4352_S64x4352) concatenates_S64x4352_S16x4352_S80x4352_d0)
    slices_S80x512_o0_0_S64x512 slices_S80x512_o64_0_S1x512 broadcasts_S1x512_S64x512

/-- Two heads' outputs side by side, queries down the rows. -/
def beside (a b : FVec Ideal S64x512 .f32) : FVec Ideal S512x128 .bf16 :=
  truncf .bf16 (transpose S512x128 [1, 0] (concatenate S128x512 0 [⟨S64x512, a⟩, ⟨S64x512, b⟩]
    concatenates_S64x512_S64x512_S128x512_d0) transposes_S128x512_p1_0_S512x128) bitsLt_bf16_f32

/-- What a grid point leaves in its output block: the four pairs of heads, each head over its own 128 lanes of queries and
    keys and its own 64 rows of values. -/
theorem out_eq (x0 : Vec Ideal S512x1024 .f32) (x1 : Vec Ideal S1x4352x1024 .bf16) (x2 : Vec Ideal S1x512x4352 .bf16) :
    out0_3 x0 x1 x2 = View.canon [
      ⟨r0_27, beside (head (View.ld x0 r0_6) (View.ld x1 r0_21) (View.ld x2 r0_25)) (head (View.ld x0 r0_7) (View.ld x1 r0_24) (View.ld x2 r0_26))⟩,
      ⟨r0_23, beside (head (View.ld x0 r0_4) (View.ld x1 r0_16) (View.ld x2 r0_20)) (head (View.ld x0 r0_5) (View.ld x1 r0_19) (View.ld x2 r0_22))⟩,
      ⟨r0_18, beside (head (View.ld x0 r0_2) (View.ld x1 r0_11) (View.ld x2 r0_15)) (head (View.ld x0 r0_3) (View.ld x1 r0_14) (View.ld x2 r0_17))⟩,
      ⟨r0_13, beside (head (View.ld x0 r0_0) (View.ld x1 r0_8) (View.ld x2 r0_10)) (head (View.ld x0 r0_1) (View.ld x1 r0_9) (View.ld x2 r0_12))⟩] := rfl

/-- The real score of a key against a query: their dot product over 128 lanes, scaled. -/
def score (kr : Fin 4352 → Fin 128 → ℝ) (qr : Fin 128 → ℝ) (key : Fin 4352) : ℝ := (∑ l : Fin 128, kr key l * qr l) * scale96

/-- The scores at finite queries and keys: the real score over the logarithm of two. -/
theorem scores_apply (q : Vec Ideal S512x128 .f32) (k : Vec Ideal S1x4352x128 .bf16) (r : Fin 512) (kr : Fin 4352 → Fin 128 → ℝ)
    (qr : Fin 128 → ℝ) (hq : ∀ l, q (ix2 r l) = (qr l : EReal)) (hk : ∀ key l, k (ix3 ⟨0, Nat.one_pos⟩ key l) = (kr key l : EReal))
    (key : Fin 4352) : scores q k (ix2 key r) = ((score kr qr key * (Real.log 2)⁻¹ : ℝ) : EReal) := by
  refine (Ideal.matmul_transposedRhs_apply none _ _ _ key r).trans ?_
  show Ideal.ofBits .f32 0x00000000#32 + _ = _
  rw [Ideal.ofBits_zero_f32, zero_add, sum_coe_mul _ _ (kr key) (fun l => qr l * (scale96 * (Real.log 2)⁻¹)) (fun l => ?_) fun l => ?_]
  · congr 1
    rw [score, Finset.sum_mul, Finset.sum_mul]
    exact Finset.sum_congr rfl fun e _ => by ring
  · rw [← hk]
    refine (shapeCast_dropUnit_apply ![4352, 128] k shapeCasts_S1x4352x128_S4352x128 (ix2 key l)).trans (congrArg k ?_)
    funext a
    match a with
    | ⟨0, _⟩ => rfl
    | ⟨1, _⟩ => rfl
    | ⟨2, _⟩ => rfl
  · show shapeCast S512x128 q shapeCasts_S512x128_S512x128 (ix2 r l) * Named.named (F := Ideal) κ "mla_scale_log2e" (φ := .f32) 0x3E16C740#32 = _
    rw [shapeCast_apply q shapeCasts_S512x128_S512x128 (ix2 r l) (ix2 r l) rfl, hq, scale_named]
    exact (EReal.coe_mul _ _).symm

/-- One head's output at a value dimension and a query is the attention of the real scores over that dimension. -/
theorem head_apply (q : Vec Ideal S512x128 .f32) (k : Vec Ideal S1x4352x128 .bf16) (v : Vec Ideal S1x64x4352 .bf16) (r : Fin 512)
    (kr : Fin 4352 → Fin 128 → ℝ) (qr : Fin 128 → ℝ)
    (hq : ∀ l, q (ix2 r l) = (qr l : EReal)) (hk : ∀ key l, k (ix3 ⟨0, Nat.one_pos⟩ key l) = (kr key l : EReal)) (x : Fin 64) :
    head q k v (ix2 x r) = attn (score kr qr) fun key => v (ix3 ⟨0, Nat.one_pos⟩ x key) := by
  refine (block_apply (n := 4352) (t := 512) (d := 64) (e := 80) (by decide) (by decide) (by decide) (scores q k) _
    reduces_S4352x512_S512 (.inl rfl) rfl shapeCasts_S512_S1x512 broadcasts_S1x512_S4352x512 bitsLt_bf16_f32
    concatenates_S64x4352_S16x4352_S80x4352_d0 slices_S80x512_o0_0_S64x512 slices_S80x512_o64_0_S1x512 broadcasts_S1x512_S64x512
    r x (score kr qr) fun key => scores_apply q k r kr qr hq hk key).trans ?_
  congr 1
  funext key
  refine (shapeCast_dropUnit_apply ![64, 4352] v shapeCasts_S1x64x4352_S64x4352 (ix2 x key)).trans (congrArg v ?_)
  funext a
  match a with
  | ⟨0, _⟩ => rfl
  | ⟨1, _⟩ => rfl
  | ⟨2, _⟩ => rfl

/-- A pair's column `l` at a query: the first head's below 64, the second's from there. -/
theorem beside_apply (a b : FVec Ideal S64x512 .f32) (r : Fin 512) (l : Fin 128) :
    beside a b (ix2 r l) = if l.val / 64 = 0 then a (ix2 ⟨l.val % 64, by omega⟩ r) else b (ix2 ⟨l.val % 64, by omega⟩ r) := by
  unfold beside
  rw [ValueIdx.truncf_apply]
  refine (transpose_apply [1, 0] _ transposes_S128x512_p1_0_S512x128 (ix2 r l) (ix2 l r) (fun b => match b with
    | ⟨0, _⟩ => rfl
    | ⟨1, _⟩ => rfl)).trans ?_
  by_cases hl : l.val < 64
  · rw [if_pos (by omega)]
    exact concatenate_pair_apply_left (t := S128x512) 0 a b concatenates_S64x512_S64x512_S128x512_d0 (ix2 l r) rfl
      (ix2 ⟨l.val % 64, by omega⟩ r) (fun b => match b with
      | ⟨0, _⟩ => by show l.val % 64 = l.val; omega
      | ⟨1, _⟩ => rfl)
  · rw [if_neg (by omega)]
    exact concatenate_pair_apply_right (t := S128x512) 0 a b concatenates_S64x512_S64x512_S128x512_d0 (ix2 l r) rfl rfl
      (ix2 ⟨l.val % 64, by omega⟩ r) (fun b hb => match b with
      | ⟨0, _⟩ => absurd rfl hb
      | ⟨1, _⟩ => rfl) (by show l.val % 64 + 64 = l.val; omega)

/-- The block's output at a query and a column, of finite queries and keys: the attention of the column's head, over the 128
    lanes of its number. -/
def blockVal (qr : Fin 1024 → ℝ) (kr : Fin 4352 → Fin 1024 → ℝ) (v : Vec Ideal S1x512x4352 .bf16) (c : Fin 512) : EReal :=
  attn (fun key => (∑ l : Fin 128, kr key ⟨c.val / 64 * 128 + l.val, by omega⟩ * qr ⟨c.val / 64 * 128 + l.val, by omega⟩) * scale96)
    fun key => v (ix3 ⟨0, Nat.one_pos⟩ c key)

/-- Head `z`'s output is the block's value at that head's columns. -/
theorem head_block (x0 : Vec Ideal S512x1024 .f32) (x1 : Vec Ideal S1x4352x1024 .bf16) (x2 : Vec Ideal S1x512x4352 .bf16)
    (qr : Fin 512 → Fin 1024 → ℝ) (kr : Fin 4352 → Fin 1024 → ℝ) (hq : ∀ r c, x0 (ix2 r c) = (qr r c : EReal))
    (hk : ∀ key l, x1 (ix3 ⟨0, Nat.one_pos⟩ key l) = (kr key l : EReal)) (z : ℕ) (hz : z < 8)
    (i0 : ∀ a, (![0, z * 128] : Fin 2 → ℕ) a + S512x128.size a ≤ S512x1024.size a)
    (i1 : ∀ a, (![0, 0, z * 128] : Fin 3 → ℕ) a + S1x4352x128.size a ≤ S1x4352x1024.size a)
    (i2 : ∀ a, (![0, z * 64, 0] : Fin 3 → ℕ) a + S1x64x4352.size a ≤ S1x512x4352.size a)
    (r : Fin 512) (x : Fin 64) (c : Fin 512) (hc : c.val = z * 64 + x.val) :
    head (View.ld x0 (Rect.unit (s := S512x1024) ![0, z * 128] S512x128.size i0))
        (View.ld x1 (Rect.unit (s := S1x4352x1024) ![0, 0, z * 128] S1x4352x128.size i1))
        (View.ld x2 (Rect.unit (s := S1x512x4352) ![0, z * 64, 0] S1x64x4352.size i2)) (ix2 x r)
      = blockVal (qr r) kr x2 c := by
  rw [head_apply _ _ _ r (fun key l => kr key ⟨z * 128 + l.val, by omega⟩) (fun l => qr r ⟨z * 128 + l.val, by omega⟩)
    (fun l => ?_) (fun key l => ?_)]
  · unfold blockVal score
    congr 1
    · funext key
      congr 1
      refine Finset.sum_congr rfl fun e _ => ?_
      refine congrArg₂ (· * ·) (congrArg (kr key) (Fin.ext ?_)) (congrArg (qr r) (Fin.ext ?_))
      · show z * 128 + e.val = c.val / 64 * 128 + e.val
        omega
      · show z * 128 + e.val = c.val / 64 * 128 + e.val
        omega
    · funext key
      exact ld_unit_at x2 _ _ i2 _ (ix3 ⟨0, Nat.one_pos⟩ c key)
        (fun a => match a with
        | ⟨0, _⟩ => rfl
        | ⟨1, _⟩ => hc
        | ⟨2, _⟩ => by show key.val = 0 + key.val; omega)
  · exact (ld_unit_at x0 _ _ i0 _ (ix2 r ⟨z * 128 + l.val, by omega⟩) (fun a => match a with
        | ⟨0, _⟩ => by show r.val = 0 + r.val; omega
        | ⟨1, _⟩ => rfl)).trans (hq _ _)
  · exact (ld_unit_at x1 _ _ i1 _ (ix3 ⟨0, Nat.one_pos⟩ key ⟨z * 128 + l.val, by omega⟩) (fun a => match a with
        | ⟨0, _⟩ => rfl
        | ⟨1, _⟩ => by show key.val = 0 + key.val; omega
        | ⟨2, _⟩ => rfl)).trans (hk _ _)

/-- Pair `j`'s columns, from its two heads'. -/
theorem beside_block (j : ℕ) (hj : j < 4) (a b : FVec Ideal S64x512 .f32) (r : Fin 512) (l : Fin 128) (f : Fin 512 → EReal)
    (ha : ∀ (x : Fin 64) (c : Fin 512), c.val = 2 * j * 64 + x.val → a (ix2 x r) = f c)
    (hb : ∀ (x : Fin 64) (c : Fin 512), c.val = (2 * j + 1) * 64 + x.val → b (ix2 x r) = f c) :
    beside a b (ix2 r l) = f ⟨j * 128 + l.val, by omega⟩ := by
  rw [beside_apply]
  split
  · exact ha _ _ (by show j * 128 + l.val = 2 * j * 64 + l.val % 64; omega)
  · exact hb _ _ (by show j * 128 + l.val = (2 * j + 1) * 64 + l.val % 64; omega)

/-- **A grid point's output**: at every query and column of the block, the attention of the column's head. -/
theorem out_apply (x0 : Vec Ideal S512x1024 .f32) (x1 : Vec Ideal S1x4352x1024 .bf16) (x2 : Vec Ideal S1x512x4352 .bf16)
    (qr : Fin 512 → Fin 1024 → ℝ) (kr : Fin 4352 → Fin 1024 → ℝ) (hq : ∀ r c, x0 (ix2 r c) = (qr r c : EReal))
    (hk : ∀ key l, x1 (ix3 ⟨0, Nat.one_pos⟩ key l) = (kr key l : EReal)) (y : S512x512.Idx) :
    out0_3 x0 x1 x2 y = blockVal (qr (y 0)) kr x2 (y 1) := by
  rw [out_eq]
  refine View.canon_apply_of_pieces (Val := Elt Ideal) (S := S512x512) (e := .bf16) (fun y => blockVal (qr (y 0)) kr x2 (y 1)) _ ?_ y (cover0_3 _ _ _ _ y)
  intro p hp
  simp only [List.mem_cons, List.not_mem_nil, or_false] at hp
  have hx : ∀ x : S512x128.Idx, x = ix2 (x 0) (x 1) := fun x => eq_ix2 x
  have emb0 : ∀ (r : Fin 512), (⟨0 + 1 * r.val, by omega⟩ : Fin 512) = r := fun r => Fin.ext (by show 0 + 1 * r.val = r.val; omega)
  have emb1 : ∀ (j : ℕ) (l : Fin 128) (h : j * 128 + 1 * l.val < 512) (h' : j * 128 + l.val < 512), (⟨j * 128 + 1 * l.val, h⟩ : Fin 512) = ⟨j * 128 + l.val, h'⟩ :=
    fun j l h h' => Fin.ext (by show j * 128 + 1 * l.val = j * 128 + l.val; omega)
  rcases hp with rfl | rfl | rfl | rfl <;> intro x
  · refine ((congrArg _ (hx x)).trans (beside_block 3 (by decide) _ _ (x 0) (x 1) (blockVal (qr (x 0)) kr x2)
      (fun z c hc => head_block x0 x1 x2 qr kr hq hk 6 (by decide) inb_S512x1024_S512x128_0_768 inb_S1x4352x1024_S1x4352x128_0_0_768
        inb_S1x512x4352_S1x64x4352_0_384_0 (x 0) z c hc)
      (fun z c hc => head_block x0 x1 x2 qr kr hq hk 7 (by decide) inb_S512x1024_S512x128_0_896 inb_S1x4352x1024_S1x4352x128_0_0_896
        inb_S1x512x4352_S1x64x4352_0_448_0 (x 0) z c hc))).trans ?_
    exact congrArg₂ (fun a b => blockVal (qr a) kr x2 b) (emb0 (x 0)).symm (emb1 3 (x 1) _ _).symm
  · refine ((congrArg _ (hx x)).trans (beside_block 2 (by decide) _ _ (x 0) (x 1) (blockVal (qr (x 0)) kr x2)
      (fun z c hc => head_block x0 x1 x2 qr kr hq hk 4 (by decide) inb_S512x1024_S512x128_0_512 inb_S1x4352x1024_S1x4352x128_0_0_512
        inb_S1x512x4352_S1x64x4352_0_256_0 (x 0) z c hc)
      (fun z c hc => head_block x0 x1 x2 qr kr hq hk 5 (by decide) inb_S512x1024_S512x128_0_640 inb_S1x4352x1024_S1x4352x128_0_0_640
        inb_S1x512x4352_S1x64x4352_0_320_0 (x 0) z c hc))).trans ?_
    exact congrArg₂ (fun a b => blockVal (qr a) kr x2 b) (emb0 (x 0)).symm (emb1 2 (x 1) _ _).symm
  · refine ((congrArg _ (hx x)).trans (beside_block 1 (by decide) _ _ (x 0) (x 1) (blockVal (qr (x 0)) kr x2)
      (fun z c hc => head_block x0 x1 x2 qr kr hq hk 2 (by decide) inb_S512x1024_S512x128_0_256 inb_S1x4352x1024_S1x4352x128_0_0_256
        inb_S1x512x4352_S1x64x4352_0_128_0 (x 0) z c hc)
      (fun z c hc => head_block x0 x1 x2 qr kr hq hk 3 (by decide) inb_S512x1024_S512x128_0_384 inb_S1x4352x1024_S1x4352x128_0_0_384
        inb_S1x512x4352_S1x64x4352_0_192_0 (x 0) z c hc))).trans ?_
    exact congrArg₂ (fun a b => blockVal (qr a) kr x2 b) (emb0 (x 0)).symm (emb1 1 (x 1) _ _).symm
  · refine ((congrArg _ (hx x)).trans (beside_block 0 (by decide) _ _ (x 0) (x 1) (blockVal (qr (x 0)) kr x2)
      (fun z c hc => head_block x0 x1 x2 qr kr hq hk 0 (by decide) inb_S512x1024_S512x128_0_0 inb_S1x4352x1024_S1x4352x128_0_0_0
        inb_S1x512x4352_S1x64x4352_0_0_0 (x 0) z c hc)
      (fun z c hc => head_block x0 x1 x2 qr kr hq hk 1 (by decide) inb_S512x1024_S512x128_0_128 inb_S1x4352x1024_S1x4352x128_0_0_128
        inb_S1x512x4352_S1x64x4352_0_64_0 (x 0) z c hc))).trans ?_
    exact congrArg₂ (fun a b => blockVal (qr a) kr x2 b) (emb0 (x 0)).symm (emb1 0 (x 1) _ _).symm

end Cert.MlaVal

end
-- ==== Proof.MlaArray.lean ====
/- The latent attention kernel's result array: every grid point's block is its block of `Attn.mla` of the three arguments,
   and the blocks tile the array. -/
module

public import proofs.«01_k».proof.Proof.MlaBlock

@[expose] public section

noncomputable section

namespace Cert.MlaVal

open Cert.MlaIdeal Cert.MlaIdeal.Gen Cert.Attn Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The argument's column behind one of the 1024 padded lanes: lane `L % 128` of head `L / 128`. -/
def lane (L : Fin 1024) : Fin 768 := ⟨L.val / 128 * 96 + L.val % 128 % 96, by omega⟩

/-- The queries with each head's 96 lanes padded by 32 zero lanes. -/
def padQ (x : S17408x768.Idx → EReal) : S17408x1024.Idx → EReal :=
  shapeCast S17408x1024 (concatenate S17408x8x128 2 [⟨S17408x8x96, shapeCast S17408x8x96 x shapeCasts_S17408x768_S17408x8x96⟩,
    ⟨S17408x8x32, broadcastInDim S17408x8x32 ![] bcast_S_S17408x8x32 (constant (F := Ideal) S_ .f32 0x00000000#32)⟩]
    concatenates_S17408x8x96_S17408x8x32_S17408x8x128_d2) shapeCasts_S17408x8x128_S17408x1024

/-- The keys with each head's 96 lanes padded by 32 zero lanes. -/
def padK (x : S4x4352x768.Idx → EReal) : S4x4352x1024.Idx → EReal :=
  shapeCast S4x4352x1024 (concatenate S4x4352x8x128 3 [⟨S4x4352x8x96, shapeCast S4x4352x8x96 x shapeCasts_S4x4352x768_S4x4352x8x96⟩,
    ⟨S4x4352x8x32, broadcastInDim S4x4352x8x32 ![] bcast_S_S4x4352x8x32 (constant (F := Ideal) S_ .f32 0x00000000#32)⟩]
    concatenates_S4x4352x8x96_S4x4352x8x32_S4x4352x8x128_d3) shapeCasts_S4x4352x8x128_S4x4352x1024

/-- The queries as the kernel finds them. -/
theorem V_queries (c : Dev nD) : V m c main_v8 = padQ (m ((c : Thread nD τ).loc main_arg0)) := by
  unfold V
  after_results
  rfl

/-- The keys as the kernel finds them. -/
theorem V_keys (c : Dev nD) : V m c main_v10 = truncf (F := Ideal) .bf16 (padK (m ((c : Thread nD τ).loc main_arg1))) bitsLt_bf16_f32 := by
  unfold V
  after_results
  rfl

/-- The values as the kernel finds them: transposed. -/
theorem V_values (c : Dev nD) : V m c main_v7 = truncf (F := Ideal) .bf16
    (transpose S4x512x4352 [0, 2, 1] (m ((c : Thread nD τ).loc main_arg2)) transposes_S4x4352x512_S4x512x4352_0_2_1) bitsLt_bf16_f32 := by
  unfold V
  after_results

/-- The keys as the kernel finds them, at an index. -/
theorem V_keys_apply (c : Dev nD) (b : Fin 4) (key : Fin 4352) (L : Fin 1024) :
    V m c main_v10 (ix3 b key L) = padK (m ((c : Thread nD τ).loc main_arg1)) (ix3 b key L) := by
  rw [V_keys, ValueIdx.truncf_apply]

/-- The padded queries at an index. -/
theorem padQ_apply (x : S17408x768.Idx → EReal) (r : Fin 17408) (L : Fin 1024) :
    padQ x (ix2 r L) = if L.val % 128 < 96 then x (ix2 r (lane L)) else 0 := by
  unfold padQ
  refine (shapeCast_apply _ shapeCasts_S17408x8x128_S17408x1024 (ix2 r L)
    (ix3 r (⟨L.val / 128, by omega⟩ : Fin 8) (⟨L.val % 128, by omega⟩ : Fin 128)) (by
      rw [Shape.rowMajor_val_two, Shape.rowMajor_val_three]
      show (r.val * 8 + L.val / 128) * 128 + L.val % 128 = r.val * 1024 + L.val
      omega)).trans ?_
  split
  · rename_i hl
    refine (concatenate_pair_apply_left (t := S17408x8x128) 2 _ _ concatenates_S17408x8x96_S17408x8x32_S17408x8x128_d2 _ rfl
      (ix3 r (⟨L.val / 128, by omega⟩ : Fin 8) (⟨L.val % 128, hl⟩ : Fin 96)) (fun b => match b with
      | ⟨0, _⟩ => rfl
      | ⟨1, _⟩ => rfl
      | ⟨2, _⟩ => rfl)).trans ?_
    exact shapeCast_apply x shapeCasts_S17408x768_S17408x8x96 _ (ix2 r (lane L)) (by
      rw [Shape.rowMajor_val_two, Shape.rowMajor_val_three]
      show r.val * 768 + (L.val / 128 * 96 + L.val % 128 % 96) = (r.val * 8 + L.val / 128) * 96 + L.val % 128
      omega)
  · rename_i hl
    refine (concatenate_pair_apply_right (t := S17408x8x128) 2 _ _ concatenates_S17408x8x96_S17408x8x32_S17408x8x128_d2 _ rfl rfl
      (ix3 r (⟨L.val / 128, by omega⟩ : Fin 8) (⟨L.val % 128 - 96, by omega⟩ : Fin 32)) (fun b hb => match b with
      | ⟨0, _⟩ => rfl
      | ⟨1, _⟩ => rfl
      | ⟨2, _⟩ => absurd rfl hb) (by show L.val % 128 - 96 + 96 = L.val % 128; omega)).trans ?_
    refine (broadcastInDim_apply ![] bcast_S_S17408x8x32 (constant (F := Ideal) S_ .f32 0x00000000#32) _ ix0 fun a => a.elim0).trans ?_
    exact Ideal.ofBits_zero_f32

/-- The padded keys at an index. -/
theorem padK_apply (x : S4x4352x768.Idx → EReal) (b : Fin 4) (key : Fin 4352) (L : Fin 1024) :
    padK x (ix3 b key L) = if L.val % 128 < 96 then x (ix3 b key (lane L)) else 0 := by
  unfold padK
  refine (shapeCast_apply _ shapeCasts_S4x4352x8x128_S4x4352x1024 (ix3 b key L)
    (ix4 b key (⟨L.val / 128, by omega⟩ : Fin 8) (⟨L.val % 128, by omega⟩ : Fin 128)) (by
      rw [Shape.rowMajor_val_three, Shape.rowMajor_val_four]
      show ((b.val * 4352 + key.val) * 8 + L.val / 128) * 128 + L.val % 128 = (b.val * 4352 + key.val) * 1024 + L.val
      omega)).trans ?_
  split
  · rename_i hl
    refine (concatenate_pair_apply_left (t := S4x4352x8x128) 3 _ _ concatenates_S4x4352x8x96_S4x4352x8x32_S4x4352x8x128_d3 _ rfl
      (ix4 b key (⟨L.val / 128, by omega⟩ : Fin 8) (⟨L.val % 128, hl⟩ : Fin 96)) (fun b => match b with
      | ⟨0, _⟩ => rfl
      | ⟨1, _⟩ => rfl
      | ⟨2, _⟩ => rfl
      | ⟨3, _⟩ => rfl)).trans ?_
    exact shapeCast_apply x shapeCasts_S4x4352x768_S4x4352x8x96 _ (ix3 b key (lane L)) (by
      rw [Shape.rowMajor_val_three, Shape.rowMajor_val_four]
      show (b.val * 4352 + key.val) * 768 + (L.val / 128 * 96 + L.val % 128 % 96) = ((b.val * 4352 + key.val) * 8 + L.val / 128) * 96 + L.val % 128
      omega)
  · rename_i hl
    refine (concatenate_pair_apply_right (t := S4x4352x8x128) 3 _ _ concatenates_S4x4352x8x96_S4x4352x8x32_S4x4352x8x128_d3 _ rfl rfl
      (ix4 b key (⟨L.val / 128, by omega⟩ : Fin 8) (⟨L.val % 128 - 96, by omega⟩ : Fin 32)) (fun b hb => match b with
      | ⟨0, _⟩ => rfl
      | ⟨1, _⟩ => rfl
      | ⟨2, _⟩ => rfl
      | ⟨3, _⟩ => absurd rfl hb) (by show L.val % 128 - 96 + 96 = L.val % 128; omega)).trans ?_
    refine (broadcastInDim_apply ![] bcast_S_S4x4352x8x32 (constant (F := Ideal) S_ .f32 0x00000000#32) _ ix0 fun a => a.elim0).trans ?_
    exact Ideal.ofBits_zero_f32

/-- The transposed values at an index. -/
theorem V_values_apply (c : Dev nD) (b : Fin 4) (d : Fin 512) (key : Fin 4352) :
    V m c main_v7 (ix3 b d key) = m ((c : Thread nD τ).loc main_arg2) (ix3 b key d) := by
  rw [V_values]
  exact transpose_apply [0, 2, 1] _ transposes_S4x4352x512_S4x512x4352_0_2_1 (ix3 b d key) (ix3 b key d) fun a => match a with
    | ⟨0, _⟩ => rfl
    | ⟨1, _⟩ => rfl
    | ⟨2, _⟩ => rfl

/-- Where the four windows' blocks sit at a grid point: the queries' and the result's at row block `t`, the keys' and values'
    at batch `t / 8`. -/
theorem index_facts : ∀ t : Fin cfg0.N, win0_0.index t 0 = t.val ∧ win0_0.index t 1 = 0
    ∧ win0_1.index t 0 = t.val / 8 ∧ win0_1.index t 1 = 0 ∧ win0_1.index t 2 = 0
    ∧ win0_2.index t 0 = t.val / 8 ∧ win0_2.index t 1 = 0 ∧ win0_2.index t 2 = 0
    ∧ win0_3.index t 0 = t.val ∧ win0_3.index t 1 = 0 :=
  (by decide +kernel : ∀ t : Fin grid0.N, win0_0.index t 0 = t.val ∧ win0_0.index t 1 = 0
    ∧ win0_1.index t 0 = t.val / 8 ∧ win0_1.index t 1 = 0 ∧ win0_1.index t 2 = 0
    ∧ win0_2.index t 0 = t.val / 8 ∧ win0_2.index t 1 = 0 ∧ win0_2.index t 2 = 0
    ∧ win0_3.index t 0 = t.val ∧ win0_3.index t 1 = 0)

/-- The number of grid points. -/
theorem point_lt (t : Fin cfg0.N) : t.val < 32 := lt_of_lt_of_eq t.isLt N_0

/-- Where an element of the result's block sits in the array. -/
theorem emb_out (t : Fin cfg0.N) (r : Fin 512) (l : Fin 512) :
    ((cfg0.win 3).blk t).view.emb (ix2 r l) = (ix2 (⟨t.val * 512 + r.val, by have := point_lt t; omega⟩ : Fin 16384) l : S16384x512.Idx) := by
  obtain ⟨_, _, _, _, _, _, _, _, e0, e1⟩ := index_facts t
  funext a; apply Fin.ext
  match a with
  | ⟨0, _⟩ => show win0_3.index t (0 : Fin 2) * 512 + 1 * r.val = t.val * 512 + r.val; omega
  | ⟨1, _⟩ => show win0_3.index t (1 : Fin 2) * 512 + 1 * l.val = l.val; omega

/-- The queries' block at an index. -/
theorem blk_q (c : Dev nD) (t : Fin cfg0.N) (r : Fin 512) (L : Fin 1024) :
    iblk m c 0 t (ix2 r L) = padQ (m ((c : Thread nD τ).loc main_arg0)) (ix2 (⟨t.val * 512 + r.val, by have := point_lt t; omega⟩ : Fin 17408) L) := by
  obtain ⟨e0, e1, _⟩ := index_facts t
  rw [← V_queries m c]
  show V m c main_v8 (((cfg0.win 0).blk t).view.emb (ix2 r L)) = _
  congr 1
  funext a; apply Fin.ext
  match a with
  | ⟨0, _⟩ => show win0_0.index t (0 : Fin 2) * 512 + 1 * r.val = t.val * 512 + r.val; omega
  | ⟨1, _⟩ => show win0_0.index t (1 : Fin 2) * 1024 + 1 * L.val = L.val; omega

/-- The keys' window read at an index, of any contents of the host's buffers. -/
theorem read_k (c : Dev nD) (W : (b : Ref sig .tc) → Buf (Elt Ideal) ((c : Thread nD τ).loc b)) (t : Fin cfg0.N) (key : Fin 4352) (L : Fin 1024) :
    ((cfg0.win 1).blk t).view.read (Elt Ideal) (W (Pipeline.arrRef spec0 1)) (ix3 ⟨0, Nat.one_pos⟩ key L)
      = W main_v10 (((cfg0.win 1).blk t).view.emb (ix3 ⟨0, Nat.one_pos⟩ key L)) := rfl

/-- The keys' block at an index. -/
theorem blk_k (c : Dev nD) (t : Fin cfg0.N) (key : Fin 4352) (L : Fin 1024) :
    iblk m c 1 t (ix3 ⟨0, Nat.one_pos⟩ key L) = padK (m ((c : Thread nD τ).loc main_arg1))
      (ix3 (⟨t.val / 8, by have := point_lt t; omega⟩ : Fin 4) key L) := by
  obtain ⟨_, _, e0, e1, e2, _⟩ := index_facts t
  rw [← V_keys_apply m c]
  refine (read_k c (V m c) t key L).trans ?_
  congr 1
  funext a; apply Fin.ext
  match a with
  | ⟨0, _⟩ => show win0_1.index t (0 : Fin 3) * 1 + 1 * 0 = t.val / 8; omega
  | ⟨1, _⟩ => show win0_1.index t (1 : Fin 3) * 4352 + 1 * key.val = key.val; omega
  | ⟨2, _⟩ => show win0_1.index t (2 : Fin 3) * 1024 + 1 * L.val = L.val; omega

/-- The values' block at an index. -/
theorem blk_v (c : Dev nD) (t : Fin cfg0.N) (d : Fin 512) (key : Fin 4352) :
    iblk m c 2 t (ix3 ⟨0, Nat.one_pos⟩ d key) = m ((c : Thread nD τ).loc main_arg2)
      (ix3 (⟨t.val / 8, by have := point_lt t; omega⟩ : Fin 4) key d) := by
  obtain ⟨_, _, _, _, _, e0, e1, e2, _⟩ := index_facts t
  rw [← V_values_apply m c]
  show V m c main_v7 (((cfg0.win 2).blk t).view.emb (ix3 ⟨0, Nat.one_pos⟩ d key)) = _
  congr 1
  funext a; apply Fin.ext
  match a with
  | ⟨0, _⟩ => show win0_2.index t (0 : Fin 3) * 1 + 1 * 0 = t.val / 8; omega
  | ⟨1, _⟩ => show win0_2.index t (1 : Fin 3) * 512 + 1 * d.val = d.val; omega
  | ⟨2, _⟩ => show win0_2.index t (2 : Fin 3) * 4352 + 1 * key.val = key.val; omega

/-- A padded lane of reals, as the real it is. -/
theorem pad_coe (p : Prop) [Decidable p] (x : EReal) (hx : x = (x.toReal : EReal)) :
    (if p then x else 0) = ((if p then x.toReal else 0 : ℝ) : EReal) := by
  split
  · exact hx
  · rfl

/-- The whole result: latent attention of the three arguments. -/
abbrev result (c : Dev nD) : S16384x512.Idx → EReal := fun i =>
  mla (lowRows (w := 768) (m ((c : Thread nD τ).loc main_arg0))) (m ((c : Thread nD τ).loc main_arg1)) (m ((c : Thread nD τ).loc main_arg2)) (i 0) (i 1)

/-- A head's product over its padded lanes is the product over its 96 own. -/
theorem sum_pad (f g : Fin 768 → ℝ) (z : ℕ) (hz : z < 8) :
    (∑ l : Fin 128, (if (z * 128 + l.val) % 128 < 96 then f (lane ⟨z * 128 + l.val, by omega⟩) else 0)
        * (if (z * 128 + l.val) % 128 < 96 then g (lane ⟨z * 128 + l.val, by omega⟩) else 0))
      = ∑ e : Fin 96, f ⟨z * 96 + e.val, by omega⟩ * g ⟨z * 96 + e.val, by omega⟩ := by
  rw [sum_lanes _ fun l hl => by rw [if_neg (by omega), zero_mul]]
  refine Finset.sum_congr rfl fun e _ => ?_
  have he : (z * 128 + e.val) % 128 < 96 := by omega
  have hlane : lane ⟨z * 128 + e.val, by omega⟩ = ⟨z * 96 + e.val, by omega⟩ := Fin.ext (by
    show (z * 128 + e.val) / 128 * 96 + (z * 128 + e.val) % 128 % 96 = z * 96 + e.val
    omega)
  show (if (z * 128 + e.val) % 128 < 96 then f (lane ⟨z * 128 + e.val, by omega⟩) else 0)
    * (if (z * 128 + e.val) % 128 < 96 then g (lane ⟨z * 128 + e.val, by omega⟩) else 0) = _
  rw [if_pos he, if_pos he, hlane]

/-- What a grid point writes back is its block of the whole result, at finite queries and keys. -/
theorem flushed_eq (c : Dev nD) (hq : Reals (s := ⟨2, ![16384, 768]⟩) (lowRows (w := 768) (m ((c : Thread nD τ).loc main_arg0))))
    (hk : Reals (s := S4x4352x768) (m ((c : Thread nD τ).loc main_arg1))) (t : Fin cfg0.N) :
    (dats m 0 c).flushed 3 t = ((cfg0.win 3).blk t).view.read (Elt Ideal) (result m c) := by
  have ht := point_lt t
  rw [Value.flushed3]
  funext y
  show out0_3 (iblk m c 0 t) (iblk m c 1 t) (iblk m c 2 t) y = result m c (((cfg0.win 3).blk t).view.emb y)
  rw [out_apply (iblk m c 0 t) (iblk m c 1 t) (iblk m c 2 t)
    (fun r L => if L.val % 128 < 96 then
      (lowRows (w := 768) (m ((c : Thread nD τ).loc main_arg0)) (ix2 (⟨t.val * 512 + r.val, by omega⟩ : Fin 16384) (lane L)) : EReal).toReal else 0)
    (fun key L => if L.val % 128 < 96 then
      (m ((c : Thread nD τ).loc main_arg1) (ix3 (⟨t.val / 8, by omega⟩ : Fin 4) key (lane L)) : EReal).toReal else 0)
    (fun r L => (blk_q m c t r L).trans ((padQ_apply _ _ L).trans (pad_coe _ _ (hq (ix2 (⟨t.val * 512 + r.val, by omega⟩ : Fin 16384) (lane L))))))
    (fun key L => (blk_k m c t key L).trans ((padK_apply _ _ key L).trans (pad_coe _ _ (hk _)))) y]
  obtain ⟨r, l, rfl⟩ : ∃ r l, y = ix2 r l := ⟨y 0, y 1, eq_ix2 y⟩
  rw [emb_out]
  show blockVal _ _ (iblk m c 2 t) l = mla _ _ _ _ l
  unfold blockVal mla
  have eb : (⟨t.val / 8, by omega⟩ : Fin 4) = ⟨(t.val * 512 + r.val) / 4096, by omega⟩ := Fin.ext (by show t.val / 8 = (t.val * 512 + r.val) / 4096; omega)
  congr 1
  · funext key
    congr 1
    refine (sum_pad (fun j => (m ((c : Thread nD τ).loc main_arg1) (ix3 (⟨t.val / 8, by omega⟩ : Fin 4) key j) : EReal).toReal)
      (fun j => (lowRows (w := 768) (m ((c : Thread nD τ).loc main_arg0)) (ix2 (⟨t.val * 512 + r.val, by omega⟩ : Fin 16384) j) : EReal).toReal) (l.val / 64) (by omega)).trans ?_
    exact Finset.sum_congr rfl fun e _ => congrArg₂ (· * ·)
      (congrArg (fun b => EReal.toReal (m ((c : Thread nD τ).loc main_arg1) (ix3 b key _))) eb) rfl
  · funext key
    rw [blk_v]
    exact congrArg (fun b => m ((c : Thread nD τ).loc main_arg2) (ix3 b key _)) eb

/-- Every index of the result is in some grid point's block. -/
theorem cover (i : S16384x512.Idx) : ∃ t : Fin cfg0.N, (cfg0.win 3).flush t = true ∧ i ∈ ((cfg0.win 3).blk t).view.set := by
  have h0 : (i 0).val < 16384 := (i 0).isLt
  have hN : cfg0.N = 32 := N_0
  refine ⟨⟨(i 0).val / 512, by omega⟩, flush0_3 _, ?_⟩
  have h := ((cfg0.win 3).blk (⟨(i 0).val / 512, by omega⟩ : Fin cfg0.N)).view.emb_mem_set (ix2 (⟨(i 0).val % 512, by omega⟩ : Fin 512) (i 1 : Fin 512))
  refine (congrArg (· ∈ _) (Eq.trans ?_ (emb_out (⟨(i 0).val / 512, by omega⟩ : Fin cfg0.N) (⟨(i 0).val % 512, by omega⟩ : Fin 512) (i 1)).symm)).mpr h
  refine (eq_ix2 i).trans (congrArg (fun a => (ix2 a (i 1) : S16384x512.Idx)) (Fin.ext ?_))
  show (i 0).val = (i 0).val / 512 * 512 + (i 0).val % 512
  omega

/-- **The result array** after the run, at finite queries and keys: latent attention of the arguments. -/
theorem final (c : Dev nD) (hq : Reals (s := ⟨2, ![16384, 768]⟩) (lowRows (w := 768) (m ((c : Thread nD τ).loc main_arg0))))
    (hk : Reals (s := S4x4352x768) (m ((c : Thread nD τ).loc main_arg1))) : (dats m 0 c).arrAt 3 cfg0.N = result m c :=
  (dats m 0 c).arrAt_eq_of_cover 3 (result m c) (fun t _ => flushed_eq m c hq hk t) cover

end Cert.MlaVal

end
-- ==== Proof.MlaRefValue.lean ====
/- The latent attention reference, index by index: at finite queries and keys every element is `Attn.mla` of the three
   arguments. -/
module

public import proofs.«01_k».proof.Proof.MlaSpec
public import proofs.«01_k».proof.Proof.HostSoftmax
public import proofs.«01_k».proof.Proof.Gen.MlaRefIdeal.Read

@[expose] public section

noncomputable section

namespace Cert.MlaRefVal

open Cert.MlaRefIdeal Cert.MlaRefIdeal.Gen Cert.MlaRefIdeal.Read Cert.Attn Idealize.ShloMosaic Idealize.ShloMosaic.ValueIdx
open scoped BigOperators

variable (x : S17408x768.Idx → EReal) (q : S16384x768.Idx → EReal) (k : S4x4352x768.Idx → EReal) (v : S4x4352x512.Idx → EReal)

/-- The real score of a key for one batch, head and query. -/
def score (b : Fin 4) (h : Fin 8) (r : Fin 4096) (key : Fin 4352) : ℝ :=
  (∑ e : Fin 96, (q (ix2 (⟨b.val * 4096 + r.val, by omega⟩ : Fin 16384) (⟨h.val * 96 + e.val, by omega⟩ : Fin 768))).toReal
    * (k (ix3 b key (⟨h.val * 96 + e.val, by omega⟩ : Fin 768))).toReal) * scale96

/-- The scaled scores are these reals. -/
theorem scores_apply (hq : Reals (lowRows x)) (hk : Reals k) (b : Fin 4) (h : Fin 8) (r : Fin 4096) (key : Fin 4352) :
    val_main_v6 (F := Ideal) x k (ix4 b h r key) = (score (lowRows x) k b h r key : EReal) := by
  rw [val_main_v6_apply, val_main_v5_apply, val_main_cst_apply, val_main_v4_apply]
  show (∑ _, _) * Ideal.ofBits .f32 0x3DD105EC#32 = _
  rw [ofBits_scale96, sum_coe_mul _ _
    (fun e : Fin 96 => (lowRows x (ix2 (⟨b.val * 4096 + r.val, by omega⟩ : Fin 16384) (⟨h.val * 96 + e.val, by omega⟩ : Fin 768))).toReal)
    (fun e => (k (ix3 b key (⟨h.val * 96 + e.val, by omega⟩ : Fin 768))).toReal)
    (fun e => ?_) (fun e => ?_), score, ← EReal.coe_mul]
  · rw [val_main_v1_apply, val_main_v0_apply, ← hq]
    refine congrArg x (funext fun a => Fin.ext ?_)
    match a with
    | ⟨0, _⟩ => show (((b.val * 4096 + r.val) * 8 + h.val) * 96 + e.val) / 768 = b.val * 4096 + r.val; omega
    | ⟨1, _⟩ => show (((b.val * 4096 + r.val) * 8 + h.val) * 96 + e.val) % 768 = h.val * 96 + e.val; omega
  · rw [val_main_v2_apply, ← hk]
    refine congrArg k (funext fun a => Fin.ext ?_)
    match a with
    | ⟨0, _⟩ => show (((b.val * 4352 + key.val) * 8 + h.val) * 96 + e.val) / 3342336 = b.val; omega
    | ⟨1, _⟩ => show (((b.val * 4352 + key.val) * 8 + h.val) * 96 + e.val) / 768 % 4352 = key.val; omega
    | ⟨2, _⟩ => show (((b.val * 4352 + key.val) * 8 + h.val) * 96 + e.val) % 768 = h.val * 96 + e.val; omega

/-- The keys' axis is the one the row maximum and the row sum run over. -/
theorem reduces_keys : S4x8x4096x4352.Reduces [3] S4x8x4096 := by decide

/-- The scores along a row, as the row maximum reads them. -/
theorem scores_lift (hq : Reals (lowRows x)) (hk : Reals k) (b : Fin 4) (h : Fin 8) (r : Fin 4096) (key : Fin 4352) :
    val_main_v6 (F := Ideal) x k (reduces_keys.lift (ix3 b h r) key) = (score (lowRows x) k b h r key : EReal) := by
  rw [← scores_apply x k hq hk]
  refine congrArg (val_main_v6 (F := Ideal) x k) (funext fun a => Fin.ext ?_)
  match a with
  | ⟨0, _⟩ => rfl
  | ⟨1, _⟩ => rfl
  | ⟨2, _⟩ => rfl
  | ⟨3, _⟩ => rfl

/-- The row's maximum is a real number. -/
theorem max_real (hq : Reals (lowRows x)) (hk : Reals k) (b : Fin 4) (h : Fin 8) (r : Fin 4096) :
    ∃ M : ℝ, val_main_v7 (F := Ideal) x k (ix3 b h r) = (M : EReal) := by
  unfold val_main_v7 val_main_cst_0
  exact hostMax_real (val_main_v6 (F := Ideal) x k) reducesTo_S4x8x4096x4352_S4x8x4096_d3 h_S_ reduces_keys (ix3 b h r)
    (Nat.succ_pos 4351) (score (lowRows x) k b h r) (scores_lift x k hq hk b h r)

/-- The row's shift is a real number. -/
theorem shift_real (hq : Reals (lowRows x)) (hk : Reals k) (b : Fin 4) (h : Fin 8) (r : Fin 4096) :
    ∃ M : ℝ, ∀ key, val_main_v11 (F := Ideal) x k (ix4 b h r key) = (M : EReal) := by
  obtain ⟨M, hM⟩ := max_real x k hq hk b h r
  refine ⟨M, fun key => ?_⟩
  rw [val_main_v11_apply, val_main_v10_apply, val_main_v9_apply, val_main_v8_apply, val_main_cst_1_apply]
  have e : idx_main_v10 (idx_main_v11 (ix4 b h r key)) = ix3 b h r := funext fun a => Fin.ext (by
    match a with
    | ⟨0, _⟩ => rfl
    | ⟨1, _⟩ => rfl
    | ⟨2, _⟩ => rfl)
  rw [e, hM]
  show max (Ideal.ofBits .f32 0xFF800000#32) (M : EReal) = _
  rw [ofBits_neg_inf, max_eq_right bot_le]

/-- The exponentials of a row. -/
theorem exps_apply (hq : Reals (lowRows x)) (hk : Reals k) (b : Fin 4) (h : Fin 8) (r : Fin 4096) :
    ∃ M : ℝ, ∀ key, val_main_v13 (F := Ideal) x k (ix4 b h r key) = Ideal.exp ((score (lowRows x) k b h r key : EReal) - (M : EReal)) := by
  obtain ⟨M, hM⟩ := shift_real x k hq hk b h r
  refine ⟨M, fun key => ?_⟩
  rw [val_main_v13_apply, val_main_v12_apply, hM, scores_apply x k hq hk]
  rfl

/-- A row's weighted sum of values is the attention over that row's scores. -/
theorem heads_apply (hq : Reals (lowRows x)) (hk : Reals k) (b : Fin 4) (h : Fin 8) (d : Fin 64) (r : Fin 4096) :
    val_main_v18 (F := Ideal) x k v (ix4 b h d r) = attn (score (lowRows x) k b h r) fun key => v (ix3 b key (⟨h.val * 64 + d.val, by omega⟩ : Fin 512)) := by
  obtain ⟨M, hM⟩ := exps_apply x k hq hk b h r
  rw [val_main_v18_apply, ← row_exp (by decide) (score (lowRows x) k b h r) _ M (fun key => val_main_v13 (F := Ideal) x k (ix4 b h r key)) hM]
  refine Finset.sum_congr rfl fun key _ => congrArg₂ (· * ·) ?_ ?_
  · rw [val_main_v3_apply]
    refine congrArg v (funext fun a => Fin.ext ?_)
    match a with
    | ⟨0, _⟩ => show (((b.val * 4352 + key.val) * 8 + h.val) * 64 + d.val) / 2228224 = b.val; omega
    | ⟨1, _⟩ => show (((b.val * 4352 + key.val) * 8 + h.val) * 64 + d.val) / 512 % 4352 = key.val; omega
    | ⟨2, _⟩ => show (((b.val * 4352 + key.val) * 8 + h.val) * 64 + d.val) % 512 = h.val * 64 + d.val; omega
  · rw [val_main_v17_apply, val_main_v16_apply, val_main_v15_apply, val_main_v14_apply, val_main_cst_2_apply]
    have hr : ∀ key : Fin 4352, (ridx_main_v18 (ix4 b h d r) key) = ix4 b h r key := fun key => funext fun a => Fin.ext (by
      match a with
      | ⟨0, _⟩ => rfl
      | ⟨1, _⟩ => rfl
      | ⟨2, _⟩ => rfl
      | ⟨3, _⟩ => rfl)
    rw [hr]
    show Ideal.div _ (Ideal.ofBits .f32 0x00000000#32 + _) = _
    rw [Ideal.ofBits_zero_f32, zero_add]
    refine congrArg (Ideal.div _) (Finset.sum_congr rfl fun j _ => congrArg (val_main_v13 (F := Ideal) x k) (funext fun a => Fin.ext ?_))
    match a with
    | ⟨0, _⟩ => rfl
    | ⟨1, _⟩ => rfl
    | ⟨2, _⟩ => rfl
    | ⟨3, _⟩ => rfl

/-- **The reference's result** at an index, at finite queries and keys. -/
theorem value (hq : Reals (lowRows x)) (hk : Reals k) (r : Fin 16384) (c : Fin 512) :
    val_main_v21 (F := Ideal) x k v (ix2 r c) = mla (lowRows x) k v r c := by
  rw [val_main_v21_apply, val_main_v20_apply, val_main_v19_apply]
  have e : idx_main_v19 (idx_main_v20 (ix2 r c)) = ix4 (⟨r.val / 4096, by omega⟩ : Fin 4) (⟨c.val / 64, by omega⟩ : Fin 8) (⟨c.val % 64, by omega⟩ : Fin 64)
      (⟨r.val % 4096, by omega⟩ : Fin 4096) := funext fun a => Fin.ext (by
    match a with
    | ⟨0, _⟩ => show (r.val * 512 + c.val) / 2097152 = r.val / 4096; omega
    | ⟨1, _⟩ => show (r.val * 512 + c.val) / 64 % 8 = c.val / 64; omega
    | ⟨2, _⟩ => show (r.val * 512 + c.val) % 64 = c.val % 64; omega
    | ⟨3, _⟩ => show (r.val * 512 + c.val) / 512 % 4096 = r.val % 4096; omega)
  rw [e]
  refine (heads_apply x k v hq hk _ _ _ _).trans ?_
  unfold mla score
  congr 1
  · funext key
    congr 1
    refine Finset.sum_congr rfl fun j _ => (mul_comm _ _).trans (congrArg₂ (· * ·) rfl (congrArg (fun i => EReal.toReal (lowRows x i)) ?_))
    refine congrArg₂ ix2 (Fin.ext ?_) rfl
    show r.val / 4096 * 4096 + r.val % 4096 = r.val; omega
  · funext key
    refine congrArg (fun d => v (ix3 _ key d)) (Fin.ext ?_)
    show c.val / 64 * 64 + c.val % 64 = c.val; omega

end Cert.MlaRefVal

end
-- ==== Proof.MlaPre.lean ====
/- The precondition of the latent attention claim, read back: every query and every key is a real number. -/
module

public import proofs.«01_k».proof.Pre_finite_mla_qk
public import proofs.«01_k».proof.Proof.GqaSpec
public import proofs.«01_k».proof.Proof.HostSoftmax

@[expose] public section

noncomputable section

namespace Cert.MlaPre

open Cert.Pre_finite_mla_qk Cert.Attn Idealize.ShloMosaic Idealize.ShloMosaic.ValueIdx

/-- The side conditions the printed predicate states. -/
instance facts : Cert.Pre_finite_mla_qk.Facts where
  slices_S17408x768_S16384x768_0_0 := by decide
  bcast_S_S16384x768 := by decide
  reducesTo_S16384x768_S_d0_1 := by decide
  h_S_ := by decide
  bcast_S_S4x4352x768 := by decide
  reducesTo_S4x4352x768_S_d0_1_2 := by decide

/-- A scalar has one index. -/
instance one_index : Subsingleton S_.Idx := ⟨fun _ _ => funext fun a => a.elim0⟩

/-- Where the predicate holds, the queries and the keys are reals. -/
theorem reals (q : FVec Ideal S17408x768 .f32) (k : FVec Ideal S4x4352x768 .f32) (v : FVec Ideal S4x4352x512 .f32)
    (h : Cert.Pre_finite_mla_qk.fn (F := Ideal) q k v = fun _ => 1#1) : Reals (lowRows q) ∧ Reals k := by
  have h0 := congrFun h ix0
  obtain ⟨hq, hk⟩ := IntOp.andi_eq_one.mp h0
  have hr : Reals (extractStridedSlice S16384x768 ![0, 0] q facts.slices_S17408x768_S16384x768_0_0) := fun i => reals_of_all _ _ _ _ _ ix0 hq i
  rw [slice_rows] at hr
  exact ⟨hr, fun i => reals_of_all k _ _ _ _ ix0 hk i⟩

end Cert.MlaPre

end
-- ==== Proof.MlaClaim.lean ====
/- The latent attention claim: kernel and reference end at the same array. -/
module

public import proofs.«01_k».proof.Defs
public import proofs.«01_k».proof.Proof.MlaArray
public import proofs.«01_k».proof.Proof.MlaRefValue
public import proofs.«01_k».proof.Proof.MlaPre
public import proofs.«01_k».proof.Proof.Gen.Mla.Frame
public import Idealize.ShloMosaic.Adequacy
public import Idealize.ShloMosaic.Init

@[expose] public section

noncomputable section

namespace Cert.MlaClaim

open Idealize.ShloMosaic Idealize.SL.Sem Cert.Attn Idealize.ShloMosaic.ValueIdx

/-- The reference's frame: its arguments end unchanged, and it declares no semaphore. -/
theorem frame_ref (m : (ℓ : Loc MlaRefIdeal.nD MlaRefIdeal.τ MlaRefIdeal.sig) → Buf (Elt Ideal) ℓ) (ρ : Dev MlaRefIdeal.nD → PrngReg) :
    θ_run (MlaRefIdeal.defs (F := Ideal)) (onTc (τ := MlaRefIdeal.τ) (MlaRefIdeal.main (F := Ideal))) ⟨m, fun _ => 0, ρ⟩ (fun r =>
      (∀ c : Dev MlaRefIdeal.nD, r.2.mem ((c.tc : Thread MlaRefIdeal.nD MlaRefIdeal.τ).loc MlaRefIdeal.main_arg0) = m ((c.tc : Thread MlaRefIdeal.nD MlaRefIdeal.τ).loc MlaRefIdeal.main_arg0)
        ∧ r.2.mem ((c.tc : Thread MlaRefIdeal.nD MlaRefIdeal.τ).loc MlaRefIdeal.main_arg1) = m ((c.tc : Thread MlaRefIdeal.nD MlaRefIdeal.τ).loc MlaRefIdeal.main_arg1)
        ∧ r.2.mem ((c.tc : Thread MlaRefIdeal.nD MlaRefIdeal.τ).loc MlaRefIdeal.main_arg2) = m ((c.tc : Thread MlaRefIdeal.nD MlaRefIdeal.τ).loc MlaRefIdeal.main_arg2))
      ∧ r.2.sem = fun _ => 0) :=
  (θ_run _ _ _).mono (fun r h => ⟨fun c => (h c).2, sem_eq_zero_of_no_sems (by decide) r.2⟩) (MlaRefIdeal.Value.run m ρ)

/-- At finite queries and keys the kernel's array and the reference's are both `Attn.mla` of the arguments. -/
theorem algebraic : Cert.algebraic_MlaIdeal_MlaRefIdeal_pre_finite_mla_qk (hMlaIdeal := MlaIdeal.Gen.facts) (hMlaRefIdeal := MlaRefIdeal.Gen.facts)
    (hPre_finite_mla_qk := MlaPre.facts) := by
  intro m g m' g' hpre hargs
  have hfin := fun c => MlaPre.reals _ _ _ (hpre c)
  refine ⟨fun c => MlaVal.result m c, (θ_run _ _ _).mono (fun r h c => ?_) (MlaIdeal.Value.run_blocks m g),
    (θ_run _ _ _).mono (fun r h c => ?_) (MlaRefIdeal.Value.run m' g')⟩
  · obtain ⟨h0, h1⟩ := h c
    exact ⟨h0.trans (MlaVal.final m c (hfin c).1 (hfin c).2), h1⟩
  · obtain ⟨h0, h1⟩ := h c
    obtain ⟨a0, a1, a2⟩ := hargs c
    refine ⟨h0.trans ?_, h1⟩
    rw [a0, a1, a2]
    refine (MlaRefIdeal.Read.val_main_v21_eq (F := Ideal) _ _ _).trans (funext fun i => ?_)
    refine (congrArg _ (eq_ix2 i)).trans ?_
    exact MlaRefVal.value _ _ _ (hfin c).1 (hfin c).2 (i 0) (i 1)

end Cert.MlaClaim

end
-- ==== Proof.DiffSpec.lean ====
/- What differential attention of four heads computes at finite queries and keys, index by index: two attention maps a head,
   the second times one number taken from the first, each row of a head's 128 value dimensions brought to unit mean square. -/
module

public import proofs.«01_k».proof.Proof.GqaSpec

@[expose] public section

noncomputable section

namespace Cert.Attn

open Idealize.ShloMosaic Idealize.ShloMosaic.ValueIdx
open scoped BigOperators

/-- The number the second map is multiplied by: the difference of the exponentials of two products, plus the layer's constant
    `w`. -/
def lamOf (w : BitVec 32) (t : (⟨2, ![4, 64]⟩ : Shape).Idx → EReal) : EReal :=
  Ideal.exp (∑ e : Fin 64, t (ix2 (0 : Fin 4) e) * t (ix2 (1 : Fin 4) e)) - Ideal.exp (∑ e : Fin 64, t (ix2 (2 : Fin 4) e) * t (ix2 (3 : Fin 4) e))
    + Ideal.ofBits .f32 w

/-- One entry of a row of 128 brought to unit mean square, times its gain and the layer's constant `w`. -/
def normOf (w : BitVec 32) (d g : Fin 128 → EReal) (x : Fin 128) : EReal :=
  d x * Ideal.rsqrt (Ideal.div (∑ j : Fin 128, d j * d j) (Ideal.ofBits .f32 0x43000000#32) + Ideal.ofBits .f32 0x358637BD#32) * g x
    * Ideal.ofBits .f32 w

/-- The real score of a key of batch `b` against row `r` of the queries, for map and head `h`: columns `h * 64` to `h * 64 + 63`. -/
def diffScore (q : (⟨2, ![16384, 512]⟩ : Shape).Idx → EReal) (k : (⟨3, ![4, 4352, 512]⟩ : Shape).Idx → EReal)
    (b : Fin 4) (r : Fin 16384) (h : Fin 8) (key : Fin 4352) : ℝ :=
  (∑ e : Fin 64, (q (ix2 r (⟨h.val * 64 + e.val, by omega⟩ : Fin 512))).toReal
    * (k (ix3 b key (⟨h.val * 64 + e.val, by omega⟩ : Fin 512))).toReal) * (1 / 8)

/-- A head's difference of its two maps, the second times `L`, at a value dimension. -/
def diffHead (L : EReal) (q : (⟨2, ![16384, 512]⟩ : Shape).Idx → EReal)
    (k v : (⟨3, ![4, 4352, 512]⟩ : Shape).Idx → EReal) (b : Fin 4) (r : Fin 16384) (z : Fin 4) (x : Fin 128) : EReal :=
  attn (diffScore q k b r ⟨z.val, by omega⟩) (fun key => v (ix3 b key (⟨z.val * 128 + x.val, by omega⟩ : Fin 512)))
    - L * attn (diffScore q k b r ⟨4 + z.val, by omega⟩) (fun key => v (ix3 b key (⟨z.val * 128 + x.val, by omega⟩ : Fin 512)))

/-- Differential attention with factor `L` and constant `w`: row `r` is a query of batch `r / 4096`, column `c` a value dimension of head `c / 128`. -/
def diff (L : EReal) (w : BitVec 32) (g : (⟨2, ![1, 128]⟩ : Shape).Idx → EReal) (q : (⟨2, ![16384, 512]⟩ : Shape).Idx → EReal)
    (k v : (⟨3, ![4, 4352, 512]⟩ : Shape).Idx → EReal) (r : Fin 16384) (c : Fin 512) : EReal :=
  normOf w (diffHead L q k v ⟨r.val / 4096, by omega⟩ r ⟨c.val / 128, by omega⟩) (fun x => g (ix2 (0 : Fin 1) x)) ⟨c.val % 128, by omega⟩

end Cert.Attn

end
-- ==== Proof.DiffBlock.lean ====
/- One grid point of the differential attention kernel: each of its four heads' columns is the normalised difference of that
   head's two attention maps over the block's keys and values. -/
module

public import proofs.«01_k».proof.Proof.SoftmaxBlock
public import proofs.«01_k».proof.Proof.DiffSpec
public import proofs.«01_k».proof.Proof.Gen.DiffIdeal.Value

@[expose] public section

noncomputable section

namespace Cert.DiffVal

open Cert.DiffIdeal Cert.DiffIdeal.Gen Cert.Attn Idealize.ShloMosaic Idealize.ShloMosaic.ValueIdx
open scoped BigOperators

/-- The kernel's scale is one eighth over the logarithm of two. -/
theorem scale_named : Named.named (F := Ideal) DiffIdeal.κ "diff_scale_log2e" (φ := .f32) 0x3E38AA3B#32 = ((1 / 8 * (Real.log 2)⁻¹ : ℝ) : EReal) :=
  IdealRules.named_const.ideal_named_scalar _ _ _ _ rfl

/-- One map's scores for the lanes `mask` keeps: the keys against the scaled queries, the other lanes zeroed. -/
def scores (mask : IVec S512x128 1) (q : FVec Ideal S512x128 .f32) (k : Vec Ideal S1x4352x128 .bf16) : FVec Ideal S4352x512 .f32 :=
  matmul (DotDims.transposedRhs 4352 128 512) none (shapeCast S4352x128 k shapeCasts_S1x4352x128_S4352x128 : FVec Ideal S4352x128 .bf16)
    (select mask (truncf .bf16 (mulf q (broadcast S512x128 (Named.named κ "diff_scale_log2e" 0x3E38AA3B#32 : Ideal .f32))) bitsLt_bf16_f32)
      (broadcast S512x128 (Scalar.ofBits .bf16 0x0000#16 : Ideal .bf16)) : FVec Ideal S512x128 .bf16)
    (constant S4352x512 .f32 0x00000000#32)

/-- One map's output for one head, value dimensions down the rows. -/
def half (mask : IVec S512x128 1) (q : FVec Ideal S512x128 .f32) (k : Vec Ideal S1x4352x128 .bf16) (v : Vec Ideal S1x128x4352 .bf16) :
    FVec Ideal S128x512 .f32 :=
  divT (sumsT (expT (scores mask q k) reduces_S4352x512_S512 (.inl rfl) rfl shapeCasts_S512_S1x512 broadcasts_S1x512_S4352x512 bitsLt_bf16_f32)
      (shapeCast S128x4352 v shapeCasts_S1x128x4352_S128x4352) concatenates_S128x4352_S16x4352_S144x4352_d0)
    slices_S144x512_o0_0_S128x512 slices_S144x512_o128_0_S1x512 broadcasts_S1x512_S128x512

/-- The difference of two maps, the second times one number, queries down the rows. -/
def diffT (lam : FVec Ideal S1x1 .f32) (a b : FVec Ideal S128x512 .f32) : FVec Ideal S512x128 .f32 :=
  transpose S512x128 [1, 0] (subf a (mulf (broadcastTo S128x512 lam broadcasts_S1x1_S128x512) b)) transposes_S128x512_p1_0_S512x128

/-- The rows brought to unit mean square, times the gain and the constant `w`. -/
def normT (w : BitVec 32) (D : FVec Ideal S512x128 .f32) (g : Vec Ideal S1x128 .f32) : FVec Ideal S512x128 .bf16 :=
  truncf .bf16 (mulf (mulf (mulf D (broadcastTo S512x128 (rsqrt (addf (divf (shapeCast S512x1
    (multiReduction .add [1] S512 (mulf D D) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
    (broadcastTo S512x128 g broadcasts_S1x128_S512x128)) (broadcast S512x128 (Scalar.ofBits .f32 w))) bitsLt_bf16_f32

/-- One head's output columns. -/
def head (lam : FVec Ideal S1x1 .f32) (w : BitVec 32) (g : Vec Ideal S1x128 .f32) (mask : IVec S512x128 1) (q0 q1 : FVec Ideal S512x128 .f32)
    (k0 k1 : Vec Ideal S1x4352x128 .bf16) (v : Vec Ideal S1x128x4352 .bf16) : FVec Ideal S512x128 .bf16 :=
  normT w (diffT lam (half mask q0 k0 v) (half mask q1 k1 v)) g

/-- The four heads' columns of an output block, with factor `lam` and constant `w`. -/
def pieces (lam : FVec Ideal S1x1 .f32) (w : BitVec 32) (x1 : Vec Ideal S1x128 .f32) (x2 x3 : Vec Ideal S512x256 .f32)
    (x4 x5 : Vec Ideal S1x4352x256 .bf16) (x6 : Vec Ideal S1x512x4352 .bf16) : Vec Ideal S512x512 .bf16 := View.canon
  [⟨r0_13, head lam w (View.ld x1 r0_5) k0_pay4 (View.ld x2 r0_2) (View.ld x3 r0_2) (View.ld x4 r0_8) (View.ld x5 r0_8) (View.ld x6 r0_12)⟩,
  ⟨r0_11, head lam w (View.ld x1 r0_5) k0_pay3 (View.ld x2 r0_2) (View.ld x3 r0_2) (View.ld x4 r0_8) (View.ld x5 r0_8) (View.ld x6 r0_10)⟩,
  ⟨r0_9, head lam w (View.ld x1 r0_5) k0_pay4 (View.ld x2 r0_1) (View.ld x3 r0_1) (View.ld x4 r0_3) (View.ld x5 r0_3) (View.ld x6 r0_7)⟩,
  ⟨r0_6, head lam w (View.ld x1 r0_5) k0_pay3 (View.ld x2 r0_1) (View.ld x3 r0_1) (View.ld x4 r0_3) (View.ld x5 r0_3) (View.ld x6 r0_4)⟩]

/-- What a grid point leaves in its output block: the four heads' columns. -/
theorem out_eq (x0 : Vec Ideal S4x64 .f32) (x1 : Vec Ideal S1x128 .f32) (x2 x3 : Vec Ideal S512x256 .f32) (x4 x5 : Vec Ideal S1x4352x256 .bf16)
    (x6 : Vec Ideal S1x512x4352 .bf16) :
    out0_7 x0 x1 x2 x3 x4 x5 x6 = pieces (k0_pay2 (View.ld x0 r0_0)) 0x3F4CCCCD#32 x1 x2 x3 x4 x5 x6 := rfl

/-- A mask that keeps exactly the lanes of half `z`. -/
def Keeps (mask : IVec S512x128 1) (z : ℕ) : Prop := ∀ (r : Fin 512) (l : Fin 128), mask (ix2 r l) = if l.val / 64 = z then 1#1 else 0#1

/-- The first mask keeps the lower half. -/
theorem keeps_lo : Keeps k0_pay3 0 := fun r l => by
  refine Eq.trans ?_ (lane_lt l)
  show IntOp.cmpi .slt (iota .tc S512x128 32 [1] iota_S512x128_d1_w32 (ix2 r l)) 64#32 = _
  rw [iota_single_apply]

/-- The second mask keeps the upper half. -/
theorem keeps_hi : Keeps k0_pay4 1 := fun r l => by
  refine Eq.trans ?_ (lane_ge l)
  show IntOp.xori (IntOp.cmpi .slt (iota .tc S512x128 32 [1] iota_S512x128_d1_w32 (ix2 r l)) 64#32) 1#1 = _
  rw [iota_single_apply]

/-- The real score of a key against a query: their dot product over 64 lanes from `z * 64`, over eight. -/
def score (z : ℕ) (hz : z < 2) (kr : Fin 4352 → Fin 128 → ℝ) (qr : Fin 128 → ℝ) (key : Fin 4352) : ℝ :=
  (∑ e : Fin 64, qr ⟨z * 64 + e.val, by omega⟩ * kr key ⟨z * 64 + e.val, by omega⟩) * (1 / 8)

/-- The masked scores at finite queries and keys: the real score over the logarithm of two. -/
theorem scores_apply {mask : IVec S512x128 1} {z : ℕ} (hz : z < 2) (hm : Keeps mask z) (q : FVec Ideal S512x128 .f32)
    (k : Vec Ideal S1x4352x128 .bf16) (r : Fin 512) (kr : Fin 4352 → Fin 128 → ℝ) (qr : Fin 128 → ℝ)
    (hq : ∀ l, q (ix2 r l) = (qr l : EReal)) (hk : ∀ key l, k (ix3 ⟨0, Nat.one_pos⟩ key l) = (kr key l : EReal)) (key : Fin 4352) :
    scores mask q k (ix2 key r) = ((score z hz kr qr key * (Real.log 2)⁻¹ : ℝ) : EReal) := by
  refine (Ideal.matmul_transposedRhs_apply none _ _ _ key r).trans ?_
  show Ideal.ofBits .f32 0x00000000#32 + _ = _
  rw [Ideal.ofBits_zero_f32, zero_add, sum_coe_mul _ _ (kr key) (fun l => if l.val / 64 = z then qr l * (1 / 8 * (Real.log 2)⁻¹) else 0)
    (fun l => ?_) fun l => ?_]
  · congr 1
    simp only [mul_ite, mul_zero]
    rw [sum_half z hz fun l => kr key l * (qr l * (1 / 8 * (Real.log 2)⁻¹)), score, Finset.sum_mul, Finset.sum_mul]
    exact Finset.sum_congr rfl fun e _ => by ring
  · rw [← hk]
    refine (shapeCast_dropUnit_apply ![4352, 128] k shapeCasts_S1x4352x128_S4352x128 (ix2 key l)).trans (congrArg k ?_)
    funext a
    match a with
    | ⟨0, _⟩ => rfl
    | ⟨1, _⟩ => rfl
    | ⟨2, _⟩ => rfl
  · show Scalar.select (mask (ix2 r l)) (q (ix2 r l) * Named.named (F := Ideal) κ "diff_scale_log2e" (φ := .f32) 0x3E38AA3B#32) (Ideal.ofBits .bf16 0x0000#16) = _
    rw [hm r l, hq, scale_named, ofBits_zero_bf16]
    split
    · exact (EReal.coe_mul _ _).symm
    · rfl

/-- One map's output at a value dimension and a query is the attention of the real scores over that dimension. -/
theorem half_apply {mask : IVec S512x128 1} {z : ℕ} (hz : z < 2) (hm : Keeps mask z) (q : FVec Ideal S512x128 .f32)
    (k : Vec Ideal S1x4352x128 .bf16) (v : Vec Ideal S1x128x4352 .bf16) (r : Fin 512) (kr : Fin 4352 → Fin 128 → ℝ) (qr : Fin 128 → ℝ)
    (hq : ∀ l, q (ix2 r l) = (qr l : EReal)) (hk : ∀ key l, k (ix3 ⟨0, Nat.one_pos⟩ key l) = (kr key l : EReal)) (x : Fin 128) :
    half mask q k v (ix2 x r) = attn (score z hz kr qr) fun key => v (ix3 ⟨0, Nat.one_pos⟩ x key) := by
  refine (block_apply (n := 4352) (t := 512) (d := 128) (e := 144) (by decide) (by decide) (by decide) (scores mask q k) _
    reduces_S4352x512_S512 (.inl rfl) rfl shapeCasts_S512_S1x512 broadcasts_S1x512_S4352x512 bitsLt_bf16_f32
    concatenates_S128x4352_S16x4352_S144x4352_d0 slices_S144x512_o0_0_S128x512 slices_S144x512_o128_0_S1x512 broadcasts_S1x512_S128x512
    r x (score z hz kr qr) fun key => scores_apply hz hm q k r kr qr hq hk key).trans ?_
  congr 1
  funext key
  refine (shapeCast_dropUnit_apply ![128, 4352] v shapeCasts_S1x128x4352_S128x4352 (ix2 x key)).trans (congrArg v ?_)
  funext a
  match a with
  | ⟨0, _⟩ => rfl
  | ⟨1, _⟩ => rfl
  | ⟨2, _⟩ => rfl

/-- The product of two rows of the four, summed. -/
theorem rows_sum (t : Vec Ideal S4x64 .f32) (i j : Fin 4) (hi : S4x64.Slices ![i.val, 0] S1x64) (hj : S4x64.Slices ![j.val, 0] S1x64) :
    shapeCast S1x1 (multiReduction (F := Ideal) (φ := .f32) .add [1] S1 (mulf (F := Ideal) (φ := .f32) (extractStridedSlice S1x64 ![i.val, 0] t hi)
      (extractStridedSlice S1x64 ![j.val, 0] t hj)) 0x00000000#32 reduces_S1x64_S1 (.inl rfl) rfl) shapeCasts_S1_S1x1 (ix2 (0 : Fin 1) (0 : Fin 1))
      = ∑ e : Fin 64, t (ix2 i e) * t (ix2 j e) := by
  refine (shapeCast_apply _ shapeCasts_S1_S1x1 (ix2 (0 : Fin 1) (0 : Fin 1)) (ix1 (0 : Fin 1)) (by simp [Shape.rowMajor_val_two, Shape.rowMajor_val_one])).trans ?_
  refine (Ideal.multiReduction_add_single _ _ reduces_S1x64_S1 _ _ (ix1 (0 : Fin 1))).trans (Finset.sum_congr rfl fun e _ => ?_)
  have hl : reduces_S1x64_S1.lift (ix1 (0 : Fin 1)) e = (ix2 (0 : Fin 1) e : S1x64.Idx) := funext fun a => Fin.ext (by
    match a with
    | ⟨0, _⟩ => rfl
    | ⟨1, _⟩ => rfl)
  refine congrArg₂ (fun a b : EReal => a * b) ?_ ?_
  · refine (congrArg _ hl).trans (extractStridedSlice_apply ![i.val, 0] t hi (ix2 (0 : Fin 1) e) (ix2 i e) fun a => match a with
      | ⟨0, _⟩ => rfl
      | ⟨1, _⟩ => by show e.val = 0 + e.val; omega)
  · refine (congrArg _ hl).trans (extractStridedSlice_apply ![j.val, 0] t hj (ix2 (0 : Fin 1) e) (ix2 j e) fun a => match a with
      | ⟨0, _⟩ => rfl
      | ⟨1, _⟩ => by show e.val = 0 + e.val; omega)

/-- The number the second map is multiplied by. -/
theorem lam_apply (t : Vec Ideal S4x64 .f32) : k0_pay2 t (ix2 (0 : Fin 1) (0 : Fin 1)) = lamOf 0x3E4CCCCD#32 t := by
  unfold lamOf
  rw [← rows_sum t 0 1 slices_S4x64_o0_0_S1x64 slices_S4x64_o1_0_S1x64, ← rows_sum t 2 3 slices_S4x64_o2_0_S1x64 slices_S4x64_o3_0_S1x64]
  rfl

/-- The difference at a query and a value dimension. -/
theorem diffT_apply (lam : FVec Ideal S1x1 .f32) (a b : FVec Ideal S128x512 .f32) (r : Fin 512) (x : Fin 128) :
    diffT lam a b (ix2 r x) = a (ix2 x r) - lam (ix2 (0 : Fin 1) (0 : Fin 1)) * b (ix2 x r) := by
  refine (transpose_apply [1, 0] _ transposes_S128x512_p1_0_S512x128 (ix2 r x) (ix2 x r) (fun b => match b with
    | ⟨0, _⟩ => rfl
    | ⟨1, _⟩ => rfl)).trans ?_
  refine congrArg (fun z : EReal => a (ix2 x r) - z * b (ix2 x r)) ?_
  exact broadcastTo_apply lam broadcasts_S1x1_S128x512 (ix2 x r) (ix2 (0 : Fin 1) (0 : Fin 1)) fun a => match a with
    | ⟨0, _⟩ => by show 0 = if (1 : Nat) = 1 then 0 else x.val; rw [if_pos rfl]
    | ⟨1, _⟩ => by show 0 = if (1 : Nat) = 1 then 0 else r.val; rw [if_pos rfl]

/-- The normalised rows at a query and a value dimension. -/
theorem normT_apply (w : BitVec 32) (D : FVec Ideal S512x128 .f32) (g : Vec Ideal S1x128 .f32) (r : Fin 512) (x : Fin 128) :
    normT w D g (ix2 r x) = normOf w (fun j => D (ix2 r j)) (fun j => g (ix2 (0 : Fin 1) j)) x := by
  have e1 : broadcastTo S512x128 (rsqrt (addf (divf (shapeCast S512x1
      (multiReduction (F := Ideal) (φ := .f32) .add [1] S512 (mulf D D) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128 (ix2 r x)
      = Ideal.rsqrt (Ideal.div (∑ j : Fin 128, D (ix2 r j) * D (ix2 r j)) (Ideal.ofBits .f32 0x43000000#32) + Ideal.ofBits .f32 0x358637BD#32) := by
    refine (broadcastTo_apply _ broadcasts_S512x1_S512x128 (ix2 r x) (ix2 r (0 : Fin 1)) (fun a => match a with
      | ⟨0, _⟩ => by show r.val = if (512 : Nat) = 1 then 0 else r.val; rw [if_neg (by decide)]
      | ⟨1, _⟩ => by show 0 = if (1 : Nat) = 1 then 0 else x.val; rw [if_pos rfl])).trans ?_
    refine congrArg (fun s => Ideal.rsqrt (Ideal.div s (Ideal.ofBits .f32 0x43000000#32) + Ideal.ofBits .f32 0x358637BD#32))
      ((shapeCast_apply _ shapeCasts_S512_S512x1 (ix2 r (0 : Fin 1)) (ix1 r) (by simp [Shape.rowMajor_val_two, Shape.rowMajor_val_one])).trans ?_)
    refine (Ideal.multiReduction_add_single _ _ reduces_S512x128_S512 _ _ (ix1 r)).trans (Finset.sum_congr rfl fun j _ => ?_)
    refine congrArg (fun i => D i * D i) (funext fun a => Fin.ext ?_)
    match a with
    | ⟨0, _⟩ => rfl
    | ⟨1, _⟩ => rfl
  have e2 : broadcastTo S512x128 g broadcasts_S1x128_S512x128 (ix2 r x) = g (ix2 (0 : Fin 1) x) :=
    broadcastTo_apply g broadcasts_S1x128_S512x128 (ix2 r x) (ix2 (0 : Fin 1) x) fun a => match a with
      | ⟨0, _⟩ => by show 0 = if (1 : Nat) = 1 then 0 else r.val; rw [if_pos rfl]
      | ⟨1, _⟩ => by show x.val = if (128 : Nat) = 1 then 0 else x.val; rw [if_neg (by decide)]
  exact congrArg₂ (fun a b : EReal => D (ix2 r x) * a * b * Ideal.ofBits .f32 w) e1 e2

/-- The real score of a key for head `z` of a block: columns `z * 64` to `z * 64 + 63` of one map's 256. -/
def bscore (kr : Fin 4352 → Fin 256 → ℝ) (qr : Fin 256 → ℝ) (z : Fin 4) (key : Fin 4352) : ℝ :=
  (∑ e : Fin 64, qr ⟨z.val * 64 + e.val, by omega⟩ * kr key ⟨z.val * 64 + e.val, by omega⟩) * (1 / 8)

/-- A head's difference of maps in a block, at a value dimension. -/
def bhead (L : EReal) (q0 q1 : Fin 256 → ℝ) (k0 k1 : Fin 4352 → Fin 256 → ℝ) (v : Vec Ideal S1x512x4352 .bf16) (z : Fin 4) (x : Fin 128) : EReal :=
  attn (bscore k0 q0 z) (fun key => v (ix3 ⟨0, Nat.one_pos⟩ (⟨z.val * 128 + x.val, by omega⟩ : Fin 512) key))
    - L * attn (bscore k1 q1 z) (fun key => v (ix3 ⟨0, Nat.one_pos⟩ (⟨z.val * 128 + x.val, by omega⟩ : Fin 512) key))

/-- The block's output at a query and a column, of finite queries and keys. -/
def blockVal (L : EReal) (w : BitVec 32) (g : Vec Ideal S1x128 .f32) (q0 q1 : Fin 256 → ℝ) (k0 k1 : Fin 4352 → Fin 256 → ℝ)
    (v : Vec Ideal S1x512x4352 .bf16) (c : Fin 512) : EReal :=
  normOf w (bhead L q0 q1 k0 k1 v ⟨c.val / 128, by omega⟩) (fun x => g (ix2 (0 : Fin 1) x)) ⟨c.val % 128, by omega⟩

/-- One map of one head, read through its rectangles. -/
theorem map_apply {mask : IVec S512x128 1} (z : Fin 4) (hm : Keeps mask (z.val % 2)) (x2 : Vec Ideal S512x256 .f32) (x4 : Vec Ideal S1x4352x256 .bf16)
    (x6 : Vec Ideal S1x512x4352 .bf16) (qr : Fin 256 → ℝ) (kr : Fin 4352 → Fin 256 → ℝ) (r : Fin 512) (hq : ∀ c, x2 (ix2 r c) = (qr c : EReal))
    (hk : ∀ key l, x4 (ix3 ⟨0, Nat.one_pos⟩ key l) = (kr key l : EReal))
    (i0 : ∀ a, (![0, z.val / 2 * 128] : Fin 2 → ℕ) a + S512x128.size a ≤ S512x256.size a)
    (i1 : ∀ a, (![0, 0, z.val / 2 * 128] : Fin 3 → ℕ) a + S1x4352x128.size a ≤ S1x4352x256.size a)
    (i2 : ∀ a, (![0, z.val * 128, 0] : Fin 3 → ℕ) a + S1x128x4352.size a ≤ S1x512x4352.size a) (x : Fin 128) :
    half mask (View.ld x2 (Rect.unit (s := S512x256) ![0, z.val / 2 * 128] S512x128.size i0))
        (View.ld x4 (Rect.unit (s := S1x4352x256) ![0, 0, z.val / 2 * 128] S1x4352x128.size i1))
        (View.ld x6 (Rect.unit (s := S1x512x4352) ![0, z.val * 128, 0] S1x128x4352.size i2)) (ix2 x r)
      = attn (bscore kr qr z) fun key => x6 (ix3 ⟨0, Nat.one_pos⟩ (⟨z.val * 128 + x.val, by omega⟩ : Fin 512) key) := by
  rw [half_apply (by omega) hm _ _ _ r (fun key l => kr key ⟨z.val / 2 * 128 + l.val, by omega⟩) (fun l => qr ⟨z.val / 2 * 128 + l.val, by omega⟩)
    (fun l => ?_) (fun key l => ?_)]
  · unfold bscore score
    congr 1
    · funext key
      congr 1
      refine Finset.sum_congr rfl fun e _ => ?_
      have he : z.val / 2 * 128 + (z.val % 2 * 64 + e.val) = z.val * 64 + e.val := by omega
      exact congrArg₂ (· * ·) (congrArg qr (Fin.ext he)) (congrArg (kr key) (Fin.ext he))
    · funext key
      exact ld_unit_at x6 _ _ i2 _ (ix3 ⟨0, Nat.one_pos⟩ (⟨z.val * 128 + x.val, by omega⟩ : Fin 512) key) (fun a => match a with
        | ⟨0, _⟩ => rfl
        | ⟨1, _⟩ => rfl
        | ⟨2, _⟩ => by show key.val = 0 + key.val; omega)
  · exact (ld_unit_at x2 _ _ i0 _ (ix2 r ⟨z.val / 2 * 128 + l.val, by omega⟩) (fun a => match a with
        | ⟨0, _⟩ => by show r.val = 0 + r.val; omega
        | ⟨1, _⟩ => rfl)).trans (hq _)
  · exact (ld_unit_at x4 _ _ i1 _ (ix3 ⟨0, Nat.one_pos⟩ key ⟨z.val / 2 * 128 + l.val, by omega⟩) (fun a => match a with
        | ⟨0, _⟩ => rfl
        | ⟨1, _⟩ => by show key.val = 0 + key.val; omega
        | ⟨2, _⟩ => rfl)).trans (hk _ _)

/-- The offsets of a whole block. -/
theorem zero2 : (![0, 0] : Fin 2 → ℕ) = fun _ => 0 := by funext a; fin_cases a <;> rfl

/-- One head's payload is the block's value under its rectangle. -/
theorem piece_apply {mask : IVec S512x128 1} (z : Fin 4) (hm : Keeps mask (z.val % 2)) (L : EReal) (w : BitVec 32)
    (lam : FVec Ideal S1x1 .f32) (hl : lam (ix2 (0 : Fin 1) (0 : Fin 1)) = L) (x1 : Vec Ideal S1x128 .f32)
    (x2 x3 : Vec Ideal S512x256 .f32) (x4 x5 : Vec Ideal S1x4352x256 .bf16) (x6 : Vec Ideal S1x512x4352 .bf16)
    (q0 q1 : Fin 512 → Fin 256 → ℝ) (k0 k1 : Fin 4352 → Fin 256 → ℝ)
    (hq0 : ∀ r c, x2 (ix2 r c) = (q0 r c : EReal)) (hq1 : ∀ r c, x3 (ix2 r c) = (q1 r c : EReal))
    (hk0 : ∀ key l, x4 (ix3 ⟨0, Nat.one_pos⟩ key l) = (k0 key l : EReal)) (hk1 : ∀ key l, x5 (ix3 ⟨0, Nat.one_pos⟩ key l) = (k1 key l : EReal))
    (i0 : ∀ a, (![0, z.val / 2 * 128] : Fin 2 → ℕ) a + S512x128.size a ≤ S512x256.size a)
    (i1 : ∀ a, (![0, 0, z.val / 2 * 128] : Fin 3 → ℕ) a + S1x4352x128.size a ≤ S1x4352x256.size a)
    (i2 : ∀ a, (![0, z.val * 128, 0] : Fin 3 → ℕ) a + S1x128x4352.size a ≤ S1x512x4352.size a)
    (r : Fin 512) (l : Fin 128) :
    head lam w (View.ld x1 r0_5) mask (View.ld x2 (Rect.unit (s := S512x256) ![0, z.val / 2 * 128] S512x128.size i0))
        (View.ld x3 (Rect.unit (s := S512x256) ![0, z.val / 2 * 128] S512x128.size i0))
        (View.ld x4 (Rect.unit (s := S1x4352x256) ![0, 0, z.val / 2 * 128] S1x4352x128.size i1))
        (View.ld x5 (Rect.unit (s := S1x4352x256) ![0, 0, z.val / 2 * 128] S1x4352x128.size i1))
        (View.ld x6 (Rect.unit (s := S1x512x4352) ![0, z.val * 128, 0] S1x128x4352.size i2)) (ix2 r l)
      = blockVal L w x1 (q0 r) (q1 r) k0 k1 x6 ⟨z.val * 128 + l.val, by omega⟩ := by
  unfold head
  rw [normT_apply, View.ld_unit_zero (S := S1x128) zero2]
  unfold blockVal
  have ez : (⟨(z.val * 128 + l.val) / 128, by omega⟩ : Fin 4) = z := Fin.ext (by show (z.val * 128 + l.val) / 128 = z.val; omega)
  have el : (⟨(z.val * 128 + l.val) % 128, by omega⟩ : Fin 128) = l := Fin.ext (by show (z.val * 128 + l.val) % 128 = l.val; omega)
  refine (congrArg (fun d => normOf w d (fun j => x1 (ix2 (0 : Fin 1) j)) l) (funext fun x => ?_)).trans
    (congrArg₂ (fun a b => normOf w (bhead L (q0 r) (q1 r) k0 k1 x6 a) (fun j => x1 (ix2 (0 : Fin 1) j)) b) ez.symm el.symm)
  rw [diffT_apply, hl, map_apply z hm x2 x4 x6 (q0 r) k0 r (hq0 r) hk0, map_apply z hm x3 x5 x6 (q1 r) k1 r (hq1 r) hk1]
  rfl

/-- **A grid point's output**: at every query and column of the block, the normalised difference of the column's head. -/
theorem pieces_apply (L : EReal) (w : BitVec 32) (lam : FVec Ideal S1x1 .f32) (hl : lam (ix2 (0 : Fin 1) (0 : Fin 1)) = L) (x1 : Vec Ideal S1x128 .f32)
    (x2 x3 : Vec Ideal S512x256 .f32) (x4 x5 : Vec Ideal S1x4352x256 .bf16) (x6 : Vec Ideal S1x512x4352 .bf16)
    (q0 q1 : Fin 512 → Fin 256 → ℝ) (k0 k1 : Fin 4352 → Fin 256 → ℝ)
    (hq0 : ∀ r c, x2 (ix2 r c) = (q0 r c : EReal)) (hq1 : ∀ r c, x3 (ix2 r c) = (q1 r c : EReal))
    (hk0 : ∀ key l, x4 (ix3 ⟨0, Nat.one_pos⟩ key l) = (k0 key l : EReal)) (hk1 : ∀ key l, x5 (ix3 ⟨0, Nat.one_pos⟩ key l) = (k1 key l : EReal))
    (y : S512x512.Idx) :
    pieces lam w x1 x2 x3 x4 x5 x6 y = blockVal L w x1 (q0 (y 0)) (q1 (y 0)) k0 k1 x6 (y 1) := by
  unfold pieces
  refine View.canon_apply_of_pieces (Val := Elt Ideal) (S := S512x512) (e := .bf16) (fun y => blockVal L w x1 (q0 (y 0)) (q1 (y 0)) k0 k1 x6 (y 1)) _ ?_ y
    (cover0_7 _ _ _ _ y)
  intro p hp
  simp only [List.mem_cons, List.not_mem_nil, or_false] at hp
  have hx : ∀ x : S512x128.Idx, x = ix2 (x 0) (x 1) := fun x => eq_ix2 x
  have emb0 : ∀ (r : Fin 512), (⟨0 + 1 * r.val, by omega⟩ : Fin 512) = r := fun r => Fin.ext (by show 0 + 1 * r.val = r.val; omega)
  have emb1 : ∀ (j : ℕ) (l : Fin 128) (h : j * 128 + 1 * l.val < 512) (h' : j * 128 + l.val < 512), (⟨j * 128 + 1 * l.val, h⟩ : Fin 512) = ⟨j * 128 + l.val, h'⟩ :=
    fun j l h h' => Fin.ext (by show j * 128 + 1 * l.val = j * 128 + l.val; omega)
  rcases hp with rfl | rfl | rfl | rfl <;> intro x
  · refine ((congrArg _ (hx x)).trans (piece_apply (3 : Fin 4) keeps_hi L w lam hl x1 x2 x3 x4 x5 x6 q0 q1 k0 k1 hq0 hq1 hk0 hk1 inb_S512x256_S512x128_0_128
      inb_S1x4352x256_S1x4352x128_0_0_128 inb_S1x512x4352_S1x128x4352_0_384_0 (x 0) (x 1))).trans ?_
    exact congrArg₂ (fun a b => blockVal L w x1 (q0 a) (q1 a) k0 k1 x6 b) (emb0 (x 0)).symm (emb1 3 (x 1) _ _).symm
  · refine ((congrArg _ (hx x)).trans (piece_apply (2 : Fin 4) keeps_lo L w lam hl x1 x2 x3 x4 x5 x6 q0 q1 k0 k1 hq0 hq1 hk0 hk1 inb_S512x256_S512x128_0_128
      inb_S1x4352x256_S1x4352x128_0_0_128 inb_S1x512x4352_S1x128x4352_0_256_0 (x 0) (x 1))).trans ?_
    exact congrArg₂ (fun a b => blockVal L w x1 (q0 a) (q1 a) k0 k1 x6 b) (emb0 (x 0)).symm (emb1 2 (x 1) _ _).symm
  · refine ((congrArg _ (hx x)).trans (piece_apply (1 : Fin 4) keeps_hi L w lam hl x1 x2 x3 x4 x5 x6 q0 q1 k0 k1 hq0 hq1 hk0 hk1 inb_S512x256_S512x128_0_0
      inb_S1x4352x256_S1x4352x128_0_0_0 inb_S1x512x4352_S1x128x4352_0_128_0 (x 0) (x 1))).trans ?_
    exact congrArg₂ (fun a b => blockVal L w x1 (q0 a) (q1 a) k0 k1 x6 b) (emb0 (x 0)).symm (emb1 1 (x 1) _ _).symm
  · refine ((congrArg _ (hx x)).trans (piece_apply (0 : Fin 4) keeps_lo L w lam hl x1 x2 x3 x4 x5 x6 q0 q1 k0 k1 hq0 hq1 hk0 hk1 inb_S512x256_S512x128_0_0
      inb_S1x4352x256_S1x4352x128_0_0_0 inb_S1x512x4352_S1x128x4352_0_0_0 (x 0) (x 1))).trans ?_
    exact congrArg₂ (fun a b => blockVal L w x1 (q0 a) (q1 a) k0 k1 x6 b) (emb0 (x 0)).symm (emb1 0 (x 1) _ _).symm

end Cert.DiffVal

end
-- ==== Proof.DiffArray.lean ====
/- The differential attention kernel's result array: every grid point's block is its block of `Attn.diff` of the five arguments,
   and the blocks tile the array. -/
module

public import proofs.«01_k».proof.Proof.DiffBlock

@[expose] public section

noncomputable section

namespace Cert.DiffVal

open Cert.DiffIdeal Cert.DiffIdeal.Gen Cert.Attn Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The keys as the kernel finds them. -/
theorem V_keys (c : Dev nD) : V m c main_v0 = truncf (F := Ideal) .bf16 (m ((c : Thread nD τ).loc main_arg3)) bitsLt_bf16_f32 := by
  unfold V
  after_results

/-- The values as the kernel finds them: transposed. -/
theorem V_values (c : Dev nD) : V m c main_v2 = truncf (F := Ideal) .bf16
    (transpose S4x512x4352 [0, 2, 1] (m ((c : Thread nD τ).loc main_arg4)) transposes_S4x4352x512_S4x512x4352_0_2_1) bitsLt_bf16_f32 := by
  unfold V
  after_results

/-- The keys as the kernel finds them, at an index. -/
theorem V_keys_apply (c : Dev nD) (i : S4x4352x512.Idx) : V m c main_v0 i = m ((c : Thread nD τ).loc main_arg3) i := by
  rw [V_keys]
  rfl

/-- The transposed values at an index. -/
theorem V_values_apply (c : Dev nD) (b : Fin 4) (d : Fin 512) (key : Fin 4352) :
    V m c main_v2 (ix3 b d key) = m ((c : Thread nD τ).loc main_arg4) (ix3 b key d) := by
  rw [V_values]
  exact transpose_apply [0, 2, 1] _ transposes_S4x4352x512_S4x512x4352_0_2_1 (ix3 b d key) (ix3 b key d) fun a => match a with
    | ⟨0, _⟩ => rfl
    | ⟨1, _⟩ => rfl
    | ⟨2, _⟩ => rfl

/-- Where the blocks of the small operands, the queries and the result sit at a grid point. -/
theorem index_rows : ∀ t : Fin cfg0.N, win0_0.index t 0 = 0 ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 1
    ∧ win0_7.index t 0 = t.val ∧ win0_7.index t 1 = 0 :=
  (by decide +kernel : ∀ t : Fin grid0.N, win0_0.index t 0 = 0 ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 1
    ∧ win0_7.index t 0 = t.val ∧ win0_7.index t 1 = 0)

/-- Where the blocks of the keys and the values sit at a grid point. -/
theorem index_keys : ∀ t : Fin cfg0.N, win0_4.index t 0 = t.val / 8 ∧ win0_4.index t 1 = 0 ∧ win0_4.index t 2 = 0
    ∧ win0_5.index t 0 = t.val / 8 ∧ win0_5.index t 1 = 0 ∧ win0_5.index t 2 = 1
    ∧ win0_6.index t 0 = t.val / 8 ∧ win0_6.index t 1 = 0 ∧ win0_6.index t 2 = 0 :=
  (by decide +kernel : ∀ t : Fin grid0.N, win0_4.index t 0 = t.val / 8 ∧ win0_4.index t 1 = 0 ∧ win0_4.index t 2 = 0
    ∧ win0_5.index t 0 = t.val / 8 ∧ win0_5.index t 1 = 0 ∧ win0_5.index t 2 = 1
    ∧ win0_6.index t 0 = t.val / 8 ∧ win0_6.index t 1 = 0 ∧ win0_6.index t 2 = 0)

/-- The number of grid points. -/
theorem point_lt (t : Fin cfg0.N) : t.val < 32 := lt_of_lt_of_eq t.isLt N_0

/-- Where an element of the result's block sits in the array. -/
theorem emb_out (t : Fin cfg0.N) (r : Fin 512) (l : Fin 512) :
    ((cfg0.win 7).blk t).view.emb (ix2 r l) = (ix2 (⟨t.val * 512 + r.val, by have := point_lt t; omega⟩ : Fin 16384) l : S16384x512.Idx) := by
  obtain ⟨_, _, _, _, _, _, _, _, e0, e1⟩ := index_rows t
  funext a; apply Fin.ext
  match a with
  | ⟨0, _⟩ => show win0_7.index t (0 : Fin 2) * 512 + 1 * r.val = t.val * 512 + r.val; omega
  | ⟨1, _⟩ => show win0_7.index t (1 : Fin 2) * 512 + 1 * l.val = l.val; omega

/-- The first operand's block is the whole argument. -/
theorem blk_t (c : Dev nD) (t : Fin cfg0.N) : (iblk m c 0 t : Vec Ideal S4x64 .f32) = m ((c : Thread nD τ).loc main_arg0) := by
  obtain ⟨e0, e1, _⟩ := index_rows t
  rw [← V_main_arg0 m c]
  funext i
  show V m c main_arg0 (((cfg0.win 0).blk t).view.emb i) = _
  congr 1
  funext a; apply Fin.ext
  match a with
  | ⟨0, _⟩ => show win0_0.index t (0 : Fin 2) * 4 + 1 * (i 0).val = (i 0).val; omega
  | ⟨1, _⟩ => show win0_0.index t (1 : Fin 2) * 64 + 1 * (i 1).val = (i 1).val; omega

/-- The gains' block is the whole argument. -/
theorem blk_g (c : Dev nD) (t : Fin cfg0.N) : (iblk m c 1 t : Vec Ideal S1x128 .f32) = m ((c : Thread nD τ).loc main_arg1) := by
  obtain ⟨_, _, e0, e1, _⟩ := index_rows t
  rw [← V_main_arg1 m c]
  funext i
  show V m c main_arg1 (((cfg0.win 1).blk t).view.emb i) = _
  congr 1
  funext a; apply Fin.ext
  match a with
  | ⟨0, _⟩ => show win0_1.index t (0 : Fin 2) * 1 + 1 * (i 0).val = (i 0).val; omega
  | ⟨1, _⟩ => show win0_1.index t (1 : Fin 2) * 128 + 1 * (i 1).val = (i 1).val; omega

/-- The first map's queries at an index. -/
theorem blk_q0 (c : Dev nD) (t : Fin cfg0.N) (r : Fin 512) (l : Fin 256) :
    iblk m c 2 t (ix2 r l) = lowRows (w := 512) (m ((c : Thread nD τ).loc main_arg2))
      (ix2 (⟨t.val * 512 + r.val, by have := point_lt t; omega⟩ : Fin 16384) (⟨l.val, by omega⟩ : Fin 512)) := by
  obtain ⟨_, _, _, _, e0, e1, _⟩ := index_rows t
  rw [← V_main_arg2 m c]
  show V m c main_arg2 (((cfg0.win 2).blk t).view.emb (ix2 r l)) = V m c main_arg2
    (ix2 (⟨t.val * 512 + r.val, by have := point_lt t; omega⟩ : Fin 17408) (⟨l.val, by omega⟩ : Fin 512))
  congr 1
  funext a; apply Fin.ext
  match a with
  | ⟨0, _⟩ => show win0_2.index t (0 : Fin 2) * 512 + 1 * r.val = t.val * 512 + r.val; omega
  | ⟨1, _⟩ => show win0_2.index t (1 : Fin 2) * 256 + 1 * l.val = l.val; omega

/-- The second map's queries at an index. -/
theorem blk_q1 (c : Dev nD) (t : Fin cfg0.N) (r : Fin 512) (l : Fin 256) :
    iblk m c 3 t (ix2 r l) = lowRows (w := 512) (m ((c : Thread nD τ).loc main_arg2))
      (ix2 (⟨t.val * 512 + r.val, by have := point_lt t; omega⟩ : Fin 16384) (⟨256 + l.val, by omega⟩ : Fin 512)) := by
  obtain ⟨_, _, _, _, _, _, e0, e1, _⟩ := index_rows t
  rw [← V_main_arg2 m c]
  show V m c main_arg2 (((cfg0.win 3).blk t).view.emb (ix2 r l)) = V m c main_arg2
    (ix2 (⟨t.val * 512 + r.val, by have := point_lt t; omega⟩ : Fin 17408) (⟨256 + l.val, by omega⟩ : Fin 512))
  congr 1
  funext a; apply Fin.ext
  match a with
  | ⟨0, _⟩ => show win0_3.index t (0 : Fin 2) * 512 + 1 * r.val = t.val * 512 + r.val; omega
  | ⟨1, _⟩ => show win0_3.index t (1 : Fin 2) * 256 + 1 * l.val = 256 + l.val; omega

/-- The first map's keys at an index. -/
theorem blk_k0 (c : Dev nD) (t : Fin cfg0.N) (key : Fin 4352) (l : Fin 256) :
    iblk m c 4 t (ix3 ⟨0, Nat.one_pos⟩ key l) = m ((c : Thread nD τ).loc main_arg3)
      (ix3 (⟨t.val / 8, by have := point_lt t; omega⟩ : Fin 4) key (⟨l.val, by omega⟩ : Fin 512)) := by
  obtain ⟨e0, e1, e2, _⟩ := index_keys t
  rw [← V_keys_apply m c]
  show V m c main_v0 (((cfg0.win 4).blk t).view.emb (ix3 ⟨0, Nat.one_pos⟩ key l)) = _
  congr 1
  funext a; apply Fin.ext
  match a with
  | ⟨0, _⟩ => show win0_4.index t (0 : Fin 3) * 1 + 1 * 0 = t.val / 8; omega
  | ⟨1, _⟩ => show win0_4.index t (1 : Fin 3) * 4352 + 1 * key.val = key.val; omega
  | ⟨2, _⟩ => show win0_4.index t (2 : Fin 3) * 256 + 1 * l.val = l.val; omega

/-- The second map's keys at an index. -/
theorem blk_k1 (c : Dev nD) (t : Fin cfg0.N) (key : Fin 4352) (l : Fin 256) :
    iblk m c 5 t (ix3 ⟨0, Nat.one_pos⟩ key l) = m ((c : Thread nD τ).loc main_arg3)
      (ix3 (⟨t.val / 8, by have := point_lt t; omega⟩ : Fin 4) key (⟨256 + l.val, by omega⟩ : Fin 512)) := by
  obtain ⟨_, _, _, e0, e1, e2, _⟩ := index_keys t
  rw [← V_keys_apply m c]
  show V m c main_v0 (((cfg0.win 5).blk t).view.emb (ix3 ⟨0, Nat.one_pos⟩ key l)) = _
  congr 1
  funext a; apply Fin.ext
  match a with
  | ⟨0, _⟩ => show win0_5.index t (0 : Fin 3) * 1 + 1 * 0 = t.val / 8; omega
  | ⟨1, _⟩ => show win0_5.index t (1 : Fin 3) * 4352 + 1 * key.val = key.val; omega
  | ⟨2, _⟩ => show win0_5.index t (2 : Fin 3) * 256 + 1 * l.val = 256 + l.val; omega

/-- The values' block at an index. -/
theorem blk_v (c : Dev nD) (t : Fin cfg0.N) (d : Fin 512) (key : Fin 4352) :
    iblk m c 6 t (ix3 ⟨0, Nat.one_pos⟩ d key) = m ((c : Thread nD τ).loc main_arg4)
      (ix3 (⟨t.val / 8, by have := point_lt t; omega⟩ : Fin 4) key d) := by
  obtain ⟨_, _, _, _, _, _, e0, e1, e2⟩ := index_keys t
  rw [← V_values_apply m c]
  show V m c main_v2 (((cfg0.win 6).blk t).view.emb (ix3 ⟨0, Nat.one_pos⟩ d key)) = _
  congr 1
  funext a; apply Fin.ext
  match a with
  | ⟨0, _⟩ => show win0_6.index t (0 : Fin 3) * 1 + 1 * 0 = t.val / 8; omega
  | ⟨1, _⟩ => show win0_6.index t (1 : Fin 3) * 512 + 1 * d.val = d.val; omega
  | ⟨2, _⟩ => show win0_6.index t (2 : Fin 3) * 4352 + 1 * key.val = key.val; omega

/-- Differential attention of the arguments with factor `L` and constant `w`. -/
abbrev resultOf (L : EReal) (w : BitVec 32) (c : Dev nD) : S16384x512.Idx → EReal := fun i =>
  diff L w (m ((c : Thread nD τ).loc main_arg1)) (lowRows (w := 512) (m ((c : Thread nD τ).loc main_arg2)))
    (m ((c : Thread nD τ).loc main_arg3)) (m ((c : Thread nD τ).loc main_arg4)) (i 0) (i 1)

/-- The whole result: differential attention of the five arguments. -/
abbrev result (c : Dev nD) : S16384x512.Idx → EReal := resultOf m (lamOf 0x3E4CCCCD#32 (m ((c : Thread nD τ).loc main_arg0))) 0x3F4CCCCD#32 c

/-- A grid point's four heads' columns are its block of differential attention, at finite queries and keys. -/
theorem point_apply (L : EReal) (w : BitVec 32) (lam : FVec Ideal S1x1 .f32) (hl : lam (ix2 (0 : Fin 1) (0 : Fin 1)) = L)
    (c : Dev nD) (hq : Reals (s := S16384x512) (lowRows (w := 512) (m ((c : Thread nD τ).loc main_arg2))))
    (hk : Reals (s := S4x4352x512) (m ((c : Thread nD τ).loc main_arg3))) (t : Fin cfg0.N) (y : S512x512.Idx) :
    pieces lam w (iblk m c 1 t) (iblk m c 2 t) (iblk m c 3 t) (iblk m c 4 t) (iblk m c 5 t) (iblk m c 6 t) y
      = resultOf m L w c (((cfg0.win 7).blk t).view.emb y) := by
  have ht := point_lt t
  rw [pieces_apply L w lam hl (iblk m c 1 t) (iblk m c 2 t) (iblk m c 3 t) (iblk m c 4 t) (iblk m c 5 t) (iblk m c 6 t)
    (fun r l => (lowRows (w := 512) (m ((c : Thread nD τ).loc main_arg2)) (ix2 (⟨t.val * 512 + r.val, by omega⟩ : Fin 16384) (⟨l.val, by omega⟩ : Fin 512)) : EReal).toReal)
    (fun r l => (lowRows (w := 512) (m ((c : Thread nD τ).loc main_arg2)) (ix2 (⟨t.val * 512 + r.val, by omega⟩ : Fin 16384) (⟨256 + l.val, by omega⟩ : Fin 512)) : EReal).toReal)
    (fun key l => (m ((c : Thread nD τ).loc main_arg3) (ix3 (⟨t.val / 8, by omega⟩ : Fin 4) key (⟨l.val, by omega⟩ : Fin 512)) : EReal).toReal)
    (fun key l => (m ((c : Thread nD τ).loc main_arg3) (ix3 (⟨t.val / 8, by omega⟩ : Fin 4) key (⟨256 + l.val, by omega⟩ : Fin 512)) : EReal).toReal)
    (fun r l => (blk_q0 m c t r l).trans (hq _)) (fun r l => (blk_q1 m c t r l).trans (hq _))
    (fun key l => (blk_k0 m c t key l).trans (hk _)) (fun key l => (blk_k1 m c t key l).trans (hk _)) y]
  obtain ⟨r, l, rfl⟩ : ∃ r l, y = ix2 r l := ⟨y 0, y 1, eq_ix2 y⟩
  rw [emb_out, blk_g]
  show blockVal _ _ _ _ _ _ _ (iblk m c 6 t) l = diff _ _ _ _ _ _ _ l
  unfold blockVal diff
  have eb : (⟨t.val / 8, by omega⟩ : Fin 4) = ⟨(t.val * 512 + r.val) / 4096, by omega⟩ := Fin.ext (by show t.val / 8 = (t.val * 512 + r.val) / 4096; omega)
  refine congrArg (fun d => normOf w d _ _) (funext fun x => ?_)
  rw [← eb]
  unfold bhead diffHead
  have hv : (fun key : Fin 4352 => (iblk m c 6 t : Vec Ideal S1x512x4352 .bf16) (ix3 ⟨0, Nat.one_pos⟩ (⟨l.val / 128 * 128 + x.val, by omega⟩ : Fin 512) key))
      = fun key => m ((c : Thread nD τ).loc main_arg4) (ix3 (⟨t.val / 8, by omega⟩ : Fin 4) key (⟨l.val / 128 * 128 + x.val, by omega⟩ : Fin 512)) :=
    funext fun key => blk_v m c t _ key
  refine congrArg₂ (fun a b : EReal => a - L * b) ?_ ?_
  · exact congrArg (attn _) hv
  · refine congrArg₂ attn (funext fun key => ?_) hv
    unfold bscore diffScore
    refine congrArg (· * (1 / 8 : ℝ)) (Finset.sum_congr rfl fun e _ => ?_)
    have he : 256 + (l.val / 128 * 64 + e.val) = (4 + l.val / 128) * 64 + e.val := by omega
    exact congrArg₂ (· * ·) (congrArg (fun j => EReal.toReal (lowRows (w := 512) (m ((c : Thread nD τ).loc main_arg2)) (ix2 _ j))) (Fin.ext he))
      (congrArg (fun j => EReal.toReal (m ((c : Thread nD τ).loc main_arg3) (ix3 _ key j))) (Fin.ext he))

/-- What a grid point writes back is its block of the whole result, at finite queries and keys. -/
theorem flushed_eq (c : Dev nD) (hq : Reals (s := S16384x512) (lowRows (w := 512) (m ((c : Thread nD τ).loc main_arg2))))
    (hk : Reals (s := S4x4352x512) (m ((c : Thread nD τ).loc main_arg3))) (t : Fin cfg0.N) :
    (dats m 0 c).flushed 7 t = ((cfg0.win 7).blk t).view.read (Elt Ideal) (result m c) := by
  rw [Value.flushed7]
  funext y
  show out0_7 (iblk m c 0 t) (iblk m c 1 t) (iblk m c 2 t) (iblk m c 3 t) (iblk m c 4 t) (iblk m c 5 t) (iblk m c 6 t) y
    = result m c (((cfg0.win 7).blk t).view.emb y)
  rw [out_eq]
  refine point_apply m _ _ _ ?_ c hq hk t y
  rw [lam_apply, blk_t, View.ld_unit_zero (S := S4x64) zero2]

/-- Every index of the result is in some grid point's block. -/
theorem cover (i : S16384x512.Idx) : ∃ t : Fin cfg0.N, (cfg0.win 7).flush t = true ∧ i ∈ ((cfg0.win 7).blk t).view.set := by
  have h0 : (i 0).val < 16384 := (i 0).isLt
  have hN : cfg0.N = 32 := N_0
  refine ⟨⟨(i 0).val / 512, by omega⟩, flush0_7 _, ?_⟩
  have h := ((cfg0.win 7).blk (⟨(i 0).val / 512, by omega⟩ : Fin cfg0.N)).view.emb_mem_set (ix2 (⟨(i 0).val % 512, by omega⟩ : Fin 512) (i 1 : Fin 512))
  refine (congrArg (· ∈ _) (Eq.trans ?_ (emb_out (⟨(i 0).val / 512, by omega⟩ : Fin cfg0.N) (⟨(i 0).val % 512, by omega⟩ : Fin 512) (i 1)).symm)).mpr h
  refine (eq_ix2 i).trans (congrArg (fun a => (ix2 a (i 1) : S16384x512.Idx)) (Fin.ext ?_))
  show (i 0).val = (i 0).val / 512 * 512 + (i 0).val % 512
  omega

/-- **The result array** after the run, at finite queries and keys: differential attention of the arguments. -/
theorem final (c : Dev nD) (hq : Reals (s := S16384x512) (lowRows (w := 512) (m ((c : Thread nD τ).loc main_arg2))))
    (hk : Reals (s := S4x4352x512) (m ((c : Thread nD τ).loc main_arg3))) : (dats m 0 c).arrAt 7 cfg0.N = result m c :=
  (dats m 0 c).arrAt_eq_of_cover 7 (result m c) (fun t _ => flushed_eq m c hq hk t) cover

end Cert.DiffVal

end
-- ==== Proof.DiffRefValue.lean ====
/- The differential attention reference, index by index: at finite queries and keys every element is `Attn.diff` of the five
   arguments. -/
module

public import proofs.«01_k».proof.Proof.DiffSpec
public import proofs.«01_k».proof.Proof.HostSoftmax
public import proofs.«01_k».proof.Proof.Gen.DiffRefIdeal.Read

@[expose] public section

noncomputable section

namespace Cert.DiffRefVal

open Cert.DiffRefIdeal Cert.DiffRefIdeal.Gen Cert.DiffRefIdeal.Read Cert.Attn Idealize.ShloMosaic Idealize.ShloMosaic.ValueIdx
open scoped BigOperators

variable (t : S4x64.Idx → EReal) (g : S1x128.Idx → EReal) (x : S17408x512.Idx → EReal) (k v : S4x4352x512.Idx → EReal)

/-- A sum over the indices of a vector of 64 is a sum over 64 numbers. -/
theorem sum_idx64 (f : S64.Idx → EReal) : ∑ j : S64.Idx, f j = ∑ e : Fin 64, f (ix1 e) :=
  Fintype.sum_equiv ⟨fun j => (j 0 : Fin 64), fun e => ix1 e, fun j => (eq_ix1 j).symm, fun _ => rfl⟩ _ _ fun j => congrArg f (eq_ix1 j)

/-- The difference of two exponentials of products, with a constant added. -/
theorem mix_apply (w : BitVec 32) (i : S_.Idx) : val_main_v18 (F := Ideal) t i + Ideal.ofBits .f32 w = lamOf w t := by
  rw [val_main_v18_apply, val_main_v10_apply, val_main_v17_apply, val_main_v9_apply, val_main_v16_apply, sum_idx64, sum_idx64]
  show Ideal.exp (Ideal.ofBits .f32 0x00000000#32 + _) - Ideal.exp (Ideal.ofBits .f32 0x00000000#32 + _) + Ideal.ofBits .f32 w = _
  rw [Ideal.ofBits_zero_f32, zero_add, zero_add]
  unfold lamOf
  have e1 : ∀ e : Fin 64, val_main_v8 (F := Ideal) t (ix1 e) = t (ix2 (0 : Fin 4) e) * t (ix2 (1 : Fin 4) e) := fun e => by
    rw [val_main_v8_apply, val_main_v5_apply, val_main_v4_apply, val_main_v7_apply, val_main_v6_apply]
    refine congrArg₂ (fun a b => t a * t b) (funext fun a => Fin.ext ?_) (funext fun a => Fin.ext ?_)
    · match a with
      | ⟨0, _⟩ => rfl
      | ⟨1, _⟩ => show e.val % 64 = e.val; omega
    · match a with
      | ⟨0, _⟩ => rfl
      | ⟨1, _⟩ => show e.val % 64 = e.val; omega
  have e2 : ∀ e : Fin 64, val_main_v15 (F := Ideal) t (ix1 e) = t (ix2 (2 : Fin 4) e) * t (ix2 (3 : Fin 4) e) := fun e => by
    rw [val_main_v15_apply, val_main_v12_apply, val_main_v11_apply, val_main_v14_apply, val_main_v13_apply]
    refine congrArg₂ (fun a b => t a * t b) (funext fun a => Fin.ext ?_) (funext fun a => Fin.ext ?_)
    · match a with
      | ⟨0, _⟩ => rfl
      | ⟨1, _⟩ => show e.val % 64 = e.val; omega
    · match a with
      | ⟨0, _⟩ => rfl
      | ⟨1, _⟩ => show e.val % 64 = e.val; omega
  rw [Finset.sum_congr rfl fun e _ => e1 e, Finset.sum_congr rfl fun e _ => e2 e]

/-- The number the second map is multiplied by. -/
theorem lam_apply (i : S_.Idx) : val_main_v19 (F := Ideal) t i = lamOf 0x3E4CCCCD#32 t := by
  rw [val_main_v19_apply]
  exact mix_apply t 0x3E4CCCCD#32 i

/-- A query's row of the argument. -/
abbrev row (b : Fin 4) (r : Fin 4096) : Fin 16384 := ⟨b.val * 4096 + r.val, by omega⟩

/-- The scaled scores are real numbers. -/
theorem scores_apply (hq : Reals (lowRows x)) (hk : Reals k) (b : Fin 4) (h : Fin 8) (r : Fin 4096) (key : Fin 4352) :
    val_main_v22 (F := Ideal) x k (ix4 b h r key) = (diffScore (lowRows x) k b (row b r) h key : EReal) := by
  rw [val_main_v22_apply, val_main_v21_apply, val_main_cst_2_apply, val_main_v20_apply]
  show (∑ _, _) * Ideal.ofBits .f32 0x3E000000#32 = _
  rw [ofBits_eighth, sum_coe_mul _ _
    (fun e : Fin 64 => (lowRows x (ix2 (row b r) (⟨h.val * 64 + e.val, by omega⟩ : Fin 512))).toReal)
    (fun e => (k (ix3 b key (⟨h.val * 64 + e.val, by omega⟩ : Fin 512))).toReal)
    (fun e => ?_) (fun e => ?_), diffScore, ← EReal.coe_mul]
  · rw [val_main_v1_apply, val_main_v0_apply, ← hq]
    refine congrArg x (funext fun a => Fin.ext ?_)
    match a with
    | ⟨0, _⟩ => show (((b.val * 4096 + r.val) * 8 + h.val) * 64 + e.val) / 512 = b.val * 4096 + r.val; omega
    | ⟨1, _⟩ => show (((b.val * 4096 + r.val) * 8 + h.val) * 64 + e.val) % 512 = h.val * 64 + e.val; omega
  · rw [val_main_v2_apply, ← hk]
    refine congrArg k (funext fun a => Fin.ext ?_)
    match a with
    | ⟨0, _⟩ => show (((b.val * 4352 + key.val) * 8 + h.val) * 64 + e.val) / 2228224 = b.val; omega
    | ⟨1, _⟩ => show (((b.val * 4352 + key.val) * 8 + h.val) * 64 + e.val) / 512 % 4352 = key.val; omega
    | ⟨2, _⟩ => show (((b.val * 4352 + key.val) * 8 + h.val) * 64 + e.val) % 512 = h.val * 64 + e.val; omega

/-- The keys' axis is the one the row maximum and the row sum run over. -/
theorem reduces_keys : S4x8x4096x4352.Reduces [3] S4x8x4096 := by decide

/-- The scores along a row, as the row maximum reads them. -/
theorem scores_lift (hq : Reals (lowRows x)) (hk : Reals k) (b : Fin 4) (h : Fin 8) (r : Fin 4096) (key : Fin 4352) :
    val_main_v22 (F := Ideal) x k (reduces_keys.lift (ix3 b h r) key) = (diffScore (lowRows x) k b (row b r) h key : EReal) := by
  rw [← scores_apply x k hq hk]
  refine congrArg (val_main_v22 (F := Ideal) x k) (funext fun a => Fin.ext ?_)
  match a with
  | ⟨0, _⟩ => rfl
  | ⟨1, _⟩ => rfl
  | ⟨2, _⟩ => rfl
  | ⟨3, _⟩ => rfl

/-- The row's maximum is a real number. -/
theorem max_real (hq : Reals (lowRows x)) (hk : Reals k) (b : Fin 4) (h : Fin 8) (r : Fin 4096) :
    ∃ M : ℝ, val_main_v23 (F := Ideal) x k (ix3 b h r) = (M : EReal) := by
  unfold val_main_v23 val_main_cst_3
  exact hostMax_real (val_main_v22 (F := Ideal) x k) reducesTo_S4x8x4096x4352_S4x8x4096_d3 h_S_ reduces_keys (ix3 b h r)
    (Nat.succ_pos 4351) (diffScore (lowRows x) k b (row b r) h) (scores_lift x k hq hk b h r)

/-- The exponentials of a row, shifted by a real number. -/
theorem exps_apply (hq : Reals (lowRows x)) (hk : Reals k) (b : Fin 4) (h : Fin 8) (r : Fin 4096) :
    ∃ M : ℝ, ∀ key, val_main_v29 (F := Ideal) x k (ix4 b h r key) = Ideal.exp ((diffScore (lowRows x) k b (row b r) h key : EReal) - (M : EReal)) := by
  obtain ⟨M, hM⟩ := max_real x k hq hk b h r
  refine ⟨M, fun key => ?_⟩
  rw [val_main_v29_apply, val_main_v28_apply, scores_apply x k hq hk, val_main_v27_apply, val_main_v26_apply, val_main_v25_apply, val_main_v24_apply,
    val_main_cst_4_apply]
  have e : idx_main_v26 (idx_main_v27 (ix4 b h r key)) = ix3 b h r := funext fun a => Fin.ext (by
    match a with
    | ⟨0, _⟩ => rfl
    | ⟨1, _⟩ => rfl
    | ⟨2, _⟩ => rfl)
  rw [e, hM]
  show Ideal.exp ((diffScore (lowRows x) k b (row b r) h key : EReal) - max (Ideal.ofBits .f32 0xFF800000#32) (M : EReal)) = _
  rw [ofBits_neg_inf, max_eq_right bot_le]

/-- The weights of a row: its exponentials over their sum. -/
theorem weight_apply (b : Fin 4) (h : Fin 8) (r : Fin 4096) (key : Fin 4352) :
    val_main_v33 (F := Ideal) x k (ix4 b h r key)
      = Ideal.div (val_main_v29 (F := Ideal) x k (ix4 b h r key)) (∑ j, val_main_v29 (F := Ideal) x k (ix4 b h r j)) := by
  rw [val_main_v33_apply, val_main_v32_apply, val_main_v31_apply, val_main_v30_apply, val_main_cst_5_apply]
  show Ideal.div _ (Ideal.ofBits .f32 0x00000000#32 + _) = _
  rw [Ideal.ofBits_zero_f32, zero_add]
  refine congrArg (Ideal.div _) (Finset.sum_congr rfl fun j _ => congrArg (val_main_v29 (F := Ideal) x k) (funext fun a => Fin.ext ?_))
  match a with
  | ⟨0, _⟩ => rfl
  | ⟨1, _⟩ => rfl
  | ⟨2, _⟩ => rfl
  | ⟨3, _⟩ => rfl

/-- The values at a batch, key, head and value dimension. -/
theorem value_apply (b : Fin 4) (key : Fin 4352) (z : Fin 4) (d : Fin 128) :
    val_main_v3 (F := Ideal) v (ix4 b key z d) = v (ix3 b key (⟨z.val * 128 + d.val, by omega⟩ : Fin 512)) := by
  rw [val_main_v3_apply]
  refine congrArg v (funext fun a => Fin.ext ?_)
  match a with
  | ⟨0, _⟩ => show (((b.val * 4352 + key.val) * 4 + z.val) * 128 + d.val) / 2228224 = b.val; omega
  | ⟨1, _⟩ => show (((b.val * 4352 + key.val) * 4 + z.val) * 128 + d.val) / 512 % 4352 = key.val; omega
  | ⟨2, _⟩ => show (((b.val * 4352 + key.val) * 4 + z.val) * 128 + d.val) % 512 = z.val * 128 + d.val; omega

/-- The first map of a head at a value dimension. -/
theorem map0_apply (hq : Reals (lowRows x)) (hk : Reals k) (b : Fin 4) (r : Fin 4096) (z : Fin 4) (d : Fin 128) :
    val_main_v36 (F := Ideal) x k v (ix4 b r z d)
      = attn (diffScore (lowRows x) k b (row b r) ⟨z.val, by omega⟩) fun key => v (ix3 b key (⟨z.val * 128 + d.val, by omega⟩ : Fin 512)) := by
  obtain ⟨M, hM⟩ := exps_apply x k hq hk b ⟨z.val, by omega⟩ r
  rw [val_main_v36_apply, val_main_v35_apply, ← row_exp (by decide) (diffScore (lowRows x) k b (row b r) ⟨z.val, by omega⟩) _ M
    (fun key => val_main_v29 (F := Ideal) x k (ix4 b ⟨z.val, by omega⟩ r key)) hM]
  refine Finset.sum_congr rfl fun key _ => congrArg₂ (· * ·) ?_ ?_
  · refine Eq.trans (congrArg (val_main_v3 (F := Ideal) v) (funext fun a => Fin.ext ?_)) (value_apply v b key z d)
    match a with
    | ⟨0, _⟩ => rfl
    | ⟨1, _⟩ => rfl
    | ⟨2, _⟩ => rfl
    | ⟨3, _⟩ => rfl
  · rw [val_main_v34_apply]
    refine Eq.trans (congrArg (val_main_v33 (F := Ideal) x k) (funext fun a => Fin.ext ?_)) (weight_apply x k b ⟨z.val, by omega⟩ r key)
    match a with
    | ⟨0, _⟩ => rfl
    | ⟨1, _⟩ => rfl
    | ⟨2, _⟩ => rfl
    | ⟨3, _⟩ => rfl

/-- The second map of a head at a value dimension. -/
theorem map1_apply (hq : Reals (lowRows x)) (hk : Reals k) (b : Fin 4) (r : Fin 4096) (z : Fin 4) (d : Fin 128) :
    val_main_v39 (F := Ideal) x k v (ix4 b r z d)
      = attn (diffScore (lowRows x) k b (row b r) ⟨4 + z.val, by omega⟩) fun key => v (ix3 b key (⟨z.val * 128 + d.val, by omega⟩ : Fin 512)) := by
  obtain ⟨M, hM⟩ := exps_apply x k hq hk b ⟨4 + z.val, by omega⟩ r
  rw [val_main_v39_apply, val_main_v38_apply, ← row_exp (by decide) (diffScore (lowRows x) k b (row b r) ⟨4 + z.val, by omega⟩) _ M
    (fun key => val_main_v29 (F := Ideal) x k (ix4 b ⟨4 + z.val, by omega⟩ r key)) hM]
  refine Finset.sum_congr rfl fun key _ => congrArg₂ (· * ·) ?_ ?_
  · refine Eq.trans (congrArg (val_main_v3 (F := Ideal) v) (funext fun a => Fin.ext ?_)) (value_apply v b key z d)
    match a with
    | ⟨0, _⟩ => rfl
    | ⟨1, _⟩ => rfl
    | ⟨2, _⟩ => rfl
    | ⟨3, _⟩ => rfl
  · rw [val_main_v37_apply]
    refine Eq.trans (congrArg (val_main_v33 (F := Ideal) x k) (funext fun a => Fin.ext ?_)) (weight_apply x k b ⟨4 + z.val, by omega⟩ r key)
    match a with
    | ⟨0, _⟩ => rfl
    | ⟨1, _⟩ => rfl
    | ⟨2, _⟩ => rfl
    | ⟨3, _⟩ => rfl

/-- A head's difference of its two maps. -/
theorem head_apply (hq : Reals (lowRows x)) (hk : Reals k) (b : Fin 4) (r : Fin 4096) (z : Fin 4) (d : Fin 128) :
    val_main_v42 (F := Ideal) t x k v (ix4 b r z d) = diffHead (lamOf 0x3E4CCCCD#32 t) (lowRows x) k v b (row b r) z d := by
  rw [val_main_v42_apply, val_main_v41_apply, val_main_v40_apply, lam_apply, map0_apply x k v hq hk, map1_apply x k v hq hk]
  rfl

/-- The inverse of the root mean square of a head's row. -/
theorem scale_apply (hq : Reals (lowRows x)) (hk : Reals k) (b : Fin 4) (r : Fin 4096) (z : Fin 4) (d : Fin 128) :
    val_main_v51 (F := Ideal) t x k v (ix4 b r z d)
      = Ideal.rsqrt (Ideal.div (∑ j : Fin 128, diffHead (lamOf 0x3E4CCCCD#32 t) (lowRows x) k v b (row b r) z j * diffHead (lamOf 0x3E4CCCCD#32 t) (lowRows x) k v b (row b r) z j) (Ideal.ofBits .f32 0x43000000#32)
        + Ideal.ofBits .f32 0x358637BD#32) := by
  rw [val_main_v51_apply, val_main_v50_apply, val_main_v49_apply, val_main_v48_apply, val_main_cst_8_apply, val_main_v47_apply, val_main_v46_apply,
    val_main_cst_7_apply, val_main_v45_apply, val_main_v44_apply, val_main_cst_6_apply]
  show Ideal.rsqrt (Ideal.div (Ideal.ofBits .f32 0x00000000#32 + _) (Ideal.ofBits .f32 0x43000000#32) + Ideal.ofBits .f32 0x358637BD#32) = _
  rw [Ideal.ofBits_zero_f32, zero_add]
  refine congrArg (fun s => Ideal.rsqrt (Ideal.div s (Ideal.ofBits .f32 0x43000000#32) + Ideal.ofBits .f32 0x358637BD#32))
    (Finset.sum_congr rfl fun j _ => ?_)
  rw [val_main_v43_apply, ← head_apply t x k v hq hk b r z j]
  refine congrArg (fun i => val_main_v42 (F := Ideal) t x k v i * val_main_v42 (F := Ideal) t x k v i) (funext fun a => Fin.ext ?_)
  match a with
  | ⟨0, _⟩ => rfl
  | ⟨1, _⟩ => rfl
  | ⟨2, _⟩ => rfl
  | ⟨3, _⟩ => rfl

/-- The normalised rows. -/
theorem norm_apply (hq : Reals (lowRows x)) (hk : Reals k) (b : Fin 4) (r : Fin 4096) (z : Fin 4) (d : Fin 128) :
    val_main_v58 (F := Ideal) t g x k v (ix4 b r z d) = normOf 0x3F4CCCCD#32 (diffHead (lamOf 0x3E4CCCCD#32 t) (lowRows x) k v b (row b r) z) (fun x => g (ix2 (0 : Fin 1) x)) d := by
  rw [val_main_v58_apply, val_main_v57_apply, val_main_cst_9_apply, val_main_v56_apply, val_main_v55_apply, val_main_v54_apply, val_main_v53_apply,
    val_main_v52_apply, scale_apply t x k v hq hk, head_apply t x k v hq hk]
  refine congrArg (fun i => diffHead (lamOf 0x3E4CCCCD#32 t) (lowRows x) k v b (row b r) z d * _ * g i * Ideal.ofBits .f32 0x3F4CCCCD#32) (funext fun a => Fin.ext ?_)
  match a with
  | ⟨0, _⟩ => rfl
  | ⟨1, _⟩ => show d.val % 128 = d.val; omega

/-- **The reference's result** at an index, at finite queries and keys. -/
theorem value (hq : Reals (lowRows x)) (hk : Reals k) (r : Fin 16384) (c : Fin 512) :
    val_main_v60 (F := Ideal) t g x k v (ix2 r c) = diff (lamOf 0x3E4CCCCD#32 t) 0x3F4CCCCD#32 g (lowRows x) k v r c := by
  rw [val_main_v60_apply]
  show val_main_v59 (F := Ideal) t g x k v (ix2 r c) = _
  rw [val_main_v59_apply]
  have e : idx_main_v59 (ix2 r c) = ix4 (⟨r.val / 4096, by omega⟩ : Fin 4) (⟨r.val % 4096, by omega⟩ : Fin 4096) (⟨c.val / 128, by omega⟩ : Fin 4)
      (⟨c.val % 128, by omega⟩ : Fin 128) := funext fun a => Fin.ext (by
    match a with
    | ⟨0, _⟩ => show (r.val * 512 + c.val) / 2097152 = r.val / 4096; omega
    | ⟨1, _⟩ => show (r.val * 512 + c.val) / 512 % 4096 = r.val % 4096; omega
    | ⟨2, _⟩ => show (r.val * 512 + c.val) / 128 % 4 = c.val / 128; omega
    | ⟨3, _⟩ => show (r.val * 512 + c.val) % 128 = c.val % 128; omega)
  rw [e]
  refine (norm_apply t g x k v hq hk _ _ _ _).trans ?_
  have er : row (⟨r.val / 4096, by omega⟩ : Fin 4) (⟨r.val % 4096, by omega⟩ : Fin 4096) = r := Fin.ext (by
    show r.val / 4096 * 4096 + r.val % 4096 = r.val; omega)
  rw [er]
  rfl

end Cert.DiffRefVal

end
-- ==== Proof.DiffPre.lean ====
/- The precondition of the differential attention claim, read back: every query and every key is a real number. -/
module

public import proofs.«01_k».proof.Pre_finite_diff_qk
public import proofs.«01_k».proof.Proof.GqaSpec
public import proofs.«01_k».proof.Proof.HostSoftmax

@[expose] public section

noncomputable section

namespace Cert.DiffPre

open Cert.Pre_finite_diff_qk Cert.Attn Idealize.ShloMosaic Idealize.ShloMosaic.ValueIdx

/-- The side conditions the printed predicate states. -/
instance facts : Cert.Pre_finite_diff_qk.Facts where
  slices_S17408x512_S16384x512_0_0 := by decide
  bcast_S_S16384x512 := by decide
  reducesTo_S16384x512_S_d0_1 := by decide
  h_S_ := by decide
  bcast_S_S4x4352x512 := by decide
  reducesTo_S4x4352x512_S_d0_1_2 := by decide

/-- A scalar has one index. -/
instance one_index : Subsingleton S_.Idx := ⟨fun _ _ => funext fun a => a.elim0⟩

/-- Where the predicate holds, the queries and the keys are reals. -/
theorem reals (t : FVec Ideal S4x64 .f32) (g : FVec Ideal S1x128 .f32) (q : FVec Ideal S17408x512 .f32) (k v : FVec Ideal S4x4352x512 .f32)
    (h : Cert.Pre_finite_diff_qk.fn (F := Ideal) t g q k v = fun _ => 1#1) : Reals (lowRows q) ∧ Reals k := by
  have h0 := congrFun h ix0
  obtain ⟨hq, hk⟩ := IntOp.andi_eq_one.mp h0
  have hr : Reals (extractStridedSlice S16384x512 ![0, 0] q facts.slices_S17408x512_S16384x512_0_0) := fun i => reals_of_all _ _ _ _ _ ix0 hq i
  rw [slice_rows] at hr
  exact ⟨hr, fun i => reals_of_all k _ _ _ _ ix0 hk i⟩

end Cert.DiffPre

end
-- ==== Proof.DiffClaim.lean ====
/- The differential attention claim: kernel and reference end at the same array. -/
module

public import proofs.«01_k».proof.Defs
public import proofs.«01_k».proof.Proof.DiffArray
public import proofs.«01_k».proof.Proof.DiffRefValue
public import proofs.«01_k».proof.Proof.DiffPre
public import proofs.«01_k».proof.Proof.Gen.Diff.Frame
public import Idealize.ShloMosaic.Adequacy
public import Idealize.ShloMosaic.Init

@[expose] public section

noncomputable section

namespace Cert.DiffClaim

open Idealize.ShloMosaic Idealize.SL.Sem Cert.Attn Idealize.ShloMosaic.ValueIdx

open DiffRefIdeal in
/-- The reference's frame: its arguments end unchanged, and it declares no semaphore. -/
theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run _ _ _).mono (fun r h => ⟨fun c => (h c).2, sem_eq_zero_of_no_sems (by decide) r.2⟩) (Value.run m ρ)

/-- At finite queries and keys the kernel's array and the reference's are both `Attn.diff` of the arguments. -/
theorem algebraic : Cert.algebraic_DiffIdeal_DiffRefIdeal_pre_finite_diff_qk (hDiffIdeal := DiffIdeal.Gen.facts) (hDiffRefIdeal := DiffRefIdeal.Gen.facts)
    (hPre_finite_diff_qk := DiffPre.facts) := by
  intro m g m' g' hpre hargs
  have hfin := fun c => DiffPre.reals _ _ _ _ _ (hpre c)
  refine ⟨fun c => DiffVal.result m c, (θ_run _ _ _).mono (fun r h c => ?_) (DiffIdeal.Value.run_blocks m g),
    (θ_run _ _ _).mono (fun r h c => ?_) (DiffRefIdeal.Value.run m' g')⟩
  · obtain ⟨h0, h1⟩ := h c
    exact ⟨h0.trans (DiffVal.final m c (hfin c).1 (hfin c).2), h1⟩
  · obtain ⟨h0, h1⟩ := h c
    obtain ⟨a0, a1, a2, a3, a4⟩ := hargs c
    refine ⟨h0.trans ?_, h1⟩
    refine (DiffRefIdeal.Read.val_main_v60_eq (F := Ideal) m' c).trans ?_
    rw [a0, a1, a2, a3, a4]
    refine funext fun i => ?_
    refine (congrArg _ (eq_ix2 i)).trans ?_
    exact DiffRefVal.value _ _ _ _ _ (hfin c).1 (hfin c).2 (i 0) (i 1)

end Cert.DiffClaim

end
-- ==== Proof.DiffLastArray.lean ====
/- The second layer's differential attention kernel's result array: its launch differs from the first layer's in two constants, so
   every grid point's block is its block of `Attn.diff` at those constants. -/
module

public import proofs.«01_k».proof.Proof.DiffArray
public import proofs.«01_k».proof.Proof.Gen.DiffLastIdeal.Value

@[expose] public section

noncomputable section

namespace Cert.DiffLastVal

open Cert.DiffLastIdeal Cert.DiffLastIdeal.Gen Cert.Attn Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The number the second map is multiplied by. -/
theorem lam_apply (t : Vec Ideal S4x64 .f32) : k0_pay2 t (ix2 (0 : Fin 1) (0 : Fin 1)) = lamOf 0x3EB60549#32 t := by
  unfold lamOf
  rw [← DiffVal.rows_sum t 0 1 slices_S4x64_o0_0_S1x64 slices_S4x64_o1_0_S1x64, ← DiffVal.rows_sum t 2 3 slices_S4x64_o2_0_S1x64 slices_S4x64_o3_0_S1x64]
  rfl

/-- What a grid point leaves in its output block: the four heads' columns. -/
theorem out_eq (x0 : Vec Ideal S4x64 .f32) (x1 : Vec Ideal S1x128 .f32) (x2 x3 : Vec Ideal S512x256 .f32) (x4 x5 : Vec Ideal S1x4352x256 .bf16)
    (x6 : Vec Ideal S1x512x4352 .bf16) :
    out0_7 x0 x1 x2 x3 x4 x5 x6 = DiffVal.pieces (k0_pay2 (View.ld x0 r0_0)) 0x3F24FD5C#32 x1 x2 x3 x4 x5 x6 := rfl

/-- The whole result: differential attention of the five arguments. -/
abbrev result (c : Dev nD) : S16384x512.Idx → EReal :=
  DiffVal.resultOf m (lamOf 0x3EB60549#32 (m ((c : Thread nD τ).loc main_arg0))) 0x3F24FD5C#32 c

/-- What a grid point writes back is its block of the whole result, at finite queries and keys. -/
theorem flushed_eq (c : Dev nD) (hq : Reals (s := S16384x512) (lowRows (w := 512) (m ((c : Thread nD τ).loc main_arg2))))
    (hk : Reals (s := S4x4352x512) (m ((c : Thread nD τ).loc main_arg3))) (t : Fin cfg0.N) :
    (dats m 0 c).flushed 7 t = ((cfg0.win 7).blk t).view.read (Elt Ideal) (result m c) := by
  rw [Value.flushed7]
  funext y
  show out0_7 (iblk m c 0 t) (iblk m c 1 t) (iblk m c 2 t) (iblk m c 3 t) (iblk m c 4 t) (iblk m c 5 t) (iblk m c 6 t) y
    = result m c (((cfg0.win 7).blk t).view.emb y)
  rw [out_eq]
  refine DiffVal.point_apply m _ _ _ ?_ c hq hk t y
  rw [lam_apply]
  refine congrArg (lamOf 0x3EB60549#32) ?_
  rw [View.ld_unit_zero (S := S4x64) DiffVal.zero2]
  exact DiffVal.blk_t m c t

/-- **The result array** after the run, at finite queries and keys: differential attention of the arguments. -/
theorem final (c : Dev nD) (hq : Reals (s := S16384x512) (lowRows (w := 512) (m ((c : Thread nD τ).loc main_arg2))))
    (hk : Reals (s := S4x4352x512) (m ((c : Thread nD τ).loc main_arg3))) : (dats m 0 c).arrAt 7 cfg0.N = result m c :=
  (dats m 0 c).arrAt_eq_of_cover 7 (result m c) (fun t _ => flushed_eq m c hq hk t) fun i =>
    (DiffVal.cover i).imp fun t h => ⟨flush0_7 t, h.2⟩

end Cert.DiffLastVal

end
-- ==== Proof.DiffLastRefValue.lean ====
/- The second layer's differential attention reference, index by index: up to each head's two maps it is the first layer's, and the
   two constants of the layer come after. -/
module

public import proofs.«01_k».proof.Proof.DiffRefValue
public import proofs.«01_k».proof.Proof.Gen.DiffLastRefIdeal.Read

@[expose] public section

noncomputable section

namespace Cert.DiffLastRefVal

open Cert.DiffLastRefIdeal Cert.DiffLastRefIdeal.Gen Cert.DiffLastRefIdeal.Read Cert.Attn Idealize.ShloMosaic Idealize.ShloMosaic.ValueIdx
open Cert.DiffRefVal (row)
open scoped BigOperators

variable (t : S4x64.Idx → EReal) (g : S1x128.Idx → EReal) (x : S17408x512.Idx → EReal) (k v : S4x4352x512.Idx → EReal)

/-- The number the second map is multiplied by. -/
theorem lam_apply (i : S_.Idx) : val_main_v19 (F := Ideal) t i = lamOf 0x3EB60549#32 t := by
  rw [val_main_v19_apply]
  exact DiffRefVal.mix_apply t 0x3EB60549#32 i

/-- The first map of a head at a value dimension. -/
theorem map0_apply (hq : Reals (lowRows x)) (hk : Reals k) (b : Fin 4) (r : Fin 4096) (z : Fin 4) (d : Fin 128) :
    val_main_v36 (F := Ideal) x k v (ix4 b r z d)
      = attn (diffScore (lowRows x) k b (row b r) ⟨z.val, by omega⟩) fun key => v (ix3 b key (⟨z.val * 128 + d.val, by omega⟩ : Fin 512)) :=
  DiffRefVal.map0_apply x k v hq hk b r z d

/-- The second map of a head at a value dimension. -/
theorem map1_apply (hq : Reals (lowRows x)) (hk : Reals k) (b : Fin 4) (r : Fin 4096) (z : Fin 4) (d : Fin 128) :
    val_main_v39 (F := Ideal) x k v (ix4 b r z d)
      = attn (diffScore (lowRows x) k b (row b r) ⟨4 + z.val, by omega⟩) fun key => v (ix3 b key (⟨z.val * 128 + d.val, by omega⟩ : Fin 512)) :=
  DiffRefVal.map1_apply x k v hq hk b r z d

/-- A head's difference of its two maps. -/
theorem head_apply (hq : Reals (lowRows x)) (hk : Reals k) (b : Fin 4) (r : Fin 4096) (z : Fin 4) (d : Fin 128) :
    val_main_v42 (F := Ideal) t x k v (ix4 b r z d) = diffHead (lamOf 0x3EB60549#32 t) (lowRows x) k v b (row b r) z d := by
  rw [val_main_v42_apply, val_main_v41_apply, val_main_v40_apply, lam_apply, map0_apply x k v hq hk, map1_apply x k v hq hk]
  rfl

/-- The inverse of the root mean square of a head's row. -/
theorem scale_apply (hq : Reals (lowRows x)) (hk : Reals k) (b : Fin 4) (r : Fin 4096) (z : Fin 4) (d : Fin 128) :
    val_main_v51 (F := Ideal) t x k v (ix4 b r z d)
      = Ideal.rsqrt (Ideal.div (∑ j : Fin 128, diffHead (lamOf 0x3EB60549#32 t) (lowRows x) k v b (row b r) z j * diffHead (lamOf 0x3EB60549#32 t) (lowRows x) k v b (row b r) z j) (Ideal.ofBits .f32 0x43000000#32)
        + Ideal.ofBits .f32 0x358637BD#32) := by
  rw [val_main_v51_apply, val_main_v50_apply, val_main_v49_apply, val_main_v48_apply, val_main_cst_8_apply, val_main_v47_apply, val_main_v46_apply,
    val_main_cst_7_apply, val_main_v45_apply, val_main_v44_apply, val_main_cst_6_apply]
  show Ideal.rsqrt (Ideal.div (Ideal.ofBits .f32 0x00000000#32 + _) (Ideal.ofBits .f32 0x43000000#32) + Ideal.ofBits .f32 0x358637BD#32) = _
  rw [Ideal.ofBits_zero_f32, zero_add]
  refine congrArg (fun s => Ideal.rsqrt (Ideal.div s (Ideal.ofBits .f32 0x43000000#32) + Ideal.ofBits .f32 0x358637BD#32))
    (Finset.sum_congr rfl fun j _ => ?_)
  rw [val_main_v43_apply, ← head_apply t x k v hq hk b r z j]
  refine congrArg (fun i => val_main_v42 (F := Ideal) t x k v i * val_main_v42 (F := Ideal) t x k v i) (funext fun a => Fin.ext ?_)
  match a with
  | ⟨0, _⟩ => rfl
  | ⟨1, _⟩ => rfl
  | ⟨2, _⟩ => rfl
  | ⟨3, _⟩ => rfl

/-- The normalised rows. -/
theorem norm_apply (hq : Reals (lowRows x)) (hk : Reals k) (b : Fin 4) (r : Fin 4096) (z : Fin 4) (d : Fin 128) :
    val_main_v58 (F := Ideal) t g x k v (ix4 b r z d) = normOf 0x3F24FD5C#32 (diffHead (lamOf 0x3EB60549#32 t) (lowRows x) k v b (row b r) z) (fun x => g (ix2 (0 : Fin 1) x)) d := by
  rw [val_main_v58_apply, val_main_v57_apply, val_main_cst_9_apply, val_main_v56_apply, val_main_v55_apply, val_main_v54_apply, val_main_v53_apply,
    val_main_v52_apply, scale_apply t x k v hq hk, head_apply t x k v hq hk]
  refine congrArg (fun i => diffHead (lamOf 0x3EB60549#32 t) (lowRows x) k v b (row b r) z d * _ * g i * Ideal.ofBits .f32 0x3F24FD5C#32) (funext fun a => Fin.ext ?_)
  match a with
  | ⟨0, _⟩ => rfl
  | ⟨1, _⟩ => show d.val % 128 = d.val; omega

/-- **The reference's result** at an index, at finite queries and keys. -/
theorem value (hq : Reals (lowRows x)) (hk : Reals k) (r : Fin 16384) (c : Fin 512) :
    val_main_v60 (F := Ideal) t g x k v (ix2 r c) = diff (lamOf 0x3EB60549#32 t) 0x3F24FD5C#32 g (lowRows x) k v r c := by
  rw [val_main_v60_apply]
  show val_main_v59 (F := Ideal) t g x k v (ix2 r c) = _
  rw [val_main_v59_apply]
  have e : idx_main_v59 (ix2 r c) = ix4 (⟨r.val / 4096, by omega⟩ : Fin 4) (⟨r.val % 4096, by omega⟩ : Fin 4096) (⟨c.val / 128, by omega⟩ : Fin 4)
      (⟨c.val % 128, by omega⟩ : Fin 128) := funext fun a => Fin.ext (by
    match a with
    | ⟨0, _⟩ => show (r.val * 512 + c.val) / 2097152 = r.val / 4096; omega
    | ⟨1, _⟩ => show (r.val * 512 + c.val) / 512 % 4096 = r.val % 4096; omega
    | ⟨2, _⟩ => show (r.val * 512 + c.val) / 128 % 4 = c.val / 128; omega
    | ⟨3, _⟩ => show (r.val * 512 + c.val) % 128 = c.val % 128; omega)
  rw [e]
  refine (norm_apply t g x k v hq hk _ _ _ _).trans ?_
  have er : row (⟨r.val / 4096, by omega⟩ : Fin 4) (⟨r.val % 4096, by omega⟩ : Fin 4096) = r := Fin.ext (by
    show r.val / 4096 * 4096 + r.val % 4096 = r.val; omega)
  rw [er]
  rfl

end Cert.DiffLastRefVal

end
-- ==== Proof.DiffLastClaim.lean ====
/- The second layer's differential attention claim: kernel and reference end at the same array. -/
module

public import proofs.«01_k».proof.Defs
public import proofs.«01_k».proof.Proof.DiffLastArray
public import proofs.«01_k».proof.Proof.DiffLastRefValue
public import proofs.«01_k».proof.Proof.DiffPre
public import proofs.«01_k».proof.Proof.Gen.DiffLast.Frame
public import Idealize.ShloMosaic.Adequacy
public import Idealize.ShloMosaic.Init

@[expose] public section

noncomputable section

namespace Cert.DiffLastClaim

open Idealize.ShloMosaic Idealize.SL.Sem Cert.Attn Idealize.ShloMosaic.ValueIdx

open DiffLastRefIdeal in
/-- The reference's frame: its arguments end unchanged, and it declares no semaphore. -/
theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run _ _ _).mono (fun r h => ⟨fun c => (h c).2, sem_eq_zero_of_no_sems (by decide) r.2⟩) (Value.run m ρ)

/-- At finite queries and keys the kernel's array and the reference's are both `Attn.diff` of the arguments. -/
theorem algebraic : Cert.algebraic_DiffLastIdeal_DiffLastRefIdeal_pre_finite_diff_qk (hDiffLastIdeal := DiffLastIdeal.Gen.facts) (hDiffLastRefIdeal := DiffLastRefIdeal.Gen.facts)
    (hPre_finite_diff_qk := DiffPre.facts) := by
  intro m g m' g' hpre hargs
  have hfin := fun c => DiffPre.reals _ _ _ _ _ (hpre c)
  refine ⟨fun c => DiffLastVal.result m c, (θ_run _ _ _).mono (fun r h c => ?_) (DiffLastIdeal.Value.run_blocks m g),
    (θ_run _ _ _).mono (fun r h c => ?_) (DiffLastRefIdeal.Value.run m' g')⟩
  · obtain ⟨h0, h1⟩ := h c
    exact ⟨h0.trans (DiffLastVal.final m c (hfin c).1 (hfin c).2), h1⟩
  · obtain ⟨h0, h1⟩ := h c
    obtain ⟨a0, a1, a2, a3, a4⟩ := hargs c
    refine ⟨h0.trans ?_, h1⟩
    refine (DiffLastRefIdeal.Read.val_main_v60_eq (F := Ideal) m' c).trans ?_
    rw [a0, a1, a2, a3, a4]
    refine funext fun i => ?_
    refine (congrArg _ (eq_ix2 i)).trans ?_
    exact DiffLastRefVal.value _ _ _ _ _ (hfin c).1 (hfin c).2 (i 0) (i 1)

end Cert.DiffLastClaim

end
-- ==== Proof.lean ====
module

public import proofs.«01_k».proof.Proof.GqaClaim
public import proofs.«01_k».proof.Proof.UpClaim
public import proofs.«01_k».proof.Proof.DownClaim
public import proofs.«01_k».proof.Proof.MidClaim
public import proofs.«01_k».proof.Proof.DenseClaim
public import proofs.«01_k».proof.Proof.MlaClaim
public import proofs.«01_k».proof.Proof.DiffClaim
public import proofs.«01_k».proof.Proof.DiffLastClaim

@[expose] public section

noncomputable section

namespace Cert.Proof

open Idealize.ShloMosaic Idealize.SL.Sem

/-- Everything the certificate claims. -/
theorem claim : Cert.Claim := ⟨Cert.Gqa.Gen.facts, Cert.GqaIdeal.Gen.facts, Cert.GqaRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Mid.Gen.facts, Cert.MidIdeal.Gen.facts, Cert.MidRefIdeal.Gen.facts,
  Cert.DenseDown.Gen.facts, Cert.DenseDownIdeal.Gen.facts, Cert.DenseDownRefIdeal.Gen.facts,
  Cert.Mla.Gen.facts, Cert.MlaIdeal.Gen.facts, Cert.MlaRefIdeal.Gen.facts,
  Cert.Diff.Gen.facts, Cert.DiffIdeal.Gen.facts, Cert.DiffRefIdeal.Gen.facts,
  Cert.DiffLast.Gen.facts, Cert.DiffLastIdeal.Gen.facts, Cert.DiffLastRefIdeal.Gen.facts,
  Cert.GqaPre.facts, Cert.UpPre.facts, Cert.DownPre.facts, Cert.MlaPre.facts, Cert.DiffPre.facts,
  fun m ρ _ => Cert.Gqa.Gen.frame m ρ,
  fun m ρ _ => Cert.GqaIdeal.Gen.frame m ρ,
  fun m ρ _ => Cert.GqaIdeal.Gen.frame m ρ,
  fun m ρ _ => Cert.GqaClaim.frame_ref m ρ,
  fun m ρ _ => Cert.GqaClaim.frame_ref m ρ,
  Cert.UpClaim.frame_printed, Cert.UpClaim.frame_ideal, Cert.UpClaim.frame_ref, Cert.UpClaim.frame_ref_pre,
  Cert.DownClaim.frame_printed, Cert.DownClaim.frame_ideal, Cert.DownClaim.frame_ref, Cert.DownClaim.frame_ref_pre,
  fun m ρ _ => Cert.Mid.Gen.frame m ρ,
  fun m ρ _ => Cert.MidIdeal.Gen.frame m ρ,
  Cert.MidClaim.frame_ref,
  Cert.DenseClaim.frame_printed, Cert.DenseClaim.frame_ideal, Cert.DenseClaim.frame_ref,
  fun m ρ _ => Cert.Mla.Gen.frame m ρ,
  fun m ρ _ => Cert.MlaIdeal.Gen.frame m ρ,
  fun m ρ _ => Cert.MlaIdeal.Gen.frame m ρ,
  fun m ρ _ => Cert.MlaClaim.frame_ref m ρ,
  fun m ρ _ => Cert.MlaClaim.frame_ref m ρ,
  fun m ρ _ => Cert.Diff.Gen.frame m ρ,
  fun m ρ _ => Cert.DiffIdeal.Gen.frame m ρ,
  fun m ρ _ => Cert.DiffIdeal.Gen.frame m ρ,
  fun m ρ _ => Cert.DiffClaim.frame_ref m ρ,
  fun m ρ _ => Cert.DiffClaim.frame_ref m ρ,
  fun m ρ _ => Cert.DiffLast.Gen.frame m ρ,
  fun m ρ _ => Cert.DiffLastIdeal.Gen.frame m ρ,
  fun m ρ _ => Cert.DiffLastIdeal.Gen.frame m ρ,
  fun m ρ _ => Cert.DiffLastClaim.frame_ref m ρ,
  fun m ρ _ => Cert.DiffLastClaim.frame_ref m ρ,
  IdealRules.named_const.statement Cert.GqaIdeal.κ "scale_log2e" .f32 0x3E38AA3B#32 _ rfl,
  Cert.GqaClaim.algebraic,
  trivial,
  Cert.UpClaim.algebraic,
  trivial,
  Cert.DownClaim.algebraic,
  trivial,
  Cert.MidClaim.algebraic,
  trivial,
  Cert.DenseClaim.algebraic,
  IdealRules.named_const.statement Cert.MlaIdeal.κ "mla_scale_log2e" .f32 0x3E16C740#32 _ rfl,
  Cert.MlaClaim.algebraic,
  IdealRules.named_const.statement Cert.DiffIdeal.κ "diff_scale_log2e" .f32 0x3E38AA3B#32 _ rfl,
  Cert.DiffClaim.algebraic,
  IdealRules.named_const.statement Cert.DiffLastIdeal.κ "diff_scale_log2e" .f32 0x3E38AA3B#32 _ rfl,
  Cert.DiffLastClaim.algebraic⟩

end Cert.Proof

end
